-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_gates [hPre_finite_gates : Cert.Pre_finite_gates.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_gates.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_gates [hPre_finite_gates : Cert.Pre_finite_gates.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_gates.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_finite_gates [hKernel5Ideal : Cert.Kernel5Ideal.Facts] [hPre_finite_gates : Cert.Pre_finite_gates.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_gates m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_finite_gates [hReference5Ideal : Cert.Reference5Ideal.Facts] [hPre_finite_gates : Cert.Pre_finite_gates.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_gates m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v26) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v38) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  IdealRules.named_const.Statement Cert.Kernel4Ideal.κ "log2e_16" .f32 0x3DB8AA3B#32 (((16 * (Real.log 2))⁻¹ : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v14_0)) (v1 : (c : Dev Cert.Kernel4Ideal.nD) → Buf (Elt Ideal) ((c.tc : Thread Cert.Kernel4Ideal.nD Cert.Kernel4Ideal.τ).loc Cert.Kernel4Ideal.main_v14_1)) (v2 : (c : Dev Cert.Kernel4Ideal.nD) → Buf (Elt Ideal) ((c.tc : Thread Cert.Kernel4Ideal.nD Cert.Kernel4Ideal.τ).loc Cert.Kernel4Ideal.main_v14_2)) (v3 : (c : Dev Cert.Kernel4Ideal.nD) → Buf (Elt Ideal) ((c.tc : Thread Cert.Kernel4Ideal.nD Cert.Kernel4Ideal.τ).loc Cert.Kernel4Ideal.main_v14_3)) (v4 : (c : Dev Cert.Kernel4Ideal.nD) → Buf (Elt Ideal) ((c.tc : Thread Cert.Kernel4Ideal.nD Cert.Kernel4Ideal.τ).loc Cert.Kernel4Ideal.main_v14_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14_0) = v0 c
          ∧ r.2.mem ((c.tc : Thread Cert.Kernel4Ideal.nD Cert.Kernel4Ideal.τ).loc Cert.Kernel4Ideal.main_v14_1) = v1 c
          ∧ r.2.mem ((c.tc : Thread Cert.Kernel4Ideal.nD Cert.Kernel4Ideal.τ).loc Cert.Kernel4Ideal.main_v14_2) = v2 c
          ∧ r.2.mem ((c.tc : Thread Cert.Kernel4Ideal.nD Cert.Kernel4Ideal.τ).loc Cert.Kernel4Ideal.main_v14_3) = v3 c
          ∧ r.2.mem ((c.tc : Thread Cert.Kernel4Ideal.nD Cert.Kernel4Ideal.τ).loc Cert.Kernel4Ideal.main_v14_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v27) = v0 c
          ∧ r.2.mem ((c.tc : Thread Cert.Reference4Ideal.nD Cert.Reference4Ideal.τ).loc Cert.Reference4Ideal.main_v15) = v1 c
          ∧ r.2.mem ((c.tc : Thread Cert.Reference4Ideal.nD Cert.Reference4Ideal.τ).loc Cert.Reference4Ideal.main_v28) = v2 c
          ∧ r.2.mem ((c.tc : Thread Cert.Reference4Ideal.nD Cert.Reference4Ideal.τ).loc Cert.Reference4Ideal.main_v18) = v3 c
          ∧ r.2.mem ((c.tc : Thread Cert.Reference4Ideal.nD Cert.Reference4Ideal.τ).loc Cert.Reference4Ideal.main_v31) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  IdealRules.named_const.Statement Cert.Kernel5Ideal.κ "log2e_8" .f32 0x3E38AA3B#32 (((8 * (Real.log 2))⁻¹ : ℝ) : EReal)
  ∧ IdealRules.named_const.Statement Cert.Kernel5Ideal.κ "log2e" .f32 0x3FB8AA3B#32 (((Real.log 2)⁻¹ : ℝ) : EReal)

def algebraic_Kernel5Ideal_Reference5Ideal_pre_finite_gates [hKernel5Ideal : Cert.Kernel5Ideal.Facts] [hReference5Ideal : Cert.Reference5Ideal.Facts] [hPre_finite_gates : Cert.Pre_finite_gates.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_gates m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v16_0)) (v1 : (c : Dev Cert.Kernel5Ideal.nD) → Buf (Elt Ideal) ((c.tc : Thread Cert.Kernel5Ideal.nD Cert.Kernel5Ideal.τ).loc Cert.Kernel5Ideal.main_v16_1)) (v2 : (c : Dev Cert.Kernel5Ideal.nD) → Buf (Elt Ideal) ((c.tc : Thread Cert.Kernel5Ideal.nD Cert.Kernel5Ideal.τ).loc Cert.Kernel5Ideal.main_v16_2)) (v3 : (c : Dev Cert.Kernel5Ideal.nD) → Buf (Elt Ideal) ((c.tc : Thread Cert.Kernel5Ideal.nD Cert.Kernel5Ideal.τ).loc Cert.Kernel5Ideal.main_v16_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v16_0) = v0 c
          ∧ r.2.mem ((c.tc : Thread Cert.Kernel5Ideal.nD Cert.Kernel5Ideal.τ).loc Cert.Kernel5Ideal.main_v16_1) = v1 c
          ∧ r.2.mem ((c.tc : Thread Cert.Kernel5Ideal.nD Cert.Kernel5Ideal.τ).loc Cert.Kernel5Ideal.main_v16_2) = v2 c
          ∧ r.2.mem ((c.tc : Thread Cert.Kernel5Ideal.nD Cert.Kernel5Ideal.τ).loc Cert.Kernel5Ideal.main_v16_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v37) = v0 c
          ∧ r.2.mem ((c.tc : Thread Cert.Reference5Ideal.nD Cert.Reference5Ideal.τ).loc Cert.Reference5Ideal.main_v38) = v1 c
          ∧ r.2.mem ((c.tc : Thread Cert.Reference5Ideal.nD Cert.Reference5Ideal.τ).loc Cert.Reference5Ideal.main_v41) = v2 c
          ∧ r.2.mem ((c.tc : Thread Cert.Reference5Ideal.nD Cert.Reference5Ideal.τ).loc Cert.Reference5Ideal.main_v42) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v26) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v26) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hPre_finite_scores : Cert.Pre_finite_scores.Facts) (hPre_finite_gates : Cert.Pre_finite_gates.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_gates (hKernel5Ideal := hKernel5Ideal) (hPre_finite_gates := hPre_finite_gates)
    ∧ quiescent_Reference5Ideal (hReference5Ideal := hReference5Ideal)
    ∧ quiescent_Reference5Ideal_pre_finite_gates (hReference5Ideal := hReference5Ideal) (hPre_finite_gates := hPre_finite_gates)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_gates (hKernel5Ideal := hKernel5Ideal) (hReference5Ideal := hReference5Ideal) (hPre_finite_gates := hPre_finite_gates)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
-- ==== Pre_finite_gates.lean ====
abbrev S16384x1024 : Shape := ⟨2, ![16384, 1024]⟩
abbrev S1024 : Shape := ⟨1, ![1024]⟩
abbrev S1024x3088 : Shape := ⟨2, ![1024, 3088]⟩
abbrev S16 : Shape := ⟨1, ![16]⟩
abbrev S_ : Shape := ⟨0, ![]⟩
abbrev S1024x16 : Shape := ⟨2, ![1024, 16]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024 : S_.BroadcastsInDim S1024 (![] : Fin 0 → Fin S1024.rank)
  reducesTo_S1024_S_d0 : S1024.ReducesTo [0] S_
  slices_S1024x3088_S1024x16_0_3072 : S1024x3088.Slices ![0, 3072] S1024x16
  bcast_S_S1024x16 : S_.BroadcastsInDim S1024x16 (![] : Fin 0 → Fin S1024x16.rank)
  reducesTo_S1024x16_S_d0_1 : S1024x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_v14 : IVec S_ 1) (main_v15 : FVec F S16 .f32) (main_v16 : FVec F S16 .f32) : IVec S_ 1 :=
  let main_v17 : IVec S16 1 := cmpf .olt main_v15 main_v16
  let main_c_5 : IVec S_ 1 := constantI S_ 1 1#1
  let main_v18 : IVec S_ 1 := (fun x v => Host.reduce IntOp.andi x v reducesTo_S16_S_d0 h_S_) main_v17 main_c_5
  let main_v19 : IVec S_ 1 := andi main_v14 main_v18
  main_v19

def fn {F : FTy → Type} [FloatOps F] (main_arg0 : FVec F S16384x1024 .f32) (main_arg1 : FVec F S1024 .f32) (main_arg2 : FVec F S1024x3088 .f32) (main_arg3 : FVec F S16 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x16 .f32 := (extractStridedSlice S1024x16 ![0, 3072] · slices_S1024x3088_S1024x16_0_3072) main_arg2
  let main_v10 : FVec F S1024x16 .f32 := Host.absf main_v9
  let main_cst_2 : FVec F S_ .f32 := constant S_ .f32 0x7F800000#32
  let main_v11 : FVec F S1024x16 .f32 := broadcastInDim S1024x16 ![] bcast_S_S1024x16 main_cst_2
  let main_v12 : IVec S1024x16 1 := cmpf .olt main_v10 main_v11
  let main_c_3 : IVec S_ 1 := constantI S_ 1 1#1
  let main_v13 : IVec S_ 1 := (fun x v => Host.reduce IntOp.andi x v reducesTo_S1024x16_S_d0_1 h_S_) main_v12 main_c_3
  let main_v14 : IVec S_ 1 := andi main_v8 main_v13
  let main_v15 : FVec F S16 .f32 := Host.absf main_arg3
  let main_cst_4 : FVec F S_ .f32 := constant S_ .f32 0x7F800000#32
  let main_v16 : FVec F S16 .f32 := broadcastInDim S16 ![] bcast_S_S16 main_cst_4
  fn_part1 (F := F) main_v14 main_v15 main_v16
-- ==== Pre_finite_scores.lean ====
abbrev S4x1024x4096 : Shape := ⟨3, ![4, 1024, 4096]⟩
abbrev S16384x1024 : Shape := ⟨2, ![16384, 1024]⟩
abbrev S16384x128 : Shape := ⟨2, ![16384, 128]⟩
abbrev S_ : Shape := ⟨0, ![]⟩

class Facts : Prop where
  bitsLt_bf16_f32 : FTy.bits .bf16 < FTy.bits .f32
  bcast_S_S4x1024x4096 : S_.BroadcastsInDim S4x1024x4096 (![] : Fin 0 → Fin S4x1024x4096.rank)
  reducesTo_S4x1024x4096_S_d0_1_2 : S4x1024x4096.ReducesTo [0, 1, 2] S_
  h_S_ : 0 < S_.numel
  bcast_S_S16384x1024 : S_.BroadcastsInDim S16384x1024 (![] : Fin 0 → Fin S16384x1024.rank)
  reducesTo_S16384x1024_S_d0_1 : S16384x1024.ReducesTo [0, 1] S_
  bcast_S_S16384x128 : S_.BroadcastsInDim S16384x128 (![] : Fin 0 → Fin S16384x128.rank)
  reducesTo_S16384x128_S_d0_1 : S16384x128.ReducesTo [0, 1] S_

variable [Facts]

def fn {F : FTy → Type} [FloatOps F] (main_arg0 : FVec F S4x1024x4096 .bf16) (main_arg1 : FVec F S16384x1024 .bf16) (main_arg2 : FVec F S16384x128 .bf16) (main_arg3 : FVec F S4x1024x4096 .bf16) : IVec S_ 1 :=
  let main_v0 : FVec F S4x1024x4096 .f32 := (extf .f32 · bitsLt_bf16_f32) main_arg0
  let main_v1 : FVec F S4x1024x4096 .f32 := Host.absf main_v0
  let main_cst : FVec F S_ .f32 := constant S_ .f32 0x7F800000#32
  let main_v2 : FVec F S4x1024x4096 .f32 := broadcastInDim S4x1024x4096 ![] bcast_S_S4x1024x4096 main_cst
  let main_v3 : IVec S4x1024x4096 1 := cmpf .olt main_v1 main_v2
  let main_c : IVec S_ 1 := constantI S_ 1 1#1
  let main_v4 : IVec S_ 1 := (fun x v => Host.reduce IntOp.andi x v reducesTo_S4x1024x4096_S_d0_1_2 h_S_) main_v3 main_c
  let main_v5 : FVec F S16384x1024 .f32 := (extf .f32 · bitsLt_bf16_f32) main_arg1
  let main_v6 : FVec F S16384x1024 .f32 := Host.absf main_v5
  let main_cst_0 : FVec F S_ .f32 := constant S_ .f32 0x7F800000#32
  let main_v7 : FVec F S16384x1024 .f32 := broadcastInDim S16384x1024 ![] bcast_S_S16384x1024 main_cst_0
  let main_v8 : IVec S16384x1024 1 := cmpf .olt main_v6 main_v7
  let main_c_1 : IVec S_ 1 := constantI S_ 1 1#1
  let main_v9 : IVec S_ 1 := (fun x v => Host.reduce IntOp.andi x v reducesTo_S16384x1024_S_d0_1 h_S_) main_v8 main_c_1
  let main_v10 : IVec S_ 1 := andi main_v4 main_v9
  let main_v11 : FVec F S16384x128 .f32 := (extf .f32 · bitsLt_bf16_f32) main_arg2
  let main_v12 : FVec F S16384x128 .f32 := Host.absf main_v11
  let main_cst_2 : FVec F S_ .f32 := constant S_ .f32 0x7F800000#32
  let main_v13 : FVec F S16384x128 .f32 := broadcastInDim S16384x128 ![] bcast_S_S16384x128 main_cst_2
  let main_v14 : IVec S16384x128 1 := cmpf .olt main_v12 main_v13
  let main_c_3 : IVec S_ 1 := constantI S_ 1 1#1
  let main_v15 : IVec S_ 1 := (fun x v => Host.reduce IntOp.andi x v reducesTo_S16384x128_S_d0_1 h_S_) main_v14 main_c_3
  let main_v16 : IVec S_ 1 := andi main_v10 main_v15
  main_v16
-- ==== Kernel.lean ====
abbrev S4x1024x4096 : Shape := ⟨3, ![4, 1024, 4096]⟩
abbrev S16384x1024 : Shape := ⟨2, ![16384, 1024]⟩
abbrev S16384x128 : Shape := ⟨2, ![16384, 128]⟩
abbrev S8x128x128 : Shape := ⟨3, ![8, 128, 128]⟩
abbrev S_ : Shape := ⟨0, ![]⟩
abbrev S1x128x4096 : Shape := ⟨3, ![1, 128, 4096]⟩
abbrev S4096x128 : Shape := ⟨2, ![4096, 128]⟩
abbrev S1x128x128 : Shape := ⟨3, ![1, 128, 128]⟩
abbrev S2x4096x128 : Shape := ⟨3, ![2, 4096, 128]⟩
abbrev S2x128x4096 : Shape := ⟨3, ![2, 128, 4096]⟩
abbrev S128x128 : Shape := ⟨2, ![128, 128]⟩
abbrev S128x4096 : Shape := ⟨2, ![128, 4096]⟩
abbrev S1x4096x128 : Shape := ⟨3, ![1, 4096, 128]⟩
abbrev S16x512 : Shape := ⟨2, ![16, 512]⟩
abbrev S1x512 : Shape := ⟨2, ![1, 512]⟩
abbrev S80x512 : Shape := ⟨2, ![80, 512]⟩
abbrev S1x512x128 : Shape := ⟨3, ![1, 512, 128]⟩
abbrev S512x128 : Shape := ⟨2, ![512, 128]⟩
abbrev S1x128x512 : Shape := ⟨3, ![1, 128, 512]⟩
abbrev S128x512 : Shape := ⟨2, ![128, 512]⟩
abbrev S512x512 : Shape := ⟨2, ![512, 512]⟩
abbrev S512 : Shape := ⟨1, ![512]⟩
abbrev S1x64x512 : Shape := ⟨3, ![1, 64, 512]⟩
abbrev S64x512 : Shape := ⟨2, ![64, 512]⟩
abbrev S80x2048 : Shape := ⟨2, ![80, 2048]⟩
abbrev S64x2048 : Shape := ⟨2, ![64, 2048]⟩
abbrev S1x2048 : Shape := ⟨2, ![1, 2048]⟩
abbrev S128x2048 : Shape := ⟨2, ![128, 2048]⟩
abbrev S2048x128 : Shape := ⟨2, ![2048, 128]⟩

abbrev nBuf : Space → Nat
  | .hbm => 39
  | .vmem => 14
  | .smem => 0
  | _ => 0

abbrev bufTy : (tb : Table) → Fin (tcTables nBuf tb) → BufTy
  | .hbm, ⟨0, _⟩ => ⟨S4x1024x4096, .bf16⟩
  | .hbm, ⟨1, _⟩ => ⟨S16384x1024, .bf16⟩
  | .hbm, ⟨2, _⟩ => ⟨S16384x128, .bf16⟩
  | .hbm, ⟨3, _⟩ => ⟨S4x1024x4096, .bf16⟩
  | .hbm, ⟨4, _⟩ => ⟨S8x128x128, .i32⟩
  | .hbm, ⟨5, _⟩ => ⟨S8x128x128, .i32⟩
  | .hbm, ⟨6, _⟩ => ⟨S8x128x128, .i32⟩
  | .hbm, ⟨7, _⟩ => ⟨S_, .i32⟩
  | .hbm, ⟨8, _⟩ => ⟨S8x128x128, .i32⟩
  | .hbm, ⟨9, _⟩ => ⟨S8x128x128, .i32⟩
  | .hbm, ⟨10, _⟩ => ⟨S_, .i32⟩
  | .hbm, ⟨11, _⟩ => ⟨S8x128x128, .i32⟩
  | .hbm, ⟨12, _⟩ => ⟨S8x128x128, .i32⟩
  | .hbm, ⟨13, _⟩ => ⟨S_, .i32⟩
  | .hbm, ⟨14, _⟩ => ⟨S8x128x128, .i32⟩
  | .hbm, ⟨15, _⟩ => ⟨S8x128x128, .i32⟩
  | .hbm, ⟨16, _⟩ => ⟨S_, .i32⟩
  | .hbm, ⟨17, _⟩ => ⟨S8x128x128, .i32⟩
  | .hbm, ⟨18, _⟩ => ⟨S8x128x128, .i1⟩
  | .hbm, ⟨19, _⟩ => ⟨S_, .i32⟩
  | .hbm, ⟨20, _⟩ => ⟨S8x128x128, .i32⟩
  | .hbm, ⟨21, _⟩ => ⟨S8x128x128, .i32⟩
  | .hbm, ⟨22, _⟩ => ⟨S8x128x128, .i32⟩
  | .hbm, ⟨23, _⟩ => ⟨S_, .i32⟩
  | .hbm, ⟨24, _⟩ => ⟨S8x128x128, .i32⟩
  | .hbm, ⟨25, _⟩ => ⟨S8x128x128, .i32⟩
  | .hbm, ⟨26, _⟩ => ⟨S_, .i32⟩
  | .hbm, ⟨27, _⟩ => ⟨S8x128x128, .i32⟩
  | .hbm, ⟨28, _⟩ => ⟨S8x128x128, .i32⟩
  | .hbm, ⟨29, _⟩ => ⟨S8x128x128, .i32⟩
  | .hbm, ⟨30, _⟩ => ⟨S8x128x128, .i1⟩
  | .hbm, ⟨31, _⟩ => ⟨S8x128x128, .i1⟩
  | .hbm, ⟨32, _⟩ => ⟨S_, .f32⟩
  | .hbm, ⟨33, _⟩ => ⟨S_, .f32⟩
  | .hbm, ⟨34, _⟩ => ⟨S8x128x128, .f32⟩
  | .hbm, ⟨35, _⟩ => ⟨S8x128x128, .f32⟩
  | .hbm, ⟨36, _⟩ => ⟨S8x128x128, .f32⟩
  | .hbm, ⟨37, _⟩ => ⟨S8x128x128, .bf16⟩
  | .hbm, ⟨38, _⟩ => ⟨S16384x1024, .bf16⟩
  | .local _ .vmem, ⟨0, _⟩ => ⟨S1x128x4096, .bf16⟩
  | .local _ .vmem, ⟨1, _⟩ => ⟨S1x128x4096, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S1x128x128, .bf16⟩
  | .local _ .vmem, ⟨7, _⟩ => ⟨S1x128x128, .bf16⟩
  | .local _ .vmem, ⟨8, _⟩ => ⟨S1x128x4096, .bf16⟩
  | .local _ .vmem, ⟨9, _⟩ => ⟨S1x128x4096, .bf16⟩
  | .local _ .vmem, ⟨10, _⟩ => ⟨S4096x128, .bf16⟩
  | .local _ .vmem, ⟨11, _⟩ => ⟨S4096x128, .bf16⟩
  | .local _ .vmem, ⟨12, _⟩ => ⟨S2x4096x128, .bf16⟩
  | .local _ .vmem, ⟨13, _⟩ => ⟨S2x128x4096, .bf16⟩
  | _, _ => ⟨S4x1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_c_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_4 : Ref sig .tc := ⟨.hbm, 23, rfl⟩
abbrev main_v14 : Ref sig .tc := ⟨.hbm, 24, rfl⟩
abbrev main_v15 : Ref sig .tc := ⟨.hbm, 25, rfl⟩
abbrev main_c_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_cst_6 : Ref sig .tc := ⟨.hbm, 33, rfl⟩
abbrev main_call0_v0 : Ref sig .tc := ⟨.hbm, 34, rfl⟩
abbrev main_call0_v1 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def k0_mult1 : BitVec 32 :=
  let c0_i32_113 : BitVec 32 := 0#32
  c0_i32_113
def k0_mult2 : BitVec 32 :=
  let c0_i32_119 : BitVec 32 := 0#32
  c0_i32_119
def k0_mult3 : BitVec 32 :=
  let c0_i32_126 : BitVec 32 := 0#32
  c0_i32_126
def k0_mult4 : BitVec 32 :=
  let c0_i32_133 : BitVec 32 := 0#32
  c0_i32_133
def k0_mult5 : BitVec 32 :=
  let c0_i32_141 : BitVec 32 := 0#32
  c0_i32_141
def k0_mult6 : BitVec 32 :=
  let c0_i32_145 : BitVec 32 := 0#32
  c0_i32_145
def k0_mult7 : BitVec 32 :=
  let c0_i32_152 : BitVec 32 := 0#32
  c0_i32_152
def k0_mult8 : BitVec 32 :=
  let c0_i32_155 : BitVec 32 := 0#32
  c0_i32_155
def k0_mult9 : BitVec 32 :=
  let c0_i32_163 : BitVec 32 := 0#32
  c0_i32_163
def k0_mult10 : BitVec 32 :=
  let c0_i32_167 : BitVec 32 := 0#32
  c0_i32_167
def k0_mult11 : BitVec 32 :=
  let c0_i32_174 : BitVec 32 := 0#32
  c0_i32_174
def k0_mult12 : BitVec 32 :=
  let c0_i32_178 : BitVec 32 := 0#32
  c0_i32_178
def k0_mult13 : BitVec 32 :=
  let c0_i32_186 : BitVec 32 := 0#32
  c0_i32_186
def k0_mult14 : BitVec 32 :=
  let c512_i32 : BitVec 32 := 512#32
  c512_i32
def k0_mult15 : BitVec 32 :=
  let c0_i32_197 : BitVec 32 := 0#32
  c0_i32_197
def k0_mult16 : BitVec 32 :=
  let c512_i32_201 : BitVec 32 := 512#32
  c512_i32_201
def k0_mult17 : BitVec 32 :=
  let c0_i32_209 : BitVec 32 := 0#32
  c0_i32_209
def k0_mult18 : BitVec 32 :=
  let c512_i32_213 : BitVec 32 := 512#32
  c512_i32_213
def k0_mult19 : BitVec 32 :=
  let c0_i32_221 : BitVec 32 := 0#32
  c0_i32_221
def k0_mult20 : BitVec 32 :=
  let c512_i32_225 : BitVec 32 := 512#32
  c512_i32_225
def k0_mult21 : BitVec 32 :=
  let c512_i32_233 : BitVec 32 := 512#32
  c512_i32_233
def k0_mult22 : BitVec 32 :=
  let c512_i32_237 : BitVec 32 := 512#32
  c512_i32_237
def k0_mult23 : BitVec 32 :=
  let c512_i32_245 : BitVec 32 := 512#32
  c512_i32_245
def k0_mult24 : BitVec 32 :=
  let c512_i32_249 : BitVec 32 := 512#32
  c512_i32_249
def k0_mult25 : BitVec 32 :=
  let c512_i32_257 : BitVec 32 := 512#32
  c512_i32_257
def k0_mult26 : BitVec 32 :=
  let c512_i32_261 : BitVec 32 := 512#32
  c512_i32_261
def k0_mult27 : BitVec 32 :=
  let c512_i32_269 : BitVec 32 := 512#32
  c512_i32_269
def k0_mult28 : BitVec 32 :=
  let c512_i32_273 : BitVec 32 := 512#32
  c512_i32_273
def k0_mult29 : BitVec 32 :=
  let c512_i32_281 : BitVec 32 := 512#32
  c512_i32_281
def k0_mult30 : BitVec 32 :=
  let c1024_i32 : BitVec 32 := 1024#32
  c1024_i32
def k0_mult31 : BitVec 32 :=
  let c512_i32_292 : BitVec 32 := 512#32
  c512_i32_292
def k0_mult32 : BitVec 32 :=
  let c1024_i32_296 : BitVec 32 := 1024#32
  c1024_i32_296
def k0_mult33 : BitVec 32 :=
  let c512_i32_304 : BitVec 32 := 512#32
  c512_i32_304
def k0_mult34 : BitVec 32 :=
  let c1024_i32_308 : BitVec 32 := 1024#32
  c1024_i32_308
def k0_mult35 : BitVec 32 :=
  let c512_i32_316 : BitVec 32 := 512#32
  c512_i32_316
def k0_mult36 : BitVec 32 :=
  let c1024_i32_320 : BitVec 32 := 1024#32
  c1024_i32_320
def k0_mult37 : BitVec 32 :=
  let c1024_i32_328 : BitVec 32 := 1024#32
  c1024_i32_328
def k0_mult38 : BitVec 32 :=
  let c1024_i32_332 : BitVec 32 := 1024#32
  c1024_i32_332
def k0_mult39 : BitVec 32 :=
  let c1024_i32_340 : BitVec 32 := 1024#32
  c1024_i32_340
def k0_mult40 : BitVec 32 :=
  let c1024_i32_344 : BitVec 32 := 1024#32
  c1024_i32_344
def k0_mult41 : BitVec 32 :=
  let c1024_i32_352 : BitVec 32 := 1024#32
  c1024_i32_352
def k0_mult42 : BitVec 32 :=
  let c1024_i32_356 : BitVec 32 := 1024#32
  c1024_i32_356
def k0_mult43 : BitVec 32 :=
  let c1024_i32_364 : BitVec 32 := 1024#32
  c1024_i32_364
def k0_mult44 : BitVec 32 :=
  let c1024_i32_368 : BitVec 32 := 1024#32
  c1024_i32_368
def k0_mult45 : BitVec 32 :=
  let c1024_i32_376 : BitVec 32 := 1024#32
  c1024_i32_376
def k0_mult46 : BitVec 32 :=
  let c1536_i32 : BitVec 32 := 1536#32
  c1536_i32
def k0_mult47 : BitVec 32 :=
  let c1024_i32_387 : BitVec 32 := 1024#32
  c1024_i32_387
def k0_mult48 : BitVec 32 :=
  let c1536_i32_391 : BitVec 32 := 1536#32
  c1536_i32_391
def k0_mult49 : BitVec 32 :=
  let c1024_i32_399 : BitVec 32 := 1024#32
  c1024_i32_399
def k0_mult50 : BitVec 32 :=
  let c1536_i32_403 : BitVec 32 := 1536#32
  c1536_i32_403
def k0_mult51 : BitVec 32 :=
  let c1024_i32_411 : BitVec 32 := 1024#32
  c1024_i32_411
def k0_mult52 : BitVec 32 :=
  let c1536_i32_415 : BitVec 32 := 1536#32
  c1536_i32_415
def k0_mult53 : BitVec 32 :=
  let c1536_i32_423 : BitVec 32 := 1536#32
  c1536_i32_423
def k0_mult54 : BitVec 32 :=
  let c1536_i32_427 : BitVec 32 := 1536#32
  c1536_i32_427
def k0_mult55 : BitVec 32 :=
  let c1536_i32_435 : BitVec 32 := 1536#32
  c1536_i32_435
def k0_mult56 : BitVec 32 :=
  let c1536_i32_439 : BitVec 32 := 1536#32
  c1536_i32_439
def k0_mult57 : BitVec 32 :=
  let c1536_i32_447 : BitVec 32 := 1536#32
  c1536_i32_447
def k0_mult58 : BitVec 32 :=
  let c1536_i32_451 : BitVec 32 := 1536#32
  c1536_i32_451
def k0_mult59 : BitVec 32 :=
  let c1536_i32_459 : BitVec 32 := 1536#32
  c1536_i32_459
def k0_mult60 : BitVec 32 :=
  let c1536_i32_463 : BitVec 32 := 1536#32
  c1536_i32_463
def k0_mult61 : BitVec 32 :=
  let c1536_i32_471 : BitVec 32 := 1536#32
  c1536_i32_471
def k0_mult62 : BitVec 32 :=
  let c1536_i32_476 : BitVec 32 := 1536#32
  c1536_i32_476
def k0_mult63 : BitVec 32 :=
  let c1536_i32_481 : BitVec 32 := 1536#32
  c1536_i32_481
def k0_mult64 : BitVec 32 :=
  let c1536_i32_485 : BitVec 32 := 1536#32
  c1536_i32_485
def k0_mult65 : BitVec 32 :=
  let c0_i32_489 : BitVec 32 := 0#32
  c0_i32_489
def k0_mult66 : BitVec 32 :=
  let c2048_i32 : BitVec 32 := 2048#32
  c2048_i32
def k0_mult67 : BitVec 32 :=
  let c0_i32_508 : BitVec 32 := 0#32
  c0_i32_508
def k0_mult68 : BitVec 32 :=
  let c2048_i32_519 : BitVec 32 := 2048#32
  c2048_i32_519
def k0_mult69 : BitVec 32 :=
  let c0_i32_530 : BitVec 32 := 0#32
  c0_i32_530
def k0_mult70 : BitVec 32 :=
  let c0_i32_534 : BitVec 32 := 0#32
  c0_i32_534
def k0_mult71 : BitVec 32 :=
  let c2048_i32_541 : BitVec 32 := 2048#32
  c2048_i32_541
def k0_mult72 : BitVec 32 :=
  let c2048_i32_545 : BitVec 32 := 2048#32
  c2048_i32_545
def k0_mult73 : BitVec 32 :=
  let c0_i32_553 : BitVec 32 := 0#32
  c0_i32_553
def k0_mult74 : BitVec 32 :=
  let c0_i32_557 : BitVec 32 := 0#32
  c0_i32_557
def k0_mult75 : BitVec 32 :=
  let c2048_i32_565 : BitVec 32 := 2048#32
  c2048_i32_565
def k0_mult76 : BitVec 32 :=
  let c2048_i32_569 : BitVec 32 := 2048#32
  c2048_i32_569
def k0_mult77 : BitVec 32 :=
  let c0_i32_577 : BitVec 32 := 0#32
  c0_i32_577
def k0_mult78 : BitVec 32 :=
  let c0_i32_581 : BitVec 32 := 0#32
  c0_i32_581
def k0_mult79 : BitVec 32 :=
  let c2048_i32_588 : BitVec 32 := 2048#32
  c2048_i32_588
def k0_mult80 : BitVec 32 :=
  let c2048_i32_592 : BitVec 32 := 2048#32
  c2048_i32_592
def k0_mult81 : BitVec 32 :=
  let c0_i32_600 : BitVec 32 := 0#32
  c0_i32_600
def k0_mult82 : BitVec 32 :=
  let c0_i32_604 : BitVec 32 := 0#32
  c0_i32_604
def k0_mult83 : BitVec 32 :=
  let c2048_i32_612 : BitVec 32 := 2048#32
  c2048_i32_612
def k0_mult84 : BitVec 32 :=
  let c2048_i32_616 : BitVec 32 := 2048#32
  c2048_i32_616
def k0_mult85 : BitVec 32 :=
  let c0_i32_624 : BitVec 32 := 0#32
  c0_i32_624
def k0_mult86 : BitVec 32 :=
  let c0_i32_628 : BitVec 32 := 0#32
  c0_i32_628
def k0_mult87 : BitVec 32 :=
  let c2048_i32_635 : BitVec 32 := 2048#32
  c2048_i32_635
def k0_mult88 : BitVec 32 :=
  let c2048_i32_639 : BitVec 32 := 2048#32
  c2048_i32_639
def k0_mult89 : BitVec 32 :=
  let c0_i32_647 : BitVec 32 := 0#32
  c0_i32_647
def k0_mult90 : BitVec 32 :=
  let c0_i32_651 : BitVec 32 := 0#32
  c0_i32_651
def k0_mult91 : BitVec 32 :=
  let c2048_i32_659 : BitVec 32 := 2048#32
  c2048_i32_659
def k0_mult92 : BitVec 32 :=
  let c2048_i32_663 : BitVec 32 := 2048#32
  c2048_i32_663
def k0_mult93 : BitVec 32 :=
  let c0_i32_671 : BitVec 32 := 0#32
  c0_i32_671
def k0_mult94 : BitVec 32 :=
  let c512_i32_675 : BitVec 32 := 512#32
  c512_i32_675
def k0_mult95 : BitVec 32 :=
  let c2048_i32_686 : BitVec 32 := 2048#32
  c2048_i32_686
def k0_mult96 : BitVec 32 :=
  let c2560_i32 : BitVec 32 := 2560#32
  c2560_i32
def k0_mult97 : BitVec 32 :=
  let c0_i32_700 : BitVec 32 := 0#32
  c0_i32_700
def k0_mult98 : BitVec 32 :=
  let c512_i32_704 : BitVec 32 := 512#32
  c512_i32_704
def k0_mult99 : BitVec 32 :=
  let c2048_i32_715 : BitVec 32 := 2048#32
  c2048_i32_715
def k0_mult100 : BitVec 32 :=
  let c2560_i32_719 : BitVec 32 := 2560#32
  c2560_i32_719
def k0_mult101 : BitVec 32 :=
  let c512_i32_730 : BitVec 32 := 512#32
  c512_i32_730
def k0_mult102 : BitVec 32 :=
  let c512_i32_734 : BitVec 32 := 512#32
  c512_i32_734
def k0_mult103 : BitVec 32 :=
  let c2560_i32_742 : BitVec 32 := 2560#32
  c2560_i32_742
def k0_mult104 : BitVec 32 :=
  let c2560_i32_746 : BitVec 32 := 2560#32
  c2560_i32_746
def k0_mult105 : BitVec 32 :=
  let c512_i32_754 : BitVec 32 := 512#32
  c512_i32_754
def k0_mult106 : BitVec 32 :=
  let c512_i32_758 : BitVec 32 := 512#32
  c512_i32_758
def k0_mult107 : BitVec 32 :=
  let c2560_i32_766 : BitVec 32 := 2560#32
  c2560_i32_766
def k0_mult108 : BitVec 32 :=
  let c2560_i32_770 : BitVec 32 := 2560#32
  c2560_i32_770
def k0_mult109 : BitVec 32 :=
  let c512_i32_778 : BitVec 32 := 512#32
  c512_i32_778
def k0_mult110 : BitVec 32 :=
  let c512_i32_782 : BitVec 32 := 512#32
  c512_i32_782
def k0_mult111 : BitVec 32 :=
  let c2560_i32_790 : BitVec 32 := 2560#32
  c2560_i32_790
def k0_mult112 : BitVec 32 :=
  let c2560_i32_794 : BitVec 32 := 2560#32
  c2560_i32_794
def k0_mult113 : BitVec 32 :=
  let c512_i32_802 : BitVec 32 := 512#32
  c512_i32_802
def k0_mult114 : BitVec 32 :=
  let c512_i32_806 : BitVec 32 := 512#32
  c512_i32_806
def k0_mult115 : BitVec 32 :=
  let c2560_i32_814 : BitVec 32 := 2560#32
  c2560_i32_814
def k0_mult116 : BitVec 32 :=
  let c2560_i32_818 : BitVec 32 := 2560#32
  c2560_i32_818
def k0_mult117 : BitVec 32 :=
  let c512_i32_826 : BitVec 32 := 512#32
  c512_i32_826
def k0_mult118 : BitVec 32 :=
  let c1024_i32_830 : BitVec 32 := 1024#32
  c1024_i32_830
def k0_mult119 : BitVec 32 :=
  let c2560_i32_841 : BitVec 32 := 2560#32
  c2560_i32_841
def k0_mult120 : BitVec 32 :=
  let c3072_i32 : BitVec 32 := 3072#32
  c3072_i32
def k0_mult121 : BitVec 32 :=
  let c512_i32_855 : BitVec 32 := 512#32
  c512_i32_855
def k0_mult122 : BitVec 32 :=
  let c1024_i32_859 : BitVec 32 := 1024#32
  c1024_i32_859
def k0_mult123 : BitVec 32 :=
  let c2560_i32_870 : BitVec 32 := 2560#32
  c2560_i32_870
def k0_mult124 : BitVec 32 :=
  let c3072_i32_874 : BitVec 32 := 3072#32
  c3072_i32_874
def k0_mult125 : BitVec 32 :=
  let c1024_i32_885 : BitVec 32 := 1024#32
  c1024_i32_885
def k0_mult126 : BitVec 32 :=
  let c1024_i32_889 : BitVec 32 := 1024#32
  c1024_i32_889
def k0_mult127 : BitVec 32 :=
  let c3072_i32_897 : BitVec 32 := 3072#32
  c3072_i32_897
def k0_mult128 : BitVec 32 :=
  let c3072_i32_901 : BitVec 32 := 3072#32
  c3072_i32_901
def k0_mult129 : BitVec 32 :=
  let c1024_i32_909 : BitVec 32 := 1024#32
  c1024_i32_909
def k0_mult130 : BitVec 32 :=
  let c1024_i32_913 : BitVec 32 := 1024#32
  c1024_i32_913
def k0_mult131 : BitVec 32 :=
  let c3072_i32_921 : BitVec 32 := 3072#32
  c3072_i32_921
def k0_mult132 : BitVec 32 :=
  let c3072_i32_925 : BitVec 32 := 3072#32
  c3072_i32_925
def k0_mult133 : BitVec 32 :=
  let c1024_i32_933 : BitVec 32 := 1024#32
  c1024_i32_933
def k0_mult134 : BitVec 32 :=
  let c1536_i32_937 : BitVec 32 := 1536#32
  c1536_i32_937
def k0_mult135 : BitVec 32 :=
  let c3072_i32_948 : BitVec 32 := 3072#32
  c3072_i32_948
def k0_mult136 : BitVec 32 :=
  let c3584_i32 : BitVec 32 := 3584#32
  c3584_i32
def k0_mult137 : BitVec 32 :=
  let c1024_i32_962 : BitVec 32 := 1024#32
  c1024_i32_962
def k0_mult138 : BitVec 32 :=
  let c1536_i32_966 : BitVec 32 := 1536#32
  c1536_i32_966
def k0_mult139 : BitVec 32 :=
  let c3072_i32_977 : BitVec 32 := 3072#32
  c3072_i32_977
def k0_mult140 : BitVec 32 :=
  let c3584_i32_981 : BitVec 32 := 3584#32
  c3584_i32_981
def k0_mult141 : BitVec 32 :=
  let c1536_i32_992 : BitVec 32 := 1536#32
  c1536_i32_992
def k0_mult142 : BitVec 32 :=
  let c3584_i32_997 : BitVec 32 := 3584#32
  c3584_i32_997
def k0_mult143 : BitVec 32 :=
  let c1536_i32_1002 : BitVec 32 := 1536#32
  c1536_i32_1002
def k0_mult144 : BitVec 32 :=
  let c3584_i32_1006 : BitVec 32 := 3584#32
  c3584_i32_1006
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S4x1024x4096 : Shape := ⟨3, ![4, 1024, 4096]⟩
abbrev S16384x1024 : Shape := ⟨2, ![16384, 1024]⟩
abbrev S16384x128 : Shape := ⟨2, ![16384, 128]⟩
abbrev S4x16x64x4096 : Shape := ⟨4, ![4, 16, 64, 4096]⟩
abbrev S4x4096x16x64 : Shape := ⟨4, ![4, 4096, 16, 64]⟩
abbrev S4x4096x16x8 : Shape := ⟨4, ![4, 4096, 16, 8]⟩
abbrev S4x4096x16x1 : Shape := ⟨4, ![4, 4096, 16, 1]⟩
abbrev S4x4096x16 : Shape := ⟨3, ![4, 4096, 16]⟩
abbrev S4x16x4096 : Shape := ⟨3, ![4, 16, 4096]⟩
abbrev S4x16x4096x4096 : Shape := ⟨4, ![4, 16, 4096, 4096]⟩
abbrev S4x16x4096x1 : Shape := ⟨4, ![4, 16, 4096, 1]⟩
abbrev S4x16x1x4096 : Shape := ⟨4, ![4, 16, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩

abbrev nBuf : Space → Nat
  | .hbm => 62
  | .vmem => 0
  | .smem => 0
  | _ => 0

abbrev bufTy : (tb : Table) → Fin (tcTables nBuf tb) → BufTy
  | .hbm, ⟨0, _⟩ => ⟨S4x1024x4096, .bf16⟩
  | .hbm, ⟨1, _⟩ => ⟨S16384x1024, .bf16⟩
  | .hbm, ⟨2, _⟩ => ⟨S16384x128, .bf16⟩
  | .hbm, ⟨3, _⟩ => ⟨S4x1024x4096, .bf16⟩
  | .hbm, ⟨4, _⟩ => ⟨S4x1024x4096, .f32⟩
  | .hbm, ⟨5, _⟩ => ⟨S4x16x64x4096, .f32⟩
  | .hbm, ⟨6, _⟩ => ⟨S16384x1024, .f32⟩
  | .hbm, ⟨7, _⟩ => ⟨S4x4096x16x64, .f32⟩
  | .hbm, ⟨8, _⟩ => ⟨S4x1024x4096, .f32⟩
  | .hbm, ⟨9, _⟩ => ⟨S4x16x64x4096, .f32⟩
  | .hbm, ⟨10, _⟩ => ⟨S16384x128, .f32⟩
  | .hbm, ⟨11, _⟩ => ⟨S4x4096x16x8, .f32⟩
  | .hbm, ⟨12, _⟩ => ⟨S4x4096x16x1, .f32⟩
  | .hbm, ⟨13, _⟩ => ⟨S4x4096x16, .f32⟩
  | .hbm, ⟨14, _⟩ => ⟨S4x4096x16x1, .f32⟩
  | .hbm, ⟨15, _⟩ => ⟨S4x4096x16, .f32⟩
  | .hbm, ⟨16, _⟩ => ⟨S4x4096x16, .f32⟩
  | .hbm, ⟨17, _⟩ => ⟨S4x4096x16x1, .f32⟩
  | .hbm, ⟨18, _⟩ => ⟨S4x4096x16, .f32⟩
  | .hbm, ⟨19, _⟩ => ⟨S4x4096x16, .f32⟩
  | .hbm, ⟨20, _⟩ => ⟨S4x16x4096, .f32⟩
  | .hbm, ⟨21, _⟩ => ⟨S4x16x4096, .f32⟩
  | .hbm, ⟨22, _⟩ => ⟨S4x16x4096x4096, .f32⟩
  | .hbm, ⟨23, _⟩ => ⟨S4x16x4096x1, .f32⟩
  | .hbm, ⟨24, _⟩ => ⟨S4x16x4096x4096, .f32⟩
  | .hbm, ⟨25, _⟩ => ⟨S4x16x4096x4096, .f32⟩
  | .hbm, ⟨26, _⟩ => ⟨S4x16x1x4096, .f32⟩
  | .hbm, ⟨27, _⟩ => ⟨S4x16x4096x4096, .f32⟩
  | .hbm, ⟨28, _⟩ => ⟨S4x16x4096x4096, .f32⟩
  | .hbm, ⟨29, _⟩ => ⟨S4096, .i32⟩
  | .hbm, ⟨30, _⟩ => ⟨S1x4096, .i32⟩
  | .hbm, ⟨31, _⟩ => ⟨S4096x1, .i32⟩
  | .hbm, ⟨32, _⟩ => ⟨S4096x4096, .i32⟩
  | .hbm, ⟨33, _⟩ => ⟨S4096x4096, .i32⟩
  | .hbm, ⟨34, _⟩ => ⟨S4096x4096, .i1⟩
  | .hbm, ⟨35, _⟩ => ⟨S_, .f32⟩
  | .hbm, ⟨36, _⟩ => ⟨S_, .f32⟩
  | .hbm, ⟨37, _⟩ => ⟨S4x16x4096x4096, .i1⟩
  | .hbm, ⟨38, _⟩ => ⟨S4x16x4096x4096, .f32⟩
  | .hbm, ⟨39, _⟩ => ⟨S4x16x4096x4096, .f32⟩
  | .hbm, ⟨40, _⟩ => ⟨S_, .f32⟩
  | .hbm, ⟨41, _⟩ => ⟨S_, .f32⟩
  | .hbm, ⟨42, _⟩ => ⟨S4x16x4096x4096, .f32⟩
  | .hbm, ⟨43, _⟩ => ⟨S4x16x4096x4096, .f32⟩
  | .hbm, ⟨44, _⟩ => ⟨S_, .f32⟩
  | .hbm, ⟨45, _⟩ => ⟨S4x16x4096, .f32⟩
  | .hbm, ⟨46, _⟩ => ⟨S_, .f32⟩
  | .hbm, ⟨47, _⟩ => ⟨S4x16x4096, .f32⟩
  | .hbm, ⟨48, _⟩ => ⟨S4x16x4096, .f32⟩
  | .hbm, ⟨49, _⟩ => ⟨S4x16x4096x1, .f32⟩
  | .hbm, ⟨50, _⟩ => ⟨S4x16x4096x4096, .f32⟩
  | .hbm, ⟨51, _⟩ => ⟨S4x16x4096x4096, .f32⟩
  | .hbm, ⟨52, _⟩ => ⟨S4x16x4096x4096, .f32⟩
  | .hbm, ⟨53, _⟩ => ⟨S_, .f32⟩
  | .hbm, ⟨54, _⟩ => ⟨S4x16x4096, .f32⟩
  | .hbm, ⟨55, _⟩ => ⟨S4x16x4096x1, .f32⟩
  | .hbm, ⟨56, _⟩ => ⟨S4x16x4096x4096, .f32⟩
  | .hbm, ⟨57, _⟩ => ⟨S4x16x4096x4096, .f32⟩
  | .hbm, ⟨58, _⟩ => ⟨S4x16x64x4096, .f32⟩
  | .hbm, ⟨59, _⟩ => ⟨S4x4096x16x64, .f32⟩
  | .hbm, ⟨60, _⟩ => ⟨S16384x1024, .f32⟩
  | .hbm, ⟨61, _⟩ => ⟨S16384x1024, .bf16⟩
  | _, _ => ⟨S4x1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_cst : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v31 : Ref sig .tc := ⟨.hbm, 39, rfl⟩
abbrev main_cst_0 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_1 : Ref sig .tc := ⟨.hbm, 44, rfl⟩
abbrev main_v35 : Ref sig .tc := ⟨.hbm, 45, rfl⟩
abbrev main_cst_2 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_3 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩

abbrev nD : Nat := 1
abbrev τ : Topo := Topo.v7x

variable {F : FTy → Type} [FloatOps F]
-- ==== Kernel2.lean ====
abbrev S16384x1024 : Shape := ⟨2, ![16384, 1024]⟩
abbrev S2x1024x1024 : Shape := ⟨3, ![2, 1024, 1024]⟩
abbrev S1x1024 : Shape := ⟨2, ![1, 1024]⟩
abbrev S4x1024x4096 : Shape := ⟨3, ![4, 1024, 4096]⟩
abbrev S4x4096x1024 : Shape := ⟨3, ![4, 4096, 1024]⟩
abbrev S512x1024 : Shape := ⟨2, ![512, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 8
  | .vmem => 11
  | .smem => 0
  | _ => 0

abbrev bufTy : (tb : Table) → Fin (tcTables nBuf tb) → BufTy
  | .hbm, ⟨0, _⟩ => ⟨S16384x1024, .bf16⟩
  | .hbm, ⟨1, _⟩ => ⟨S2x1024x1024, .bf16⟩
  | .hbm, ⟨2, _⟩ => ⟨S16384x1024, .f32⟩
  | .hbm, ⟨3, _⟩ => ⟨S1x1024, .f32⟩
  | .hbm, ⟨4, _⟩ => ⟨S4x1024x4096, .f32⟩
  | .hbm, ⟨5, _⟩ => ⟨S4x4096x1024, .f32⟩
  | .hbm, ⟨6, _⟩ => ⟨S1x1024, .f32⟩
  | .hbm, ⟨7, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024x4096, .f32⟩
  | .local _ .vmem, ⟨7, _⟩ => ⟨S1x4096x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S16384x1024 : Shape := ⟨2, ![16384, 1024]⟩
abbrev S2x1024x1024 : Shape := ⟨3, ![2, 1024, 1024]⟩
abbrev S1x1024 : Shape := ⟨2, ![1, 1024]⟩
abbrev S4x1024x4096 : Shape := ⟨3, ![4, 1024, 4096]⟩
abbrev S4x4096x1024 : Shape := ⟨3, ![4, 4096, 1024]⟩
abbrev S1x1024x1024 : Shape := ⟨3, ![1, 1024, 1024]⟩
abbrev S1024x1024 : Shape := ⟨2, ![1024, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S16384x4096 : Shape := ⟨2, ![16384, 4096]⟩

abbrev nBuf : Space → Nat
  | .hbm => 39
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S2x1024x1024, .bf16⟩
  | .hbm, ⟨2, _⟩ => ⟨S16384x1024, .f32⟩
  | .hbm, ⟨3, _⟩ => ⟨S1x1024, .f32⟩
  | .hbm, ⟨4, _⟩ => ⟨S4x1024x4096, .f32⟩
  | .hbm, ⟨5, _⟩ => ⟨S4x4096x1024, .f32⟩
  | .hbm, ⟨6, _⟩ => ⟨S1x1024, .f32⟩
  | .hbm, ⟨7, _⟩ => ⟨S1x1024x1024, .bf16⟩
  | .hbm, ⟨8, _⟩ => ⟨S1024x1024, .bf16⟩
  | .hbm, ⟨9, _⟩ => ⟨S1x1024x4096, .f32⟩
  | .hbm, ⟨10, _⟩ => ⟨S1024x4096, .f32⟩
  | .hbm, ⟨11, _⟩ => ⟨S1x4096x1024, .f32⟩
  | .hbm, ⟨12, _⟩ => ⟨S4096x1024, .f32⟩
  | .hbm, ⟨13, _⟩ => ⟨S16384x1024, .f32⟩
  | .hbm, ⟨14, _⟩ => ⟨S1024x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x4096, .f32⟩
  | .hbm, ⟨33, _⟩ => ⟨S_, .f32⟩
  | .hbm, ⟨34, _⟩ => ⟨S16384x4096, .f32⟩
  | .hbm, ⟨35, _⟩ => ⟨S16384x4096, .f32⟩
  | .hbm, ⟨36, _⟩ => ⟨S16384x4096, .f32⟩
  | .hbm, ⟨37, _⟩ => ⟨S16384x1024, .f32⟩
  | .hbm, ⟨38, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_cst : Ref sig .tc := ⟨.hbm, 33, rfl⟩
abbrev main_call0_v0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]
-- ==== Kernel3.lean ====
abbrev S16384x1024 : Shape := ⟨2, ![16384, 1024]⟩
abbrev S2x1024x1024 : Shape := ⟨3, ![2, 1024, 1024]⟩
abbrev S1x1024 : Shape := ⟨2, ![1, 1024]⟩
abbrev S4x1024x4096 : Shape := ⟨3, ![4, 1024, 4096]⟩
abbrev S4x4096x1024 : Shape := ⟨3, ![4, 4096, 1024]⟩
abbrev S512x1024 : Shape := ⟨2, ![512, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 8
  | .vmem => 11
  | .smem => 0
  | _ => 0

abbrev bufTy : (tb : Table) → Fin (tcTables nBuf tb) → BufTy
  | .hbm, ⟨0, _⟩ => ⟨S16384x1024, .bf16⟩
  | .hbm, ⟨1, _⟩ => ⟨S2x1024x1024, .bf16⟩
  | .hbm, ⟨2, _⟩ => ⟨S16384x1024, .f32⟩
  | .hbm, ⟨3, _⟩ => ⟨S1x1024, .f32⟩
  | .hbm, ⟨4, _⟩ => ⟨S4x1024x4096, .f32⟩
  | .hbm, ⟨5, _⟩ => ⟨S4x4096x1024, .f32⟩
  | .hbm, ⟨6, _⟩ => ⟨S1x1024, .f32⟩
  | .hbm, ⟨7, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024x4096, .f32⟩
  | .local _ .vmem, ⟨7, _⟩ => ⟨S1x4096x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S16384x1024 : Shape := ⟨2, ![16384, 1024]⟩
abbrev S2x1024x1024 : Shape := ⟨3, ![2, 1024, 1024]⟩
abbrev S1x1024 : Shape := ⟨2, ![1, 1024]⟩
abbrev S4x1024x4096 : Shape := ⟨3, ![4, 1024, 4096]⟩
abbrev S4x4096x1024 : Shape := ⟨3, ![4, 4096, 1024]⟩
abbrev S1x1024x1024 : Shape := ⟨3, ![1, 1024, 1024]⟩
abbrev S1024x1024 : Shape := ⟨2, ![1024, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S16384x4096 : Shape := ⟨2, ![16384, 4096]⟩

abbrev nBuf : Space → Nat
  | .hbm => 54
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S2x1024x1024, .bf16⟩
  | .hbm, ⟨2, _⟩ => ⟨S16384x1024, .f32⟩
  | .hbm, ⟨3, _⟩ => ⟨S1x1024, .f32⟩
  | .hbm, ⟨4, _⟩ => ⟨S4x1024x4096, .f32⟩
  | .hbm, ⟨5, _⟩ => ⟨S4x4096x1024, .f32⟩
  | .hbm, ⟨6, _⟩ => ⟨S1x1024, .f32⟩
  | .hbm, ⟨7, _⟩ => ⟨S1x1024x1024, .bf16⟩
  | .hbm, ⟨8, _⟩ => ⟨S1024x1024, .bf16⟩
  | .hbm, ⟨9, _⟩ => ⟨S1x1024x4096, .f32⟩
  | .hbm, ⟨10, _⟩ => ⟨S1024x4096, .f32⟩
  | .hbm, ⟨11, _⟩ => ⟨S1x4096x1024, .f32⟩
  | .hbm, ⟨12, _⟩ => ⟨S4096x1024, .f32⟩
  | .hbm, ⟨13, _⟩ => ⟨S16384x1024, .f32⟩
  | .hbm, ⟨14, _⟩ => ⟨S1024x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x4096, .f32⟩
  | .hbm, ⟨33, _⟩ => ⟨S_, .f32⟩
  | .hbm, ⟨34, _⟩ => ⟨S16384x4096, .f32⟩
  | .hbm, ⟨35, _⟩ => ⟨S16384x4096, .f32⟩
  | .hbm, ⟨36, _⟩ => ⟨S16384x4096, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S16384x1, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_cst : Ref sig .tc := ⟨.hbm, 33, rfl⟩
abbrev main_call0_v0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]
-- ==== Kernel4.lean ====
abbrev S16384x1024 : Shape := ⟨2, ![16384, 1024]⟩
abbrev S1024 : Shape := ⟨1, ![1024]⟩
abbrev S1024x3088 : Shape := ⟨2, ![1024, 3088]⟩
abbrev S16x512 : Shape := ⟨2, ![16, 512]⟩
abbrev S512 : Shape := ⟨1, ![512]⟩
abbrev S1024x512 : Shape := ⟨2, ![1024, 512]⟩
abbrev S1024x1024 : Shape := ⟨2, ![1024, 1024]⟩
abbrev S1024x16 : Shape := ⟨2, ![1024, 16]⟩
abbrev S16x1024 : Shape := ⟨2, ![16, 1024]⟩
abbrev S1x1024 : Shape := ⟨2, ![1, 1024]⟩
abbrev S1x512 : Shape := ⟨2, ![1, 512]⟩
abbrev S16384x512 : Shape := ⟨2, ![16384, 512]⟩
abbrev S1024x1 : Shape := ⟨2, ![1024, 1]⟩

abbrev nBuf : Space → Nat
  | .hbm => 24
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3088, .f32⟩
  | .hbm, ⟨3, _⟩ => ⟨S16x512, .f32⟩
  | .hbm, ⟨4, _⟩ => ⟨S512, .f32⟩
  | .hbm, ⟨5, _⟩ => ⟨S1024x512, .f32⟩
  | .hbm, ⟨6, _⟩ => ⟨S1024x512, .bf16⟩
  | .hbm, ⟨7, _⟩ => ⟨S1024x512, .f32⟩
  | .hbm, ⟨8, _⟩ => ⟨S1024x512, .bf16⟩
  | .hbm, ⟨9, _⟩ => ⟨S1024x1024, .f32⟩
  | .hbm, ⟨10, _⟩ => ⟨S1024x1024, .bf16⟩
  | .hbm, ⟨11, _⟩ => ⟨S1024x16, .f32⟩
  | .hbm, ⟨12, _⟩ => ⟨S16x1024, .f32⟩
  | .hbm, ⟨13, _⟩ => ⟨S16x1024, .bf16⟩
  | .hbm, ⟨14, _⟩ => ⟨S1024x1024, .f32⟩
  | .hbm, ⟨15, _⟩ => ⟨S1024x1024, .bf16⟩
  | .hbm, ⟨16, _⟩ => ⟨S16x512, .bf16⟩
  | .hbm, ⟨17, _⟩ => ⟨S1x1024, .f32⟩
  | .hbm, ⟨18, _⟩ => ⟨S1x512, .f32⟩
  | .hbm, ⟨19, _⟩ => ⟨S16384x512, .f32⟩
  | .hbm, ⟨20, _⟩ => ⟨S16384x512, .f32⟩
  | .hbm, ⟨21, _⟩ => ⟨S16384x1024, .bf16⟩
  | .hbm, ⟨22, _⟩ => ⟨S16384x1024, .f32⟩
  | .hbm, ⟨23, _⟩ => ⟨S16384x512, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1024x1024, .bf16⟩
  | .local _ .vmem, ⟨6, _⟩ => ⟨S1024x1024, .bf16⟩
  | .local _ .vmem, ⟨7, _⟩ => ⟨S16x1024, .bf16⟩
  | .local _ .vmem, ⟨8, _⟩ => ⟨S16x512, .bf16⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x1024, .bf16⟩
  | .local _ .vmem, ⟨15, _⟩ => ⟨S1024x1024, .bf16⟩
  | .local _ .vmem, ⟨16, _⟩ => ⟨S1024x1024, .f32⟩
  | .local _ .vmem, ⟨17, _⟩ => ⟨S1024x1024, .f32⟩
  | .local _ .vmem, ⟨18, _⟩ => ⟨S1024x512, .f32⟩
  | .local _ .vmem, ⟨19, _⟩ => ⟨S1024x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14_0 : Ref sig .tc := ⟨.hbm, 19, rfl⟩
abbrev main_v14_1 : Ref sig .tc := ⟨.hbm, 20, rfl⟩
abbrev main_v14_2 : Ref sig .tc := ⟨.hbm, 21, rfl⟩
abbrev main_v14_3 : Ref sig .tc := ⟨.hbm, 22, rfl⟩
abbrev main_v14_4 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Kernel4Ideal.lean ====
variable {F : FTy → Type} [FloatOps F] [Named F]
def κ : String → Option EReal := fun
  | "log2e_16" => some (((16 * (Real.log 2))⁻¹ : ℝ) : EReal)
  | _ => none
-- ==== Reference4Ideal.lean ====
abbrev S16384x1024 : Shape := ⟨2, ![16384, 1024]⟩
abbrev S1024 : Shape := ⟨1, ![1024]⟩
abbrev S1024x3088 : Shape := ⟨2, ![1024, 3088]⟩
abbrev S16x512 : Shape := ⟨2, ![16, 512]⟩
abbrev S512 : Shape := ⟨1, ![512]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3088 : Shape := ⟨2, ![16384, 3088]⟩
abbrev S16384x512 : Shape := ⟨2, ![16384, 512]⟩
abbrev S16384x16 : Shape := ⟨2, ![16384, 16]⟩
abbrev S1x512 : Shape := ⟨2, ![1, 512]⟩

abbrev nBuf : Space → Nat
  | .hbm => 58
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3088, .f32⟩
  | .hbm, ⟨3, _⟩ => ⟨S16x512, .f32⟩
  | .hbm, ⟨4, _⟩ => ⟨S512, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x3088, .f32⟩
  | .hbm, ⟨22, _⟩ => ⟨S16384x512, .f32⟩
  | .hbm, ⟨23, _⟩ => ⟨S16384x512, .f32⟩
  | .hbm, ⟨24, _⟩ => ⟨S16384x1024, .f32⟩
  | .hbm, ⟨25, _⟩ => ⟨S16384x16, .f32⟩
  | .hbm, ⟨26, _⟩ => ⟨S16384x1024, .f32⟩
  | .hbm, ⟨27, _⟩ => ⟨S16384x512, .f32⟩
  | .hbm, ⟨28, _⟩ => ⟨S1x512, .f32⟩
  | .hbm, ⟨29, _⟩ => ⟨S16384x512, .f32⟩
  | .hbm, ⟨30, _⟩ => ⟨S16384x512, .f32⟩
  | .hbm, ⟨31, _⟩ => ⟨S16384x512, .f32⟩
  | .hbm, ⟨32, _⟩ => ⟨S_, .f32⟩
  | .hbm, ⟨33, _⟩ => ⟨S16384x512, .f32⟩
  | .hbm, ⟨34, _⟩ => ⟨S16384x512, .f32⟩
  | .hbm, ⟨35, _⟩ => ⟨S16384x512, .f32⟩
  | .hbm, ⟨36, _⟩ => ⟨S16384x512, .f32⟩
  | .hbm, ⟨37, _⟩ => ⟨S16384x512, .i1⟩
  | .hbm, ⟨38, _⟩ => ⟨S16384x512, .f32⟩
  | .hbm, ⟨39, _⟩ => ⟨S16384x512, .f32⟩
  | .hbm, ⟨40, _⟩ => ⟨S16384x512, .f32⟩
  | .hbm, ⟨41, _⟩ => ⟨S16384x512, .f32⟩
  | .hbm, ⟨42, _⟩ => ⟨S16384x512, .f32⟩
  | .hbm, ⟨43, _⟩ => ⟨S16384x512, .f32⟩
  | .hbm, ⟨44, _⟩ => ⟨S16384x512, .f32⟩
  | .hbm, ⟨45, _⟩ => ⟨S16384x512, .f32⟩
  | .hbm, ⟨46, _⟩ => ⟨S16384x512, .f32⟩
  | .hbm, ⟨47, _⟩ => ⟨S_, .f32⟩
  | .hbm, ⟨48, _⟩ => ⟨S16384x512, .f32⟩
  | .hbm, ⟨49, _⟩ => ⟨S16384x512, .f32⟩
  | .hbm, ⟨50, _⟩ => ⟨S_, .f32⟩
  | .hbm, ⟨51, _⟩ => ⟨S16384x512, .f32⟩
  | .hbm, ⟨52, _⟩ => ⟨S16384x512, .f32⟩
  | .hbm, ⟨53, _⟩ => ⟨S16384x1024, .bf16⟩
  | .hbm, ⟨54, _⟩ => ⟨S_, .f32⟩
  | .hbm, ⟨55, _⟩ => ⟨S_, .f32⟩
  | .hbm, ⟨56, _⟩ => ⟨S16384x512, .f32⟩
  | .hbm, ⟨57, _⟩ => ⟨S16384x512, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_call0_v0 : Ref sig .tc := ⟨.hbm, 31, rfl⟩
abbrev main_call0_call0_cst : Ref sig .tc := ⟨.hbm, 32, rfl⟩
abbrev main_call0_call0_v0 : Ref sig .tc := ⟨.hbm, 33, rfl⟩
abbrev main_call0_call0_v1 : Ref sig .tc := ⟨.hbm, 34, rfl⟩
abbrev main_call0_call0_v2 : Ref sig .tc := ⟨.hbm, 35, rfl⟩
abbrev main_call0_call0_v3 : Ref sig .tc := ⟨.hbm, 36, rfl⟩
abbrev main_call0_call0_v4 : Ref sig .tc := ⟨.hbm, 37, rfl⟩
abbrev main_call0_call0_v5 : Ref sig .tc := ⟨.hbm, 38, rfl⟩
abbrev main_call0_call0_v6 : Ref sig .tc := ⟨.hbm, 39, rfl⟩
abbrev main_call0_call0_v7 : Ref sig .tc := ⟨.hbm, 40, rfl⟩
abbrev main_call0_call0_v8 : Ref sig .tc := ⟨.hbm, 41, rfl⟩
abbrev main_call0_call0_v9 : Ref sig .tc := ⟨.hbm, 42, rfl⟩
abbrev main_call0_call0_v10 : Ref sig .tc := ⟨.hbm, 43, rfl⟩
abbrev main_call0_call0_v11 : Ref sig .tc := ⟨.hbm, 44, rfl⟩
abbrev main_call0_v1 : Ref sig .tc := ⟨.hbm, 45, rfl⟩
abbrev main_v23 : Ref sig .tc := ⟨.hbm, 46, rfl⟩
abbrev main_cst_2 : Ref sig .tc := ⟨.hbm, 47, rfl⟩
abbrev main_v24 : Ref sig .tc := ⟨.hbm, 48, rfl⟩
abbrev main_v25 : Ref sig .tc := ⟨.hbm, 49, rfl⟩
abbrev main_cst_3 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_4 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩

abbrev nD : Nat := 1
abbrev τ : Topo := Topo.v7x

variable {F : FTy → Type} [FloatOps F]
-- ==== Kernel5.lean ====
abbrev S16384x1024 : Shape := ⟨2, ![16384, 1024]⟩
abbrev S1024 : Shape := ⟨1, ![1024]⟩
abbrev S1024x3088 : Shape := ⟨2, ![1024, 3088]⟩
abbrev S16 : Shape := ⟨1, ![16]⟩
abbrev S1024x1024 : Shape := ⟨2, ![1024, 1024]⟩
abbrev S1024x16 : Shape := ⟨2, ![1024, 16]⟩
abbrev S1024x16x8 : Shape := ⟨3, ![1024, 16, 8]⟩
abbrev S1024x128 : Shape := ⟨2, ![1024, 128]⟩
abbrev S16x8 : Shape := ⟨2, ![16, 8]⟩
abbrev S128 : Shape := ⟨1, ![128]⟩
abbrev S1x128 : Shape := ⟨2, ![1, 128]⟩
abbrev S1x1024 : Shape := ⟨2, ![1, 1024]⟩
abbrev S4x1024x4096 : Shape := ⟨3, ![4, 1024, 4096]⟩
abbrev S16384x128 : Shape := ⟨2, ![16384, 128]⟩
abbrev S1x1024x1024 : Shape := ⟨3, ![1, 1024, 1024]⟩
abbrev S1024x1 : Shape := ⟨2, ![1024, 1]⟩
abbrev S256x256 : Shape := ⟨2, ![256, 256]⟩
abbrev S256x128 : Shape := ⟨2, ![256, 128]⟩

abbrev nBuf : Space → Nat
  | .hbm => 24
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3088, .f32⟩
  | .hbm, ⟨3, _⟩ => ⟨S16, .f32⟩
  | .hbm, ⟨4, _⟩ => ⟨S1024x1024, .f32⟩
  | .hbm, ⟨5, _⟩ => ⟨S1024x1024, .f32⟩
  | .hbm, ⟨6, _⟩ => ⟨S1024x1024, .bf16⟩
  | .hbm, ⟨7, _⟩ => ⟨S1024x1024, .f32⟩
  | .hbm, ⟨8, _⟩ => ⟨S1024x1024, .bf16⟩
  | .hbm, ⟨9, _⟩ => ⟨S1024x1024, .f32⟩
  | .hbm, ⟨10, _⟩ => ⟨S1024x1024, .f32⟩
  | .hbm, ⟨11, _⟩ => ⟨S1024x1024, .bf16⟩
  | .hbm, ⟨12, _⟩ => ⟨S1024x16, .f32⟩
  | .hbm, ⟨13, _⟩ => ⟨S1024x16x8, .f32⟩
  | .hbm, ⟨14, _⟩ => ⟨S1024x128, .f32⟩
  | .hbm, ⟨15, _⟩ => ⟨S1024x128, .bf16⟩
  | .hbm, ⟨16, _⟩ => ⟨S16x8, .f32⟩
  | .hbm, ⟨17, _⟩ => ⟨S128, .f32⟩
  | .hbm, ⟨18, _⟩ => ⟨S1x128, .f32⟩
  | .hbm, ⟨19, _⟩ => ⟨S1x1024, .f32⟩
  | .hbm, ⟨20, _⟩ => ⟨S4x1024x4096, .bf16⟩
  | .hbm, ⟨21, _⟩ => ⟨S16384x1024, .bf16⟩
  | .hbm, ⟨22, _⟩ => ⟨S4x1024x4096, .bf16⟩
  | .hbm, ⟨23, _⟩ => ⟨S16384x128, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x128, .bf16⟩
  | .local _ .vmem, ⟨7, _⟩ => ⟨S1x128, .f32⟩
  | .local _ .vmem, ⟨8, _⟩ => ⟨S1x1024x1024, .bf16⟩
  | .local _ .vmem, ⟨9, _⟩ => ⟨S1x1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S1024x128, .bf16⟩
  | .local _ .vmem, ⟨15, _⟩ => ⟨S1024x128, .bf16⟩
  | .local _ .vmem, ⟨16, _⟩ => ⟨S1x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16_0 : Ref sig .tc := ⟨.hbm, 20, rfl⟩
abbrev main_v16_1 : Ref sig .tc := ⟨.hbm, 21, rfl⟩
abbrev main_v16_2 : Ref sig .tc := ⟨.hbm, 22, rfl⟩
abbrev main_v16_3 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Kernel5Ideal.lean ====
variable {F : FTy → Type} [FloatOps F] [Named F]
def κ : String → Option EReal := fun
  | "log2e" => some (((Real.log 2)⁻¹ : ℝ) : EReal)
  | "log2e_8" => some (((8 * (Real.log 2))⁻¹ : ℝ) : EReal)
  | _ => none
-- ==== Reference5Ideal.lean ====
abbrev S16384x1024 : Shape := ⟨2, ![16384, 1024]⟩
abbrev S1024 : Shape := ⟨1, ![1024]⟩
abbrev S1024x3088 : Shape := ⟨2, ![1024, 3088]⟩
abbrev S16 : Shape := ⟨1, ![16]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3088 : Shape := ⟨2, ![16384, 3088]⟩
abbrev S16384x16 : Shape := ⟨2, ![16384, 16]⟩
abbrev S1x16 : Shape := ⟨2, ![1, 16]⟩
abbrev S4x4096x16 : Shape := ⟨3, ![4, 4096, 16]⟩
abbrev S4x4096x16x1 : Shape := ⟨4, ![4, 4096, 16, 1]⟩
abbrev S4x4096x16x8 : Shape := ⟨4, ![4, 4096, 16, 8]⟩
abbrev S16384x128 : Shape := ⟨2, ![16384, 128]⟩
abbrev S4x4096x1024 : Shape := ⟨3, ![4, 4096, 1024]⟩
abbrev S4x1024x4096 : Shape := ⟨3, ![4, 1024, 4096]⟩

abbrev nBuf : Space → Nat
  | .hbm => 71
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3088, .f32⟩
  | .hbm, ⟨3, _⟩ => ⟨S16, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x3088, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x16, .f32⟩
  | .hbm, ⟨25, _⟩ => ⟨S_, .f32⟩
  | .hbm, ⟨26, _⟩ => ⟨S_, .f32⟩
  | .hbm, ⟨27, _⟩ => ⟨S1x16, .f32⟩
  | .hbm, ⟨28, _⟩ => ⟨S16384x16, .f32⟩
  | .hbm, ⟨29, _⟩ => ⟨S16384x16, .f32⟩
  | .hbm, ⟨30, _⟩ => ⟨S16384x16, .f32⟩
  | .hbm, ⟨31, _⟩ => ⟨S_, .f32⟩
  | .hbm, ⟨32, _⟩ => ⟨S16384x16, .f32⟩
  | .hbm, ⟨33, _⟩ => ⟨S16384x16, .f32⟩
  | .hbm, ⟨34, _⟩ => ⟨S16384x16, .f32⟩
  | .hbm, ⟨35, _⟩ => ⟨S16384x16, .f32⟩
  | .hbm, ⟨36, _⟩ => ⟨S16384x16, .i1⟩
  | .hbm, ⟨37, _⟩ => ⟨S16384x16, .f32⟩
  | .hbm, ⟨38, _⟩ => ⟨S16384x16, .f32⟩
  | .hbm, ⟨39, _⟩ => ⟨S16384x16, .f32⟩
  | .hbm, ⟨40, _⟩ => ⟨S16384x16, .f32⟩
  | .hbm, ⟨41, _⟩ => ⟨S16384x16, .f32⟩
  | .hbm, ⟨42, _⟩ => ⟨S16384x16, .f32⟩
  | .hbm, ⟨43, _⟩ => ⟨S16384x16, .f32⟩
  | .hbm, ⟨44, _⟩ => ⟨S16384x16, .f32⟩
  | .hbm, ⟨45, _⟩ => ⟨S16384x16, .f32⟩
  | .hbm, ⟨46, _⟩ => ⟨S4x4096x16, .f32⟩
  | .hbm, ⟨47, _⟩ => ⟨S_, .f32⟩
  | .hbm, ⟨48, _⟩ => ⟨S_, .f32⟩
  | .hbm, ⟨49, _⟩ => ⟨S4x4096x16, .f32⟩
  | .hbm, ⟨50, _⟩ => ⟨S4x4096x16, .f32⟩
  | .hbm, ⟨51, _⟩ => ⟨S4x4096x16, .f32⟩
  | .hbm, ⟨52, _⟩ => ⟨S4x4096x16, .f32⟩
  | .hbm, ⟨53, _⟩ => ⟨S4x4096x16x1, .f32⟩
  | .hbm, ⟨54, _⟩ => ⟨S_, .i32⟩
  | .hbm, ⟨55, _⟩ => ⟨S_, .f32⟩
  | .hbm, ⟨56, _⟩ => ⟨S4x4096x16x8, .f32⟩
  | .hbm, ⟨57, _⟩ => ⟨S16384x128, .f32⟩
  | .hbm, ⟨58, _⟩ => ⟨S_, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S4x4096x1024, .f32⟩
  | .hbm, ⟨64, _⟩ => ⟨S4x1024x4096, .f32⟩
  | .hbm, ⟨65, _⟩ => ⟨S4x1024x4096, .bf16⟩
  | .hbm, ⟨66, _⟩ => ⟨S16384x1024, .bf16⟩
  | .hbm, ⟨67, _⟩ => ⟨S4x4096x1024, .f32⟩
  | .hbm, ⟨68, _⟩ => ⟨S4x1024x4096, .f32⟩
  | .hbm, ⟨69, _⟩ => ⟨S4x1024x4096, .bf16⟩
  | .hbm, ⟨70, _⟩ => ⟨S16384x128, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_call0_cst : Ref sig .tc := ⟨.hbm, 31, rfl⟩
abbrev main_call0_call0_v0 : Ref sig .tc := ⟨.hbm, 32, rfl⟩
abbrev main_call0_call0_v1 : Ref sig .tc := ⟨.hbm, 33, rfl⟩
abbrev main_call0_call0_v2 : Ref sig .tc := ⟨.hbm, 34, rfl⟩
abbrev main_call0_call0_v3 : Ref sig .tc := ⟨.hbm, 35, rfl⟩
abbrev main_call0_call0_v4 : Ref sig .tc := ⟨.hbm, 36, rfl⟩
abbrev main_call0_call0_v5 : Ref sig .tc := ⟨.hbm, 37, rfl⟩
abbrev main_call0_call0_v6 : Ref sig .tc := ⟨.hbm, 38, rfl⟩
abbrev main_call0_call0_v7 : Ref sig .tc := ⟨.hbm, 39, rfl⟩
abbrev main_call0_call0_v8 : Ref sig .tc := ⟨.hbm, 40, rfl⟩
abbrev main_call0_call0_v9 : Ref sig .tc := ⟨.hbm, 41, rfl⟩
abbrev main_call0_call0_v10 : Ref sig .tc := ⟨.hbm, 42, rfl⟩
abbrev main_call0_call0_v11 : Ref sig .tc := ⟨.hbm, 43, rfl⟩
abbrev main_call0_v1 : Ref sig .tc := ⟨.hbm, 44, rfl⟩
abbrev main_v22 : Ref sig .tc := ⟨.hbm, 45, rfl⟩
abbrev main_v23 : Ref sig .tc := ⟨.hbm, 46, rfl⟩
abbrev main_call1_call0_cst : Ref sig .tc := ⟨.hbm, 47, rfl⟩
abbrev main_call1_call0_v0 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_c : Ref sig .tc := ⟨.hbm, 54, rfl⟩
abbrev main_call2_v0 : Ref sig .tc := ⟨.hbm, 55, rfl⟩
abbrev main_v29 : Ref sig .tc := ⟨.hbm, 56, rfl⟩
abbrev main_v30 : Ref sig .tc := ⟨.hbm, 57, rfl⟩
abbrev main_cst_3 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩

abbrev nD : Nat := 1
abbrev τ : Topo := Topo.v7x

variable {F : FTy → Type} [FloatOps F]
-- ==== Kernel6.lean ====
abbrev S16384x1024 : Shape := ⟨2, ![16384, 1024]⟩
abbrev S2x1024x1024 : Shape := ⟨3, ![2, 1024, 1024]⟩
abbrev S1x1024 : Shape := ⟨2, ![1, 1024]⟩
abbrev S4x1024x4096 : Shape := ⟨3, ![4, 1024, 4096]⟩
abbrev S4x4096x1024 : Shape := ⟨3, ![4, 4096, 1024]⟩
abbrev S512x1024 : Shape := ⟨2, ![512, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 8
  | .vmem => 11
  | .smem => 0
  | _ => 0

abbrev bufTy : (tb : Table) → Fin (tcTables nBuf tb) → BufTy
  | .hbm, ⟨0, _⟩ => ⟨S16384x1024, .bf16⟩
  | .hbm, ⟨1, _⟩ => ⟨S2x1024x1024, .bf16⟩
  | .hbm, ⟨2, _⟩ => ⟨S16384x1024, .f32⟩
  | .hbm, ⟨3, _⟩ => ⟨S1x1024, .f32⟩
  | .hbm, ⟨4, _⟩ => ⟨S4x1024x4096, .f32⟩
  | .hbm, ⟨5, _⟩ => ⟨S4x4096x1024, .f32⟩
  | .hbm, ⟨6, _⟩ => ⟨S1x1024, .f32⟩
  | .hbm, ⟨7, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024x4096, .f32⟩
  | .local _ .vmem, ⟨7, _⟩ => ⟨S1x4096x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S16384x1024 : Shape := ⟨2, ![16384, 1024]⟩
abbrev S2x1024x1024 : Shape := ⟨3, ![2, 1024, 1024]⟩
abbrev S1x1024 : Shape := ⟨2, ![1, 1024]⟩
abbrev S4x1024x4096 : Shape := ⟨3, ![4, 1024, 4096]⟩
abbrev S4x4096x1024 : Shape := ⟨3, ![4, 4096, 1024]⟩
abbrev S1x1024x1024 : Shape := ⟨3, ![1, 1024, 1024]⟩
abbrev S1024x1024 : Shape := ⟨2, ![1024, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S16384x4096 : Shape := ⟨2, ![16384, 4096]⟩

abbrev nBuf : Space → Nat
  | .hbm => 39
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S2x1024x1024, .bf16⟩
  | .hbm, ⟨2, _⟩ => ⟨S16384x1024, .f32⟩
  | .hbm, ⟨3, _⟩ => ⟨S1x1024, .f32⟩
  | .hbm, ⟨4, _⟩ => ⟨S4x1024x4096, .f32⟩
  | .hbm, ⟨5, _⟩ => ⟨S4x4096x1024, .f32⟩
  | .hbm, ⟨6, _⟩ => ⟨S1x1024, .f32⟩
  | .hbm, ⟨7, _⟩ => ⟨S1x1024x1024, .bf16⟩
  | .hbm, ⟨8, _⟩ => ⟨S1024x1024, .bf16⟩
  | .hbm, ⟨9, _⟩ => ⟨S1x1024x4096, .f32⟩
  | .hbm, ⟨10, _⟩ => ⟨S1024x4096, .f32⟩
  | .hbm, ⟨11, _⟩ => ⟨S1x4096x1024, .f32⟩
  | .hbm, ⟨12, _⟩ => ⟨S4096x1024, .f32⟩
  | .hbm, ⟨13, _⟩ => ⟨S16384x1024, .f32⟩
  | .hbm, ⟨14, _⟩ => ⟨S1024x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x4096, .f32⟩
  | .hbm, ⟨33, _⟩ => ⟨S_, .f32⟩
  | .hbm, ⟨34, _⟩ => ⟨S16384x4096, .f32⟩
  | .hbm, ⟨35, _⟩ => ⟨S16384x4096, .f32⟩
  | .hbm, ⟨36, _⟩ => ⟨S16384x4096, .f32⟩
  | .hbm, ⟨37, _⟩ => ⟨S16384x1024, .f32⟩
  | .hbm, ⟨38, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_cst : Ref sig .tc := ⟨.hbm, 33, rfl⟩
abbrev main_call0_v0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]
-- ==== Kernel7.lean ====
abbrev S16384x1024 : Shape := ⟨2, ![16384, 1024]⟩
abbrev S2x1024x1024 : Shape := ⟨3, ![2, 1024, 1024]⟩
abbrev S1x1024 : Shape := ⟨2, ![1, 1024]⟩
abbrev S4x1024x4096 : Shape := ⟨3, ![4, 1024, 4096]⟩
abbrev S4x4096x1024 : Shape := ⟨3, ![4, 4096, 1024]⟩
abbrev S512x1024 : Shape := ⟨2, ![512, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 8
  | .vmem => 11
  | .smem => 0
  | _ => 0

abbrev bufTy : (tb : Table) → Fin (tcTables nBuf tb) → BufTy
  | .hbm, ⟨0, _⟩ => ⟨S16384x1024, .bf16⟩
  | .hbm, ⟨1, _⟩ => ⟨S2x1024x1024, .bf16⟩
  | .hbm, ⟨2, _⟩ => ⟨S16384x1024, .f32⟩
  | .hbm, ⟨3, _⟩ => ⟨S1x1024, .f32⟩
  | .hbm, ⟨4, _⟩ => ⟨S4x1024x4096, .f32⟩
  | .hbm, ⟨5, _⟩ => ⟨S4x4096x1024, .f32⟩
  | .hbm, ⟨6, _⟩ => ⟨S1x1024, .f32⟩
  | .hbm, ⟨7, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024x4096, .f32⟩
  | .local _ .vmem, ⟨7, _⟩ => ⟨S1x4096x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_5 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference7Ideal.lean ====
abbrev S16384x1024 : Shape := ⟨2, ![16384, 1024]⟩
abbrev S2x1024x1024 : Shape := ⟨3, ![2, 1024, 1024]⟩
abbrev S1x1024 : Shape := ⟨2, ![1, 1024]⟩
abbrev S4x1024x4096 : Shape := ⟨3, ![4, 1024, 4096]⟩
abbrev S4x4096x1024 : Shape := ⟨3, ![4, 4096, 1024]⟩
abbrev S1x1024x1024 : Shape := ⟨3, ![1, 1024, 1024]⟩
abbrev S1024x1024 : Shape := ⟨2, ![1024, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S16384x4096 : Shape := ⟨2, ![16384, 4096]⟩

abbrev nBuf : Space → Nat
  | .hbm => 39
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S2x1024x1024, .bf16⟩
  | .hbm, ⟨2, _⟩ => ⟨S16384x1024, .f32⟩
  | .hbm, ⟨3, _⟩ => ⟨S1x1024, .f32⟩
  | .hbm, ⟨4, _⟩ => ⟨S4x1024x4096, .f32⟩
  | .hbm, ⟨5, _⟩ => ⟨S4x4096x1024, .f32⟩
  | .hbm, ⟨6, _⟩ => ⟨S1x1024, .f32⟩
  | .hbm, ⟨7, _⟩ => ⟨S1x1024x1024, .bf16⟩
  | .hbm, ⟨8, _⟩ => ⟨S1024x1024, .bf16⟩
  | .hbm, ⟨9, _⟩ => ⟨S1x1024x4096, .f32⟩
  | .hbm, ⟨10, _⟩ => ⟨S1024x4096, .f32⟩
  | .hbm, ⟨11, _⟩ => ⟨S1x4096x1024, .f32⟩
  | .hbm, ⟨12, _⟩ => ⟨S4096x1024, .f32⟩
  | .hbm, ⟨13, _⟩ => ⟨S16384x1024, .f32⟩
  | .hbm, ⟨14, _⟩ => ⟨S1024x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x4096, .f32⟩
  | .hbm, ⟨33, _⟩ => ⟨S_, .f32⟩
  | .hbm, ⟨34, _⟩ => ⟨S16384x4096, .f32⟩
  | .hbm, ⟨35, _⟩ => ⟨S16384x4096, .f32⟩
  | .hbm, ⟨36, _⟩ => ⟨S16384x4096, .f32⟩
  | .hbm, ⟨37, _⟩ => ⟨S16384x1024, .f32⟩
  | .hbm, ⟨38, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_cst : Ref sig .tc := ⟨.hbm, 33, rfl⟩
abbrev main_call0_v0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]
-- ==== Kernel8.lean ====
abbrev S16384x512 : Shape := ⟨2, ![16384, 512]⟩
abbrev S16384x1024 : Shape := ⟨2, ![16384, 1024]⟩
abbrev S384x128 : Shape := ⟨2, ![384, 128]⟩
abbrev S1x256 : Shape := ⟨2, ![1, 256]⟩
abbrev S1024x512 : Shape := ⟨2, ![1024, 512]⟩
abbrev S1024x1024 : Shape := ⟨2, ![1024, 1024]⟩
abbrev S4x256x128 : Shape := ⟨3, ![4, 256, 128]⟩
abbrev S256x128 : Shape := ⟨2, ![256, 128]⟩
abbrev S64x512 : Shape := ⟨2, ![64, 512]⟩
abbrev S128x512 : Shape := ⟨2, ![128, 512]⟩
abbrev S384x512 : Shape := ⟨2, ![384, 512]⟩
abbrev S320x512 : Shape := ⟨2, ![320, 512]⟩
abbrev S64x128 : Shape := ⟨2, ![64, 128]⟩
abbrev S256x256 : Shape := ⟨2, ![256, 256]⟩
abbrev S8x512 : Shape := ⟨2, ![8, 512]⟩
abbrev S1x512 : Shape := ⟨2, ![1, 512]⟩
abbrev S16x512 : Shape := ⟨2, ![16, 512]⟩
abbrev S32x512 : Shape := ⟨2, ![32, 512]⟩
abbrev S64x256 : Shape := ⟨2, ![64, 256]⟩
abbrev S1x256x128 : Shape := ⟨3, ![1, 256, 128]⟩
abbrev S128x256 : Shape := ⟨2, ![128, 256]⟩
abbrev S1x128 : Shape := ⟨2, ![1, 128]⟩
abbrev S64 : Shape := ⟨1, ![64]⟩
abbrev S64x1 : Shape := ⟨2, ![64, 1]⟩

abbrev nBuf : Space → Nat
  | .hbm => 8
  | .vmem => 15
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x1024, .bf16⟩
  | .hbm, ⟨3, _⟩ => ⟨S16384x1024, .f32⟩
  | .hbm, ⟨4, _⟩ => ⟨S16384x512, .f32⟩
  | .hbm, ⟨5, _⟩ => ⟨S384x128, .bf16⟩
  | .hbm, ⟨6, _⟩ => ⟨S1x256, .f32⟩
  | .hbm, ⟨7, _⟩ => ⟨S16384x1024, .bf16⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x512, .f32⟩
  | .local _ .vmem, ⟨9, _⟩ => ⟨S1024x512, .f32⟩
  | .local _ .vmem, ⟨10, _⟩ => ⟨S384x128, .bf16⟩
  | .local _ .vmem, ⟨11, _⟩ => ⟨S1x256, .f32⟩
  | .local _ .vmem, ⟨12, _⟩ => ⟨S1024x1024, .bf16⟩
  | .local _ .vmem, ⟨13, _⟩ => ⟨S1024x1024, .bf16⟩
  | .local _ .vmem, ⟨14, _⟩ => ⟨S4x256x128, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S384x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Proof.V.Row.lean ====
/- One row of the end of a layer, and its four parts of the hidden axis put together. -/
module

public import Idealize.ShloMosaic.Lib.Pointwise
public import Idealize.ShloMosaic.PureOps.Ideal

@[expose] public section

noncomputable section

namespace Cert.Row

open Idealize.ShloMosaic

/-- The residual with the mixer's projection added. -/
def hid (res a : Fin 1024 → EReal) (wo : Fin 1024 → Fin 1024 → EReal) (n : Fin 1024) : EReal := res n + ∑ k, a k * wo k n

/-- A row over its root mean square, times the gains. -/
def rms (x g : Fin 1024 → EReal) (n : Fin 1024) : EReal :=
  x n * Ideal.rsqrt (Ideal.div (∑ k, x k * x k) (Ideal.ofBits .f32 0x44800000#32) + Ideal.ofBits .f32 0x358637BD#32) * g n

/-- The rectified hidden unit, before it is squared. -/
def act (x w : Fin 1024 → EReal) : EReal := max (∑ k, x k * w k) 0

/-- The part of the hidden layer's projection that 1024 hidden units from the `o`-th contribute. -/
def part (x : Fin 1024 → EReal) (up : Fin 1024 → Fin 4096 → EReal) (dn : Fin 4096 → Fin 1024 → EReal) (n : Fin 1024) (o : ℕ) (ho : o + 1024 ≤ 4096) : EReal :=
  ∑ f : Fin 1024, act x (fun k => up k ⟨o + f.val, by omega⟩) * act x (fun k => up k ⟨o + f.val, by omega⟩) * dn ⟨o + f.val, by omega⟩ n

/-- The row after the layer. -/
def row (h g : Fin 1024 → EReal) (up : Fin 1024 → Fin 4096 → EReal) (dn : Fin 4096 → Fin 1024 → EReal) (n : Fin 1024) : EReal :=
  h n + ∑ f : Fin 4096, act (rms h g) (fun k => up k f) * act (rms h g) (fun k => up k f) * dn f n

theorem sum_parts (φ : Fin 4096 → EReal) : ∑ f, φ f = ((∑ f : Fin 1024, φ ⟨f.val, by omega⟩ + ∑ f : Fin 1024, φ ⟨1024 + f.val, by omega⟩)
    + ∑ f : Fin 1024, φ ⟨2048 + f.val, by omega⟩) + ∑ f : Fin 1024, φ ⟨3072 + f.val, by omega⟩ := by
  have h1 := Fin.sum_univ_add (a := 3072) (b := 1024) φ
  have h2 := Fin.sum_univ_add (a := 2048) (b := 1024) (fun i => φ (Fin.castAdd 1024 i))
  have h3 := Fin.sum_univ_add (a := 1024) (b := 1024) (fun i => φ (Fin.castAdd 1024 (Fin.castAdd 1024 i : Fin (2048 + 1024))))
  exact h1.trans (congrArg₂ (· + ·) (h2.trans (congrArg₂ (· + ·) h3 rfl)) rfl)

/-- Four quarters of the hidden layer, added one after the other, are the whole of it. -/
theorem row_eq (h g : Fin 1024 → EReal) (up : Fin 1024 → Fin 4096 → EReal) (dn : Fin 4096 → Fin 1024 → EReal) (n : Fin 1024) :
    (((h n + part (rms h g) up dn n 0 (by omega)) + part (rms h g) up dn n 1024 (by omega)) + part (rms h g) up dn n 2048 (by omega))
      + part (rms h g) up dn n 3072 (by omega) = row h g up dn n := by
  unfold row
  rw [sum_parts]
  simp only [part, Nat.zero_add, add_assoc]

end Cert.Row
-- ==== Proof.V.Mlp2.lean ====
/- The end of a layer: what each block of rows holds after its grid point, and the result array. -/
module

public import proofs.«01_k».proof.Proof.V.Row
public import proofs.«01_k».proof.Proof.Gen.Kernel2Ideal.Value
public import Idealize.ShloMosaic.Lib.Pipeline.ValueKit

@[expose] public section

set_option maxRecDepth 16384

noncomputable section

namespace Cert.Mlp2

open Idealize.ShloMosaic Idealize.ShloMosaic.TcCoe Cert.Row
open Cert.Kernel2Ideal Cert.Kernel2Ideal.Gen

variable (v0 : Vec Ideal S512x1024 .f32) (v1 : Vec Ideal S512x1024 .bf16) (v2 : Vec Ideal S1x1024x1024 .bf16) (v6 : Vec Ideal S1x1024 .f32)

def H (r : Fin 512) (n : Fin 1024) : EReal := hid (fun n => v0 (ix2 r n)) (fun k => v1 (ix2 r k)) (fun k n => v2 (ix3 0 k n)) n

theorem pay2_eq (r : Fin 512) (n : Fin 1024) : k0_pay2 v0 v1 v2 (ix2 r n) = H v0 v1 v2 r n := by
  pointwise [k0_pay2, H, hid]

theorem pay3_eq (r : Fin 512) (n : Fin 1024) : k0_pay3 v0 v1 v2 v6 (ix2 r n) = rms (H v0 v1 v2 r) (fun n => v6 (ix2 0 n)) n := by
  pointwise [k0_pay3, rms]
  simp only [pay2_eq]

def N (r : Fin 512) (n : Fin 1024) : EReal := rms (H v0 v1 v2 r) (fun n => v6 (ix2 0 n)) n

theorem pay5_eq (v : Vec Ideal S1x1024x1024 .f32) (r : Fin 512) (f : Fin 1024) :
    k0_pay5 v0 v1 v2 v6 v (ix2 r f) = ∑ k, N v0 v1 v2 v6 r k * v (ix3 0 k f) := by
  pointwise [k0_pay5]
  simp only [pay3_eq, N]

theorem pay4_eq (v w : Vec Ideal S1x1024x1024 .f32) (r : Fin 512) (n : Fin 1024) :
    k0_pay4 v0 v1 v2 v6 v w (ix2 r n) = H v0 v1 v2 r n
      + ∑ f, act (N v0 v1 v2 v6 r) (fun k => v (ix3 0 k f)) * act (N v0 v1 v2 v6 r) (fun k => v (ix3 0 k f)) * w (ix3 0 f n) := by
  pointwise [k0_pay4]
  simp only [pay2_eq, pay3_eq, N, act]

theorem out_eq (x0 : Vec Ideal S512x1024 .bf16) (x1 : Vec Ideal S1x1024x1024 .bf16) (x2 : Vec Ideal S512x1024 .f32) (x3 : Vec Ideal S1x1024 .f32)
    (x4 : Vec Ideal S1x1024x4096 .f32) (x5 : Vec Ideal S1x4096x1024 .f32) (x6 : Vec Ideal S1x1024 .f32) (r : Fin 512) (n : Fin 1024) :
    out0_7 x0 x1 x2 x3 x4 x5 x6 (ix2 r n) = row (H x2 x0 x1 r) (fun n => x3 (ix2 0 n)) (fun k f => x4 (ix3 0 k f)) (fun f n => x5 (ix3 0 f n)) n := by
  rw [← row_eq]
  frame_out
  pointwise [k0_pay1]
  simp only [pay3_eq, pay4_eq, pay5_eq]
  simp only [act, part, N, Nat.zero_add]
  have e1 : ∀ k f : Fin 1024, View.ld x4 r0_3 (ix3 0 k f) = x4 (ix3 0 k ⟨f.val, by omega⟩) := by intro k f; pointwise
  have e2 : ∀ k f : Fin 1024, View.ld x4 r0_5 (ix3 0 k f) = x4 (ix3 0 k ⟨1024 + f.val, by omega⟩) := by intro k f; pointwise
  have e3 : ∀ f n : Fin 1024, View.ld x5 r0_4 (ix3 0 f n) = x5 (ix3 0 ⟨f.val, by omega⟩ n) := by intro f n; pointwise
  simp only [e1, e2, e3]

variable (m : (ℓ : Loc nD τ sig) → Buf (Elt Ideal) ℓ) (c : Dev nD)

/-- The result at row `i`, column `n`, as a function of the arguments. -/
def G (i : Fin 16384) (n : Fin 1024) : EReal :=
  row (hid (fun n => m ((c.tc : Thread nD τ).loc main_arg2) (ix2 i n)) (fun k => m ((c.tc : Thread nD τ).loc main_arg0) (ix2 i k))
      (fun k n => m ((c.tc : Thread nD τ).loc main_arg1) (ix3 0 k n)))
    (fun n => m ((c.tc : Thread nD τ).loc main_arg3) (ix2 0 n)) (fun k f => m ((c.tc : Thread nD τ).loc main_arg4) (ix3 0 k f))
    (fun f n => m ((c.tc : Thread nD τ).loc main_arg5) (ix3 0 f n)) n

theorem idx : ∀ t : Fin grid0.N, win0_0.index t = ![t.val, 0] ∧ win0_1.index t = ![0, 0, 0] ∧ win0_2.index t = ![t.val, 0]
    ∧ win0_3.index t = ![0, 0] ∧ win0_4.index t = ![0, 0, 0] ∧ win0_5.index t = ![0, 0, 0] ∧ win0_7.index t = ![t.val, 0] := by
  decide +kernel

theorem arr : (dats m 0 c).arrAt 7 cfg0.N = fun i => G m c (i 0) (i 1) := by
  refine (dats m 0 c).arrAt_eq_of_covers 7 _ (by decide +kernel) fun t hf y => ?_
  obtain ⟨i0, i1, i2, i3, i4, i5, i7⟩ := idx t
  blk_simp
  rw [after0_7]
  idx_vars y
  rw [out_eq]
  unfold G H
  blk_point [iblk, V, i0, i1, i2, i3, i4, i5, i7]

end Cert.Mlp2
-- ==== Proof.V.Ref2.lean ====
/- The reference of the end of a layer, at an index. -/
module

public import proofs.«01_k».proof.Proof.V.Row
public import proofs.«01_k».proof.Proof.Gen.Reference2Ideal.Run
public import Idealize.ShloMosaic.Lib.Pointwise
public import Idealize.ShloMosaic.Lib.Tactic.CleanTypes

@[expose] public section

set_option maxRecDepth 16384

noncomputable section

namespace Cert.Ref2

open Idealize.ShloMosaic Idealize.ShloMosaic.TcCoe Cert.Row
open Cert.Reference2Ideal Cert.Reference2Ideal.Gen

theorem ref_eq (m : (ℓ : Loc nD τ sig) → Buf (Elt Ideal) ℓ) (c : Dev nD) (i : Fin 16384) (n : Fin 1024) :
    Value.res_main_v26 m c (ix2 i n)
      = row (hid (fun n => m ((c.tc : Thread nD τ).loc main_arg2) (ix2 i n)) (fun k => m ((c.tc : Thread nD τ).loc main_arg0) (ix2 i k))
          (fun k n => m ((c.tc : Thread nD τ).loc main_arg1) (ix3 0 k n)))
        (fun n => m ((c.tc : Thread nD τ).loc main_arg3) (ix2 0 n)) (fun k f => m ((c.tc : Thread nD τ).loc main_arg4) (ix3 0 k f))
        (fun f n => m ((c.tc : Thread nD τ).loc main_arg5) (ix3 0 f n)) n := by
  unfold Value.res_main_v26
  clean_types
  pointwise [row, act, rms, hid]

end Cert.Ref2
-- ==== Proof.V.Layer2.lean ====
/- The value claim of the layer-end launch of layer 0: the kernel's result array (Mlp2.lean) and the
   reference's result (Ref2.lean) are the same formula of the arguments. -/
module

public import proofs.«01_k».proof.Defs
public import proofs.«01_k».proof.Proof.V.Mlp2
public import proofs.«01_k».proof.Proof.V.Ref2

@[expose] public section

noncomputable section

namespace Cert.Layer2

open Idealize.ShloMosaic Idealize.ShloMosaic.TcCoe Cert.Row

/-- The two results agree at every index when the arguments do. -/
theorem agree (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (h : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0) ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1) ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2) ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3) ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4) ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5) ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) :
    Cert.Reference2Ideal.Value.res_main_v26 m' c = (Cert.Kernel2Ideal.Gen.dats m 0 c).arrAt 7 Cert.Kernel2Ideal.cfg0.N := by
  obtain ⟨h0, h1, h2, h3, h4, h5, h6⟩ := h
  rw [Cert.Mlp2.arr]
  funext j
  idx_vars j
  refine (Cert.Ref2.ref_eq m' c _ _).trans ?_
  rw [h0, h1, h2, h3, h4, h5]
  rfl

theorem algebraic : Cert.algebraic_Kernel2Ideal_Reference2Ideal := by
  intro m ρ m' ρ' _ hagree
  refine ⟨fun c => (Cert.Kernel2Ideal.Gen.dats m 0 c).arrAt 7 Cert.Kernel2Ideal.cfg0.N, Cert.Kernel2Ideal.Value.run_blocks m ρ, ?_⟩
  exact (θ_run Cert.Reference2Ideal.defs _ _).mono
    (fun _ h c => ⟨(h c).1.trans (agree m m' c (hagree c)), (h c).2⟩)
    (Cert.Reference2Ideal.Value.run (F := Ideal) m' ρ')

theorem quiet : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

end Cert.Layer2
-- ==== Proof.V.Mlp3.lean ====
/- The end of the last layer: what each block of rows holds after its grid point, and the result array. -/
module

public import proofs.«01_k».proof.Proof.V.Row
public import proofs.«01_k».proof.Proof.Gen.Kernel3Ideal.Value
public import Idealize.ShloMosaic.Lib.Pipeline.ValueKit

@[expose] public section

set_option maxRecDepth 16384

noncomputable section

namespace Cert.Mlp3

open Idealize.ShloMosaic Idealize.ShloMosaic.TcCoe Cert.Row
open Cert.Kernel3Ideal Cert.Kernel3Ideal.Gen

variable (v0 : Vec Ideal S512x1024 .f32) (v1 : Vec Ideal S512x1024 .bf16) (v2 : Vec Ideal S1x1024x1024 .bf16) (v6 : Vec Ideal S1x1024 .f32)

def H (r : Fin 512) (n : Fin 1024) : EReal := hid (fun n => v0 (ix2 r n)) (fun k => v1 (ix2 r k)) (fun k n => v2 (ix3 0 k n)) n

theorem pay2_eq (r : Fin 512) (n : Fin 1024) : k0_pay2 v0 v1 v2 (ix2 r n) = H v0 v1 v2 r n := by
  pointwise [k0_pay2, H, hid]

theorem pay3_eq (r : Fin 512) (n : Fin 1024) : k0_pay3 v0 v1 v2 v6 (ix2 r n) = rms (H v0 v1 v2 r) (fun n => v6 (ix2 0 n)) n := by
  pointwise [k0_pay3, rms]
  simp only [pay2_eq]

def N (r : Fin 512) (n : Fin 1024) : EReal := rms (H v0 v1 v2 r) (fun n => v6 (ix2 0 n)) n

theorem pay5_eq (v : Vec Ideal S1x1024x1024 .f32) (r : Fin 512) (f : Fin 1024) :
    k0_pay5 v0 v1 v2 v6 v (ix2 r f) = ∑ k, N v0 v1 v2 v6 r k * v (ix3 0 k f) := by
  pointwise [k0_pay5]
  simp only [pay3_eq, N]

theorem pay4_eq (v w : Vec Ideal S1x1024x1024 .f32) (r : Fin 512) (n : Fin 1024) :
    k0_pay4 v0 v1 v2 v6 v w (ix2 r n) = H v0 v1 v2 r n
      + ∑ f, act (N v0 v1 v2 v6 r) (fun k => v (ix3 0 k f)) * act (N v0 v1 v2 v6 r) (fun k => v (ix3 0 k f)) * w (ix3 0 f n) := by
  pointwise [k0_pay4]
  simp only [pay2_eq, pay3_eq, N, act]

variable (x0 : Vec Ideal S512x1024 .bf16) (x1 : Vec Ideal S1x1024x1024 .bf16) (x2 : Vec Ideal S512x1024 .f32) (x3 : Vec Ideal S1x1024 .f32)
    (x4 : Vec Ideal S1x1024x4096 .f32) (x5 : Vec Ideal S1x4096x1024 .f32) (x6 : Vec Ideal S1x1024 .f32)

theorem pay6_eq (r : Fin 512) (n : Fin 1024) :
    k0_pay6 (k0_pay8 x0 x1 x2 x3 x4 x5 x6) (k0_pay9 x0 x1 x2 x3 x4 x5 x6) (k0_pay10 x0 x1 x2 x3 x4 x5 x6) (Scalar.ofBits .f32 0x00000000#32)
        (View.ld x5 r0_6) (View.ld x4 r0_7) (View.ld x5 r0_8) (View.ld x4 r0_9) (View.ld x5 r0_10) (ix2 r n)
      = row (H x2 x0 x1 r) (fun n => x3 (ix2 0 n)) (fun k f => x4 (ix3 0 k f)) (fun f n => x5 (ix3 0 f n)) n := by
  rw [← row_eq]
  pointwise [k0_pay6, k0_pay8, k0_pay9, k0_pay10]
  simp only [pay3_eq, pay4_eq, pay5_eq]
  have ld2 : View.ld x2 r0_0 = x2 := View.ld_unit_lit _ _ (by decide)
  have ld0 : View.ld x0 r0_0 = x0 := View.ld_unit_lit _ _ (by decide)
  have ld1 : View.ld x1 r0_1 = x1 := View.ld_unit_lit _ _ (by decide)
  have ld3 : ∀ n : Fin 1024, View.ld x3 r0_2 (ix2 0 n) = x3 (ix2 0 n) := by intro n; pointwise
  have e1 : ∀ k f : Fin 1024, View.ld x4 r0_3 (ix3 0 k f) = x4 (ix3 0 k ⟨f.val, by omega⟩) := by intro k f; pointwise
  have e2 : ∀ k f : Fin 1024, View.ld x4 r0_5 (ix3 0 k f) = x4 (ix3 0 k ⟨1024 + f.val, by omega⟩) := by intro k f; pointwise
  have e3 : ∀ f n : Fin 1024, View.ld x5 r0_4 (ix3 0 f n) = x5 (ix3 0 ⟨f.val, by omega⟩ n) := by intro f n; pointwise
  simp only [act, part, N, Nat.zero_add, e1, e2, e3, ld0, ld1, ld2, ld3]

theorem out_eq (r : Fin 512) (n : Fin 1024) : out0_7 x0 x1 x2 x3 x4 x5 x6 (ix2 r n)
    = rms (row (H x2 x0 x1 r) (fun n => x3 (ix2 0 n)) (fun k f => x4 (ix3 0 k f)) (fun f n => x5 (ix3 0 f n))) (fun n => x6 (ix2 0 n)) n := by
  unfold out0_7
  have h7 : k0_pay7 (F := Ideal) = fun a b c d e f g h i => divf (shapeCast S512x1 (multiReduction .add [1] S512 (mulf (k0_pay6 a b c d e f g h i) (k0_pay6 a b c d e f g h i)) 0x00000000#32 reduces_S512x1024_S512 (.inl rfl) rfl) shapeCasts_S512_S512x1) (broadcast S512x1 (Scalar.ofBits .f32 0x44800000#32)) := rfl
  simp only [h7]
  rw [View.canon_cons_unit_lit _ _ _ (by decide)]
  have h6 := pay6_eq x0 x1 x2 x3 x4 x5 x6
  generalize k0_pay6 (k0_pay8 x0 x1 x2 x3 x4 x5 x6) (k0_pay9 x0 x1 x2 x3 x4 x5 x6) (k0_pay10 x0 x1 x2 x3 x4 x5 x6) (Scalar.ofBits .f32 0x00000000#32)
        (View.ld x5 r0_6) (View.ld x4 r0_7) (View.ld x5 r0_8) (View.ld x4 r0_9) (View.ld x5 r0_10) = X at h6 ⊢
  pointwise [k0_pay1]
  simp only [h6]
  unfold rms
  rfl

variable (m : (ℓ : Loc nD τ sig) → Buf (Elt Ideal) ℓ) (c : Dev nD)

/-- The result at row `i`, column `n`, as a function of the arguments. -/
def G (i : Fin 16384) (n : Fin 1024) : EReal :=
  rms (row (hid (fun n => m ((c.tc : Thread nD τ).loc main_arg2) (ix2 i n)) (fun k => m ((c.tc : Thread nD τ).loc main_arg0) (ix2 i k))
      (fun k n => m ((c.tc : Thread nD τ).loc main_arg1) (ix3 1 k n)))
    (fun n => m ((c.tc : Thread nD τ).loc main_arg3) (ix2 0 n)) (fun k f => m ((c.tc : Thread nD τ).loc main_arg4) (ix3 3 k f))
    (fun f n => m ((c.tc : Thread nD τ).loc main_arg5) (ix3 3 f n)))
    (fun n => m ((c.tc : Thread nD τ).loc main_arg6) (ix2 0 n)) n

theorem idx : ∀ t : Fin grid0.N, win0_0.index t = ![t.val, 0] ∧ win0_1.index t = ![1, 0, 0] ∧ win0_2.index t = ![t.val, 0]
    ∧ win0_3.index t = ![0, 0] ∧ win0_4.index t = ![3, 0, 0] ∧ win0_5.index t = ![3, 0, 0] ∧ win0_6.index t = ![0, 0] ∧ win0_7.index t = ![t.val, 0] := by
  decide +kernel

theorem arr : (dats m 0 c).arrAt 7 cfg0.N = fun i => G m c (i 0) (i 1) := by
  refine (dats m 0 c).arrAt_eq_of_covers 7 _ (by decide +kernel) fun t hf y => ?_
  obtain ⟨i0, i1, i2, i3, i4, i5, i6, i7⟩ := idx t
  blk_simp
  rw [after0_7]
  idx_vars y
  rw [out_eq]
  unfold G H
  blk_point [iblk, V, i0, i1, i2, i3, i4, i5, i6, i7]

end Cert.Mlp3
-- ==== Proof.V.Ref3.lean ====
/- The reference of the end of the last layer, at an index. -/
module

public import proofs.«01_k».proof.Proof.V.Row
public import proofs.«01_k».proof.Proof.Gen.Reference3Ideal.Run
public import Idealize.ShloMosaic.Lib.Pointwise
public import Idealize.ShloMosaic.Lib.Tactic.CleanTypes

@[expose] public section

set_option maxRecDepth 16384

noncomputable section

namespace Cert.Ref3

open Idealize.ShloMosaic Idealize.ShloMosaic.TcCoe Cert.Row
open Cert.Reference3Ideal Cert.Reference3Ideal.Gen

theorem ref_eq (m : (ℓ : Loc nD τ sig) → Buf (Elt Ideal) ℓ) (c : Dev nD) (i : Fin 16384) (n : Fin 1024) :
    Value.res_main_v38 m c (ix2 i n)
      = rms (row (hid (fun n => m ((c.tc : Thread nD τ).loc main_arg2) (ix2 i n)) (fun k => m ((c.tc : Thread nD τ).loc main_arg0) (ix2 i k))
          (fun k n => m ((c.tc : Thread nD τ).loc main_arg1) (ix3 1 k n)))
        (fun n => m ((c.tc : Thread nD τ).loc main_arg3) (ix2 0 n)) (fun k f => m ((c.tc : Thread nD τ).loc main_arg4) (ix3 3 k f))
        (fun f n => m ((c.tc : Thread nD τ).loc main_arg5) (ix3 3 f n)))
        (fun n => m ((c.tc : Thread nD τ).loc main_arg6) (ix2 0 n)) n := by
  unfold Value.res_main_v38
  clean_types
  pointwise [row, act, rms, hid]

end Cert.Ref3
-- ==== Proof.V.Layer3.lean ====
/- The value claim of the layer-end launch of the last layer, with the final normalisation: the kernel's result array (Mlp3.lean) and the
   reference's result (Ref3.lean) are the same formula of the arguments. -/
module

public import proofs.«01_k».proof.Defs
public import proofs.«01_k».proof.Proof.V.Mlp3
public import proofs.«01_k».proof.Proof.V.Ref3

@[expose] public section

noncomputable section

namespace Cert.Layer3

open Idealize.ShloMosaic Idealize.ShloMosaic.TcCoe Cert.Row

/-- The two results agree at every index when the arguments do. -/
theorem agree (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (h : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0) ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1) ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2) ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3) ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4) ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5) ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) :
    Cert.Reference3Ideal.Value.res_main_v38 m' c = (Cert.Kernel3Ideal.Gen.dats m 0 c).arrAt 7 Cert.Kernel3Ideal.cfg0.N := by
  obtain ⟨h0, h1, h2, h3, h4, h5, h6⟩ := h
  rw [Cert.Mlp3.arr]
  funext j
  idx_vars j
  refine (Cert.Ref3.ref_eq m' c _ _).trans ?_
  rw [h0, h1, h2, h3, h4, h5, h6]
  rfl

theorem algebraic : Cert.algebraic_Kernel3Ideal_Reference3Ideal := by
  intro m ρ m' ρ' _ hagree
  refine ⟨fun c => (Cert.Kernel3Ideal.Gen.dats m 0 c).arrAt 7 Cert.Kernel3Ideal.cfg0.N, Cert.Kernel3Ideal.Value.run_blocks m ρ, ?_⟩
  exact (θ_run Cert.Reference3Ideal.defs _ _).mono
    (fun _ h c => ⟨(h c).1.trans (agree m m' c (hagree c)), (h c).2⟩)
    (Cert.Reference3Ideal.Value.run (F := Ideal) m' ρ')

theorem quiet : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

end Cert.Layer3
-- ==== Proof.V.Online.lean ====
/- The running softmax over key tiles, one query column at a time, on the extended reals: after any number of
   tiles the running sum over the running normalizer is the plain quotient of the two whole sums. -/
module

public import Idealize.ShloMosaic.Lib.Pointwise

@[expose] public section

noncomputable section

namespace Cert.Online

open Idealize.ShloMosaic

/-- `2^(s - M) = 2^(-M) · 2^s` for a real `M` and a score that is not `⊤`. -/
theorem exp2_sub (s : EReal) (hs : s ≠ ⊤) (M : ℝ) :
    Ideal.exp2 (s - (M : EReal)) = ((Real.rpow 2 (-M) : ℝ) : EReal) * Ideal.exp2 s := by
  induction s using EReal.rec with
  | bot => simp
  | top => exact absurd rfl hs
  | coe r =>
    rw [← EReal.coe_sub, Ideal.exp2_coe, Ideal.exp2_coe, ← EReal.coe_mul]
    congr 1
    show (2 : ℝ) ^ (r - M) = (2 : ℝ) ^ (-M) * (2 : ℝ) ^ r
    rw [← Real.rpow_add (by norm_num)]
    congr 1; ring

theorem rpow2_pos (M : ℝ) : 0 < Real.rpow 2 M := Real.rpow_pos_of_pos (by norm_num) M

/-- A real factor distributes over a finite sum of extended reals when it is positive. -/
theorem mul_sum {ι : Type*} (S : Finset ι) (c : ℝ) (hc : 0 < c) (f : ι → EReal) :
    (c : EReal) * ∑ i ∈ S, f i = ∑ i ∈ S, (c : EReal) * f i := by
  classical
  induction S using Finset.induction_on with
  | empty => simp
  | insert a S ha ih =>
    rw [Finset.sum_insert ha, Finset.sum_insert ha, ← ih]
    exact EReal.left_distrib_of_nonneg_of_ne_top (by exact_mod_cast hc.le) (EReal.coe_ne_top c) _ _

theorem coe_sum {ι : Type*} (S : Finset ι) (w : ι → ℝ) : ((∑ s ∈ S, w s : ℝ) : EReal) = ∑ s ∈ S, (w s : EReal) := by
  classical
  induction S using Finset.induction_on with
  | empty => simp
  | insert a S ha ih => rw [Finset.sum_insert ha, Finset.sum_insert ha, EReal.coe_add, ih]

/-- The running maximum of a column after `J` tiles of 512 keys. -/
def colM (σ : ℕ → EReal) : ℕ → EReal
  | 0 => ⊥
  | J + 1 => max (colM σ J) ((Finset.univ : Finset (Fin 512)).fold max ⊥ fun r => σ (512 * J + r.val))

/-- The running weighted sum of a column after `J` tiles of 512 keys. -/
def colA (σ v : ℕ → EReal) : ℕ → EReal
  | 0 => 0
  | J + 1 => Ideal.exp2 (colM σ J - colM σ (J + 1)) * colA σ v J
      + ∑ r : Fin 512, v (512 * J + r.val) * Ideal.exp2 (σ (512 * J + r.val) - colM σ (J + 1))

theorem fold_ne_top (σ : Fin 512 → EReal) (h : ∀ r, σ r ≠ ⊤) :
    (Finset.univ : Finset (Fin 512)).fold max ⊥ σ ≠ ⊤ := by
  rw [← lt_top_iff_ne_top, Finset.fold_max_lt]
  exact ⟨bot_lt_top, fun r _ => lt_top_iff_ne_top.2 (h r)⟩

theorem fold_ne_bot (σ : Fin 512 → EReal) (h : ∃ r, σ r ≠ ⊥) :
    (Finset.univ : Finset (Fin 512)).fold max ⊥ σ ≠ ⊥ := by
  obtain ⟨r, hr⟩ := h
  rw [← bot_lt_iff_ne_bot, Finset.lt_fold_max]
  exact Or.inr ⟨r, Finset.mem_univ _, bot_lt_iff_ne_bot.2 hr⟩

/-- After at least one tile the running maximum is a real number. -/
theorem colM_real (σ : ℕ → EReal) (ht : ∀ s, σ s ≠ ⊤) (J : ℕ) (hb : ∀ j ≤ J, ∃ r : Fin 512, σ (512 * j + r.val) ≠ ⊥) :
    ∃ M : ℝ, colM σ (J + 1) = M := by
  have hT : ∀ J, colM σ J ≠ ⊤ := by
    intro J
    induction J with
    | zero => exact bot_ne_top
    | succ J ih =>
      rw [colM, ← lt_top_iff_ne_top, max_lt_iff]
      exact ⟨lt_top_iff_ne_top.2 ih, lt_top_iff_ne_top.2 (fold_ne_top _ fun r => ht _)⟩
  have hB : colM σ (J + 1) ≠ ⊥ := by
    rw [colM, ← bot_lt_iff_ne_bot, lt_max_iff]
    exact Or.inr (bot_lt_iff_ne_bot.2 (fold_ne_bot _ (hb J le_rfl)))
  exact ⟨(colM σ (J + 1)).toReal, (EReal.coe_toReal (hT _) hB).symm⟩

/-- The running sum is the whole sum scaled by `2` to minus the running maximum. -/
theorem colA_eq (σ v : ℕ → EReal) (ht : ∀ s, σ s ≠ ⊤) (J : ℕ) (hb : ∀ j ≤ J, ∃ r : Fin 512, σ (512 * j + r.val) ≠ ⊥)
    (M : ℝ) (hM : colM σ (J + 1) = M) :
    colA σ v (J + 1) = ((Real.rpow 2 (-M) : ℝ) : EReal) * ∑ s ∈ Finset.range (512 * (J + 1)), v s * Ideal.exp2 (σ s) := by
  induction J generalizing M with
  | zero =>
    rw [colA, hM, colA, mul_zero, zero_add, mul_sum _ _ (rpow2_pos _), Finset.sum_range]
    refine Finset.sum_congr rfl fun r _ => ?_
    rw [exp2_sub _ (ht _)]
    simp only [Nat.mul_zero, Nat.zero_add]
    exact mul_left_comm _ _ _
  | succ J ih =>
    obtain ⟨M', hM'⟩ := colM_real σ ht J fun j hj => hb j (by omega)
    rw [colA, hM, hM', ih (fun j hj => hb j (by omega)) M' hM', exp2_sub _ (EReal.coe_ne_top _), Ideal.exp2_coe,
      show 512 * (J + 1 + 1) = 512 * (J + 1) + 512 from by ring, Finset.sum_range_add,
      EReal.left_distrib_of_nonneg_of_ne_top (by exact_mod_cast (rpow2_pos _).le) (EReal.coe_ne_top _), mul_sum (Finset.range 512) _ (rpow2_pos _),
      Finset.sum_range (n := 512)]
    congr 1
    · rw [← mul_assoc, mul_assoc ((Real.rpow 2 (-M) : ℝ) : EReal), ← EReal.coe_mul]
      congr 1
      have : Real.rpow 2 M' * Real.rpow 2 (-M') = 1 := by
        show (2 : ℝ) ^ M' * (2 : ℝ) ^ (-M') = 1
        rw [← Real.rpow_add (by norm_num), add_neg_cancel, Real.rpow_zero]
      rw [this, EReal.coe_one, mul_one]
    · refine Finset.sum_congr rfl fun r _ => ?_
      rw [exp2_sub _ (ht _)]
      exact mul_left_comm _ _ _

/-- A sum of powers of two, one of them positive, none infinite, is a positive real. -/
theorem sum_exp2_real {ι : Type*} (S : Finset ι) (σ : ι → EReal) (ht : ∀ s, σ s ≠ ⊤) (hb : ∃ s ∈ S, σ s ≠ ⊥) :
    ∃ L : ℝ, 0 < L ∧ ∑ s ∈ S, Ideal.exp2 (σ s) = L := by
  have h : ∀ s, ∃ w : ℝ, 0 ≤ w ∧ (σ s ≠ ⊥ → 0 < w) ∧ Ideal.exp2 (σ s) = w := by
    intro s
    have h1 := ht s
    generalize σ s = x at h1 ⊢
    induction x using EReal.rec with
    | bot => exact ⟨0, le_rfl, fun h => absurd rfl h, by simp⟩
    | top => exact absurd rfl h1
    | coe r => exact ⟨Real.rpow 2 r, (rpow2_pos r).le, fun _ => rpow2_pos r, Ideal.exp2_coe r⟩
  choose w h0 hp hw using h
  obtain ⟨s, hs, hsb⟩ := hb
  refine ⟨∑ s ∈ S, w s, Finset.sum_pos' (fun i _ => h0 i) ⟨s, hs, hp s hsb⟩, ?_⟩
  rw [Finset.sum_congr rfl fun s _ => hw s]
  exact (coe_sum S w).symm

/-- What a column of the attention ends with, as two plain sums over all keys. -/
def attend (σ v : ℕ → EReal) : EReal :=
  (∑ s ∈ Finset.range 4096, v s * Ideal.exp2 (σ s)) * (∑ s ∈ Finset.range 4096, Ideal.exp2 (σ s))⁻¹

/-- The tiled column: running sum over running normalizer is `attend`. -/
theorem col_div (σ v o : ℕ → EReal) (ht : ∀ s, σ s ≠ ⊤) (J : ℕ) (hJ : J < 8)
    (hb : ∀ j ≤ J, ∃ r : Fin 512, σ (512 * j + r.val) ≠ ⊥) (hz : ∀ s, 512 * (J + 1) ≤ s → σ s = ⊥) (ho : ∀ s, o s = 1) :
    Ideal.div (colA σ v (J + 1)) (colA σ o (J + 1)) = attend σ v := by
  obtain ⟨M, hM⟩ := colM_real σ ht J hb
  have hcut : ∀ f : ℕ → EReal, (∀ s, 512 * (J + 1) ≤ s → f s = 0) →
      ∑ s ∈ Finset.range (512 * (J + 1)), f s = ∑ s ∈ Finset.range 4096, f s := by
    intro f hf
    refine Finset.sum_subset (fun s hs => ?_) fun s _ hs => hf s ?_
    · simp only [Finset.mem_range] at hs ⊢; omega
    · simp only [Finset.mem_range] at hs; omega
  rw [colA_eq σ v ht J hb M hM, colA_eq σ o ht J hb M hM, attend,
    hcut _ (fun s hs => by rw [hz s hs]; simp), hcut _ (fun s hs => by rw [hz s hs]; simp)]
  simp only [ho, one_mul]
  obtain ⟨r, hr⟩ := hb 0 (Nat.zero_le _)
  obtain ⟨L, hL, hLe⟩ := sum_exp2_real (Finset.range 4096) σ ht ⟨512 * 0 + r.val, by simp only [Finset.mem_range]; omega, hr⟩
  rw [hLe]
  set c : ℝ := Real.rpow 2 (-M)
  have hc : 0 < c := rpow2_pos _
  rw [← EReal.coe_mul, Ideal.div, if_neg (by exact_mod_cast (mul_pos hc hL).ne'), ← EReal.coe_inv, ← EReal.coe_inv, mul_comm (c : EReal), mul_assoc, ← EReal.coe_mul]
  congr 2
  field_simp

end Cert.Online
-- ==== Proof.V.Spec.lean ====
/- What each tile of the attention kernel holds, as a function of the key side, the query side and the values of one
   pair of heads, and one lemma per vector operation of the kernel that leads from such tiles to the next one. -/
module

public import proofs.«01_k».proof.Proof.V.Online
public import proofs.«01_k».proof.Proof.Gen.KernelIdeal.Skeleton

@[expose] public section

set_option maxRecDepth 16384

noncomputable section

namespace Cert.Tiles

open Idealize.ShloMosaic Idealize.ShloMosaic.TcCoe Cert.Online
open Cert.KernelIdeal Cert.KernelIdeal.Gen

/-- The three operands of a pair of heads: the key side by (head, key, lane), the query side by (head, lane, query)
    and the value side by (head, row, key), the rows past the 64th of the value side being ones. -/
structure Ops where
  K : ℕ → ℕ → ℕ → EReal
  Q : ℕ → ℕ → ℕ → EReal
  V : ℕ → ℕ → ℕ → EReal
  ones : ∀ h d s, 64 ≤ d → V h d s = 1

/-- The score of a key and a query before the mask. -/
def raw (D : Ops) (h t s : ℕ) : EReal := ∑ l : Fin 128, D.K h s l.val * D.Q h l.val t

/-- The causal score. -/
def score (D : Ops) (h t s : ℕ) : EReal := if s ≤ t then raw D h t s else ⊥

def tK (D : Ops) (h k : ℕ) : Vec Ideal S1x512x128 .bf16 := fun j => D.K h (512 * k + (j 1).val) (j 2).val
def tQ (D : Ops) (h q : ℕ) : Vec Ideal S1x128x512 .bf16 := fun j => D.Q h (j 1).val (512 * q + (j 2).val)
def tV (D : Ops) (h k : ℕ) : Vec Ideal S1x64x512 .bf16 := fun j => D.V h (j 1).val (512 * k + (j 2).val)
def tK' (D : Ops) (h k : ℕ) : FVec Ideal S512x128 .bf16 := fun j => D.K h (512 * k + (j 0).val) (j 1).val
def tQ' (D : Ops) (h q : ℕ) : FVec Ideal S128x512 .bf16 := fun j => D.Q h (j 0).val (512 * q + (j 1).val)
def tV' (D : Ops) (h k : ℕ) : FVec Ideal S64x512 .bf16 := fun j => D.V h (j 0).val (512 * k + (j 1).val)
def tVE (D : Ops) (h k : ℕ) : FVec Ideal S80x512 .bf16 := fun j => D.V h (j 0).val (512 * k + (j 1).val)
def tO : FVec Ideal S16x512 .bf16 := fun _ => 1
def tRaw (D : Ops) (h k q : ℕ) : FVec Ideal S512x512 .f32 := fun j => raw D h (512 * q + (j 1).val) (512 * k + (j 0).val)
def tS (D : Ops) (h k q : ℕ) : FVec Ideal S512x512 .f32 := fun j => score D h (512 * q + (j 1).val) (512 * k + (j 0).val)
def tRed (D : Ops) (h k q : ℕ) : FVec Ideal S512 .f32 := fun j =>
  (Finset.univ : Finset (Fin 512)).fold max ⊥ fun r => score D h (512 * q + (j 0).val) (512 * k + r.val)
def tR (D : Ops) (h k q : ℕ) : FVec Ideal S1x512 .f32 := fun j =>
  (Finset.univ : Finset (Fin 512)).fold max ⊥ fun r => score D h (512 * q + (j 1).val) (512 * k + r.val)
def tM (D : Ops) (h q n : ℕ) : FVec Ideal S1x512 .f32 := fun j => colM (score D h (512 * q + (j 1).val)) n
def tMB (D : Ops) (h q n : ℕ) : FVec Ideal S512x512 .f32 := fun j => colM (score D h (512 * q + (j 1).val)) n
def tD (D : Ops) (h q n : ℕ) : FVec Ideal S512x512 .f32 := fun j =>
  score D h (512 * q + (j 1).val) (512 * n + (j 0).val) - colM (score D h (512 * q + (j 1).val)) (n + 1)
def tE (D : Ops) (h q n : ℕ) : FVec Ideal S512x512 .f32 := fun j =>
  Ideal.exp2 (score D h (512 * q + (j 1).val) (512 * n + (j 0).val) - colM (score D h (512 * q + (j 1).val)) (n + 1))
def tP (D : Ops) (h q n : ℕ) : FVec Ideal S512x512 .bf16 := fun j =>
  Ideal.exp2 (score D h (512 * q + (j 1).val) (512 * n + (j 0).val) - colM (score D h (512 * q + (j 1).val)) (n + 1))
def tLD (D : Ops) (h q n : ℕ) : FVec Ideal S1x512 .f32 := fun j =>
  colM (score D h (512 * q + (j 1).val)) n - colM (score D h (512 * q + (j 1).val)) (n + 1)
def tL (D : Ops) (h q n : ℕ) : FVec Ideal S1x512 .f32 := fun j =>
  Ideal.exp2 (colM (score D h (512 * q + (j 1).val)) n - colM (score D h (512 * q + (j 1).val)) (n + 1))
def tLB (D : Ops) (h q n : ℕ) : FVec Ideal S80x512 .f32 := fun j =>
  Ideal.exp2 (colM (score D h (512 * q + (j 1).val)) n - colM (score D h (512 * q + (j 1).val)) (n + 1))
def tA (D : Ops) (h q n : ℕ) : FVec Ideal S80x512 .f32 := fun j =>
  colA (score D h (512 * q + (j 1).val)) (D.V h (j 0).val) n
def tB (D : Ops) (h q n : ℕ) : FVec Ideal S80x512 .f32 := fun j =>
  Ideal.exp2 (colM (score D h (512 * q + (j 1).val)) n - colM (score D h (512 * q + (j 1).val)) (n + 1))
    * colA (score D h (512 * q + (j 1).val)) (D.V h (j 0).val) n
def tC (D : Ops) (h q n : ℕ) : FVec Ideal S80x512 .f32 := fun j =>
  ∑ r : Fin 512, D.V h (j 0).val (512 * n + r.val)
    * Ideal.exp2 (score D h (512 * q + (j 1).val) (512 * n + r.val) - colM (score D h (512 * q + (j 1).val)) (n + 1))

variable (D : Ops) (h k q n : ℕ)

theorem bits_neg_inf : Ideal.ofBits .f32 0xFF800000#32 = ⊥ := by simp [Ideal.ofBits, Ideal.ieee]

theorem ones_eq : (k0_pay24 : FVec Ideal S16x512 .bf16) = tO := by
  funext j; idx_vars j; pointwise [k0_pay24, tO]

theorem init_M : broadcast S1x512 (Scalar.ofBits (F := Ideal) .f32 0xFF800000#32) = tM D h q 0 := by
  funext j; idx_vars j; pointwise [tM, colM, bits_neg_inf]

theorem init_A : broadcast S80x512 (Scalar.ofBits (F := Ideal) .f32 0x00000000#32) = tA D h q 0 := by
  funext j; idx_vars j; pointwise [tA, colA]

theorem cast_K : (shapeCast S512x128 (tK D h k) shapeCasts_S1x512x128_S512x128 : FVec Ideal S512x128 .bf16) = tK' D h k := by
  funext j; idx_vars j; pointwise [tK, tK']

theorem cast_Q : (shapeCast S128x512 (tQ D h q) shapeCasts_S1x128x512_S128x512 : FVec Ideal S128x512 .bf16) = tQ' D h q := by
  funext j; idx_vars j; pointwise [tQ, tQ']

theorem cast_V : (shapeCast S64x512 (tV D h k) shapeCasts_S1x64x512_S64x512 : FVec Ideal S64x512 .bf16) = tV' D h k := by
  funext j; idx_vars j; pointwise [tV, tV']

theorem cat_V : concatenate S80x512 0 [⟨S64x512, tV' D h k⟩, ⟨S16x512, tO⟩] concatenates_S64x512_S16x512_S80x512_d0
    = tVE D h k := by
  funext j; idx_vars j; pointwise [tV', tO, tVE]
  split
  · rfl
  · exact (D.ones _ _ _ (by omega)).symm

theorem cat_V_cast : concatenate S80x512 0 [⟨S64x512, (shapeCast S64x512 (tV D h k) shapeCasts_S1x64x512_S64x512 : FVec Ideal S64x512 .bf16)⟩,
    ⟨S16x512, tO⟩] concatenates_S64x512_S16x512_S80x512_d0 = tVE D h k := by
  rw [cast_V, cat_V]

theorem mm_S : matmul dot_S512x128_S128x512_S512x512_1_0_0_1_n_n none (tK' D h k) (tQ' D h q)
    (constant S512x512 .f32 0x00000000#32) = tRaw D h k q := by
  funext j; idx_vars j; pointwise [tK', tQ', tRaw, raw]

theorem raw_S (hk : k < q) : tRaw D h k q = tS D h k q := by
  funext j; idx_vars j; simp only [tRaw, tS, score]
  rw [if_pos]
  show 512 * k + j0.val ≤ 512 * q + j1.val
  omega

theorem mask_S (c : ℕ) (hc : c ≤ 4096) :
    select (cmpi .sle (addi (iota .tc S512x512 32 [0] iota_S512x512_d0_w32) (broadcast S512x512 (BitVec.ofNat 32 c)))
      (addi (iota .tc S512x512 32 [1] iota_S512x512_d1_w32) (broadcast S512x512 (BitVec.ofNat 32 c))))
      (tRaw D h q q) (broadcast S512x512 (Scalar.ofBits .f32 0xFF800000#32)) = tS D h q q := by
  funext j; idx_vars j; pointwise [tRaw, tS, score, bits_neg_inf]
  have h0 := j0.isLt
  have h1 := j1.isLt
  have hle : (IntOp.cmpi .sle (IntOp.addi (BitVec.ofNat 32 j0.val) (BitVec.ofNat 32 c))
      (IntOp.addi (BitVec.ofNat 32 j1.val) (BitVec.ofNat 32 c))) = BitVec.ofBool (decide (j0.val ≤ j1.val)) := by
    show BitVec.ofBool (BitVec.sle (BitVec.ofNat 32 j0.val + BitVec.ofNat 32 c) (BitVec.ofNat 32 j1.val + BitVec.ofNat 32 c)) = _
    rw [BitVec.sle_eq_decide, ← BitVec.ofNat_add, ← BitVec.ofNat_add,
      BitVec.toInt_ofNat', BitVec.toInt_ofNat', Int.bmod_eq_of_le (by omega) (by omega), Int.bmod_eq_of_le (by omega) (by omega)]
    congr 2
    simp
  rw [hle]
  by_cases hj : j0.val ≤ j1.val
  · rw [if_pos (by omega)]; simp [hj, Scalar.select]
  · rw [if_neg (by omega)]; simp [hj, Scalar.select]

theorem mask_0 :
    select (cmpi .sle (addi (iota .tc S512x512 32 [0] iota_S512x512_d0_w32) (broadcast S512x512 0#32))
      (addi (iota .tc S512x512 32 [1] iota_S512x512_d1_w32) (broadcast S512x512 0#32)))
      (tRaw D h q q) (broadcast S512x512 (Scalar.ofBits .f32 0xFF800000#32)) = tS D h q q := mask_S D h q 0 (by decide)

theorem mask_512 :
    select (cmpi .sle (addi (iota .tc S512x512 32 [0] iota_S512x512_d0_w32) (broadcast S512x512 512#32))
      (addi (iota .tc S512x512 32 [1] iota_S512x512_d1_w32) (broadcast S512x512 512#32)))
      (tRaw D h q q) (broadcast S512x512 (Scalar.ofBits .f32 0xFF800000#32)) = tS D h q q := mask_S D h q 512 (by decide)

theorem mask_1024 :
    select (cmpi .sle (addi (iota .tc S512x512 32 [0] iota_S512x512_d0_w32) (broadcast S512x512 1024#32))
      (addi (iota .tc S512x512 32 [1] iota_S512x512_d1_w32) (broadcast S512x512 1024#32)))
      (tRaw D h q q) (broadcast S512x512 (Scalar.ofBits .f32 0xFF800000#32)) = tS D h q q := mask_S D h q 1024 (by decide)

theorem mask_1536 :
    select (cmpi .sle (addi (iota .tc S512x512 32 [0] iota_S512x512_d0_w32) (broadcast S512x512 1536#32))
      (addi (iota .tc S512x512 32 [1] iota_S512x512_d1_w32) (broadcast S512x512 1536#32)))
      (tRaw D h q q) (broadcast S512x512 (Scalar.ofBits .f32 0xFF800000#32)) = tS D h q q := mask_S D h q 1536 (by decide)

theorem red_S : multiReduction .maximumf [0] S512 (tS D h k q) 0xFF800000#32 reduces_S512x512_S512 (.inl rfl) rfl
    = tRed D h k q := by
  funext j; idx_vars j
  refine (Ideal.multiReduction_maximumf_single _ _ _ _ _ _).trans ?_
  rw [Ideal.ofBits_def, bits_neg_inf]
  refine congrArg (fun f => Finset.fold max ⊥ f Finset.univ) (funext fun r => ?_)
  rfl

theorem cast_R : (shapeCast S1x512 (tRed D h k q) shapeCasts_S512_S1x512 : FVec Ideal S1x512 .f32) = tR D h k q := by
  funext j; idx_vars j; pointwise [tRed, tR]

theorem max_M : maximumf (tM D h q n) (tR D h n q) = tM D h q (n + 1) := by
  funext j; idx_vars j; pointwise [tM, tR, colM]

theorem sub_M : subf (tM D h q n) (tM D h q (n + 1)) = tLD D h q n := by
  funext j; idx_vars j; pointwise [tM, tLD]

theorem exp_L : exp2 (tLD D h q n) = tL D h q n := by
  funext j; idx_vars j; pointwise [tL, tLD]; rfl

theorem bc_M : broadcastTo S512x512 (tM D h q n) broadcasts_S1x512_S512x512 = tMB D h q n := by
  funext j; idx_vars j; pointwise [tM, tMB]

theorem sub_S : subf (tS D h n q) (tMB D h q (n + 1)) = tD D h q n := by
  funext j; idx_vars j; pointwise [tS, tMB, tD]

theorem exp_D : exp2 (tD D h q n) = tE D h q n := by
  funext j; idx_vars j; pointwise [tD, tE]; rfl

theorem trunc_E : truncf .bf16 (tE D h q n) bitsLt_bf16_f32 = tP D h q n := by
  funext j; idx_vars j; pointwise [tE, tP]

theorem bc_L : broadcastTo S80x512 (tL D h q n) broadcasts_S1x512_S80x512 = tLB D h q n := by
  funext j; idx_vars j; pointwise [tL, tLB]

theorem mul_A : mulf (tLB D h q n) (tA D h q n) = tB D h q n := by
  funext j; idx_vars j; pointwise [tLB, tA, tB]

theorem mm_A : matmul dot_S80x512_S512x512_S80x512_1_0_0_1_n_n none (tVE D h n) (tP D h q n)
    (constant S80x512 .f32 0x00000000#32) = tC D h q n := by
  funext j; idx_vars j; pointwise [tVE, tP, tC]

theorem add_A : addf (tB D h q n) (tC D h q n) = tA D h q (n + 1) := by
  funext j; idx_vars j; pointwise [tB, tC, tA, colA]

end Cert.Tiles
-- ==== Proof.V.Masks.lean ====
/- The lane masks of the attention kernel's two scratch operands: which lanes hold a head, which hold a bias. -/
module

public import proofs.«01_k».proof.Proof.V.Spec
public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.Tiles

open Idealize.ShloMosaic Idealize.ShloMosaic.TcCoe Cert.Online
open Cert.KernelIdeal Cert.KernelIdeal.Gen

/-- A lane index as a 32-bit word. -/
abbrev lw (l : Fin 128) : BitVec 32 := BitVec.ofNat 32 l.val

theorem sel_of {α : Type} (b : BitVec 1) (P : Prop) [Decidable P] (h : b = BitVec.ofBool (decide P)) (x y : α) :
    Scalar.select b x y = if P then x else y := by
  subst h
  by_cases hP : P <;> simp [hP, Scalar.select]

theorem third_row (s : Fin 4096) (l : Fin 128) : k0_pay5 (ix2 s l) = BitVec.ofBool (decide (l.val % 64 < 3)) := by
  pointwise [k0_pay5]
  revert l; decide +kernel

theorem third_col (l : Fin 128) (t : Fin 4096) : k0_pay11 (ix2 l t) = BitVec.ofBool (decide (l.val % 64 < 3)) := by
  pointwise [k0_pay11]
  revert l; decide +kernel

theorem key_side (B : FVec Ideal S4096x128 .f32) (s : Fin 4096) (l : Fin 128) :
    k0_pay9 B k0_pay5 (64#32) k0_pay6 k0_pay7 k0_pay8 (ix2 s l)
      = if l.val % 64 < 3 then B (ix2 s l) else if l.val % 64 < 6 then 1 else 0 := by
  pointwise [k0_pay9, k0_pay6, k0_pay7, k0_pay8, third_row]
  congr 1
  refine sel_of _ _ ?_ _ _
  clear B s
  revert l; decide +kernel

theorem query_side (B : FVec Ideal S4096x128 .f32) (t : Fin 4096) (l : Fin 128) :
    k0_pay15 B k0_pay11 (64#32) k0_pay12 k0_pay13 k0_pay14 (0#1) (ix2 l t)
      = if l.val % 64 < 3 then 1 else if l.val % 64 < 6 then 0 - B (ix2 t l) else 0 := by
  pointwise [k0_pay15, k0_pay12, k0_pay13, k0_pay14, third_col]
  congr 1
  refine sel_of _ _ ?_ _ _
  clear B t
  revert l; decide +kernel

theorem key0 (X Y : FVec Ideal S4096x128 .f32) (a : Fin 1) (s : Fin 4096) (l : Fin 128) :
    k0_pay17 (k0_pay16 X kernelRun0_A.sl.v6 Y) (ix3 a s l) = if l.val / 64 = 0 then X (ix2 s l) else Y (ix2 s l) := by
  pointwise [k0_pay17, k0_pay16, kernelRun0_A.sl.v6]
  refine sel_of _ _ ?_ _ _
  clear X Y
  revert l; decide +kernel

theorem key1 (X Y : FVec Ideal S4096x128 .f32) (a : Fin 1) (s : Fin 4096) (l : Fin 128) :
    k0_pay21 X kernelRun0_A.sl.v6 Y (64#32) (k0_pay19 kernelRun0_A.sl.v6) (k0_pay20 kernelRun0_A.sl.v6) 1#1 (ix3 a s l)
      = if l.val / 64 = 1 then X (ix2 s l) else Y (ix2 s l) := by
  pointwise [k0_pay21, k0_pay19, k0_pay20, kernelRun0_A.sl.v6]
  refine sel_of _ _ ?_ _ _
  clear X Y
  revert l; decide +kernel

theorem query0 (X Y : FVec Ideal S128x4096 .f32) (a : Fin 1) (t : Fin 4096) (l : Fin 128) :
    k0_pay18 X kernelRun0_A.sl.v50 Y (ix3 a l t) = if l.val / 64 = 0 then X (ix2 l t) else Y (ix2 l t) := by
  pointwise [k0_pay18, kernelRun0_A.sl.v50]
  refine sel_of _ _ ?_ _ _
  clear X Y
  revert l; decide +kernel

theorem query1 (X Y : FVec Ideal S128x4096 .f32) (a : Fin 1) (t : Fin 4096) (l : Fin 128) :
    k0_pay23 X Y (k0_pay22 kernelRun0_A.sl.v50) (ix3 a l t) = if l.val / 64 = 1 then X (ix2 l t) else Y (ix2 l t) := by
  pointwise [k0_pay23, k0_pay22, kernelRun0_A.sl.v50]
  refine sel_of _ _ ?_ _ _
  clear X Y
  revert l; decide +kernel

end Cert.Tiles
-- ==== Proof.V.Load.lean ====
/- The two scratch operands the attention kernel assembles first, and what each later load reads of them. -/
module

public import proofs.«01_k».proof.Proof.V.Masks

@[expose] public section

set_option maxRecDepth 16384

noncomputable section

namespace Cert.Tiles

open Idealize.ShloMosaic Idealize.ShloMosaic.TcCoe Cert.Online
open Cert.KernelIdeal Cert.KernelIdeal.Gen

/-- The bias of a key on a lane: the gathered bias columns times the placement of the lane. -/
def bias (x2 : Vec Ideal S4096x128 .bf16) (x3 : Vec Ideal S1x128x128 .bf16) (s : Fin 4096) (l : Fin 128) : EReal :=
  ∑ r : Fin 128, x2 (ix2 s r) * x3 (ix3 0 r l)

/-- The key side: the head's own half holds the key, the other half the bias in three lanes and three ones. -/
def keyAt (x1 x2 : Vec Ideal S4096x128 .bf16) (x3 : Vec Ideal S1x128x128 .bf16) (h : ℕ) (s : Fin 4096) (l : Fin 128) : EReal :=
  if l.val / 64 = h then x1 (ix2 s l) else if l.val % 64 < 3 then bias x2 x3 s l else if l.val % 64 < 6 then 1 else 0

/-- The query side: the head's own half holds the query, the other half three ones and minus the bias in three lanes. -/
def queryAt (x0 : Vec Ideal S1x128x4096 .bf16) (x2 : Vec Ideal S4096x128 .bf16) (x3 : Vec Ideal S1x128x128 .bf16) (h : ℕ)
    (l : Fin 128) (t : Fin 4096) : EReal :=
  if l.val / 64 = h then x0 (ix3 0 l t) else if l.val % 64 < 3 then 1 else if l.val % 64 < 6 then 0 - bias x2 x3 t l else 0

/-- The three operands of the pair of heads a grid point works on, from its five input blocks. -/
def dat (x0 : Vec Ideal S1x128x4096 .bf16) (x1 x2 : Vec Ideal S4096x128 .bf16) (x3 : Vec Ideal S1x128x128 .bf16)
    (x4 : Vec Ideal S1x128x4096 .bf16) : Ops where
  K h s l := keyAt x1 x2 x3 h ⟨s % 4096, Nat.mod_lt _ (by decide)⟩ ⟨l % 128, Nat.mod_lt _ (by decide)⟩
  Q h l t := queryAt x0 x2 x3 h ⟨l % 128, Nat.mod_lt _ (by decide)⟩ ⟨t % 4096, Nat.mod_lt _ (by decide)⟩
  V h d s := if d < 64 then x4 (ix3 0 ⟨(64 * h + d) % 128, Nat.mod_lt _ (by decide)⟩ ⟨s % 4096, Nat.mod_lt _ (by decide)⟩) else 1
  ones h d s hd := if_neg (by omega)

variable (c : Dev nD) (a2 : Memref sig .tc .vmem S1x128x4096 .bf16) (g2 : a2.IsWhole)
  (a3 : Memref sig .tc .vmem S4096x128 .bf16) (g3 : a3.IsWhole) (a4 : Memref sig .tc .vmem S4096x128 .bf16) (g4 : a4.IsWhole)
  (a5 : Memref sig .tc .vmem S1x128x128 .bf16) (g5 : a5.IsWhole) (a6 : Memref sig .tc .vmem S1x128x4096 .bf16) (g6 : a6.IsWhole)
  (a8 : Memref sig .tc .vmem S2x4096x128 .bf16) (a9 : Memref sig .tc .vmem S2x128x4096 .bf16)
  (x0 : Vec Ideal S1x128x4096 .bf16) (x1 x2 : Vec Ideal S4096x128 .bf16) (x3 : Vec Ideal S1x128x128 .bf16)
  (x4 : Vec Ideal S1x128x4096 .bf16)

theorem word_bias (s : Fin 4096) (l : Fin 128) :
    kernelRun0_A.sl.r (F := Ideal) c a4 g4 a5 g5 x2 x3 (ix2 s l) = bias x2 x3 s l := by
  unfold kernelRun0_A.sl.r
  rw [View.readAt_eq_ld, View.readAt_eq_ld, g4.read_unread, g5.read_unread]
  pointwise [k0_pay3, bias]

theorem word_keys (s : Fin 4096) (l : Fin 128) :
    kernelRun0_A.sl.r_1 (F := Ideal) c a3 g3 x1 (ix2 s l) = x1 (ix2 s l) := by
  unfold kernelRun0_A.sl.r_1
  rw [View.readAt_eq_ld, g3.read_unread]
  pointwise [k0_pay4]

theorem word_queries (t : Fin 4096) (l : Fin 128) :
    kernelRun0_A.sl.r_3 (F := Ideal) c a2 g2 x0 (ix2 l t) = x0 (ix3 0 l t) := by
  unfold kernelRun0_A.sl.r_3
  rw [View.readAt_eq_ld, g2.read_unread]
  pointwise [k0_pay10]

/-- The key scratch, both heads. -/
theorem key_scratch (y : S2x4096x128.Idx) :
    View.canon (kernelRun0_A.sl.HS0_2 (F := Ideal) c a3 g3 a4 g4 a5 g5 x1 x2 x3) y = keyAt x1 x2 x3 (y 0).val (y 1) (y 2) := by
  unfold kernelRun0_A.sl.HS0_2
  canon_tiles x h
  · have e1 : y 1 = x 1 := Fin.ext h1
    have e2 : y 2 = x 2 := Fin.ext h2
    have e0 : (y 0).val = 1 := by omega
    rw [e1, e2, e0]
    clear h0 h1 h2 e0 e1 e2 x0_lt x1_lt x2_lt
    idx_vars x
    rw [key1]
    unfold kernelRun0_A.sl.r_2
    rw [word_keys, key_side, word_bias]
    rfl
  · have e1 : y 1 = x 1 := Fin.ext h1
    have e2 : y 2 = x 2 := Fin.ext h2
    have e0 : (y 0).val = 0 := by omega
    rw [e1, e2, e0]
    clear h0 h1 h2 e0 e1 e2 x0_lt x1_lt x2_lt
    idx_vars x
    unfold kernelRun0_A.sl.r_5 kernelRun0_A.sl.r_2
    rw [key0, word_keys, key_side, word_bias]
    rfl

theorem query_scratch (y : S2x128x4096.Idx) :
    View.canon (kernelRun0_A.sl.HS1_2 (F := Ideal) c a2 g2 a4 g4 a5 g5 x0 x2 x3) y = queryAt x0 x2 x3 (y 0).val (y 1) (y 2) := by
  unfold kernelRun0_A.sl.HS1_2
  canon_tiles x h
  · have e1 : y 1 = x 1 := Fin.ext h1
    have e2 : y 2 = x 2 := Fin.ext h2
    have e0 : (y 0).val = 1 := by omega
    rw [e1, e2, e0]
    clear h0 h1 h2 e0 e1 e2 x0_lt x1_lt x2_lt
    idx_vars x
    rw [query1]
    unfold kernelRun0_A.sl.r_4
    rw [word_queries, query_side, word_bias]
    rfl
  · have e1 : y 1 = x 1 := Fin.ext h1
    have e2 : y 2 = x 2 := Fin.ext h2
    have e0 : (y 0).val = 0 := by omega
    rw [e1, e2, e0]
    clear h0 h1 h2 e0 e1 e2 x0_lt x1_lt x2_lt
    idx_vars x
    rw [query0]
    unfold kernelRun0_A.sl.r_4
    rw [word_queries, query_side, word_bias]
    rfl

theorem load_K (o : Fin 3 → ℕ) (inb) (h k : ℕ) (ho : o = ![h, 512 * k, 0]) :
    a8.view.readCov (kernelRun0_A.sl.HS0_2 (F := Ideal) c a3 g3 a4 g4 a5 g5 x1 x2 x3) (Rect.unit (s := S2x4096x128) o S1x512x128.size inb).toLoadRect
      = tK (dat x0 x1 x2 x3 x4) h k := by
  subst ho
  rw [View.readCov_eq_canon']
  funext j; idx_vars j
  rw [key_scratch]
  pointwise [tK, dat]
  have hb : 512 * k + 512 ≤ 4096 := inb 1
  have i1 := j1.isLt
  have i2 := j2.isLt
  rw [show (⟨(512 * k + j1.val) % 4096, Nat.mod_lt _ (by decide)⟩ : Fin 4096) = ⟨512 * k + j1.val, by omega⟩ from
      Fin.ext (Nat.mod_eq_of_lt (by omega)),
    show (⟨j2.val % 128, Nat.mod_lt _ (by decide)⟩ : Fin 128) = j2 from Fin.ext (Nat.mod_eq_of_lt i2)]

theorem load_Q (o : Fin 3 → ℕ) (inb) (h q : ℕ) (ho : o = ![h, 0, 512 * q]) :
    a9.view.readCov (kernelRun0_A.sl.HS1_2 (F := Ideal) c a2 g2 a4 g4 a5 g5 x0 x2 x3)
        (Rect.unit (s := S2x128x4096) o S1x128x512.size inb).toLoadRect
      = tQ (dat x0 x1 x2 x3 x4) h q := by
  subst ho
  rw [View.readCov_eq_canon']
  funext j; idx_vars j
  rw [query_scratch]
  pointwise [tQ, dat]
  have hb : 512 * q + 512 ≤ 4096 := inb 2
  have i1 := j1.isLt
  have i2 := j2.isLt
  rw [show (⟨(512 * q + j2.val) % 4096, Nat.mod_lt _ (by decide)⟩ : Fin 4096) = ⟨512 * q + j2.val, by omega⟩ from
      Fin.ext (Nat.mod_eq_of_lt (by omega)),
    show (⟨j1.val % 128, Nat.mod_lt _ (by decide)⟩ : Fin 128) = j1 from Fin.ext (Nat.mod_eq_of_lt i1)]

theorem load_V (o : Fin 3 → ℕ) (inb) (h k : ℕ) (ho : o = ![0, 64 * h, 512 * k]) :
    View.readAt (Elt Ideal) a6.view (Rect.unit (s := S1x128x4096) o S1x64x512.size inb).toLoadRect (g6.unread x4) = tV (dat x0 x1 x2 x3 x4) h k := by
  subst ho
  rw [View.readAt_eq_ld, g6.read_unread]
  funext j; idx_vars j
  pointwise [tV, dat]
  have hb : 512 * k + 512 ≤ 4096 := inb 2
  have hh : 64 * h + 64 ≤ 128 := inb 1
  have i1 := j1.isLt
  have i2 := j2.isLt
  rw [show (⟨(512 * k + j2.val) % 4096, Nat.mod_lt _ (by decide)⟩ : Fin 4096) = ⟨512 * k + j2.val, by omega⟩ from
      Fin.ext (Nat.mod_eq_of_lt (by omega)),
    show (⟨(64 * h + j1.val) % 128, Nat.mod_lt _ (by decide)⟩ : Fin 128) = ⟨64 * h + j1.val, by omega⟩ from
      Fin.ext (Nat.mod_eq_of_lt (by omega))]

end Cert.Tiles
-- ==== Proof.V.Words1.lean ====
/- The named values of one run of the attention kernel, each shown to be its tile (part 1 of 4). -/
module

public import proofs.«01_k».proof.Proof.V.Load

@[expose] public section

set_option maxRecDepth 16384

noncomputable section

namespace Cert.Tiles

open Idealize.ShloMosaic Idealize.ShloMosaic.TcCoe Cert.Online
open Cert.KernelIdeal Cert.KernelIdeal.Gen

theorem pay25_eq (D : Ops) : (k0_pay25 : FVec Ideal S1x512 .f32) = tM D 0 0 0 := init_M D _ _

theorem pay26_eq (D : Ops) : (k0_pay26 : FVec Ideal S80x512 .f32) = tA D 0 0 0 := init_A D _ _

theorem pay27_eq (D : Ops) : (k0_pay27 : FVec Ideal S1x512 .f32) = tM D 1 0 0 := init_M D _ _

theorem pay28_eq (D : Ops) : (k0_pay28 : FVec Ideal S80x512 .f32) = tA D 1 0 0 := init_A D _ _

theorem pay29_eq (D : Ops) : (k0_pay29 : FVec Ideal S1x512 .f32) = tM D 0 1 0 := init_M D _ _

theorem pay30_eq (D : Ops) : (k0_pay30 : FVec Ideal S80x512 .f32) = tA D 0 1 0 := init_A D _ _

theorem pay31_eq (D : Ops) : (k0_pay31 : FVec Ideal S1x512 .f32) = tM D 1 1 0 := init_M D _ _

theorem pay32_eq (D : Ops) : (k0_pay32 : FVec Ideal S80x512 .f32) = tA D 1 1 0 := init_A D _ _

theorem pay33_eq (D : Ops) : (k0_pay33 : FVec Ideal S1x512 .f32) = tM D 0 2 0 := init_M D _ _

theorem pay34_eq (D : Ops) : (k0_pay34 : FVec Ideal S80x512 .f32) = tA D 0 2 0 := init_A D _ _

theorem pay35_eq (D : Ops) : (k0_pay35 : FVec Ideal S1x512 .f32) = tM D 1 2 0 := init_M D _ _

theorem pay36_eq (D : Ops) : (k0_pay36 : FVec Ideal S80x512 .f32) = tA D 1 2 0 := init_A D _ _

theorem pay37_eq (D : Ops) : (k0_pay37 : FVec Ideal S1x512 .f32) = tM D 0 3 0 := init_M D _ _

theorem pay38_eq (D : Ops) : (k0_pay38 : FVec Ideal S80x512 .f32) = tA D 0 3 0 := init_A D _ _

theorem pay39_eq (D : Ops) : (k0_pay39 : FVec Ideal S1x512 .f32) = tM D 1 3 0 := init_M D _ _

theorem pay40_eq (D : Ops) : (k0_pay40 : FVec Ideal S80x512 .f32) = tA D 1 3 0 := init_A D _ _

theorem pay41_eq (D : Ops) : (k0_pay41 : FVec Ideal S1x512 .f32) = tM D 0 4 0 := init_M D _ _

theorem pay42_eq (D : Ops) : (k0_pay42 : FVec Ideal S80x512 .f32) = tA D 0 4 0 := init_A D _ _

theorem pay43_eq (D : Ops) : (k0_pay43 : FVec Ideal S1x512 .f32) = tM D 1 4 0 := init_M D _ _

theorem pay44_eq (D : Ops) : (k0_pay44 : FVec Ideal S80x512 .f32) = tA D 1 4 0 := init_A D _ _

theorem pay45_eq (D : Ops) : (k0_pay45 : FVec Ideal S1x512 .f32) = tM D 0 5 0 := init_M D _ _

theorem pay46_eq (D : Ops) : (k0_pay46 : FVec Ideal S80x512 .f32) = tA D 0 5 0 := init_A D _ _

theorem pay47_eq (D : Ops) : (k0_pay47 : FVec Ideal S1x512 .f32) = tM D 1 5 0 := init_M D _ _

theorem pay48_eq (D : Ops) : (k0_pay48 : FVec Ideal S80x512 .f32) = tA D 1 5 0 := init_A D _ _

theorem pay49_eq (D : Ops) : (k0_pay49 : FVec Ideal S1x512 .f32) = tM D 0 6 0 := init_M D _ _

theorem pay50_eq (D : Ops) : (k0_pay50 : FVec Ideal S80x512 .f32) = tA D 0 6 0 := init_A D _ _

theorem pay51_eq (D : Ops) : (k0_pay51 : FVec Ideal S1x512 .f32) = tM D 1 6 0 := init_M D _ _

theorem pay52_eq (D : Ops) : (k0_pay52 : FVec Ideal S80x512 .f32) = tA D 1 6 0 := init_A D _ _

theorem pay53_eq (D : Ops) : (k0_pay53 : FVec Ideal S1x512 .f32) = tM D 0 7 0 := init_M D _ _

theorem pay54_eq (D : Ops) : (k0_pay54 : FVec Ideal S80x512 .f32) = tA D 0 7 0 := init_A D _ _

theorem pay55_eq (D : Ops) : (k0_pay55 : FVec Ideal S1x512 .f32) = tM D 1 7 0 := init_M D _ _

theorem pay56_eq (D : Ops) : (k0_pay56 : FVec Ideal S80x512 .f32) = tA D 1 7 0 := init_A D _ _

variable (c : Dev nD) (a2 : Memref sig .tc .vmem S1x128x4096 .bf16) (g2 : a2.IsWhole)
  (a3 : Memref sig .tc .vmem S4096x128 .bf16) (g3 : a3.IsWhole) (a4 : Memref sig .tc .vmem S4096x128 .bf16) (g4 : a4.IsWhole)
  (a5 : Memref sig .tc .vmem S1x128x128 .bf16) (g5 : a5.IsWhole) (a6 : Memref sig .tc .vmem S1x128x4096 .bf16) (g6 : a6.IsWhole)
  (a8 : Memref sig .tc .vmem S2x4096x128 .bf16) (a9 : Memref sig .tc .vmem S2x128x4096 .bf16)
  (x0 : Vec Ideal S1x128x4096 .bf16) (x1 x2 : Vec Ideal S4096x128 .bf16) (x3 : Vec Ideal S1x128x128 .bf16)
  (x4 : Vec Ideal S1x128x4096 .bf16)
include c a2 g2 a3 g3 a4 g4 a5 g5 a6 g6 a8 a9 x0 x1 x2 x3 x4

theorem ldV_0_0 : View.readAt (Elt Ideal) a6.view (Rect.unit (s := S1x128x4096) ![0, 0, 0] S1x64x512.size inb_S1x128x4096_S1x64x512_0_0_0).toLoadRect (g6.unread x4) = tV (dat x0 x1 x2 x3 x4) 0 0 :=
  load_V a6 g6 x0 x1 x2 x3 x4 _ _ 0 0 rfl

theorem ldV_0_1 : View.readAt (Elt Ideal) a6.view (Rect.unit (s := S1x128x4096) ![0, 0, 512] S1x64x512.size inb_S1x128x4096_S1x64x512_0_0_512).toLoadRect (g6.unread x4) = tV (dat x0 x1 x2 x3 x4) 0 1 :=
  load_V a6 g6 x0 x1 x2 x3 x4 _ _ 0 1 rfl

theorem ldV_0_2 : View.readAt (Elt Ideal) a6.view (Rect.unit (s := S1x128x4096) ![0, 0, 1024] S1x64x512.size inb_S1x128x4096_S1x64x512_0_0_1024).toLoadRect (g6.unread x4) = tV (dat x0 x1 x2 x3 x4) 0 2 :=
  load_V a6 g6 x0 x1 x2 x3 x4 _ _ 0 2 rfl

theorem ldV_0_3 : View.readAt (Elt Ideal) a6.view (Rect.unit (s := S1x128x4096) ![0, 0, 1536] S1x64x512.size inb_S1x128x4096_S1x64x512_0_0_1536).toLoadRect (g6.unread x4) = tV (dat x0 x1 x2 x3 x4) 0 3 :=
  load_V a6 g6 x0 x1 x2 x3 x4 _ _ 0 3 rfl

theorem ldV_0_4 : View.readAt (Elt Ideal) a6.view (Rect.unit (s := S1x128x4096) ![0, 0, 2048] S1x64x512.size inb_S1x128x4096_S1x64x512_0_0_2048).toLoadRect (g6.unread x4) = tV (dat x0 x1 x2 x3 x4) 0 4 :=
  load_V a6 g6 x0 x1 x2 x3 x4 _ _ 0 4 rfl

theorem ldV_0_5 : View.readAt (Elt Ideal) a6.view (Rect.unit (s := S1x128x4096) ![0, 0, 2560] S1x64x512.size inb_S1x128x4096_S1x64x512_0_0_2560).toLoadRect (g6.unread x4) = tV (dat x0 x1 x2 x3 x4) 0 5 :=
  load_V a6 g6 x0 x1 x2 x3 x4 _ _ 0 5 rfl

theorem ldV_0_6 : View.readAt (Elt Ideal) a6.view (Rect.unit (s := S1x128x4096) ![0, 0, 3072] S1x64x512.size inb_S1x128x4096_S1x64x512_0_0_3072).toLoadRect (g6.unread x4) = tV (dat x0 x1 x2 x3 x4) 0 6 :=
  load_V a6 g6 x0 x1 x2 x3 x4 _ _ 0 6 rfl

theorem ldV_0_7 : View.readAt (Elt Ideal) a6.view (Rect.unit (s := S1x128x4096) ![0, 0, 3584] S1x64x512.size inb_S1x128x4096_S1x64x512_0_0_3584).toLoadRect (g6.unread x4) = tV (dat x0 x1 x2 x3 x4) 0 7 :=
  load_V a6 g6 x0 x1 x2 x3 x4 _ _ 0 7 rfl

theorem ldV_1_0 : View.readAt (Elt Ideal) a6.view (Rect.unit (s := S1x128x4096) ![0, 64, 0] S1x64x512.size inb_S1x128x4096_S1x64x512_0_64_0).toLoadRect (g6.unread x4) = tV (dat x0 x1 x2 x3 x4) 1 0 :=
  load_V a6 g6 x0 x1 x2 x3 x4 _ _ 1 0 rfl

theorem ldV_1_1 : View.readAt (Elt Ideal) a6.view (Rect.unit (s := S1x128x4096) ![0, 64, 512] S1x64x512.size inb_S1x128x4096_S1x64x512_0_64_512).toLoadRect (g6.unread x4) = tV (dat x0 x1 x2 x3 x4) 1 1 :=
  load_V a6 g6 x0 x1 x2 x3 x4 _ _ 1 1 rfl

theorem ldV_1_2 : View.readAt (Elt Ideal) a6.view (Rect.unit (s := S1x128x4096) ![0, 64, 1024] S1x64x512.size inb_S1x128x4096_S1x64x512_0_64_1024).toLoadRect (g6.unread x4) = tV (dat x0 x1 x2 x3 x4) 1 2 :=
  load_V a6 g6 x0 x1 x2 x3 x4 _ _ 1 2 rfl

theorem ldV_1_3 : View.readAt (Elt Ideal) a6.view (Rect.unit (s := S1x128x4096) ![0, 64, 1536] S1x64x512.size inb_S1x128x4096_S1x64x512_0_64_1536).toLoadRect (g6.unread x4) = tV (dat x0 x1 x2 x3 x4) 1 3 :=
  load_V a6 g6 x0 x1 x2 x3 x4 _ _ 1 3 rfl

theorem ldV_1_4 : View.readAt (Elt Ideal) a6.view (Rect.unit (s := S1x128x4096) ![0, 64, 2048] S1x64x512.size inb_S1x128x4096_S1x64x512_0_64_2048).toLoadRect (g6.unread x4) = tV (dat x0 x1 x2 x3 x4) 1 4 :=
  load_V a6 g6 x0 x1 x2 x3 x4 _ _ 1 4 rfl

theorem ldV_1_5 : View.readAt (Elt Ideal) a6.view (Rect.unit (s := S1x128x4096) ![0, 64, 2560] S1x64x512.size inb_S1x128x4096_S1x64x512_0_64_2560).toLoadRect (g6.unread x4) = tV (dat x0 x1 x2 x3 x4) 1 5 :=
  load_V a6 g6 x0 x1 x2 x3 x4 _ _ 1 5 rfl

theorem ldV_1_6 : View.readAt (Elt Ideal) a6.view (Rect.unit (s := S1x128x4096) ![0, 64, 3072] S1x64x512.size inb_S1x128x4096_S1x64x512_0_64_3072).toLoadRect (g6.unread x4) = tV (dat x0 x1 x2 x3 x4) 1 6 :=
  load_V a6 g6 x0 x1 x2 x3 x4 _ _ 1 6 rfl

theorem ldV_1_7 : View.readAt (Elt Ideal) a6.view (Rect.unit (s := S1x128x4096) ![0, 64, 3584] S1x64x512.size inb_S1x128x4096_S1x64x512_0_64_3584).toLoadRect (g6.unread x4) = tV (dat x0 x1 x2 x3 x4) 1 7 :=
  load_V a6 g6 x0 x1 x2 x3 x4 _ _ 1 7 rfl

theorem v253_eq : kernelRun0_A.sl.v253 (F := Ideal) c a3 g3 a4 g4 a5 g5 a8 x1 x2 x3 = tK (dat x0 x1 x2 x3 x4) 0 0 :=
  load_K c a3 g3 a4 g4 a5 g5 a8 x0 x1 x2 x3 x4 _ _ 0 0 rfl

theorem v255_eq : kernelRun0_A.sl.v255 (F := Ideal) c a2 g2 a4 g4 a5 g5 a9 x0 x2 x3 = tQ (dat x0 x1 x2 x3 x4) 0 4 :=
  load_Q c a2 g2 a4 g4 a5 g5 a9 x0 x1 x2 x3 x4 _ _ 0 4 rfl

theorem r_7_eq : kernelRun0_A.sl.r_7 (F := Ideal) c a2 g2 a3 g3 a4 g4 a5 g5 a8 a9 x0 x1 x2 x3 = tS (dat x0 x1 x2 x3 x4) 0 0 4 := by
  simp only [kernelRun0_A.sl.r_7, ones_eq, v253_eq c a2 g2 a3 g3 a4 g4 a5 g5 a6 g6 a8 a9 x0 x1 x2 x3 x4, v255_eq c a2 g2 a3 g3 a4 g4 a5 g5 a6 g6 a8 a9 x0 x1 x2 x3 x4]
  simp only [k0_pay57, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_10_eq : kernelRun0_A.sl.r_10 (F := Ideal) c a2 g2 a3 g3 a4 g4 a5 g5 a8 a9 x0 x1 x2 x3 = tM (dat x0 x1 x2 x3 x4) 0 4 1 := by
  simp only [kernelRun0_A.sl.r_10, ones_eq, pay41_eq (dat x0 x1 x2 x3 x4), r_7_eq c a2 g2 a3 g3 a4 g4 a5 g5 a6 g6 a8 a9 x0 x1 x2 x3 x4]
  simp only [k0_pay60]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem v408_eq : kernelRun0_A.sl.v408 (F := Ideal) c a3 g3 a4 g4 a5 g5 a8 x1 x2 x3 = tK (dat x0 x1 x2 x3 x4) 0 1 :=
  load_K c a3 g3 a4 g4 a5 g5 a8 x0 x1 x2 x3 x4 _ _ 0 1 rfl

theorem r_38_eq : kernelRun0_A.sl.r_38 (F := Ideal) c a2 g2 a3 g3 a4 g4 a5 g5 a8 a9 x0 x1 x2 x3 = tS (dat x0 x1 x2 x3 x4) 0 1 4 := by
  simp only [kernelRun0_A.sl.r_38, ones_eq, v255_eq c a2 g2 a3 g3 a4 g4 a5 g5 a6 g6 a8 a9 x0 x1 x2 x3 x4, v408_eq c a2 g2 a3 g3 a4 g4 a5 g5 a6 g6 a8 a9 x0 x1 x2 x3 x4]
  simp only [k0_pay88, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_50_eq : kernelRun0_A.sl.r_50 (F := Ideal) c a2 g2 a3 g3 a4 g4 a5 g5 a8 a9 x0 x1 x2 x3 = tM (dat x0 x1 x2 x3 x4) 0 4 2 := by
  simp only [kernelRun0_A.sl.r_50, ones_eq, r_10_eq c a2 g2 a3 g3 a4 g4 a5 g5 a6 g6 a8 a9 x0 x1 x2 x3 x4, r_38_eq c a2 g2 a3 g3 a4 g4 a5 g5 a6 g6 a8 a9 x0 x1 x2 x3 x4]
  simp only [k0_pay100]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem v608_eq : kernelRun0_A.sl.v608 (F := Ideal) c a3 g3 a4 g4 a5 g5 a8 x1 x2 x3 = tK (dat x0 x1 x2 x3 x4) 0 2 :=
  load_K c a3 g3 a4 g4 a5 g5 a8 x0 x1 x2 x3 x4 _ _ 0 2 rfl

theorem r_79_eq : kernelRun0_A.sl.r_79 (F := Ideal) c a2 g2 a3 g3 a4 g4 a5 g5 a8 a9 x0 x1 x2 x3 = tS (dat x0 x1 x2 x3 x4) 0 2 4 := by
  simp only [kernelRun0_A.sl.r_79, ones_eq, v255_eq c a2 g2 a3 g3 a4 g4 a5 g5 a6 g6 a8 a9 x0 x1 x2 x3 x4, v608_eq c a2 g2 a3 g3 a4 g4 a5 g5 a6 g6 a8 a9 x0 x1 x2 x3 x4]
  simp only [k0_pay129, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_91_eq : kernelRun0_A.sl.r_91 (F := Ideal) c a2 g2 a3 g3 a4 g4 a5 g5 a8 a9 x0 x1 x2 x3 = tM (dat x0 x1 x2 x3 x4) 0 4 3 := by
  simp only [kernelRun0_A.sl.r_91, ones_eq, r_50_eq c a2 g2 a3 g3 a4 g4 a5 g5 a6 g6 a8 a9 x0 x1 x2 x3 x4, r_79_eq c a2 g2 a3 g3 a4 g4 a5 g5 a6 g6 a8 a9 x0 x1 x2 x3 x4]
  simp only [k0_pay141]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem v808_eq : kernelRun0_A.sl.v808 (F := Ideal) c a3 g3 a4 g4 a5 g5 a8 x1 x2 x3 = tK (dat x0 x1 x2 x3 x4) 0 3 :=
  load_K c a3 g3 a4 g4 a5 g5 a8 x0 x1 x2 x3 x4 _ _ 0 3 rfl

theorem r_124_eq : kernelRun0_A.sl.r_124 (F := Ideal) c a2 g2 a3 g3 a4 g4 a5 g5 a8 a9 x0 x1 x2 x3 = tS (dat x0 x1 x2 x3 x4) 0 3 4 := by
  simp only [kernelRun0_A.sl.r_124, ones_eq, v255_eq c a2 g2 a3 g3 a4 g4 a5 g5 a6 g6 a8 a9 x0 x1 x2 x3 x4, v808_eq c a2 g2 a3 g3 a4 g4 a5 g5 a6 g6 a8 a9 x0 x1 x2 x3 x4]
  simp only [k0_pay173, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_134_eq : kernelRun0_A.sl.r_134 (F := Ideal) c a2 g2 a3 g3 a4 g4 a5 g5 a8 a9 x0 x1 x2 x3 = tM (dat x0 x1 x2 x3 x4) 0 4 4 := by
  simp only [kernelRun0_A.sl.r_134, ones_eq, r_124_eq c a2 g2 a3 g3 a4 g4 a5 g5 a6 g6 a8 a9 x0 x1 x2 x3 x4, r_91_eq c a2 g2 a3 g3 a4 g4 a5 g5 a6 g6 a8 a9 x0 x1 x2 x3 x4]
  simp only [k0_pay183]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_15_eq : kernelRun0_A.sl.r_15 (F := Ideal) c a2 g2 a3 g3 a4 g4 a5 g5 a6 g6 a8 a9 x0 x1 x2 x3 x4 = tA (dat x0 x1 x2 x3 x4) 0 4 1 := by
  simp only [kernelRun0_A.sl.r_15, ones_eq, pay41_eq (dat x0 x1 x2 x3 x4), pay42_eq (dat x0 x1 x2 x3 x4), r_7_eq c a2 g2 a3 g3 a4 g4 a5 g5 a6 g6 a8 a9 x0 x1 x2 x3 x4, ↓ldV_0_0 c a2 g2 a3 g3 a4 g4 a5 g5 a6 g6 a8 a9 x0 x1 x2 x3 x4]
  simp only [k0_pay65, k0_pay60]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_51_eq : kernelRun0_A.sl.r_51 (F := Ideal) c a2 g2 a3 g3 a4 g4 a5 g5 a8 a9 x0 x1 x2 x3 = tL (dat x0 x1 x2 x3 x4) 0 4 1 := by
  simp only [kernelRun0_A.sl.r_51, ones_eq, r_10_eq c a2 g2 a3 g3 a4 g4 a5 g5 a6 g6 a8 a9 x0 x1 x2 x3 x4, r_38_eq c a2 g2 a3 g3 a4 g4 a5 g5 a6 g6 a8 a9 x0 x1 x2 x3 x4]
  simp only [k0_pay101, k0_pay100]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_52_eq : kernelRun0_A.sl.r_52 (F := Ideal) c a2 g2 a3 g3 a4 g4 a5 g5 a8 a9 x0 x1 x2 x3 = tP (dat x0 x1 x2 x3 x4) 0 4 1 := by
  simp only [kernelRun0_A.sl.r_52, ones_eq, r_10_eq c a2 g2 a3 g3 a4 g4 a5 g5 a6 g6 a8 a9 x0 x1 x2 x3 x4, r_38_eq c a2 g2 a3 g3 a4 g4 a5 g5 a6 g6 a8 a9 x0 x1 x2 x3 x4]
  simp only [k0_pay102, k0_pay100]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_59_eq : kernelRun0_A.sl.r_59 (F := Ideal) c a2 g2 a3 g3 a4 g4 a5 g5 a6 g6 a8 a9 x0 x1 x2 x3 x4 = tA (dat x0 x1 x2 x3 x4) 0 4 2 := by
  simp only [kernelRun0_A.sl.r_59, ones_eq, r_15_eq c a2 g2 a3 g3 a4 g4 a5 g5 a6 g6 a8 a9 x0 x1 x2 x3 x4, r_51_eq c a2 g2 a3 g3 a4 g4 a5 g5 a6 g6 a8 a9 x0 x1 x2 x3 x4, r_52_eq c a2 g2 a3 g3 a4 g4 a5 g5 a6 g6 a8 a9 x0 x1 x2 x3 x4, ↓ldV_0_1 c a2 g2 a3 g3 a4 g4 a5 g5 a6 g6 a8 a9 x0 x1 x2 x3 x4]
  simp only [k0_pay109, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_92_eq : kernelRun0_A.sl.r_92 (F := Ideal) c a2 g2 a3 g3 a4 g4 a5 g5 a8 a9 x0 x1 x2 x3 = tL (dat x0 x1 x2 x3 x4) 0 4 2 := by
  simp only [kernelRun0_A.sl.r_92, ones_eq, r_50_eq c a2 g2 a3 g3 a4 g4 a5 g5 a6 g6 a8 a9 x0 x1 x2 x3 x4, r_79_eq c a2 g2 a3 g3 a4 g4 a5 g5 a6 g6 a8 a9 x0 x1 x2 x3 x4]
  simp only [k0_pay142, k0_pay141]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_93_eq : kernelRun0_A.sl.r_93 (F := Ideal) c a2 g2 a3 g3 a4 g4 a5 g5 a8 a9 x0 x1 x2 x3 = tP (dat x0 x1 x2 x3 x4) 0 4 2 := by
  simp only [kernelRun0_A.sl.r_93, ones_eq, r_50_eq c a2 g2 a3 g3 a4 g4 a5 g5 a6 g6 a8 a9 x0 x1 x2 x3 x4, r_79_eq c a2 g2 a3 g3 a4 g4 a5 g5 a6 g6 a8 a9 x0 x1 x2 x3 x4]
  simp only [k0_pay143, k0_pay141]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_101_eq : kernelRun0_A.sl.r_101 (F := Ideal) c a2 g2 a3 g3 a4 g4 a5 g5 a6 g6 a8 a9 x0 x1 x2 x3 x4 = tA (dat x0 x1 x2 x3 x4) 0 4 3 := by
  simp only [kernelRun0_A.sl.r_101, ones_eq, r_59_eq c a2 g2 a3 g3 a4 g4 a5 g5 a6 g6 a8 a9 x0 x1 x2 x3 x4, r_92_eq c a2 g2 a3 g3 a4 g4 a5 g5 a6 g6 a8 a9 x0 x1 x2 x3 x4, r_93_eq c a2 g2 a3 g3 a4 g4 a5 g5 a6 g6 a8 a9 x0 x1 x2 x3 x4, ↓ldV_0_2 c a2 g2 a3 g3 a4 g4 a5 g5 a6 g6 a8 a9 x0 x1 x2 x3 x4]
  simp only [k0_pay151, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_135_eq : kernelRun0_A.sl.r_135 (F := Ideal) c a2 g2 a3 g3 a4 g4 a5 g5 a8 a9 x0 x1 x2 x3 = tL (dat x0 x1 x2 x3 x4) 0 4 3 := by
  simp only [kernelRun0_A.sl.r_135, ones_eq, r_124_eq c a2 g2 a3 g3 a4 g4 a5 g5 a6 g6 a8 a9 x0 x1 x2 x3 x4, r_91_eq c a2 g2 a3 g3 a4 g4 a5 g5 a6 g6 a8 a9 x0 x1 x2 x3 x4]
  simp only [k0_pay184, k0_pay183]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_136_eq : kernelRun0_A.sl.r_136 (F := Ideal) c a2 g2 a3 g3 a4 g4 a5 g5 a8 a9 x0 x1 x2 x3 = tP (dat x0 x1 x2 x3 x4) 0 4 3 := by
  simp only [kernelRun0_A.sl.r_136, ones_eq, r_124_eq c a2 g2 a3 g3 a4 g4 a5 g5 a6 g6 a8 a9 x0 x1 x2 x3 x4, r_91_eq c a2 g2 a3 g3 a4 g4 a5 g5 a6 g6 a8 a9 x0 x1 x2 x3 x4]
  simp only [k0_pay185, k0_pay183]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_142_eq : kernelRun0_A.sl.r_142 (F := Ideal) c a2 g2 a3 g3 a4 g4 a5 g5 a6 g6 a8 a9 x0 x1 x2 x3 x4 = tA (dat x0 x1 x2 x3 x4) 0 4 4 := by
  simp only [kernelRun0_A.sl.r_142, ones_eq, r_101_eq c a2 g2 a3 g3 a4 g4 a5 g5 a6 g6 a8 a9 x0 x1 x2 x3 x4, r_135_eq c a2 g2 a3 g3 a4 g4 a5 g5 a6 g6 a8 a9 x0 x1 x2 x3 x4, r_136_eq c a2 g2 a3 g3 a4 g4 a5 g5 a6 g6 a8 a9 x0 x1 x2 x3 x4, ↓ldV_0_3 c a2 g2 a3 g3 a4 g4 a5 g5 a6 g6 a8 a9 x0 x1 x2 x3 x4]
  simp only [k0_pay191, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem v1069_eq : kernelRun0_A.sl.v1069 (F := Ideal) c a3 g3 a4 g4 a5 g5 a8 x1 x2 x3 = tK (dat x0 x1 x2 x3 x4) 0 4 :=
  load_K c a3 g3 a4 g4 a5 g5 a8 x0 x1 x2 x3 x4 _ _ 0 4 rfl

theorem r_174_eq : kernelRun0_A.sl.r_174 (F := Ideal) c a2 g2 a3 g3 a4 g4 a5 g5 a8 a9 x0 x1 x2 x3 = tS (dat x0 x1 x2 x3 x4) 0 4 4 := by
  simp only [kernelRun0_A.sl.r_174, ones_eq, v1069_eq c a2 g2 a3 g3 a4 g4 a5 g5 a6 g6 a8 a9 x0 x1 x2 x3 x4, v255_eq c a2 g2 a3 g3 a4 g4 a5 g5 a6 g6 a8 a9 x0 x1 x2 x3 x4]
  simp only [k0_pay223, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]
  rw [mask_0]

theorem r_179_eq : kernelRun0_A.sl.r_179 (F := Ideal) c a2 g2 a3 g3 a4 g4 a5 g5 a8 a9 x0 x1 x2 x3 = tM (dat x0 x1 x2 x3 x4) 0 4 5 := by
  simp only [kernelRun0_A.sl.r_179, ones_eq, r_134_eq c a2 g2 a3 g3 a4 g4 a5 g5 a6 g6 a8 a9 x0 x1 x2 x3 x4, r_174_eq c a2 g2 a3 g3 a4 g4 a5 g5 a6 g6 a8 a9 x0 x1 x2 x3 x4]
  simp only [k0_pay229]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_184_eq : kernelRun0_A.sl.r_184 (F := Ideal) c a2 g2 a3 g3 a4 g4 a5 g5 a6 g6 a8 a9 x0 x1 x2 x3 x4 = tA (dat x0 x1 x2 x3 x4) 0 4 5 := by
  simp only [kernelRun0_A.sl.r_184, ones_eq, r_134_eq c a2 g2 a3 g3 a4 g4 a5 g5 a6 g6 a8 a9 x0 x1 x2 x3 x4, r_142_eq c a2 g2 a3 g3 a4 g4 a5 g5 a6 g6 a8 a9 x0 x1 x2 x3 x4, r_174_eq c a2 g2 a3 g3 a4 g4 a5 g5 a6 g6 a8 a9 x0 x1 x2 x3 x4, r_179_eq c a2 g2 a3 g3 a4 g4 a5 g5 a6 g6 a8 a9 x0 x1 x2 x3 x4, ↓ldV_0_4 c a2 g2 a3 g3 a4 g4 a5 g5 a6 g6 a8 a9 x0 x1 x2 x3 x4]
  simp only [k0_pay235, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem v260_eq : kernelRun0_A.sl.v260 (F := Ideal) c a3 g3 a4 g4 a5 g5 a8 x1 x2 x3 = tK (dat x0 x1 x2 x3 x4) 1 0 :=
  load_K c a3 g3 a4 g4 a5 g5 a8 x0 x1 x2 x3 x4 _ _ 1 0 rfl

theorem v262_eq : kernelRun0_A.sl.v262 (F := Ideal) c a2 g2 a4 g4 a5 g5 a9 x0 x2 x3 = tQ (dat x0 x1 x2 x3 x4) 1 4 :=
  load_Q c a2 g2 a4 g4 a5 g5 a9 x0 x1 x2 x3 x4 _ _ 1 4 rfl

theorem r_8_eq : kernelRun0_A.sl.r_8 (F := Ideal) c a2 g2 a3 g3 a4 g4 a5 g5 a8 a9 x0 x1 x2 x3 = tS (dat x0 x1 x2 x3 x4) 1 0 4 := by
  simp only [kernelRun0_A.sl.r_8, ones_eq, v260_eq c a2 g2 a3 g3 a4 g4 a5 g5 a6 g6 a8 a9 x0 x1 x2 x3 x4, v262_eq c a2 g2 a3 g3 a4 g4 a5 g5 a6 g6 a8 a9 x0 x1 x2 x3 x4]
  simp only [k0_pay58, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_13_eq : kernelRun0_A.sl.r_13 (F := Ideal) c a2 g2 a3 g3 a4 g4 a5 g5 a8 a9 x0 x1 x2 x3 = tL (dat x0 x1 x2 x3 x4) 1 4 0 := by
  simp only [kernelRun0_A.sl.r_13, ones_eq, pay43_eq (dat x0 x1 x2 x3 x4), r_8_eq c a2 g2 a3 g3 a4 g4 a5 g5 a6 g6 a8 a9 x0 x1 x2 x3 x4]
  simp only [k0_pay63, k0_pay62]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_14_eq : kernelRun0_A.sl.r_14 (F := Ideal) c a2 g2 a3 g3 a4 g4 a5 g5 a8 a9 x0 x1 x2 x3 = tP (dat x0 x1 x2 x3 x4) 1 4 0 := by
  simp only [kernelRun0_A.sl.r_14, ones_eq, pay43_eq (dat x0 x1 x2 x3 x4), r_8_eq c a2 g2 a3 g3 a4 g4 a5 g5 a6 g6 a8 a9 x0 x1 x2 x3 x4]
  simp only [k0_pay64, k0_pay62]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_20_eq : kernelRun0_A.sl.r_20 (F := Ideal) c a2 g2 a3 g3 a4 g4 a5 g5 a6 g6 a8 a9 x0 x1 x2 x3 x4 = tA (dat x0 x1 x2 x3 x4) 1 4 1 := by
  simp only [kernelRun0_A.sl.r_20, ones_eq, pay44_eq (dat x0 x1 x2 x3 x4), r_13_eq c a2 g2 a3 g3 a4 g4 a5 g5 a6 g6 a8 a9 x0 x1 x2 x3 x4, r_14_eq c a2 g2 a3 g3 a4 g4 a5 g5 a6 g6 a8 a9 x0 x1 x2 x3 x4, ↓ldV_1_0 c a2 g2 a3 g3 a4 g4 a5 g5 a6 g6 a8 a9 x0 x1 x2 x3 x4]
  simp only [k0_pay70, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_12_eq : kernelRun0_A.sl.r_12 (F := Ideal) c a2 g2 a3 g3 a4 g4 a5 g5 a8 a9 x0 x1 x2 x3 = tM (dat x0 x1 x2 x3 x4) 1 4 1 := by
  simp only [kernelRun0_A.sl.r_12, ones_eq, pay43_eq (dat x0 x1 x2 x3 x4), r_8_eq c a2 g2 a3 g3 a4 g4 a5 g5 a6 g6 a8 a9 x0 x1 x2 x3 x4]
  simp only [k0_pay62]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem v433_eq : kernelRun0_A.sl.v433 (F := Ideal) c a3 g3 a4 g4 a5 g5 a8 x1 x2 x3 = tK (dat x0 x1 x2 x3 x4) 1 1 :=
  load_K c a3 g3 a4 g4 a5 g5 a8 x0 x1 x2 x3 x4 _ _ 1 1 rfl

theorem r_43_eq : kernelRun0_A.sl.r_43 (F := Ideal) c a3 g3 a4 g4 a5 g5 a8 x1 x2 x3 = tK' (dat x0 x1 x2 x3 x4) 1 1 := by
  simp only [kernelRun0_A.sl.r_43, ones_eq, v433_eq c a2 g2 a3 g3 a4 g4 a5 g5 a6 g6 a8 a9 x0 x1 x2 x3 x4]
  simp only [k0_pay93, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_44_eq : kernelRun0_A.sl.r_44 (F := Ideal) c a2 g2 a3 g3 a4 g4 a5 g5 a8 a9 x0 x1 x2 x3 = tS (dat x0 x1 x2 x3 x4) 1 1 4 := by
  simp only [kernelRun0_A.sl.r_44, ones_eq, r_43_eq c a2 g2 a3 g3 a4 g4 a5 g5 a6 g6 a8 a9 x0 x1 x2 x3 x4, v262_eq c a2 g2 a3 g3 a4 g4 a5 g5 a6 g6 a8 a9 x0 x1 x2 x3 x4]
  simp only [k0_pay94, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_57_eq : kernelRun0_A.sl.r_57 (F := Ideal) c a2 g2 a3 g3 a4 g4 a5 g5 a8 a9 x0 x1 x2 x3 = tL (dat x0 x1 x2 x3 x4) 1 4 1 := by
  simp only [kernelRun0_A.sl.r_57, ones_eq, r_12_eq c a2 g2 a3 g3 a4 g4 a5 g5 a6 g6 a8 a9 x0 x1 x2 x3 x4, r_44_eq c a2 g2 a3 g3 a4 g4 a5 g5 a6 g6 a8 a9 x0 x1 x2 x3 x4]
  simp only [k0_pay107, k0_pay106]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_58_eq : kernelRun0_A.sl.r_58 (F := Ideal) c a2 g2 a3 g3 a4 g4 a5 g5 a8 a9 x0 x1 x2 x3 = tP (dat x0 x1 x2 x3 x4) 1 4 1 := by
  simp only [kernelRun0_A.sl.r_58, ones_eq, r_12_eq c a2 g2 a3 g3 a4 g4 a5 g5 a6 g6 a8 a9 x0 x1 x2 x3 x4, r_44_eq c a2 g2 a3 g3 a4 g4 a5 g5 a6 g6 a8 a9 x0 x1 x2 x3 x4]
  simp only [k0_pay108, k0_pay106]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_63_eq : kernelRun0_A.sl.r_63 (F := Ideal) c a2 g2 a3 g3 a4 g4 a5 g5 a6 g6 a8 a9 x0 x1 x2 x3 x4 = tA (dat x0 x1 x2 x3 x4) 1 4 2 := by
  simp only [kernelRun0_A.sl.r_63, ones_eq, r_20_eq c a2 g2 a3 g3 a4 g4 a5 g5 a6 g6 a8 a9 x0 x1 x2 x3 x4, r_57_eq c a2 g2 a3 g3 a4 g4 a5 g5 a6 g6 a8 a9 x0 x1 x2 x3 x4, r_58_eq c a2 g2 a3 g3 a4 g4 a5 g5 a6 g6 a8 a9 x0 x1 x2 x3 x4, ↓ldV_1_1 c a2 g2 a3 g3 a4 g4 a5 g5 a6 g6 a8 a9 x0 x1 x2 x3 x4]
  simp only [k0_pay113, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_56_eq : kernelRun0_A.sl.r_56 (F := Ideal) c a2 g2 a3 g3 a4 g4 a5 g5 a8 a9 x0 x1 x2 x3 = tM (dat x0 x1 x2 x3 x4) 1 4 2 := by
  simp only [kernelRun0_A.sl.r_56, ones_eq, r_12_eq c a2 g2 a3 g3 a4 g4 a5 g5 a6 g6 a8 a9 x0 x1 x2 x3 x4, r_44_eq c a2 g2 a3 g3 a4 g4 a5 g5 a6 g6 a8 a9 x0 x1 x2 x3 x4]
  simp only [k0_pay106]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem v633_eq : kernelRun0_A.sl.v633 (F := Ideal) c a3 g3 a4 g4 a5 g5 a8 x1 x2 x3 = tK (dat x0 x1 x2 x3 x4) 1 2 :=
  load_K c a3 g3 a4 g4 a5 g5 a8 x0 x1 x2 x3 x4 _ _ 1 2 rfl

theorem r_84_eq : kernelRun0_A.sl.r_84 (F := Ideal) c a3 g3 a4 g4 a5 g5 a8 x1 x2 x3 = tK' (dat x0 x1 x2 x3 x4) 1 2 := by
  simp only [kernelRun0_A.sl.r_84, ones_eq, v633_eq c a2 g2 a3 g3 a4 g4 a5 g5 a6 g6 a8 a9 x0 x1 x2 x3 x4]
  simp only [k0_pay134, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_85_eq : kernelRun0_A.sl.r_85 (F := Ideal) c a2 g2 a4 g4 a5 g5 a9 x0 x2 x3 = tQ' (dat x0 x1 x2 x3 x4) 1 4 := by
  simp only [kernelRun0_A.sl.r_85, ones_eq, v262_eq c a2 g2 a3 g3 a4 g4 a5 g5 a6 g6 a8 a9 x0 x1 x2 x3 x4]
  simp only [k0_pay135, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_86_eq : kernelRun0_A.sl.r_86 (F := Ideal) c a2 g2 a3 g3 a4 g4 a5 g5 a8 a9 x0 x1 x2 x3 = tS (dat x0 x1 x2 x3 x4) 1 2 4 := by
  simp only [kernelRun0_A.sl.r_86, ones_eq, r_84_eq c a2 g2 a3 g3 a4 g4 a5 g5 a6 g6 a8 a9 x0 x1 x2 x3 x4, r_85_eq c a2 g2 a3 g3 a4 g4 a5 g5 a6 g6 a8 a9 x0 x1 x2 x3 x4]
  simp only [k0_pay136, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_99_eq : kernelRun0_A.sl.r_99 (F := Ideal) c a2 g2 a3 g3 a4 g4 a5 g5 a8 a9 x0 x1 x2 x3 = tL (dat x0 x1 x2 x3 x4) 1 4 2 := by
  simp only [kernelRun0_A.sl.r_99, ones_eq, r_56_eq c a2 g2 a3 g3 a4 g4 a5 g5 a6 g6 a8 a9 x0 x1 x2 x3 x4, r_86_eq c a2 g2 a3 g3 a4 g4 a5 g5 a6 g6 a8 a9 x0 x1 x2 x3 x4]
  simp only [k0_pay149, k0_pay148]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_100_eq : kernelRun0_A.sl.r_100 (F := Ideal) c a2 g2 a3 g3 a4 g4 a5 g5 a8 a9 x0 x1 x2 x3 = tP (dat x0 x1 x2 x3 x4) 1 4 2 := by
  simp only [kernelRun0_A.sl.r_100, ones_eq, r_56_eq c a2 g2 a3 g3 a4 g4 a5 g5 a6 g6 a8 a9 x0 x1 x2 x3 x4, r_86_eq c a2 g2 a3 g3 a4 g4 a5 g5 a6 g6 a8 a9 x0 x1 x2 x3 x4]
  simp only [k0_pay150, k0_pay148]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_106_eq : kernelRun0_A.sl.r_106 (F := Ideal) c a2 g2 a3 g3 a4 g4 a5 g5 a6 g6 a8 a9 x0 x1 x2 x3 x4 = tA (dat x0 x1 x2 x3 x4) 1 4 3 := by
  simp only [kernelRun0_A.sl.r_106, ones_eq, r_100_eq c a2 g2 a3 g3 a4 g4 a5 g5 a6 g6 a8 a9 x0 x1 x2 x3 x4, r_63_eq c a2 g2 a3 g3 a4 g4 a5 g5 a6 g6 a8 a9 x0 x1 x2 x3 x4, r_99_eq c a2 g2 a3 g3 a4 g4 a5 g5 a6 g6 a8 a9 x0 x1 x2 x3 x4, ↓ldV_1_2 c a2 g2 a3 g3 a4 g4 a5 g5 a6 g6 a8 a9 x0 x1 x2 x3 x4]
  simp only [k0_pay156, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_98_eq : kernelRun0_A.sl.r_98 (F := Ideal) c a2 g2 a3 g3 a4 g4 a5 g5 a8 a9 x0 x1 x2 x3 = tM (dat x0 x1 x2 x3 x4) 1 4 3 := by
  simp only [kernelRun0_A.sl.r_98, ones_eq, r_56_eq c a2 g2 a3 g3 a4 g4 a5 g5 a6 g6 a8 a9 x0 x1 x2 x3 x4, r_86_eq c a2 g2 a3 g3 a4 g4 a5 g5 a6 g6 a8 a9 x0 x1 x2 x3 x4]
  simp only [k0_pay148]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem v833_eq : kernelRun0_A.sl.v833 (F := Ideal) c a3 g3 a4 g4 a5 g5 a8 x1 x2 x3 = tK (dat x0 x1 x2 x3 x4) 1 3 :=
  load_K c a3 g3 a4 g4 a5 g5 a8 x0 x1 x2 x3 x4 _ _ 1 3 rfl

theorem r_129_eq : kernelRun0_A.sl.r_129 (F := Ideal) c a2 g2 a3 g3 a4 g4 a5 g5 a8 a9 x0 x1 x2 x3 = tS (dat x0 x1 x2 x3 x4) 1 3 4 := by
  simp only [kernelRun0_A.sl.r_129, ones_eq, v262_eq c a2 g2 a3 g3 a4 g4 a5 g5 a6 g6 a8 a9 x0 x1 x2 x3 x4, v833_eq c a2 g2 a3 g3 a4 g4 a5 g5 a6 g6 a8 a9 x0 x1 x2 x3 x4]
  simp only [k0_pay178, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_140_eq : kernelRun0_A.sl.r_140 (F := Ideal) c a2 g2 a3 g3 a4 g4 a5 g5 a8 a9 x0 x1 x2 x3 = tL (dat x0 x1 x2 x3 x4) 1 4 3 := by
  simp only [kernelRun0_A.sl.r_140, ones_eq, r_129_eq c a2 g2 a3 g3 a4 g4 a5 g5 a6 g6 a8 a9 x0 x1 x2 x3 x4, r_98_eq c a2 g2 a3 g3 a4 g4 a5 g5 a6 g6 a8 a9 x0 x1 x2 x3 x4]
  simp only [k0_pay189, k0_pay188]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_141_eq : kernelRun0_A.sl.r_141 (F := Ideal) c a2 g2 a3 g3 a4 g4 a5 g5 a8 a9 x0 x1 x2 x3 = tP (dat x0 x1 x2 x3 x4) 1 4 3 := by
  simp only [kernelRun0_A.sl.r_141, ones_eq, r_129_eq c a2 g2 a3 g3 a4 g4 a5 g5 a6 g6 a8 a9 x0 x1 x2 x3 x4, r_98_eq c a2 g2 a3 g3 a4 g4 a5 g5 a6 g6 a8 a9 x0 x1 x2 x3 x4]
  simp only [k0_pay190, k0_pay188]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_147_eq : kernelRun0_A.sl.r_147 (F := Ideal) c a2 g2 a3 g3 a4 g4 a5 g5 a6 g6 a8 a9 x0 x1 x2 x3 x4 = tA (dat x0 x1 x2 x3 x4) 1 4 4 := by
  simp only [kernelRun0_A.sl.r_147, ones_eq, r_106_eq c a2 g2 a3 g3 a4 g4 a5 g5 a6 g6 a8 a9 x0 x1 x2 x3 x4, r_140_eq c a2 g2 a3 g3 a4 g4 a5 g5 a6 g6 a8 a9 x0 x1 x2 x3 x4, r_141_eq c a2 g2 a3 g3 a4 g4 a5 g5 a6 g6 a8 a9 x0 x1 x2 x3 x4, ↓ldV_1_3 c a2 g2 a3 g3 a4 g4 a5 g5 a6 g6 a8 a9 x0 x1 x2 x3 x4]
  simp only [k0_pay196, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_139_eq : kernelRun0_A.sl.r_139 (F := Ideal) c a2 g2 a3 g3 a4 g4 a5 g5 a8 a9 x0 x1 x2 x3 = tM (dat x0 x1 x2 x3 x4) 1 4 4 := by
  simp only [kernelRun0_A.sl.r_139, ones_eq, r_129_eq c a2 g2 a3 g3 a4 g4 a5 g5 a6 g6 a8 a9 x0 x1 x2 x3 x4, r_98_eq c a2 g2 a3 g3 a4 g4 a5 g5 a6 g6 a8 a9 x0 x1 x2 x3 x4]
  simp only [k0_pay188]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem v1110_eq : kernelRun0_A.sl.v1110 (F := Ideal) c a3 g3 a4 g4 a5 g5 a8 x1 x2 x3 = tK (dat x0 x1 x2 x3 x4) 1 4 :=
  load_K c a3 g3 a4 g4 a5 g5 a8 x0 x1 x2 x3 x4 _ _ 1 4 rfl

theorem r_178_eq : kernelRun0_A.sl.r_178 (F := Ideal) c a2 g2 a3 g3 a4 g4 a5 g5 a8 a9 x0 x1 x2 x3 = tS (dat x0 x1 x2 x3 x4) 1 4 4 := by
  simp only [kernelRun0_A.sl.r_178, ones_eq, v1110_eq c a2 g2 a3 g3 a4 g4 a5 g5 a6 g6 a8 a9 x0 x1 x2 x3 x4, v262_eq c a2 g2 a3 g3 a4 g4 a5 g5 a6 g6 a8 a9 x0 x1 x2 x3 x4]
  simp only [k0_pay228, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]
  rw [mask_0]

theorem r_186_eq : kernelRun0_A.sl.r_186 (F := Ideal) c a2 g2 a3 g3 a4 g4 a5 g5 a8 a9 x0 x1 x2 x3 = tL (dat x0 x1 x2 x3 x4) 1 4 4 := by
  simp only [kernelRun0_A.sl.r_186, ones_eq, r_139_eq c a2 g2 a3 g3 a4 g4 a5 g5 a6 g6 a8 a9 x0 x1 x2 x3 x4, r_178_eq c a2 g2 a3 g3 a4 g4 a5 g5 a6 g6 a8 a9 x0 x1 x2 x3 x4]
  simp only [k0_pay238, k0_pay237]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_187_eq : kernelRun0_A.sl.r_187 (F := Ideal) c a2 g2 a3 g3 a4 g4 a5 g5 a8 a9 x0 x1 x2 x3 = tP (dat x0 x1 x2 x3 x4) 1 4 4 := by
  simp only [kernelRun0_A.sl.r_187, ones_eq, r_139_eq c a2 g2 a3 g3 a4 g4 a5 g5 a6 g6 a8 a9 x0 x1 x2 x3 x4, r_178_eq c a2 g2 a3 g3 a4 g4 a5 g5 a6 g6 a8 a9 x0 x1 x2 x3 x4]
  simp only [k0_pay239, k0_pay237]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_193_eq : kernelRun0_A.sl.r_193 (F := Ideal) c a2 g2 a3 g3 a4 g4 a5 g5 a6 g6 a8 a9 x0 x1 x2 x3 x4 = tA (dat x0 x1 x2 x3 x4) 1 4 5 := by
  simp only [kernelRun0_A.sl.r_193, ones_eq, r_147_eq c a2 g2 a3 g3 a4 g4 a5 g5 a6 g6 a8 a9 x0 x1 x2 x3 x4, r_186_eq c a2 g2 a3 g3 a4 g4 a5 g5 a6 g6 a8 a9 x0 x1 x2 x3 x4, r_187_eq c a2 g2 a3 g3 a4 g4 a5 g5 a6 g6 a8 a9 x0 x1 x2 x3 x4, ↓ldV_1_4 c a2 g2 a3 g3 a4 g4 a5 g5 a6 g6 a8 a9 x0 x1 x2 x3 x4]
  simp only [k0_pay245, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem v269_eq : kernelRun0_A.sl.v269 (F := Ideal) c a2 g2 a4 g4 a5 g5 a9 x0 x2 x3 = tQ (dat x0 x1 x2 x3 x4) 0 5 :=
  load_Q c a2 g2 a4 g4 a5 g5 a9 x0 x1 x2 x3 x4 _ _ 0 5 rfl

theorem r_9_eq : kernelRun0_A.sl.r_9 (F := Ideal) c a2 g2 a3 g3 a4 g4 a5 g5 a8 a9 x0 x1 x2 x3 = tS (dat x0 x1 x2 x3 x4) 0 0 5 := by
  simp only [kernelRun0_A.sl.r_9, ones_eq, v253_eq c a2 g2 a3 g3 a4 g4 a5 g5 a6 g6 a8 a9 x0 x1 x2 x3 x4, v269_eq c a2 g2 a3 g3 a4 g4 a5 g5 a6 g6 a8 a9 x0 x1 x2 x3 x4]
  simp only [k0_pay59, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_19_eq : kernelRun0_A.sl.r_19 (F := Ideal) c a2 g2 a3 g3 a4 g4 a5 g5 a8 a9 x0 x1 x2 x3 = tM (dat x0 x1 x2 x3 x4) 0 5 1 := by
  simp only [kernelRun0_A.sl.r_19, ones_eq, pay45_eq (dat x0 x1 x2 x3 x4), r_9_eq c a2 g2 a3 g3 a4 g4 a5 g5 a6 g6 a8 a9 x0 x1 x2 x3 x4]
  simp only [k0_pay69]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_25_eq : kernelRun0_A.sl.r_25 (F := Ideal) c a2 g2 a3 g3 a4 g4 a5 g5 a8 a9 x0 x1 x2 x3 = tB (dat x0 x1 x2 x3 x4) 0 5 0 := by
  simp only [kernelRun0_A.sl.r_25, ones_eq, pay45_eq (dat x0 x1 x2 x3 x4), pay46_eq (dat x0 x1 x2 x3 x4), r_9_eq c a2 g2 a3 g3 a4 g4 a5 g5 a6 g6 a8 a9 x0 x1 x2 x3 x4]
  simp only [k0_pay75, k0_pay69]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_26_eq : kernelRun0_A.sl.r_26 (F := Ideal) c a2 g2 a3 g3 a4 g4 a5 g5 a6 g6 a8 a9 x0 x1 x2 x3 x4 = tC (dat x0 x1 x2 x3 x4) 0 5 0 := by
  simp only [kernelRun0_A.sl.r_26, ones_eq, pay45_eq (dat x0 x1 x2 x3 x4), r_9_eq c a2 g2 a3 g3 a4 g4 a5 g5 a6 g6 a8 a9 x0 x1 x2 x3 x4, ↓ldV_0_0 c a2 g2 a3 g3 a4 g4 a5 g5 a6 g6 a8 a9 x0 x1 x2 x3 x4]
  simp only [k0_pay76, k0_pay69]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_27_eq : kernelRun0_A.sl.r_27 (F := Ideal) c a2 g2 a3 g3 a4 g4 a5 g5 a6 g6 a8 a9 x0 x1 x2 x3 x4 = tA (dat x0 x1 x2 x3 x4) 0 5 1 := by
  simp only [kernelRun0_A.sl.r_27, ones_eq, r_25_eq c a2 g2 a3 g3 a4 g4 a5 g5 a6 g6 a8 a9 x0 x1 x2 x3 x4, r_26_eq c a2 g2 a3 g3 a4 g4 a5 g5 a6 g6 a8 a9 x0 x1 x2 x3 x4]
  simp only [k0_pay77, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_49_eq : kernelRun0_A.sl.r_49 (F := Ideal) c a2 g2 a3 g3 a4 g4 a5 g5 a8 a9 x0 x1 x2 x3 = tS (dat x0 x1 x2 x3 x4) 0 1 5 := by
  simp only [kernelRun0_A.sl.r_49, ones_eq, v269_eq c a2 g2 a3 g3 a4 g4 a5 g5 a6 g6 a8 a9 x0 x1 x2 x3 x4, v408_eq c a2 g2 a3 g3 a4 g4 a5 g5 a6 g6 a8 a9 x0 x1 x2 x3 x4]
  simp only [k0_pay99, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_61_eq : kernelRun0_A.sl.r_61 (F := Ideal) c a2 g2 a3 g3 a4 g4 a5 g5 a8 a9 x0 x1 x2 x3 = tR (dat x0 x1 x2 x3 x4) 0 1 5 := by
  simp only [kernelRun0_A.sl.r_61, ones_eq, r_49_eq c a2 g2 a3 g3 a4 g4 a5 g5 a6 g6 a8 a9 x0 x1 x2 x3 x4]
  simp only [k0_pay111]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_68_eq : kernelRun0_A.sl.r_68 (F := Ideal) c a2 g2 a3 g3 a4 g4 a5 g5 a6 g6 a8 a9 x0 x1 x2 x3 x4 = tA (dat x0 x1 x2 x3 x4) 0 5 2 := by
  simp only [kernelRun0_A.sl.r_68, ones_eq, r_19_eq c a2 g2 a3 g3 a4 g4 a5 g5 a6 g6 a8 a9 x0 x1 x2 x3 x4, r_27_eq c a2 g2 a3 g3 a4 g4 a5 g5 a6 g6 a8 a9 x0 x1 x2 x3 x4, r_49_eq c a2 g2 a3 g3 a4 g4 a5 g5 a6 g6 a8 a9 x0 x1 x2 x3 x4, r_61_eq c a2 g2 a3 g3 a4 g4 a5 g5 a6 g6 a8 a9 x0 x1 x2 x3 x4, ↓ldV_0_1 c a2 g2 a3 g3 a4 g4 a5 g5 a6 g6 a8 a9 x0 x1 x2 x3 x4]
  simp only [k0_pay118, k0_pay112, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_90_eq : kernelRun0_A.sl.r_90 (F := Ideal) c a2 g2 a3 g3 a4 g4 a5 g5 a8 a9 x0 x1 x2 x3 = tS (dat x0 x1 x2 x3 x4) 0 2 5 := by
  simp only [kernelRun0_A.sl.r_90, ones_eq, v269_eq c a2 g2 a3 g3 a4 g4 a5 g5 a6 g6 a8 a9 x0 x1 x2 x3 x4, v608_eq c a2 g2 a3 g3 a4 g4 a5 g5 a6 g6 a8 a9 x0 x1 x2 x3 x4]
  simp only [k0_pay140, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_62_eq : kernelRun0_A.sl.r_62 (F := Ideal) c a2 g2 a3 g3 a4 g4 a5 g5 a8 a9 x0 x1 x2 x3 = tM (dat x0 x1 x2 x3 x4) 0 5 2 := by
  simp only [kernelRun0_A.sl.r_62, ones_eq, r_19_eq c a2 g2 a3 g3 a4 g4 a5 g5 a6 g6 a8 a9 x0 x1 x2 x3 x4, r_61_eq c a2 g2 a3 g3 a4 g4 a5 g5 a6 g6 a8 a9 x0 x1 x2 x3 x4]
  simp only [k0_pay112, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_104_eq : kernelRun0_A.sl.r_104 (F := Ideal) c a2 g2 a3 g3 a4 g4 a5 g5 a8 a9 x0 x1 x2 x3 = tL (dat x0 x1 x2 x3 x4) 0 5 2 := by
  simp only [kernelRun0_A.sl.r_104, ones_eq, r_62_eq c a2 g2 a3 g3 a4 g4 a5 g5 a6 g6 a8 a9 x0 x1 x2 x3 x4, r_90_eq c a2 g2 a3 g3 a4 g4 a5 g5 a6 g6 a8 a9 x0 x1 x2 x3 x4]
  simp only [k0_pay154, k0_pay153]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_105_eq : kernelRun0_A.sl.r_105 (F := Ideal) c a2 g2 a3 g3 a4 g4 a5 g5 a8 a9 x0 x1 x2 x3 = tMB (dat x0 x1 x2 x3 x4) 0 5 3 := by
  simp only [kernelRun0_A.sl.r_105, ones_eq, r_62_eq c a2 g2 a3 g3 a4 g4 a5 g5 a6 g6 a8 a9 x0 x1 x2 x3 x4, r_90_eq c a2 g2 a3 g3 a4 g4 a5 g5 a6 g6 a8 a9 x0 x1 x2 x3 x4]
  simp only [k0_pay155, k0_pay153]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_111_eq : kernelRun0_A.sl.r_111 (F := Ideal) c a2 g2 a3 g3 a4 g4 a5 g5 a6 g6 a8 a9 x0 x1 x2 x3 x4 = tA (dat x0 x1 x2 x3 x4) 0 5 3 := by
  simp only [kernelRun0_A.sl.r_111, ones_eq, r_104_eq c a2 g2 a3 g3 a4 g4 a5 g5 a6 g6 a8 a9 x0 x1 x2 x3 x4, r_105_eq c a2 g2 a3 g3 a4 g4 a5 g5 a6 g6 a8 a9 x0 x1 x2 x3 x4, r_68_eq c a2 g2 a3 g3 a4 g4 a5 g5 a6 g6 a8 a9 x0 x1 x2 x3 x4, r_90_eq c a2 g2 a3 g3 a4 g4 a5 g5 a6 g6 a8 a9 x0 x1 x2 x3 x4, ↓ldV_0_2 c a2 g2 a3 g3 a4 g4 a5 g5 a6 g6 a8 a9 x0 x1 x2 x3 x4]
  simp only [k0_pay161, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_103_eq : kernelRun0_A.sl.r_103 (F := Ideal) c a2 g2 a3 g3 a4 g4 a5 g5 a8 a9 x0 x1 x2 x3 = tM (dat x0 x1 x2 x3 x4) 0 5 3 := by
  simp only [kernelRun0_A.sl.r_103, ones_eq, r_62_eq c a2 g2 a3 g3 a4 g4 a5 g5 a6 g6 a8 a9 x0 x1 x2 x3 x4, r_90_eq c a2 g2 a3 g3 a4 g4 a5 g5 a6 g6 a8 a9 x0 x1 x2 x3 x4]
  simp only [k0_pay153]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_133_eq : kernelRun0_A.sl.r_133 (F := Ideal) c a2 g2 a3 g3 a4 g4 a5 g5 a8 a9 x0 x1 x2 x3 = tS (dat x0 x1 x2 x3 x4) 0 3 5 := by
  simp only [kernelRun0_A.sl.r_133, ones_eq, v269_eq c a2 g2 a3 g3 a4 g4 a5 g5 a6 g6 a8 a9 x0 x1 x2 x3 x4, v808_eq c a2 g2 a3 g3 a4 g4 a5 g5 a6 g6 a8 a9 x0 x1 x2 x3 x4]
  simp only [k0_pay182, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_145_eq : kernelRun0_A.sl.r_145 (F := Ideal) c a2 g2 a3 g3 a4 g4 a5 g5 a8 a9 x0 x1 x2 x3 = tL (dat x0 x1 x2 x3 x4) 0 5 3 := by
  simp only [kernelRun0_A.sl.r_145, ones_eq, r_103_eq c a2 g2 a3 g3 a4 g4 a5 g5 a6 g6 a8 a9 x0 x1 x2 x3 x4, r_133_eq c a2 g2 a3 g3 a4 g4 a5 g5 a6 g6 a8 a9 x0 x1 x2 x3 x4]
  simp only [k0_pay194, k0_pay193]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_146_eq : kernelRun0_A.sl.r_146 (F := Ideal) c a2 g2 a3 g3 a4 g4 a5 g5 a8 a9 x0 x1 x2 x3 = tP (dat x0 x1 x2 x3 x4) 0 5 3 := by
  simp only [kernelRun0_A.sl.r_146, ones_eq, r_103_eq c a2 g2 a3 g3 a4 g4 a5 g5 a6 g6 a8 a9 x0 x1 x2 x3 x4, r_133_eq c a2 g2 a3 g3 a4 g4 a5 g5 a6 g6 a8 a9 x0 x1 x2 x3 x4]
  simp only [k0_pay195, k0_pay193]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_152_eq : kernelRun0_A.sl.r_152 (F := Ideal) c a2 g2 a3 g3 a4 g4 a5 g5 a6 g6 a8 a9 x0 x1 x2 x3 x4 = tA (dat x0 x1 x2 x3 x4) 0 5 4 := by
  simp only [kernelRun0_A.sl.r_152, ones_eq, r_111_eq c a2 g2 a3 g3 a4 g4 a5 g5 a6 g6 a8 a9 x0 x1 x2 x3 x4, r_145_eq c a2 g2 a3 g3 a4 g4 a5 g5 a6 g6 a8 a9 x0 x1 x2 x3 x4, r_146_eq c a2 g2 a3 g3 a4 g4 a5 g5 a6 g6 a8 a9 x0 x1 x2 x3 x4, ↓ldV_0_3 c a2 g2 a3 g3 a4 g4 a5 g5 a6 g6 a8 a9 x0 x1 x2 x3 x4]
  simp only [k0_pay201, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_144_eq : kernelRun0_A.sl.r_144 (F := Ideal) c a2 g2 a3 g3 a4 g4 a5 g5 a8 a9 x0 x1 x2 x3 = tM (dat x0 x1 x2 x3 x4) 0 5 4 := by
  simp only [kernelRun0_A.sl.r_144, ones_eq, r_103_eq c a2 g2 a3 g3 a4 g4 a5 g5 a6 g6 a8 a9 x0 x1 x2 x3 x4, r_133_eq c a2 g2 a3 g3 a4 g4 a5 g5 a6 g6 a8 a9 x0 x1 x2 x3 x4]
  simp only [k0_pay193]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_185_eq : kernelRun0_A.sl.r_185 (F := Ideal) c a2 g2 a3 g3 a4 g4 a5 g5 a8 a9 x0 x1 x2 x3 = tS (dat x0 x1 x2 x3 x4) 0 4 5 := by
  simp only [kernelRun0_A.sl.r_185, ones_eq, v1069_eq c a2 g2 a3 g3 a4 g4 a5 g5 a6 g6 a8 a9 x0 x1 x2 x3 x4, v269_eq c a2 g2 a3 g3 a4 g4 a5 g5 a6 g6 a8 a9 x0 x1 x2 x3 x4]
  simp only [k0_pay236, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_196_eq : kernelRun0_A.sl.r_196 (F := Ideal) c a2 g2 a3 g3 a4 g4 a5 g5 a8 a9 x0 x1 x2 x3 = tL (dat x0 x1 x2 x3 x4) 0 5 4 := by
  simp only [kernelRun0_A.sl.r_196, ones_eq, r_144_eq c a2 g2 a3 g3 a4 g4 a5 g5 a6 g6 a8 a9 x0 x1 x2 x3 x4, r_185_eq c a2 g2 a3 g3 a4 g4 a5 g5 a6 g6 a8 a9 x0 x1 x2 x3 x4]
  simp only [k0_pay248, k0_pay247]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_197_eq : kernelRun0_A.sl.r_197 (F := Ideal) c a2 g2 a3 g3 a4 g4 a5 g5 a8 a9 x0 x1 x2 x3 = tP (dat x0 x1 x2 x3 x4) 0 5 4 := by
  simp only [kernelRun0_A.sl.r_197, ones_eq, r_144_eq c a2 g2 a3 g3 a4 g4 a5 g5 a6 g6 a8 a9 x0 x1 x2 x3 x4, r_185_eq c a2 g2 a3 g3 a4 g4 a5 g5 a6 g6 a8 a9 x0 x1 x2 x3 x4]
  simp only [k0_pay249, k0_pay247]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_203_eq : kernelRun0_A.sl.r_203 (F := Ideal) c a2 g2 a3 g3 a4 g4 a5 g5 a6 g6 a8 a9 x0 x1 x2 x3 x4 = tA (dat x0 x1 x2 x3 x4) 0 5 5 := by
  simp only [kernelRun0_A.sl.r_203, ones_eq, r_152_eq c a2 g2 a3 g3 a4 g4 a5 g5 a6 g6 a8 a9 x0 x1 x2 x3 x4, r_196_eq c a2 g2 a3 g3 a4 g4 a5 g5 a6 g6 a8 a9 x0 x1 x2 x3 x4, r_197_eq c a2 g2 a3 g3 a4 g4 a5 g5 a6 g6 a8 a9 x0 x1 x2 x3 x4, ↓ldV_0_4 c a2 g2 a3 g3 a4 g4 a5 g5 a6 g6 a8 a9 x0 x1 x2 x3 x4]
  simp only [k0_pay255, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_195_eq : kernelRun0_A.sl.r_195 (F := Ideal) c a2 g2 a3 g3 a4 g4 a5 g5 a8 a9 x0 x1 x2 x3 = tM (dat x0 x1 x2 x3 x4) 0 5 5 := by
  simp only [kernelRun0_A.sl.r_195, ones_eq, r_144_eq c a2 g2 a3 g3 a4 g4 a5 g5 a6 g6 a8 a9 x0 x1 x2 x3 x4, r_185_eq c a2 g2 a3 g3 a4 g4 a5 g5 a6 g6 a8 a9 x0 x1 x2 x3 x4]
  simp only [k0_pay247]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem v1478_eq : kernelRun0_A.sl.v1478 (F := Ideal) c a3 g3 a4 g4 a5 g5 a8 x1 x2 x3 = tK (dat x0 x1 x2 x3 x4) 0 5 :=
  load_K c a3 g3 a4 g4 a5 g5 a8 x0 x1 x2 x3 x4 _ _ 0 5 rfl

theorem r_249_eq : kernelRun0_A.sl.r_249 (F := Ideal) c a2 g2 a3 g3 a4 g4 a5 g5 a8 a9 x0 x1 x2 x3 = tS (dat x0 x1 x2 x3 x4) 0 5 5 := by
  simp only [kernelRun0_A.sl.r_249, ones_eq, v1478_eq c a2 g2 a3 g3 a4 g4 a5 g5 a6 g6 a8 a9 x0 x1 x2 x3 x4, v269_eq c a2 g2 a3 g3 a4 g4 a5 g5 a6 g6 a8 a9 x0 x1 x2 x3 x4]
  simp only [k0_pay302, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]
  rw [mask_512]

theorem r_260_eq : kernelRun0_A.sl.r_260 (F := Ideal) c a2 g2 a3 g3 a4 g4 a5 g5 a8 a9 x0 x1 x2 x3 = tL (dat x0 x1 x2 x3 x4) 0 5 5 := by
  simp only [kernelRun0_A.sl.r_260, ones_eq, r_195_eq c a2 g2 a3 g3 a4 g4 a5 g5 a6 g6 a8 a9 x0 x1 x2 x3 x4, r_249_eq c a2 g2 a3 g3 a4 g4 a5 g5 a6 g6 a8 a9 x0 x1 x2 x3 x4]
  simp only [k0_pay315, k0_pay314]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_261_eq : kernelRun0_A.sl.r_261 (F := Ideal) c a2 g2 a3 g3 a4 g4 a5 g5 a8 a9 x0 x1 x2 x3 = tP (dat x0 x1 x2 x3 x4) 0 5 5 := by
  simp only [kernelRun0_A.sl.r_261, ones_eq, r_195_eq c a2 g2 a3 g3 a4 g4 a5 g5 a6 g6 a8 a9 x0 x1 x2 x3 x4, r_249_eq c a2 g2 a3 g3 a4 g4 a5 g5 a6 g6 a8 a9 x0 x1 x2 x3 x4]
  simp only [k0_pay316, k0_pay314]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_266_eq : kernelRun0_A.sl.r_266 (F := Ideal) c a2 g2 a3 g3 a4 g4 a5 g5 a6 g6 a8 a9 x0 x1 x2 x3 x4 = tA (dat x0 x1 x2 x3 x4) 0 5 6 := by
  simp only [kernelRun0_A.sl.r_266, ones_eq, r_203_eq c a2 g2 a3 g3 a4 g4 a5 g5 a6 g6 a8 a9 x0 x1 x2 x3 x4, r_260_eq c a2 g2 a3 g3 a4 g4 a5 g5 a6 g6 a8 a9 x0 x1 x2 x3 x4, r_261_eq c a2 g2 a3 g3 a4 g4 a5 g5 a6 g6 a8 a9 x0 x1 x2 x3 x4, ↓ldV_0_5 c a2 g2 a3 g3 a4 g4 a5 g5 a6 g6 a8 a9 x0 x1 x2 x3 x4]
  simp only [k0_pay322, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem v285_eq : kernelRun0_A.sl.v285 (F := Ideal) c a2 g2 a4 g4 a5 g5 a9 x0 x2 x3 = tQ (dat x0 x1 x2 x3 x4) 1 5 :=
  load_Q c a2 g2 a4 g4 a5 g5 a9 x0 x1 x2 x3 x4 _ _ 1 5 rfl

theorem r_11_eq : kernelRun0_A.sl.r_11 (F := Ideal) c a2 g2 a3 g3 a4 g4 a5 g5 a8 a9 x0 x1 x2 x3 = tS (dat x0 x1 x2 x3 x4) 1 0 5 := by
  simp only [kernelRun0_A.sl.r_11, ones_eq, v260_eq c a2 g2 a3 g3 a4 g4 a5 g5 a6 g6 a8 a9 x0 x1 x2 x3 x4, v285_eq c a2 g2 a3 g3 a4 g4 a5 g5 a6 g6 a8 a9 x0 x1 x2 x3 x4]
  simp only [k0_pay61, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_23_eq : kernelRun0_A.sl.r_23 (F := Ideal) c a2 g2 a3 g3 a4 g4 a5 g5 a8 a9 x0 x1 x2 x3 = tL (dat x0 x1 x2 x3 x4) 1 5 0 := by
  simp only [kernelRun0_A.sl.r_23, ones_eq, pay47_eq (dat x0 x1 x2 x3 x4), r_11_eq c a2 g2 a3 g3 a4 g4 a5 g5 a6 g6 a8 a9 x0 x1 x2 x3 x4]
  simp only [k0_pay73, k0_pay72]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_24_eq : kernelRun0_A.sl.r_24 (F := Ideal) c a2 g2 a3 g3 a4 g4 a5 g5 a8 a9 x0 x1 x2 x3 = tP (dat x0 x1 x2 x3 x4) 1 5 0 := by
  simp only [kernelRun0_A.sl.r_24, ones_eq, pay47_eq (dat x0 x1 x2 x3 x4), r_11_eq c a2 g2 a3 g3 a4 g4 a5 g5 a6 g6 a8 a9 x0 x1 x2 x3 x4]
  simp only [k0_pay74, k0_pay72]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_32_eq : kernelRun0_A.sl.r_32 (F := Ideal) c a2 g2 a3 g3 a4 g4 a5 g5 a6 g6 a8 a9 x0 x1 x2 x3 x4 = tA (dat x0 x1 x2 x3 x4) 1 5 1 := by
  simp only [kernelRun0_A.sl.r_32, ones_eq, pay48_eq (dat x0 x1 x2 x3 x4), r_23_eq c a2 g2 a3 g3 a4 g4 a5 g5 a6 g6 a8 a9 x0 x1 x2 x3 x4, r_24_eq c a2 g2 a3 g3 a4 g4 a5 g5 a6 g6 a8 a9 x0 x1 x2 x3 x4, ↓ldV_1_0 c a2 g2 a3 g3 a4 g4 a5 g5 a6 g6 a8 a9 x0 x1 x2 x3 x4]
  simp only [k0_pay82, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_22_eq : kernelRun0_A.sl.r_22 (F := Ideal) c a2 g2 a3 g3 a4 g4 a5 g5 a8 a9 x0 x1 x2 x3 = tM (dat x0 x1 x2 x3 x4) 1 5 1 := by
  simp only [kernelRun0_A.sl.r_22, ones_eq, pay47_eq (dat x0 x1 x2 x3 x4), r_11_eq c a2 g2 a3 g3 a4 g4 a5 g5 a6 g6 a8 a9 x0 x1 x2 x3 x4]
  simp only [k0_pay72]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_55_eq : kernelRun0_A.sl.r_55 (F := Ideal) c a2 g2 a3 g3 a4 g4 a5 g5 a8 a9 x0 x1 x2 x3 = tS (dat x0 x1 x2 x3 x4) 1 1 5 := by
  simp only [kernelRun0_A.sl.r_55, ones_eq, v285_eq c a2 g2 a3 g3 a4 g4 a5 g5 a6 g6 a8 a9 x0 x1 x2 x3 x4, v433_eq c a2 g2 a3 g3 a4 g4 a5 g5 a6 g6 a8 a9 x0 x1 x2 x3 x4]
  simp only [k0_pay105, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_66_eq : kernelRun0_A.sl.r_66 (F := Ideal) c a2 g2 a3 g3 a4 g4 a5 g5 a8 a9 x0 x1 x2 x3 = tL (dat x0 x1 x2 x3 x4) 1 5 1 := by
  simp only [kernelRun0_A.sl.r_66, ones_eq, r_22_eq c a2 g2 a3 g3 a4 g4 a5 g5 a6 g6 a8 a9 x0 x1 x2 x3 x4, r_55_eq c a2 g2 a3 g3 a4 g4 a5 g5 a6 g6 a8 a9 x0 x1 x2 x3 x4]
  simp only [k0_pay116, k0_pay115]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_67_eq : kernelRun0_A.sl.r_67 (F := Ideal) c a2 g2 a3 g3 a4 g4 a5 g5 a8 a9 x0 x1 x2 x3 = tP (dat x0 x1 x2 x3 x4) 1 5 1 := by
  simp only [kernelRun0_A.sl.r_67, ones_eq, r_22_eq c a2 g2 a3 g3 a4 g4 a5 g5 a6 g6 a8 a9 x0 x1 x2 x3 x4, r_55_eq c a2 g2 a3 g3 a4 g4 a5 g5 a6 g6 a8 a9 x0 x1 x2 x3 x4]
  simp only [k0_pay117, k0_pay115]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_73_eq : kernelRun0_A.sl.r_73 (F := Ideal) c a2 g2 a3 g3 a4 g4 a5 g5 a6 g6 a8 a9 x0 x1 x2 x3 x4 = tA (dat x0 x1 x2 x3 x4) 1 5 2 := by
  simp only [kernelRun0_A.sl.r_73, ones_eq, r_32_eq c a2 g2 a3 g3 a4 g4 a5 g5 a6 g6 a8 a9 x0 x1 x2 x3 x4, r_66_eq c a2 g2 a3 g3 a4 g4 a5 g5 a6 g6 a8 a9 x0 x1 x2 x3 x4, r_67_eq c a2 g2 a3 g3 a4 g4 a5 g5 a6 g6 a8 a9 x0 x1 x2 x3 x4, ↓ldV_1_1 c a2 g2 a3 g3 a4 g4 a5 g5 a6 g6 a8 a9 x0 x1 x2 x3 x4]
  simp only [k0_pay123, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_65_eq : kernelRun0_A.sl.r_65 (F := Ideal) c a2 g2 a3 g3 a4 g4 a5 g5 a8 a9 x0 x1 x2 x3 = tM (dat x0 x1 x2 x3 x4) 1 5 2 := by
  simp only [kernelRun0_A.sl.r_65, ones_eq, r_22_eq c a2 g2 a3 g3 a4 g4 a5 g5 a6 g6 a8 a9 x0 x1 x2 x3 x4, r_55_eq c a2 g2 a3 g3 a4 g4 a5 g5 a6 g6 a8 a9 x0 x1 x2 x3 x4]
  simp only [k0_pay115]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_97_eq : kernelRun0_A.sl.r_97 (F := Ideal) c a2 g2 a3 g3 a4 g4 a5 g5 a8 a9 x0 x1 x2 x3 = tS (dat x0 x1 x2 x3 x4) 1 2 5 := by
  simp only [kernelRun0_A.sl.r_97, ones_eq, v285_eq c a2 g2 a3 g3 a4 g4 a5 g5 a6 g6 a8 a9 x0 x1 x2 x3 x4, v633_eq c a2 g2 a3 g3 a4 g4 a5 g5 a6 g6 a8 a9 x0 x1 x2 x3 x4]
  simp only [k0_pay147, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_109_eq : kernelRun0_A.sl.r_109 (F := Ideal) c a2 g2 a3 g3 a4 g4 a5 g5 a8 a9 x0 x1 x2 x3 = tL (dat x0 x1 x2 x3 x4) 1 5 2 := by
  simp only [kernelRun0_A.sl.r_109, ones_eq, r_65_eq c a2 g2 a3 g3 a4 g4 a5 g5 a6 g6 a8 a9 x0 x1 x2 x3 x4, r_97_eq c a2 g2 a3 g3 a4 g4 a5 g5 a6 g6 a8 a9 x0 x1 x2 x3 x4]
  simp only [k0_pay159, k0_pay158]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_110_eq : kernelRun0_A.sl.r_110 (F := Ideal) c a2 g2 a3 g3 a4 g4 a5 g5 a8 a9 x0 x1 x2 x3 = tP (dat x0 x1 x2 x3 x4) 1 5 2 := by
  simp only [kernelRun0_A.sl.r_110, ones_eq, r_65_eq c a2 g2 a3 g3 a4 g4 a5 g5 a6 g6 a8 a9 x0 x1 x2 x3 x4, r_97_eq c a2 g2 a3 g3 a4 g4 a5 g5 a6 g6 a8 a9 x0 x1 x2 x3 x4]
  simp only [k0_pay160, k0_pay158]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_117_eq : kernelRun0_A.sl.r_117 (F := Ideal) c a2 g2 a3 g3 a4 g4 a5 g5 a6 g6 a8 a9 x0 x1 x2 x3 x4 = tA (dat x0 x1 x2 x3 x4) 1 5 3 := by
  simp only [kernelRun0_A.sl.r_117, ones_eq, r_109_eq c a2 g2 a3 g3 a4 g4 a5 g5 a6 g6 a8 a9 x0 x1 x2 x3 x4, r_110_eq c a2 g2 a3 g3 a4 g4 a5 g5 a6 g6 a8 a9 x0 x1 x2 x3 x4, r_73_eq c a2 g2 a3 g3 a4 g4 a5 g5 a6 g6 a8 a9 x0 x1 x2 x3 x4, ↓ldV_1_2 c a2 g2 a3 g3 a4 g4 a5 g5 a6 g6 a8 a9 x0 x1 x2 x3 x4]
  simp only [k0_pay167, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_108_eq : kernelRun0_A.sl.r_108 (F := Ideal) c a2 g2 a3 g3 a4 g4 a5 g5 a8 a9 x0 x1 x2 x3 = tM (dat x0 x1 x2 x3 x4) 1 5 3 := by
  simp only [kernelRun0_A.sl.r_108, ones_eq, r_65_eq c a2 g2 a3 g3 a4 g4 a5 g5 a6 g6 a8 a9 x0 x1 x2 x3 x4, r_97_eq c a2 g2 a3 g3 a4 g4 a5 g5 a6 g6 a8 a9 x0 x1 x2 x3 x4]
  simp only [k0_pay158]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_138_eq : kernelRun0_A.sl.r_138 (F := Ideal) c a2 g2 a3 g3 a4 g4 a5 g5 a8 a9 x0 x1 x2 x3 = tS (dat x0 x1 x2 x3 x4) 1 3 5 := by
  simp only [kernelRun0_A.sl.r_138, ones_eq, v285_eq c a2 g2 a3 g3 a4 g4 a5 g5 a6 g6 a8 a9 x0 x1 x2 x3 x4, v833_eq c a2 g2 a3 g3 a4 g4 a5 g5 a6 g6 a8 a9 x0 x1 x2 x3 x4]
  simp only [k0_pay187, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_150_eq : kernelRun0_A.sl.r_150 (F := Ideal) c a2 g2 a3 g3 a4 g4 a5 g5 a8 a9 x0 x1 x2 x3 = tL (dat x0 x1 x2 x3 x4) 1 5 3 := by
  simp only [kernelRun0_A.sl.r_150, ones_eq, r_108_eq c a2 g2 a3 g3 a4 g4 a5 g5 a6 g6 a8 a9 x0 x1 x2 x3 x4, r_138_eq c a2 g2 a3 g3 a4 g4 a5 g5 a6 g6 a8 a9 x0 x1 x2 x3 x4]
  simp only [k0_pay199, k0_pay198]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_151_eq : kernelRun0_A.sl.r_151 (F := Ideal) c a2 g2 a3 g3 a4 g4 a5 g5 a8 a9 x0 x1 x2 x3 = tP (dat x0 x1 x2 x3 x4) 1 5 3 := by
  simp only [kernelRun0_A.sl.r_151, ones_eq, r_108_eq c a2 g2 a3 g3 a4 g4 a5 g5 a6 g6 a8 a9 x0 x1 x2 x3 x4, r_138_eq c a2 g2 a3 g3 a4 g4 a5 g5 a6 g6 a8 a9 x0 x1 x2 x3 x4]
  simp only [k0_pay200, k0_pay198]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

end Cert.Tiles
-- ==== Proof.V.Words2.lean ====
/- The named values of one run of the attention kernel, each shown to be its tile (part 2 of 4). -/
module

public import proofs.«01_k».proof.Proof.V.Words1

@[expose] public section

set_option maxRecDepth 16384

noncomputable section

namespace Cert.Tiles

open Idealize.ShloMosaic Idealize.ShloMosaic.TcCoe Cert.Online
open Cert.KernelIdeal Cert.KernelIdeal.Gen

variable (c : Dev nD) (a2 : Memref sig .tc .vmem S1x128x4096 .bf16) (g2 : a2.IsWhole)
  (a3 : Memref sig .tc .vmem S4096x128 .bf16) (g3 : a3.IsWhole) (a4 : Memref sig .tc .vmem S4096x128 .bf16) (g4 : a4.IsWhole)
  (a5 : Memref sig .tc .vmem S1x128x128 .bf16) (g5 : a5.IsWhole) (a6 : Memref sig .tc .vmem S1x128x4096 .bf16) (g6 : a6.IsWhole)
  (a8 : Memref sig .tc .vmem S2x4096x128 .bf16) (a9 : Memref sig .tc .vmem S2x128x4096 .bf16)
  (x0 : Vec Ideal S1x128x4096 .bf16) (x1 x2 : Vec Ideal S4096x128 .bf16) (x3 : Vec Ideal S1x128x128 .bf16)
  (x4 : Vec Ideal S1x128x4096 .bf16)
include c a2 g2 a3 g3 a4 g4 a5 g5 a6 g6 a8 a9 x0 x1 x2 x3 x4

theorem r_157_eq : kernelRun0_A.sl.r_157 (F := Ideal) c a2 g2 a3 g3 a4 g4 a5 g5 a6 g6 a8 a9 x0 x1 x2 x3 x4 = tA (dat x0 x1 x2 x3 x4) 1 5 4 := by
  simp only [kernelRun0_A.sl.r_157, ones_eq, r_117_eq c a2 g2 a3 g3 a4 g4 a5 g5 a6 g6 a8 a9 x0 x1 x2 x3 x4, r_150_eq c a2 g2 a3 g3 a4 g4 a5 g5 a6 g6 a8 a9 x0 x1 x2 x3 x4, r_151_eq c a2 g2 a3 g3 a4 g4 a5 g5 a6 g6 a8 a9 x0 x1 x2 x3 x4, ↓ldV_1_3 c a2 g2 a3 g3 a4 g4 a5 g5 a6 g6 a8 a9 x0 x1 x2 x3 x4]
  simp only [k0_pay206, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_149_eq : kernelRun0_A.sl.r_149 (F := Ideal) c a2 g2 a3 g3 a4 g4 a5 g5 a8 a9 x0 x1 x2 x3 = tM (dat x0 x1 x2 x3 x4) 1 5 4 := by
  simp only [kernelRun0_A.sl.r_149, ones_eq, r_108_eq c a2 g2 a3 g3 a4 g4 a5 g5 a6 g6 a8 a9 x0 x1 x2 x3 x4, r_138_eq c a2 g2 a3 g3 a4 g4 a5 g5 a6 g6 a8 a9 x0 x1 x2 x3 x4]
  simp only [k0_pay198]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_194_eq : kernelRun0_A.sl.r_194 (F := Ideal) c a2 g2 a3 g3 a4 g4 a5 g5 a8 a9 x0 x1 x2 x3 = tS (dat x0 x1 x2 x3 x4) 1 4 5 := by
  simp only [kernelRun0_A.sl.r_194, ones_eq, v1110_eq c a2 g2 a3 g3 a4 g4 a5 g5 a6 g6 a8 a9 x0 x1 x2 x3 x4, v285_eq c a2 g2 a3 g3 a4 g4 a5 g5 a6 g6 a8 a9 x0 x1 x2 x3 x4]
  simp only [k0_pay246, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_206_eq : kernelRun0_A.sl.r_206 (F := Ideal) c a2 g2 a3 g3 a4 g4 a5 g5 a8 a9 x0 x1 x2 x3 = tL (dat x0 x1 x2 x3 x4) 1 5 4 := by
  simp only [kernelRun0_A.sl.r_206, ones_eq, r_149_eq c a2 g2 a3 g3 a4 g4 a5 g5 a6 g6 a8 a9 x0 x1 x2 x3 x4, r_194_eq c a2 g2 a3 g3 a4 g4 a5 g5 a6 g6 a8 a9 x0 x1 x2 x3 x4]
  simp only [k0_pay258, k0_pay257]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_207_eq : kernelRun0_A.sl.r_207 (F := Ideal) c a2 g2 a3 g3 a4 g4 a5 g5 a8 a9 x0 x1 x2 x3 = tP (dat x0 x1 x2 x3 x4) 1 5 4 := by
  simp only [kernelRun0_A.sl.r_207, ones_eq, r_149_eq c a2 g2 a3 g3 a4 g4 a5 g5 a6 g6 a8 a9 x0 x1 x2 x3 x4, r_194_eq c a2 g2 a3 g3 a4 g4 a5 g5 a6 g6 a8 a9 x0 x1 x2 x3 x4]
  simp only [k0_pay259, k0_pay257]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_215_eq : kernelRun0_A.sl.r_215 (F := Ideal) c a2 g2 a3 g3 a4 g4 a5 g5 a6 g6 a8 a9 x0 x1 x2 x3 x4 = tA (dat x0 x1 x2 x3 x4) 1 5 5 := by
  simp only [kernelRun0_A.sl.r_215, ones_eq, r_157_eq c a2 g2 a3 g3 a4 g4 a5 g5 a6 g6 a8 a9 x0 x1 x2 x3 x4, r_206_eq c a2 g2 a3 g3 a4 g4 a5 g5 a6 g6 a8 a9 x0 x1 x2 x3 x4, r_207_eq c a2 g2 a3 g3 a4 g4 a5 g5 a6 g6 a8 a9 x0 x1 x2 x3 x4, ↓ldV_1_4 c a2 g2 a3 g3 a4 g4 a5 g5 a6 g6 a8 a9 x0 x1 x2 x3 x4]
  simp only [k0_pay267, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_205_eq : kernelRun0_A.sl.r_205 (F := Ideal) c a2 g2 a3 g3 a4 g4 a5 g5 a8 a9 x0 x1 x2 x3 = tM (dat x0 x1 x2 x3 x4) 1 5 5 := by
  simp only [kernelRun0_A.sl.r_205, ones_eq, r_149_eq c a2 g2 a3 g3 a4 g4 a5 g5 a6 g6 a8 a9 x0 x1 x2 x3 x4, r_194_eq c a2 g2 a3 g3 a4 g4 a5 g5 a6 g6 a8 a9 x0 x1 x2 x3 x4]
  simp only [k0_pay257]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem v1546_eq : kernelRun0_A.sl.v1546 (F := Ideal) c a3 g3 a4 g4 a5 g5 a8 x1 x2 x3 = tK (dat x0 x1 x2 x3 x4) 1 5 :=
  load_K c a3 g3 a4 g4 a5 g5 a8 x0 x1 x2 x3 x4 _ _ 1 5 rfl

theorem r_259_eq : kernelRun0_A.sl.r_259 (F := Ideal) c a2 g2 a3 g3 a4 g4 a5 g5 a8 a9 x0 x1 x2 x3 = tS (dat x0 x1 x2 x3 x4) 1 5 5 := by
  simp only [kernelRun0_A.sl.r_259, ones_eq, v1546_eq c a2 g2 a3 g3 a4 g4 a5 g5 a6 g6 a8 a9 x0 x1 x2 x3 x4, v285_eq c a2 g2 a3 g3 a4 g4 a5 g5 a6 g6 a8 a9 x0 x1 x2 x3 x4]
  simp only [k0_pay313, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]
  rw [mask_512]

theorem r_268_eq : kernelRun0_A.sl.r_268 (F := Ideal) c a2 g2 a3 g3 a4 g4 a5 g5 a8 a9 x0 x1 x2 x3 = tL (dat x0 x1 x2 x3 x4) 1 5 5 := by
  simp only [kernelRun0_A.sl.r_268, ones_eq, r_205_eq c a2 g2 a3 g3 a4 g4 a5 g5 a6 g6 a8 a9 x0 x1 x2 x3 x4, r_259_eq c a2 g2 a3 g3 a4 g4 a5 g5 a6 g6 a8 a9 x0 x1 x2 x3 x4]
  simp only [k0_pay325, k0_pay324]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_269_eq : kernelRun0_A.sl.r_269 (F := Ideal) c a2 g2 a3 g3 a4 g4 a5 g5 a8 a9 x0 x1 x2 x3 = tP (dat x0 x1 x2 x3 x4) 1 5 5 := by
  simp only [kernelRun0_A.sl.r_269, ones_eq, r_205_eq c a2 g2 a3 g3 a4 g4 a5 g5 a6 g6 a8 a9 x0 x1 x2 x3 x4, r_259_eq c a2 g2 a3 g3 a4 g4 a5 g5 a6 g6 a8 a9 x0 x1 x2 x3 x4]
  simp only [k0_pay326, k0_pay324]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_275_eq : kernelRun0_A.sl.r_275 (F := Ideal) c a2 g2 a3 g3 a4 g4 a5 g5 a6 g6 a8 a9 x0 x1 x2 x3 x4 = tA (dat x0 x1 x2 x3 x4) 1 5 6 := by
  simp only [kernelRun0_A.sl.r_275, ones_eq, r_215_eq c a2 g2 a3 g3 a4 g4 a5 g5 a6 g6 a8 a9 x0 x1 x2 x3 x4, r_268_eq c a2 g2 a3 g3 a4 g4 a5 g5 a6 g6 a8 a9 x0 x1 x2 x3 x4, r_269_eq c a2 g2 a3 g3 a4 g4 a5 g5 a6 g6 a8 a9 x0 x1 x2 x3 x4, ↓ldV_1_5 c a2 g2 a3 g3 a4 g4 a5 g5 a6 g6 a8 a9 x0 x1 x2 x3 x4]
  simp only [k0_pay332, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_16_eq : kernelRun0_A.sl.r_16 (F := Ideal) c a3 g3 a4 g4 a5 g5 a8 x1 x2 x3 = tK' (dat x0 x1 x2 x3 x4) 0 0 := by
  simp only [kernelRun0_A.sl.r_16, ones_eq, v253_eq c a2 g2 a3 g3 a4 g4 a5 g5 a6 g6 a8 a9 x0 x1 x2 x3 x4]
  simp only [k0_pay66, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem v310_eq : kernelRun0_A.sl.v310 (F := Ideal) c a2 g2 a4 g4 a5 g5 a9 x0 x2 x3 = tQ (dat x0 x1 x2 x3 x4) 0 6 :=
  load_Q c a2 g2 a4 g4 a5 g5 a9 x0 x1 x2 x3 x4 _ _ 0 6 rfl

theorem r_17_eq : kernelRun0_A.sl.r_17 (F := Ideal) c a2 g2 a4 g4 a5 g5 a9 x0 x2 x3 = tQ' (dat x0 x1 x2 x3 x4) 0 6 := by
  simp only [kernelRun0_A.sl.r_17, ones_eq, v310_eq c a2 g2 a3 g3 a4 g4 a5 g5 a6 g6 a8 a9 x0 x1 x2 x3 x4]
  simp only [k0_pay67, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_18_eq : kernelRun0_A.sl.r_18 (F := Ideal) c a2 g2 a3 g3 a4 g4 a5 g5 a8 a9 x0 x1 x2 x3 = tS (dat x0 x1 x2 x3 x4) 0 0 6 := by
  simp only [kernelRun0_A.sl.r_18, ones_eq, kernelRun0_A.sl.cst_150, r_16_eq c a2 g2 a3 g3 a4 g4 a5 g5 a6 g6 a8 a9 x0 x1 x2 x3 x4, r_17_eq c a2 g2 a3 g3 a4 g4 a5 g5 a6 g6 a8 a9 x0 x1 x2 x3 x4]
  simp only [k0_pay68, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_29_eq : kernelRun0_A.sl.r_29 (F := Ideal) c a2 g2 a3 g3 a4 g4 a5 g5 a8 a9 x0 x1 x2 x3 = tM (dat x0 x1 x2 x3 x4) 0 6 1 := by
  simp only [kernelRun0_A.sl.r_29, ones_eq, pay49_eq (dat x0 x1 x2 x3 x4), r_18_eq c a2 g2 a3 g3 a4 g4 a5 g5 a6 g6 a8 a9 x0 x1 x2 x3 x4]
  simp only [k0_pay79]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_60_eq : kernelRun0_A.sl.r_60 (F := Ideal) c a2 g2 a3 g3 a4 g4 a5 g5 a8 a9 x0 x1 x2 x3 = tS (dat x0 x1 x2 x3 x4) 0 1 6 := by
  simp only [kernelRun0_A.sl.r_60, ones_eq, v310_eq c a2 g2 a3 g3 a4 g4 a5 g5 a6 g6 a8 a9 x0 x1 x2 x3 x4, v408_eq c a2 g2 a3 g3 a4 g4 a5 g5 a6 g6 a8 a9 x0 x1 x2 x3 x4]
  simp only [k0_pay110, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_70_eq : kernelRun0_A.sl.r_70 (F := Ideal) c a2 g2 a3 g3 a4 g4 a5 g5 a8 a9 x0 x1 x2 x3 = tM (dat x0 x1 x2 x3 x4) 0 6 2 := by
  simp only [kernelRun0_A.sl.r_70, ones_eq, r_29_eq c a2 g2 a3 g3 a4 g4 a5 g5 a6 g6 a8 a9 x0 x1 x2 x3 x4, r_60_eq c a2 g2 a3 g3 a4 g4 a5 g5 a6 g6 a8 a9 x0 x1 x2 x3 x4]
  simp only [k0_pay120]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_102_eq : kernelRun0_A.sl.r_102 (F := Ideal) c a2 g2 a3 g3 a4 g4 a5 g5 a8 a9 x0 x1 x2 x3 = tS (dat x0 x1 x2 x3 x4) 0 2 6 := by
  simp only [kernelRun0_A.sl.r_102, ones_eq, v310_eq c a2 g2 a3 g3 a4 g4 a5 g5 a6 g6 a8 a9 x0 x1 x2 x3 x4, v608_eq c a2 g2 a3 g3 a4 g4 a5 g5 a6 g6 a8 a9 x0 x1 x2 x3 x4]
  simp only [k0_pay152, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_114_eq : kernelRun0_A.sl.r_114 (F := Ideal) c a2 g2 a3 g3 a4 g4 a5 g5 a8 a9 x0 x1 x2 x3 = tM (dat x0 x1 x2 x3 x4) 0 6 3 := by
  simp only [kernelRun0_A.sl.r_114, ones_eq, r_102_eq c a2 g2 a3 g3 a4 g4 a5 g5 a6 g6 a8 a9 x0 x1 x2 x3 x4, r_70_eq c a2 g2 a3 g3 a4 g4 a5 g5 a6 g6 a8 a9 x0 x1 x2 x3 x4]
  simp only [k0_pay164]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_143_eq : kernelRun0_A.sl.r_143 (F := Ideal) c a2 g2 a3 g3 a4 g4 a5 g5 a8 a9 x0 x1 x2 x3 = tS (dat x0 x1 x2 x3 x4) 0 3 6 := by
  simp only [kernelRun0_A.sl.r_143, ones_eq, v310_eq c a2 g2 a3 g3 a4 g4 a5 g5 a6 g6 a8 a9 x0 x1 x2 x3 x4, v808_eq c a2 g2 a3 g3 a4 g4 a5 g5 a6 g6 a8 a9 x0 x1 x2 x3 x4]
  simp only [k0_pay192, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_156_eq : kernelRun0_A.sl.r_156 (F := Ideal) c a2 g2 a3 g3 a4 g4 a5 g5 a8 a9 x0 x1 x2 x3 = tP (dat x0 x1 x2 x3 x4) 0 6 3 := by
  simp only [kernelRun0_A.sl.r_156, ones_eq, r_114_eq c a2 g2 a3 g3 a4 g4 a5 g5 a6 g6 a8 a9 x0 x1 x2 x3 x4, r_143_eq c a2 g2 a3 g3 a4 g4 a5 g5 a6 g6 a8 a9 x0 x1 x2 x3 x4]
  simp only [k0_pay205, k0_pay204]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_162_eq : kernelRun0_A.sl.r_162 (F := Ideal) c a6 g6 x4 = tVE (dat x0 x1 x2 x3 x4) 0 3 := by
  simp only [kernelRun0_A.sl.r_162, ones_eq, ↓ldV_0_3 c a2 g2 a3 g3 a4 g4 a5 g5 a6 g6 a8 a9 x0 x1 x2 x3 x4]
  simp only [k0_pay211, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_30_eq : kernelRun0_A.sl.r_30 (F := Ideal) c a2 g2 a3 g3 a4 g4 a5 g5 a8 a9 x0 x1 x2 x3 = tL (dat x0 x1 x2 x3 x4) 0 6 0 := by
  simp only [kernelRun0_A.sl.r_30, ones_eq, pay49_eq (dat x0 x1 x2 x3 x4), r_18_eq c a2 g2 a3 g3 a4 g4 a5 g5 a6 g6 a8 a9 x0 x1 x2 x3 x4]
  simp only [k0_pay80, k0_pay79]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_31_eq : kernelRun0_A.sl.r_31 (F := Ideal) c a2 g2 a3 g3 a4 g4 a5 g5 a8 a9 x0 x1 x2 x3 = tP (dat x0 x1 x2 x3 x4) 0 6 0 := by
  simp only [kernelRun0_A.sl.r_31, ones_eq, pay49_eq (dat x0 x1 x2 x3 x4), r_18_eq c a2 g2 a3 g3 a4 g4 a5 g5 a6 g6 a8 a9 x0 x1 x2 x3 x4]
  simp only [k0_pay81, k0_pay79]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_37_eq : kernelRun0_A.sl.r_37 (F := Ideal) c a2 g2 a3 g3 a4 g4 a5 g5 a6 g6 a8 a9 x0 x1 x2 x3 x4 = tA (dat x0 x1 x2 x3 x4) 0 6 1 := by
  simp only [kernelRun0_A.sl.r_37, ones_eq, pay50_eq (dat x0 x1 x2 x3 x4), r_30_eq c a2 g2 a3 g3 a4 g4 a5 g5 a6 g6 a8 a9 x0 x1 x2 x3 x4, r_31_eq c a2 g2 a3 g3 a4 g4 a5 g5 a6 g6 a8 a9 x0 x1 x2 x3 x4, ↓ldV_0_0 c a2 g2 a3 g3 a4 g4 a5 g5 a6 g6 a8 a9 x0 x1 x2 x3 x4]
  simp only [k0_pay87, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_71_eq : kernelRun0_A.sl.r_71 (F := Ideal) c a2 g2 a3 g3 a4 g4 a5 g5 a8 a9 x0 x1 x2 x3 = tL (dat x0 x1 x2 x3 x4) 0 6 1 := by
  simp only [kernelRun0_A.sl.r_71, ones_eq, r_29_eq c a2 g2 a3 g3 a4 g4 a5 g5 a6 g6 a8 a9 x0 x1 x2 x3 x4, r_60_eq c a2 g2 a3 g3 a4 g4 a5 g5 a6 g6 a8 a9 x0 x1 x2 x3 x4]
  simp only [k0_pay121, k0_pay120]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_72_eq : kernelRun0_A.sl.r_72 (F := Ideal) c a2 g2 a3 g3 a4 g4 a5 g5 a8 a9 x0 x1 x2 x3 = tP (dat x0 x1 x2 x3 x4) 0 6 1 := by
  simp only [kernelRun0_A.sl.r_72, ones_eq, r_29_eq c a2 g2 a3 g3 a4 g4 a5 g5 a6 g6 a8 a9 x0 x1 x2 x3 x4, r_60_eq c a2 g2 a3 g3 a4 g4 a5 g5 a6 g6 a8 a9 x0 x1 x2 x3 x4]
  simp only [k0_pay122, k0_pay120]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_78_eq : kernelRun0_A.sl.r_78 (F := Ideal) c a2 g2 a3 g3 a4 g4 a5 g5 a6 g6 a8 a9 x0 x1 x2 x3 x4 = tA (dat x0 x1 x2 x3 x4) 0 6 2 := by
  simp only [kernelRun0_A.sl.r_78, ones_eq, r_37_eq c a2 g2 a3 g3 a4 g4 a5 g5 a6 g6 a8 a9 x0 x1 x2 x3 x4, r_71_eq c a2 g2 a3 g3 a4 g4 a5 g5 a6 g6 a8 a9 x0 x1 x2 x3 x4, r_72_eq c a2 g2 a3 g3 a4 g4 a5 g5 a6 g6 a8 a9 x0 x1 x2 x3 x4, ↓ldV_0_1 c a2 g2 a3 g3 a4 g4 a5 g5 a6 g6 a8 a9 x0 x1 x2 x3 x4]
  simp only [k0_pay128, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_115_eq : kernelRun0_A.sl.r_115 (F := Ideal) c a2 g2 a3 g3 a4 g4 a5 g5 a8 a9 x0 x1 x2 x3 = tL (dat x0 x1 x2 x3 x4) 0 6 2 := by
  simp only [kernelRun0_A.sl.r_115, ones_eq, r_102_eq c a2 g2 a3 g3 a4 g4 a5 g5 a6 g6 a8 a9 x0 x1 x2 x3 x4, r_70_eq c a2 g2 a3 g3 a4 g4 a5 g5 a6 g6 a8 a9 x0 x1 x2 x3 x4]
  simp only [k0_pay165, k0_pay164]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_116_eq : kernelRun0_A.sl.r_116 (F := Ideal) c a2 g2 a3 g3 a4 g4 a5 g5 a8 a9 x0 x1 x2 x3 = tP (dat x0 x1 x2 x3 x4) 0 6 2 := by
  simp only [kernelRun0_A.sl.r_116, ones_eq, r_102_eq c a2 g2 a3 g3 a4 g4 a5 g5 a6 g6 a8 a9 x0 x1 x2 x3 x4, r_70_eq c a2 g2 a3 g3 a4 g4 a5 g5 a6 g6 a8 a9 x0 x1 x2 x3 x4]
  simp only [k0_pay166, k0_pay164]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_122_eq : kernelRun0_A.sl.r_122 (F := Ideal) c a6 g6 x4 = tV (dat x0 x1 x2 x3 x4) 0 2 := by
  simp only [kernelRun0_A.sl.r_122, ones_eq, ↓ldV_0_2 c a2 g2 a3 g3 a4 g4 a5 g5 a6 g6 a8 a9 x0 x1 x2 x3 x4]

theorem r_123_eq : kernelRun0_A.sl.r_123 (F := Ideal) c a2 g2 a3 g3 a4 g4 a5 g5 a6 g6 a8 a9 x0 x1 x2 x3 x4 = tA (dat x0 x1 x2 x3 x4) 0 6 3 := by
  simp only [kernelRun0_A.sl.r_123, ones_eq, r_115_eq c a2 g2 a3 g3 a4 g4 a5 g5 a6 g6 a8 a9 x0 x1 x2 x3 x4, r_116_eq c a2 g2 a3 g3 a4 g4 a5 g5 a6 g6 a8 a9 x0 x1 x2 x3 x4, r_122_eq c a2 g2 a3 g3 a4 g4 a5 g5 a6 g6 a8 a9 x0 x1 x2 x3 x4, r_78_eq c a2 g2 a3 g3 a4 g4 a5 g5 a6 g6 a8 a9 x0 x1 x2 x3 x4]
  simp only [k0_pay172, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_163_eq : kernelRun0_A.sl.r_163 (F := Ideal) c a2 g2 a3 g3 a4 g4 a5 g5 a6 g6 a8 a9 x0 x1 x2 x3 x4 = tB (dat x0 x1 x2 x3 x4) 0 6 3 := by
  simp only [kernelRun0_A.sl.r_163, ones_eq, r_114_eq c a2 g2 a3 g3 a4 g4 a5 g5 a6 g6 a8 a9 x0 x1 x2 x3 x4, r_123_eq c a2 g2 a3 g3 a4 g4 a5 g5 a6 g6 a8 a9 x0 x1 x2 x3 x4, r_143_eq c a2 g2 a3 g3 a4 g4 a5 g5 a6 g6 a8 a9 x0 x1 x2 x3 x4]
  simp only [k0_pay212, k0_pay204]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_164_eq : kernelRun0_A.sl.r_164 (F := Ideal) c a2 g2 a3 g3 a4 g4 a5 g5 a6 g6 a8 a9 x0 x1 x2 x3 x4 = tA (dat x0 x1 x2 x3 x4) 0 6 4 := by
  simp only [kernelRun0_A.sl.r_164, ones_eq, r_156_eq c a2 g2 a3 g3 a4 g4 a5 g5 a6 g6 a8 a9 x0 x1 x2 x3 x4, r_162_eq c a2 g2 a3 g3 a4 g4 a5 g5 a6 g6 a8 a9 x0 x1 x2 x3 x4, r_163_eq c a2 g2 a3 g3 a4 g4 a5 g5 a6 g6 a8 a9 x0 x1 x2 x3 x4]
  simp only [k0_pay213, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_155_eq : kernelRun0_A.sl.r_155 (F := Ideal) c a2 g2 a3 g3 a4 g4 a5 g5 a8 a9 x0 x1 x2 x3 = tM (dat x0 x1 x2 x3 x4) 0 6 4 := by
  simp only [kernelRun0_A.sl.r_155, ones_eq, r_114_eq c a2 g2 a3 g3 a4 g4 a5 g5 a6 g6 a8 a9 x0 x1 x2 x3 x4, r_143_eq c a2 g2 a3 g3 a4 g4 a5 g5 a6 g6 a8 a9 x0 x1 x2 x3 x4]
  simp only [k0_pay204]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_204_eq : kernelRun0_A.sl.r_204 (F := Ideal) c a2 g2 a3 g3 a4 g4 a5 g5 a8 a9 x0 x1 x2 x3 = tS (dat x0 x1 x2 x3 x4) 0 4 6 := by
  simp only [kernelRun0_A.sl.r_204, ones_eq, v1069_eq c a2 g2 a3 g3 a4 g4 a5 g5 a6 g6 a8 a9 x0 x1 x2 x3 x4, v310_eq c a2 g2 a3 g3 a4 g4 a5 g5 a6 g6 a8 a9 x0 x1 x2 x3 x4]
  simp only [k0_pay256, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_218_eq : kernelRun0_A.sl.r_218 (F := Ideal) c a2 g2 a3 g3 a4 g4 a5 g5 a8 a9 x0 x1 x2 x3 = tL (dat x0 x1 x2 x3 x4) 0 6 4 := by
  simp only [kernelRun0_A.sl.r_218, ones_eq, r_155_eq c a2 g2 a3 g3 a4 g4 a5 g5 a6 g6 a8 a9 x0 x1 x2 x3 x4, r_204_eq c a2 g2 a3 g3 a4 g4 a5 g5 a6 g6 a8 a9 x0 x1 x2 x3 x4]
  simp only [k0_pay270, k0_pay269]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_219_eq : kernelRun0_A.sl.r_219 (F := Ideal) c a2 g2 a3 g3 a4 g4 a5 g5 a8 a9 x0 x1 x2 x3 = tD (dat x0 x1 x2 x3 x4) 0 6 4 := by
  simp only [kernelRun0_A.sl.r_219, ones_eq, r_155_eq c a2 g2 a3 g3 a4 g4 a5 g5 a6 g6 a8 a9 x0 x1 x2 x3 x4, r_204_eq c a2 g2 a3 g3 a4 g4 a5 g5 a6 g6 a8 a9 x0 x1 x2 x3 x4]
  simp only [k0_pay271, k0_pay269]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_225_eq : kernelRun0_A.sl.r_225 (F := Ideal) c a2 g2 a3 g3 a4 g4 a5 g5 a6 g6 a8 a9 x0 x1 x2 x3 x4 = tA (dat x0 x1 x2 x3 x4) 0 6 5 := by
  simp only [kernelRun0_A.sl.r_225, ones_eq, r_164_eq c a2 g2 a3 g3 a4 g4 a5 g5 a6 g6 a8 a9 x0 x1 x2 x3 x4, r_218_eq c a2 g2 a3 g3 a4 g4 a5 g5 a6 g6 a8 a9 x0 x1 x2 x3 x4, r_219_eq c a2 g2 a3 g3 a4 g4 a5 g5 a6 g6 a8 a9 x0 x1 x2 x3 x4, ↓ldV_0_4 c a2 g2 a3 g3 a4 g4 a5 g5 a6 g6 a8 a9 x0 x1 x2 x3 x4]
  simp only [k0_pay277, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_217_eq : kernelRun0_A.sl.r_217 (F := Ideal) c a2 g2 a3 g3 a4 g4 a5 g5 a8 a9 x0 x1 x2 x3 = tM (dat x0 x1 x2 x3 x4) 0 6 5 := by
  simp only [kernelRun0_A.sl.r_217, ones_eq, r_155_eq c a2 g2 a3 g3 a4 g4 a5 g5 a6 g6 a8 a9 x0 x1 x2 x3 x4, r_204_eq c a2 g2 a3 g3 a4 g4 a5 g5 a6 g6 a8 a9 x0 x1 x2 x3 x4]
  simp only [k0_pay269]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_267_eq : kernelRun0_A.sl.r_267 (F := Ideal) c a2 g2 a3 g3 a4 g4 a5 g5 a8 a9 x0 x1 x2 x3 = tS (dat x0 x1 x2 x3 x4) 0 5 6 := by
  simp only [kernelRun0_A.sl.r_267, ones_eq, v1478_eq c a2 g2 a3 g3 a4 g4 a5 g5 a6 g6 a8 a9 x0 x1 x2 x3 x4, v310_eq c a2 g2 a3 g3 a4 g4 a5 g5 a6 g6 a8 a9 x0 x1 x2 x3 x4]
  simp only [k0_pay323, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_279_eq : kernelRun0_A.sl.r_279 (F := Ideal) c a2 g2 a3 g3 a4 g4 a5 g5 a8 a9 x0 x1 x2 x3 = tP (dat x0 x1 x2 x3 x4) 0 6 5 := by
  simp only [kernelRun0_A.sl.r_279, ones_eq, r_217_eq c a2 g2 a3 g3 a4 g4 a5 g5 a6 g6 a8 a9 x0 x1 x2 x3 x4, r_267_eq c a2 g2 a3 g3 a4 g4 a5 g5 a6 g6 a8 a9 x0 x1 x2 x3 x4]
  simp only [k0_pay336, k0_pay335]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_285_eq : kernelRun0_A.sl.r_285 (F := Ideal) c a6 g6 x4 = tVE (dat x0 x1 x2 x3 x4) 0 5 := by
  simp only [kernelRun0_A.sl.r_285, ones_eq, ↓ldV_0_5 c a2 g2 a3 g3 a4 g4 a5 g5 a6 g6 a8 a9 x0 x1 x2 x3 x4]
  simp only [k0_pay342, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_286_eq : kernelRun0_A.sl.r_286 (F := Ideal) c a2 g2 a3 g3 a4 g4 a5 g5 a8 a9 x0 x1 x2 x3 = tLB (dat x0 x1 x2 x3 x4) 0 6 5 := by
  simp only [kernelRun0_A.sl.r_286, ones_eq, r_217_eq c a2 g2 a3 g3 a4 g4 a5 g5 a6 g6 a8 a9 x0 x1 x2 x3 x4, r_267_eq c a2 g2 a3 g3 a4 g4 a5 g5 a6 g6 a8 a9 x0 x1 x2 x3 x4]
  simp only [k0_pay343, k0_pay335]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_287_eq : kernelRun0_A.sl.r_287 (F := Ideal) c a2 g2 a3 g3 a4 g4 a5 g5 a6 g6 a8 a9 x0 x1 x2 x3 x4 = tA (dat x0 x1 x2 x3 x4) 0 6 6 := by
  simp only [kernelRun0_A.sl.r_287, ones_eq, r_225_eq c a2 g2 a3 g3 a4 g4 a5 g5 a6 g6 a8 a9 x0 x1 x2 x3 x4, r_279_eq c a2 g2 a3 g3 a4 g4 a5 g5 a6 g6 a8 a9 x0 x1 x2 x3 x4, r_285_eq c a2 g2 a3 g3 a4 g4 a5 g5 a6 g6 a8 a9 x0 x1 x2 x3 x4, r_286_eq c a2 g2 a3 g3 a4 g4 a5 g5 a6 g6 a8 a9 x0 x1 x2 x3 x4]
  simp only [k0_pay344, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_278_eq : kernelRun0_A.sl.r_278 (F := Ideal) c a2 g2 a3 g3 a4 g4 a5 g5 a8 a9 x0 x1 x2 x3 = tM (dat x0 x1 x2 x3 x4) 0 6 6 := by
  simp only [kernelRun0_A.sl.r_278, ones_eq, r_217_eq c a2 g2 a3 g3 a4 g4 a5 g5 a6 g6 a8 a9 x0 x1 x2 x3 x4, r_267_eq c a2 g2 a3 g3 a4 g4 a5 g5 a6 g6 a8 a9 x0 x1 x2 x3 x4]
  simp only [k0_pay335]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem v1814_eq : kernelRun0_A.sl.v1814 (F := Ideal) c a3 g3 a4 g4 a5 g5 a8 x1 x2 x3 = tK (dat x0 x1 x2 x3 x4) 0 6 :=
  load_K c a3 g3 a4 g4 a5 g5 a8 x0 x1 x2 x3 x4 _ _ 0 6 rfl

theorem r_307_eq : kernelRun0_A.sl.r_307 (F := Ideal) c a2 g2 a3 g3 a4 g4 a5 g5 a8 a9 x0 x1 x2 x3 = tRaw (dat x0 x1 x2 x3 x4) 0 6 6 := by
  simp only [kernelRun0_A.sl.r_307, ones_eq, v1814_eq c a2 g2 a3 g3 a4 g4 a5 g5 a6 g6 a8 a9 x0 x1 x2 x3 x4, v310_eq c a2 g2 a3 g3 a4 g4 a5 g5 a6 g6 a8 a9 x0 x1 x2 x3 x4]
  simp only [k0_pay364, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_308_eq : kernelRun0_A.sl.r_308 (F := Ideal) c a2 g2 a3 g3 a4 g4 a5 g5 a8 a9 x0 x1 x2 x3 = tS (dat x0 x1 x2 x3 x4) 0 6 6 := by
  simp only [kernelRun0_A.sl.r_308, ones_eq, r_307_eq c a2 g2 a3 g3 a4 g4 a5 g5 a6 g6 a8 a9 x0 x1 x2 x3 x4, kernelRun0_A.sl.v1449]
  simp only [k0_pay365, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]
  rw [mask_1024]

theorem r_318_eq : kernelRun0_A.sl.r_318 (F := Ideal) c a2 g2 a3 g3 a4 g4 a5 g5 a8 a9 x0 x1 x2 x3 = tL (dat x0 x1 x2 x3 x4) 0 6 6 := by
  simp only [kernelRun0_A.sl.r_318, ones_eq, r_278_eq c a2 g2 a3 g3 a4 g4 a5 g5 a6 g6 a8 a9 x0 x1 x2 x3 x4, r_308_eq c a2 g2 a3 g3 a4 g4 a5 g5 a6 g6 a8 a9 x0 x1 x2 x3 x4]
  simp only [k0_pay377, k0_pay376]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_319_eq : kernelRun0_A.sl.r_319 (F := Ideal) c a2 g2 a3 g3 a4 g4 a5 g5 a8 a9 x0 x1 x2 x3 = tP (dat x0 x1 x2 x3 x4) 0 6 6 := by
  simp only [kernelRun0_A.sl.r_319, ones_eq, r_278_eq c a2 g2 a3 g3 a4 g4 a5 g5 a6 g6 a8 a9 x0 x1 x2 x3 x4, r_308_eq c a2 g2 a3 g3 a4 g4 a5 g5 a6 g6 a8 a9 x0 x1 x2 x3 x4]
  simp only [k0_pay378, k0_pay376]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_324_eq : kernelRun0_A.sl.r_324 (F := Ideal) c a2 g2 a3 g3 a4 g4 a5 g5 a6 g6 a8 a9 x0 x1 x2 x3 x4 = tA (dat x0 x1 x2 x3 x4) 0 6 7 := by
  simp only [kernelRun0_A.sl.r_324, ones_eq, r_287_eq c a2 g2 a3 g3 a4 g4 a5 g5 a6 g6 a8 a9 x0 x1 x2 x3 x4, r_318_eq c a2 g2 a3 g3 a4 g4 a5 g5 a6 g6 a8 a9 x0 x1 x2 x3 x4, r_319_eq c a2 g2 a3 g3 a4 g4 a5 g5 a6 g6 a8 a9 x0 x1 x2 x3 x4, ↓ldV_0_6 c a2 g2 a3 g3 a4 g4 a5 g5 a6 g6 a8 a9 x0 x1 x2 x3 x4]
  simp only [k0_pay384, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem v335_eq : kernelRun0_A.sl.v335 (F := Ideal) c a2 g2 a4 g4 a5 g5 a9 x0 x2 x3 = tQ (dat x0 x1 x2 x3 x4) 1 6 :=
  load_Q c a2 g2 a4 g4 a5 g5 a9 x0 x1 x2 x3 x4 _ _ 1 6 rfl

theorem r_21_eq : kernelRun0_A.sl.r_21 (F := Ideal) c a2 g2 a3 g3 a4 g4 a5 g5 a8 a9 x0 x1 x2 x3 = tS (dat x0 x1 x2 x3 x4) 1 0 6 := by
  simp only [kernelRun0_A.sl.r_21, ones_eq, v260_eq c a2 g2 a3 g3 a4 g4 a5 g5 a6 g6 a8 a9 x0 x1 x2 x3 x4, v335_eq c a2 g2 a3 g3 a4 g4 a5 g5 a6 g6 a8 a9 x0 x1 x2 x3 x4]
  simp only [k0_pay71, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_34_eq : kernelRun0_A.sl.r_34 (F := Ideal) c a2 g2 a3 g3 a4 g4 a5 g5 a8 a9 x0 x1 x2 x3 = tM (dat x0 x1 x2 x3 x4) 1 6 1 := by
  simp only [kernelRun0_A.sl.r_34, ones_eq, pay51_eq (dat x0 x1 x2 x3 x4), r_21_eq c a2 g2 a3 g3 a4 g4 a5 g5 a6 g6 a8 a9 x0 x1 x2 x3 x4]
  simp only [k0_pay84]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_64_eq : kernelRun0_A.sl.r_64 (F := Ideal) c a2 g2 a3 g3 a4 g4 a5 g5 a8 a9 x0 x1 x2 x3 = tS (dat x0 x1 x2 x3 x4) 1 1 6 := by
  simp only [kernelRun0_A.sl.r_64, ones_eq, v335_eq c a2 g2 a3 g3 a4 g4 a5 g5 a6 g6 a8 a9 x0 x1 x2 x3 x4, v433_eq c a2 g2 a3 g3 a4 g4 a5 g5 a6 g6 a8 a9 x0 x1 x2 x3 x4]
  simp only [k0_pay114, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_75_eq : kernelRun0_A.sl.r_75 (F := Ideal) c a2 g2 a3 g3 a4 g4 a5 g5 a8 a9 x0 x1 x2 x3 = tM (dat x0 x1 x2 x3 x4) 1 6 2 := by
  simp only [kernelRun0_A.sl.r_75, ones_eq, r_34_eq c a2 g2 a3 g3 a4 g4 a5 g5 a6 g6 a8 a9 x0 x1 x2 x3 x4, r_64_eq c a2 g2 a3 g3 a4 g4 a5 g5 a6 g6 a8 a9 x0 x1 x2 x3 x4]
  simp only [k0_pay125]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_107_eq : kernelRun0_A.sl.r_107 (F := Ideal) c a2 g2 a3 g3 a4 g4 a5 g5 a8 a9 x0 x1 x2 x3 = tS (dat x0 x1 x2 x3 x4) 1 2 6 := by
  simp only [kernelRun0_A.sl.r_107, ones_eq, v335_eq c a2 g2 a3 g3 a4 g4 a5 g5 a6 g6 a8 a9 x0 x1 x2 x3 x4, v633_eq c a2 g2 a3 g3 a4 g4 a5 g5 a6 g6 a8 a9 x0 x1 x2 x3 x4]
  simp only [k0_pay157, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_119_eq : kernelRun0_A.sl.r_119 (F := Ideal) c a2 g2 a3 g3 a4 g4 a5 g5 a8 a9 x0 x1 x2 x3 = tM (dat x0 x1 x2 x3 x4) 1 6 3 := by
  simp only [kernelRun0_A.sl.r_119, ones_eq, r_107_eq c a2 g2 a3 g3 a4 g4 a5 g5 a6 g6 a8 a9 x0 x1 x2 x3 x4, r_75_eq c a2 g2 a3 g3 a4 g4 a5 g5 a6 g6 a8 a9 x0 x1 x2 x3 x4]
  simp only [k0_pay169]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_148_eq : kernelRun0_A.sl.r_148 (F := Ideal) c a2 g2 a3 g3 a4 g4 a5 g5 a8 a9 x0 x1 x2 x3 = tS (dat x0 x1 x2 x3 x4) 1 3 6 := by
  simp only [kernelRun0_A.sl.r_148, ones_eq, v335_eq c a2 g2 a3 g3 a4 g4 a5 g5 a6 g6 a8 a9 x0 x1 x2 x3 x4, v833_eq c a2 g2 a3 g3 a4 g4 a5 g5 a6 g6 a8 a9 x0 x1 x2 x3 x4]
  simp only [k0_pay197, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_159_eq : kernelRun0_A.sl.r_159 (F := Ideal) c a2 g2 a3 g3 a4 g4 a5 g5 a8 a9 x0 x1 x2 x3 = tM (dat x0 x1 x2 x3 x4) 1 6 4 := by
  simp only [kernelRun0_A.sl.r_159, ones_eq, r_119_eq c a2 g2 a3 g3 a4 g4 a5 g5 a6 g6 a8 a9 x0 x1 x2 x3 x4, r_148_eq c a2 g2 a3 g3 a4 g4 a5 g5 a6 g6 a8 a9 x0 x1 x2 x3 x4]
  simp only [k0_pay208]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_216_eq : kernelRun0_A.sl.r_216 (F := Ideal) c a2 g2 a3 g3 a4 g4 a5 g5 a8 a9 x0 x1 x2 x3 = tS (dat x0 x1 x2 x3 x4) 1 4 6 := by
  simp only [kernelRun0_A.sl.r_216, ones_eq, v1110_eq c a2 g2 a3 g3 a4 g4 a5 g5 a6 g6 a8 a9 x0 x1 x2 x3 x4, v335_eq c a2 g2 a3 g3 a4 g4 a5 g5 a6 g6 a8 a9 x0 x1 x2 x3 x4]
  simp only [k0_pay268, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_228_eq : kernelRun0_A.sl.r_228 (F := Ideal) c a2 g2 a3 g3 a4 g4 a5 g5 a8 a9 x0 x1 x2 x3 = tM (dat x0 x1 x2 x3 x4) 1 6 5 := by
  simp only [kernelRun0_A.sl.r_228, ones_eq, r_159_eq c a2 g2 a3 g3 a4 g4 a5 g5 a6 g6 a8 a9 x0 x1 x2 x3 x4, r_216_eq c a2 g2 a3 g3 a4 g4 a5 g5 a6 g6 a8 a9 x0 x1 x2 x3 x4]
  simp only [k0_pay280]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_276_eq : kernelRun0_A.sl.r_276 (F := Ideal) c a3 g3 a4 g4 a5 g5 a8 x1 x2 x3 = tK' (dat x0 x1 x2 x3 x4) 1 5 := by
  simp only [kernelRun0_A.sl.r_276, ones_eq, v1546_eq c a2 g2 a3 g3 a4 g4 a5 g5 a6 g6 a8 a9 x0 x1 x2 x3 x4]
  simp only [k0_pay333, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_277_eq : kernelRun0_A.sl.r_277 (F := Ideal) c a2 g2 a3 g3 a4 g4 a5 g5 a8 a9 x0 x1 x2 x3 = tS (dat x0 x1 x2 x3 x4) 1 5 6 := by
  simp only [kernelRun0_A.sl.r_277, ones_eq, r_276_eq c a2 g2 a3 g3 a4 g4 a5 g5 a6 g6 a8 a9 x0 x1 x2 x3 x4, v335_eq c a2 g2 a3 g3 a4 g4 a5 g5 a6 g6 a8 a9 x0 x1 x2 x3 x4]
  simp only [k0_pay334, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_289_eq : kernelRun0_A.sl.r_289 (F := Ideal) c a2 g2 a3 g3 a4 g4 a5 g5 a8 a9 x0 x1 x2 x3 = tM (dat x0 x1 x2 x3 x4) 1 6 6 := by
  simp only [kernelRun0_A.sl.r_289, ones_eq, r_228_eq c a2 g2 a3 g3 a4 g4 a5 g5 a6 g6 a8 a9 x0 x1 x2 x3 x4, r_277_eq c a2 g2 a3 g3 a4 g4 a5 g5 a6 g6 a8 a9 x0 x1 x2 x3 x4]
  simp only [k0_pay346]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem v1882_eq : kernelRun0_A.sl.v1882 (F := Ideal) c a3 g3 a4 g4 a5 g5 a8 x1 x2 x3 = tK (dat x0 x1 x2 x3 x4) 1 6 :=
  load_K c a3 g3 a4 g4 a5 g5 a8 x0 x1 x2 x3 x4 _ _ 1 6 rfl

theorem r_317_eq : kernelRun0_A.sl.r_317 (F := Ideal) c a2 g2 a3 g3 a4 g4 a5 g5 a8 a9 x0 x1 x2 x3 = tS (dat x0 x1 x2 x3 x4) 1 6 6 := by
  simp only [kernelRun0_A.sl.r_317, ones_eq, v1882_eq c a2 g2 a3 g3 a4 g4 a5 g5 a6 g6 a8 a9 x0 x1 x2 x3 x4, v335_eq c a2 g2 a3 g3 a4 g4 a5 g5 a6 g6 a8 a9 x0 x1 x2 x3 x4]
  simp only [k0_pay375, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]
  rw [mask_1024]

theorem r_328_eq : kernelRun0_A.sl.r_328 (F := Ideal) c a2 g2 a3 g3 a4 g4 a5 g5 a8 a9 x0 x1 x2 x3 = tP (dat x0 x1 x2 x3 x4) 1 6 6 := by
  simp only [kernelRun0_A.sl.r_328, ones_eq, r_289_eq c a2 g2 a3 g3 a4 g4 a5 g5 a6 g6 a8 a9 x0 x1 x2 x3 x4, r_317_eq c a2 g2 a3 g3 a4 g4 a5 g5 a6 g6 a8 a9 x0 x1 x2 x3 x4]
  simp only [k0_pay389, k0_pay388]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_334_eq : kernelRun0_A.sl.r_334 (F := Ideal) c a6 g6 x4 = tVE (dat x0 x1 x2 x3 x4) 1 6 := by
  simp only [kernelRun0_A.sl.r_334, ones_eq, ↓ldV_1_6 c a2 g2 a3 g3 a4 g4 a5 g5 a6 g6 a8 a9 x0 x1 x2 x3 x4]
  simp only [k0_pay395, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_35_eq : kernelRun0_A.sl.r_35 (F := Ideal) c a2 g2 a3 g3 a4 g4 a5 g5 a8 a9 x0 x1 x2 x3 = tL (dat x0 x1 x2 x3 x4) 1 6 0 := by
  simp only [kernelRun0_A.sl.r_35, ones_eq, pay51_eq (dat x0 x1 x2 x3 x4), r_21_eq c a2 g2 a3 g3 a4 g4 a5 g5 a6 g6 a8 a9 x0 x1 x2 x3 x4]
  simp only [k0_pay85, k0_pay84]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_36_eq : kernelRun0_A.sl.r_36 (F := Ideal) c a2 g2 a3 g3 a4 g4 a5 g5 a8 a9 x0 x1 x2 x3 = tD (dat x0 x1 x2 x3 x4) 1 6 0 := by
  simp only [kernelRun0_A.sl.r_36, ones_eq, pay51_eq (dat x0 x1 x2 x3 x4), r_21_eq c a2 g2 a3 g3 a4 g4 a5 g5 a6 g6 a8 a9 x0 x1 x2 x3 x4]
  simp only [k0_pay86, k0_pay84]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_42_eq : kernelRun0_A.sl.r_42 (F := Ideal) c a2 g2 a3 g3 a4 g4 a5 g5 a6 g6 a8 a9 x0 x1 x2 x3 x4 = tA (dat x0 x1 x2 x3 x4) 1 6 1 := by
  simp only [kernelRun0_A.sl.r_42, ones_eq, pay52_eq (dat x0 x1 x2 x3 x4), r_35_eq c a2 g2 a3 g3 a4 g4 a5 g5 a6 g6 a8 a9 x0 x1 x2 x3 x4, r_36_eq c a2 g2 a3 g3 a4 g4 a5 g5 a6 g6 a8 a9 x0 x1 x2 x3 x4, ↓ldV_1_0 c a2 g2 a3 g3 a4 g4 a5 g5 a6 g6 a8 a9 x0 x1 x2 x3 x4]
  simp only [k0_pay92, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_76_eq : kernelRun0_A.sl.r_76 (F := Ideal) c a2 g2 a3 g3 a4 g4 a5 g5 a8 a9 x0 x1 x2 x3 = tL (dat x0 x1 x2 x3 x4) 1 6 1 := by
  simp only [kernelRun0_A.sl.r_76, ones_eq, r_34_eq c a2 g2 a3 g3 a4 g4 a5 g5 a6 g6 a8 a9 x0 x1 x2 x3 x4, r_64_eq c a2 g2 a3 g3 a4 g4 a5 g5 a6 g6 a8 a9 x0 x1 x2 x3 x4]
  simp only [k0_pay126, k0_pay125]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_77_eq : kernelRun0_A.sl.r_77 (F := Ideal) c a2 g2 a3 g3 a4 g4 a5 g5 a8 a9 x0 x1 x2 x3 = tP (dat x0 x1 x2 x3 x4) 1 6 1 := by
  simp only [kernelRun0_A.sl.r_77, ones_eq, r_34_eq c a2 g2 a3 g3 a4 g4 a5 g5 a6 g6 a8 a9 x0 x1 x2 x3 x4, r_64_eq c a2 g2 a3 g3 a4 g4 a5 g5 a6 g6 a8 a9 x0 x1 x2 x3 x4]
  simp only [k0_pay127, k0_pay125]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_83_eq : kernelRun0_A.sl.r_83 (F := Ideal) c a2 g2 a3 g3 a4 g4 a5 g5 a6 g6 a8 a9 x0 x1 x2 x3 x4 = tA (dat x0 x1 x2 x3 x4) 1 6 2 := by
  simp only [kernelRun0_A.sl.r_83, ones_eq, r_42_eq c a2 g2 a3 g3 a4 g4 a5 g5 a6 g6 a8 a9 x0 x1 x2 x3 x4, r_76_eq c a2 g2 a3 g3 a4 g4 a5 g5 a6 g6 a8 a9 x0 x1 x2 x3 x4, r_77_eq c a2 g2 a3 g3 a4 g4 a5 g5 a6 g6 a8 a9 x0 x1 x2 x3 x4, ↓ldV_1_1 c a2 g2 a3 g3 a4 g4 a5 g5 a6 g6 a8 a9 x0 x1 x2 x3 x4]
  simp only [k0_pay133, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_120_eq : kernelRun0_A.sl.r_120 (F := Ideal) c a2 g2 a3 g3 a4 g4 a5 g5 a8 a9 x0 x1 x2 x3 = tL (dat x0 x1 x2 x3 x4) 1 6 2 := by
  simp only [kernelRun0_A.sl.r_120, ones_eq, r_107_eq c a2 g2 a3 g3 a4 g4 a5 g5 a6 g6 a8 a9 x0 x1 x2 x3 x4, r_75_eq c a2 g2 a3 g3 a4 g4 a5 g5 a6 g6 a8 a9 x0 x1 x2 x3 x4]
  simp only [k0_pay170, k0_pay169]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_121_eq : kernelRun0_A.sl.r_121 (F := Ideal) c a2 g2 a3 g3 a4 g4 a5 g5 a8 a9 x0 x1 x2 x3 = tP (dat x0 x1 x2 x3 x4) 1 6 2 := by
  simp only [kernelRun0_A.sl.r_121, ones_eq, r_107_eq c a2 g2 a3 g3 a4 g4 a5 g5 a6 g6 a8 a9 x0 x1 x2 x3 x4, r_75_eq c a2 g2 a3 g3 a4 g4 a5 g5 a6 g6 a8 a9 x0 x1 x2 x3 x4]
  simp only [k0_pay171, k0_pay169]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_128_eq : kernelRun0_A.sl.r_128 (F := Ideal) c a2 g2 a3 g3 a4 g4 a5 g5 a6 g6 a8 a9 x0 x1 x2 x3 x4 = tA (dat x0 x1 x2 x3 x4) 1 6 3 := by
  simp only [kernelRun0_A.sl.r_128, ones_eq, r_120_eq c a2 g2 a3 g3 a4 g4 a5 g5 a6 g6 a8 a9 x0 x1 x2 x3 x4, r_121_eq c a2 g2 a3 g3 a4 g4 a5 g5 a6 g6 a8 a9 x0 x1 x2 x3 x4, r_83_eq c a2 g2 a3 g3 a4 g4 a5 g5 a6 g6 a8 a9 x0 x1 x2 x3 x4, ↓ldV_1_2 c a2 g2 a3 g3 a4 g4 a5 g5 a6 g6 a8 a9 x0 x1 x2 x3 x4]
  simp only [k0_pay177, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_160_eq : kernelRun0_A.sl.r_160 (F := Ideal) c a2 g2 a3 g3 a4 g4 a5 g5 a8 a9 x0 x1 x2 x3 = tL (dat x0 x1 x2 x3 x4) 1 6 3 := by
  simp only [kernelRun0_A.sl.r_160, ones_eq, r_119_eq c a2 g2 a3 g3 a4 g4 a5 g5 a6 g6 a8 a9 x0 x1 x2 x3 x4, r_148_eq c a2 g2 a3 g3 a4 g4 a5 g5 a6 g6 a8 a9 x0 x1 x2 x3 x4]
  simp only [k0_pay209, k0_pay208]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_161_eq : kernelRun0_A.sl.r_161 (F := Ideal) c a2 g2 a3 g3 a4 g4 a5 g5 a8 a9 x0 x1 x2 x3 = tP (dat x0 x1 x2 x3 x4) 1 6 3 := by
  simp only [kernelRun0_A.sl.r_161, ones_eq, r_119_eq c a2 g2 a3 g3 a4 g4 a5 g5 a6 g6 a8 a9 x0 x1 x2 x3 x4, r_148_eq c a2 g2 a3 g3 a4 g4 a5 g5 a6 g6 a8 a9 x0 x1 x2 x3 x4]
  simp only [k0_pay210, k0_pay208]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_166_eq : kernelRun0_A.sl.r_166 (F := Ideal) c a2 g2 a3 g3 a4 g4 a5 g5 a6 g6 a8 a9 x0 x1 x2 x3 x4 = tA (dat x0 x1 x2 x3 x4) 1 6 4 := by
  simp only [kernelRun0_A.sl.r_166, ones_eq, r_128_eq c a2 g2 a3 g3 a4 g4 a5 g5 a6 g6 a8 a9 x0 x1 x2 x3 x4, r_160_eq c a2 g2 a3 g3 a4 g4 a5 g5 a6 g6 a8 a9 x0 x1 x2 x3 x4, r_161_eq c a2 g2 a3 g3 a4 g4 a5 g5 a6 g6 a8 a9 x0 x1 x2 x3 x4, ↓ldV_1_3 c a2 g2 a3 g3 a4 g4 a5 g5 a6 g6 a8 a9 x0 x1 x2 x3 x4]
  simp only [k0_pay215, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_229_eq : kernelRun0_A.sl.r_229 (F := Ideal) c a2 g2 a3 g3 a4 g4 a5 g5 a8 a9 x0 x1 x2 x3 = tL (dat x0 x1 x2 x3 x4) 1 6 4 := by
  simp only [kernelRun0_A.sl.r_229, ones_eq, r_159_eq c a2 g2 a3 g3 a4 g4 a5 g5 a6 g6 a8 a9 x0 x1 x2 x3 x4, r_216_eq c a2 g2 a3 g3 a4 g4 a5 g5 a6 g6 a8 a9 x0 x1 x2 x3 x4]
  simp only [k0_pay281, k0_pay280]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_230_eq : kernelRun0_A.sl.r_230 (F := Ideal) c a2 g2 a3 g3 a4 g4 a5 g5 a8 a9 x0 x1 x2 x3 = tP (dat x0 x1 x2 x3 x4) 1 6 4 := by
  simp only [kernelRun0_A.sl.r_230, ones_eq, r_159_eq c a2 g2 a3 g3 a4 g4 a5 g5 a6 g6 a8 a9 x0 x1 x2 x3 x4, r_216_eq c a2 g2 a3 g3 a4 g4 a5 g5 a6 g6 a8 a9 x0 x1 x2 x3 x4]
  simp only [k0_pay282, k0_pay280]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_236_eq : kernelRun0_A.sl.r_236 (F := Ideal) c a6 g6 x4 = tV' (dat x0 x1 x2 x3 x4) 1 4 := by
  simp only [kernelRun0_A.sl.r_236, ones_eq, ↓ldV_1_4 c a2 g2 a3 g3 a4 g4 a5 g5 a6 g6 a8 a9 x0 x1 x2 x3 x4]
  simp only [k0_pay288, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_237_eq : kernelRun0_A.sl.r_237 (F := Ideal) c a2 g2 a3 g3 a4 g4 a5 g5 a6 g6 a8 a9 x0 x1 x2 x3 x4 = tA (dat x0 x1 x2 x3 x4) 1 6 5 := by
  simp only [kernelRun0_A.sl.r_237, ones_eq, r_166_eq c a2 g2 a3 g3 a4 g4 a5 g5 a6 g6 a8 a9 x0 x1 x2 x3 x4, r_229_eq c a2 g2 a3 g3 a4 g4 a5 g5 a6 g6 a8 a9 x0 x1 x2 x3 x4, r_230_eq c a2 g2 a3 g3 a4 g4 a5 g5 a6 g6 a8 a9 x0 x1 x2 x3 x4, r_236_eq c a2 g2 a3 g3 a4 g4 a5 g5 a6 g6 a8 a9 x0 x1 x2 x3 x4]
  simp only [k0_pay289, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_290_eq : kernelRun0_A.sl.r_290 (F := Ideal) c a2 g2 a3 g3 a4 g4 a5 g5 a8 a9 x0 x1 x2 x3 = tL (dat x0 x1 x2 x3 x4) 1 6 5 := by
  simp only [kernelRun0_A.sl.r_290, ones_eq, r_228_eq c a2 g2 a3 g3 a4 g4 a5 g5 a6 g6 a8 a9 x0 x1 x2 x3 x4, r_277_eq c a2 g2 a3 g3 a4 g4 a5 g5 a6 g6 a8 a9 x0 x1 x2 x3 x4]
  simp only [k0_pay347, k0_pay346]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_291_eq : kernelRun0_A.sl.r_291 (F := Ideal) c a2 g2 a3 g3 a4 g4 a5 g5 a8 a9 x0 x1 x2 x3 = tP (dat x0 x1 x2 x3 x4) 1 6 5 := by
  simp only [kernelRun0_A.sl.r_291, ones_eq, r_228_eq c a2 g2 a3 g3 a4 g4 a5 g5 a6 g6 a8 a9 x0 x1 x2 x3 x4, r_277_eq c a2 g2 a3 g3 a4 g4 a5 g5 a6 g6 a8 a9 x0 x1 x2 x3 x4]
  simp only [k0_pay348, k0_pay346]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_296_eq : kernelRun0_A.sl.r_296 (F := Ideal) c a2 g2 a3 g3 a4 g4 a5 g5 a6 g6 a8 a9 x0 x1 x2 x3 x4 = tA (dat x0 x1 x2 x3 x4) 1 6 6 := by
  simp only [kernelRun0_A.sl.r_296, ones_eq, r_237_eq c a2 g2 a3 g3 a4 g4 a5 g5 a6 g6 a8 a9 x0 x1 x2 x3 x4, r_290_eq c a2 g2 a3 g3 a4 g4 a5 g5 a6 g6 a8 a9 x0 x1 x2 x3 x4, r_291_eq c a2 g2 a3 g3 a4 g4 a5 g5 a6 g6 a8 a9 x0 x1 x2 x3 x4, ↓ldV_1_5 c a2 g2 a3 g3 a4 g4 a5 g5 a6 g6 a8 a9 x0 x1 x2 x3 x4]
  simp only [k0_pay353, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_335_eq : kernelRun0_A.sl.r_335 (F := Ideal) c a2 g2 a3 g3 a4 g4 a5 g5 a6 g6 a8 a9 x0 x1 x2 x3 x4 = tB (dat x0 x1 x2 x3 x4) 1 6 6 := by
  simp only [kernelRun0_A.sl.r_335, ones_eq, r_289_eq c a2 g2 a3 g3 a4 g4 a5 g5 a6 g6 a8 a9 x0 x1 x2 x3 x4, r_296_eq c a2 g2 a3 g3 a4 g4 a5 g5 a6 g6 a8 a9 x0 x1 x2 x3 x4, r_317_eq c a2 g2 a3 g3 a4 g4 a5 g5 a6 g6 a8 a9 x0 x1 x2 x3 x4]
  simp only [k0_pay396, k0_pay388]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_336_eq : kernelRun0_A.sl.r_336 (F := Ideal) c a2 g2 a3 g3 a4 g4 a5 g5 a6 g6 a8 a9 x0 x1 x2 x3 x4 = tA (dat x0 x1 x2 x3 x4) 1 6 7 := by
  simp only [kernelRun0_A.sl.r_336, ones_eq, kernelRun0_A.sl.cst_319, r_328_eq c a2 g2 a3 g3 a4 g4 a5 g5 a6 g6 a8 a9 x0 x1 x2 x3 x4, r_334_eq c a2 g2 a3 g3 a4 g4 a5 g5 a6 g6 a8 a9 x0 x1 x2 x3 x4, r_335_eq c a2 g2 a3 g3 a4 g4 a5 g5 a6 g6 a8 a9 x0 x1 x2 x3 x4]
  simp only [k0_pay397, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem v360_eq : kernelRun0_A.sl.v360 (F := Ideal) c a2 g2 a4 g4 a5 g5 a9 x0 x2 x3 = tQ (dat x0 x1 x2 x3 x4) 0 7 :=
  load_Q c a2 g2 a4 g4 a5 g5 a9 x0 x1 x2 x3 x4 _ _ 0 7 rfl

theorem r_28_eq : kernelRun0_A.sl.r_28 (F := Ideal) c a2 g2 a3 g3 a4 g4 a5 g5 a8 a9 x0 x1 x2 x3 = tS (dat x0 x1 x2 x3 x4) 0 0 7 := by
  simp only [kernelRun0_A.sl.r_28, ones_eq, v253_eq c a2 g2 a3 g3 a4 g4 a5 g5 a6 g6 a8 a9 x0 x1 x2 x3 x4, v360_eq c a2 g2 a3 g3 a4 g4 a5 g5 a6 g6 a8 a9 x0 x1 x2 x3 x4]
  simp only [k0_pay78, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_39_eq : kernelRun0_A.sl.r_39 (F := Ideal) c a2 g2 a3 g3 a4 g4 a5 g5 a8 a9 x0 x1 x2 x3 = tM (dat x0 x1 x2 x3 x4) 0 7 1 := by
  simp only [kernelRun0_A.sl.r_39, ones_eq, pay53_eq (dat x0 x1 x2 x3 x4), r_28_eq c a2 g2 a3 g3 a4 g4 a5 g5 a6 g6 a8 a9 x0 x1 x2 x3 x4]
  simp only [k0_pay89]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_69_eq : kernelRun0_A.sl.r_69 (F := Ideal) c a2 g2 a3 g3 a4 g4 a5 g5 a8 a9 x0 x1 x2 x3 = tS (dat x0 x1 x2 x3 x4) 0 1 7 := by
  simp only [kernelRun0_A.sl.r_69, ones_eq, v360_eq c a2 g2 a3 g3 a4 g4 a5 g5 a6 g6 a8 a9 x0 x1 x2 x3 x4, v408_eq c a2 g2 a3 g3 a4 g4 a5 g5 a6 g6 a8 a9 x0 x1 x2 x3 x4]
  simp only [k0_pay119, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_80_eq : kernelRun0_A.sl.r_80 (F := Ideal) c a2 g2 a3 g3 a4 g4 a5 g5 a8 a9 x0 x1 x2 x3 = tM (dat x0 x1 x2 x3 x4) 0 7 2 := by
  simp only [kernelRun0_A.sl.r_80, ones_eq, r_39_eq c a2 g2 a3 g3 a4 g4 a5 g5 a6 g6 a8 a9 x0 x1 x2 x3 x4, r_69_eq c a2 g2 a3 g3 a4 g4 a5 g5 a6 g6 a8 a9 x0 x1 x2 x3 x4]
  simp only [k0_pay130]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_112_eq : kernelRun0_A.sl.r_112 (F := Ideal) c a3 g3 a4 g4 a5 g5 a8 x1 x2 x3 = tK' (dat x0 x1 x2 x3 x4) 0 2 := by
  simp only [kernelRun0_A.sl.r_112, ones_eq, v608_eq c a2 g2 a3 g3 a4 g4 a5 g5 a6 g6 a8 a9 x0 x1 x2 x3 x4]
  simp only [k0_pay162, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_113_eq : kernelRun0_A.sl.r_113 (F := Ideal) c a2 g2 a3 g3 a4 g4 a5 g5 a8 a9 x0 x1 x2 x3 = tS (dat x0 x1 x2 x3 x4) 0 2 7 := by
  simp only [kernelRun0_A.sl.r_113, ones_eq, r_112_eq c a2 g2 a3 g3 a4 g4 a5 g5 a6 g6 a8 a9 x0 x1 x2 x3 x4, v360_eq c a2 g2 a3 g3 a4 g4 a5 g5 a6 g6 a8 a9 x0 x1 x2 x3 x4]
  simp only [k0_pay163, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_125_eq : kernelRun0_A.sl.r_125 (F := Ideal) c a2 g2 a3 g3 a4 g4 a5 g5 a8 a9 x0 x1 x2 x3 = tM (dat x0 x1 x2 x3 x4) 0 7 3 := by
  simp only [kernelRun0_A.sl.r_125, ones_eq, r_113_eq c a2 g2 a3 g3 a4 g4 a5 g5 a6 g6 a8 a9 x0 x1 x2 x3 x4, r_80_eq c a2 g2 a3 g3 a4 g4 a5 g5 a6 g6 a8 a9 x0 x1 x2 x3 x4]
  simp only [k0_pay174]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_40_eq : kernelRun0_A.sl.r_40 (F := Ideal) c a2 g2 a3 g3 a4 g4 a5 g5 a8 a9 x0 x1 x2 x3 = tL (dat x0 x1 x2 x3 x4) 0 7 0 := by
  simp only [kernelRun0_A.sl.r_40, ones_eq, pay53_eq (dat x0 x1 x2 x3 x4), r_28_eq c a2 g2 a3 g3 a4 g4 a5 g5 a6 g6 a8 a9 x0 x1 x2 x3 x4]
  simp only [k0_pay90, k0_pay89]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_41_eq : kernelRun0_A.sl.r_41 (F := Ideal) c a2 g2 a3 g3 a4 g4 a5 g5 a8 a9 x0 x1 x2 x3 = tP (dat x0 x1 x2 x3 x4) 0 7 0 := by
  simp only [kernelRun0_A.sl.r_41, ones_eq, pay53_eq (dat x0 x1 x2 x3 x4), r_28_eq c a2 g2 a3 g3 a4 g4 a5 g5 a6 g6 a8 a9 x0 x1 x2 x3 x4]
  simp only [k0_pay91, k0_pay89]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_48_eq : kernelRun0_A.sl.r_48 (F := Ideal) c a2 g2 a3 g3 a4 g4 a5 g5 a6 g6 a8 a9 x0 x1 x2 x3 x4 = tA (dat x0 x1 x2 x3 x4) 0 7 1 := by
  simp only [kernelRun0_A.sl.r_48, ones_eq, pay54_eq (dat x0 x1 x2 x3 x4), r_40_eq c a2 g2 a3 g3 a4 g4 a5 g5 a6 g6 a8 a9 x0 x1 x2 x3 x4, r_41_eq c a2 g2 a3 g3 a4 g4 a5 g5 a6 g6 a8 a9 x0 x1 x2 x3 x4, ↓ldV_0_0 c a2 g2 a3 g3 a4 g4 a5 g5 a6 g6 a8 a9 x0 x1 x2 x3 x4]
  simp only [k0_pay98, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_81_eq : kernelRun0_A.sl.r_81 (F := Ideal) c a2 g2 a3 g3 a4 g4 a5 g5 a8 a9 x0 x1 x2 x3 = tL (dat x0 x1 x2 x3 x4) 0 7 1 := by
  simp only [kernelRun0_A.sl.r_81, ones_eq, r_39_eq c a2 g2 a3 g3 a4 g4 a5 g5 a6 g6 a8 a9 x0 x1 x2 x3 x4, r_69_eq c a2 g2 a3 g3 a4 g4 a5 g5 a6 g6 a8 a9 x0 x1 x2 x3 x4]
  simp only [k0_pay131, k0_pay130]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_82_eq : kernelRun0_A.sl.r_82 (F := Ideal) c a2 g2 a3 g3 a4 g4 a5 g5 a8 a9 x0 x1 x2 x3 = tP (dat x0 x1 x2 x3 x4) 0 7 1 := by
  simp only [kernelRun0_A.sl.r_82, ones_eq, r_39_eq c a2 g2 a3 g3 a4 g4 a5 g5 a6 g6 a8 a9 x0 x1 x2 x3 x4, r_69_eq c a2 g2 a3 g3 a4 g4 a5 g5 a6 g6 a8 a9 x0 x1 x2 x3 x4]
  simp only [k0_pay132, k0_pay130]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_89_eq : kernelRun0_A.sl.r_89 (F := Ideal) c a2 g2 a3 g3 a4 g4 a5 g5 a6 g6 a8 a9 x0 x1 x2 x3 x4 = tA (dat x0 x1 x2 x3 x4) 0 7 2 := by
  simp only [kernelRun0_A.sl.r_89, ones_eq, r_48_eq c a2 g2 a3 g3 a4 g4 a5 g5 a6 g6 a8 a9 x0 x1 x2 x3 x4, r_81_eq c a2 g2 a3 g3 a4 g4 a5 g5 a6 g6 a8 a9 x0 x1 x2 x3 x4, r_82_eq c a2 g2 a3 g3 a4 g4 a5 g5 a6 g6 a8 a9 x0 x1 x2 x3 x4, ↓ldV_0_1 c a2 g2 a3 g3 a4 g4 a5 g5 a6 g6 a8 a9 x0 x1 x2 x3 x4]
  simp only [k0_pay139, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_126_eq : kernelRun0_A.sl.r_126 (F := Ideal) c a2 g2 a3 g3 a4 g4 a5 g5 a8 a9 x0 x1 x2 x3 = tL (dat x0 x1 x2 x3 x4) 0 7 2 := by
  simp only [kernelRun0_A.sl.r_126, ones_eq, r_113_eq c a2 g2 a3 g3 a4 g4 a5 g5 a6 g6 a8 a9 x0 x1 x2 x3 x4, r_80_eq c a2 g2 a3 g3 a4 g4 a5 g5 a6 g6 a8 a9 x0 x1 x2 x3 x4]
  simp only [k0_pay175, k0_pay174]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_127_eq : kernelRun0_A.sl.r_127 (F := Ideal) c a2 g2 a3 g3 a4 g4 a5 g5 a8 a9 x0 x1 x2 x3 = tP (dat x0 x1 x2 x3 x4) 0 7 2 := by
  simp only [kernelRun0_A.sl.r_127, ones_eq, r_113_eq c a2 g2 a3 g3 a4 g4 a5 g5 a6 g6 a8 a9 x0 x1 x2 x3 x4, r_80_eq c a2 g2 a3 g3 a4 g4 a5 g5 a6 g6 a8 a9 x0 x1 x2 x3 x4]
  simp only [k0_pay176, k0_pay174]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_132_eq : kernelRun0_A.sl.r_132 (F := Ideal) c a2 g2 a3 g3 a4 g4 a5 g5 a6 g6 a8 a9 x0 x1 x2 x3 x4 = tA (dat x0 x1 x2 x3 x4) 0 7 3 := by
  simp only [kernelRun0_A.sl.r_132, ones_eq, r_126_eq c a2 g2 a3 g3 a4 g4 a5 g5 a6 g6 a8 a9 x0 x1 x2 x3 x4, r_127_eq c a2 g2 a3 g3 a4 g4 a5 g5 a6 g6 a8 a9 x0 x1 x2 x3 x4, r_89_eq c a2 g2 a3 g3 a4 g4 a5 g5 a6 g6 a8 a9 x0 x1 x2 x3 x4, ↓ldV_0_2 c a2 g2 a3 g3 a4 g4 a5 g5 a6 g6 a8 a9 x0 x1 x2 x3 x4]
  simp only [k0_pay181, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_153_eq : kernelRun0_A.sl.r_153 (F := Ideal) c a3 g3 a4 g4 a5 g5 a8 x1 x2 x3 = tK' (dat x0 x1 x2 x3 x4) 0 3 := by
  simp only [kernelRun0_A.sl.r_153, ones_eq, v808_eq c a2 g2 a3 g3 a4 g4 a5 g5 a6 g6 a8 a9 x0 x1 x2 x3 x4]
  simp only [k0_pay202, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_154_eq : kernelRun0_A.sl.r_154 (F := Ideal) c a2 g2 a3 g3 a4 g4 a5 g5 a8 a9 x0 x1 x2 x3 = tS (dat x0 x1 x2 x3 x4) 0 3 7 := by
  simp only [kernelRun0_A.sl.r_154, ones_eq, r_153_eq c a2 g2 a3 g3 a4 g4 a5 g5 a6 g6 a8 a9 x0 x1 x2 x3 x4, v360_eq c a2 g2 a3 g3 a4 g4 a5 g5 a6 g6 a8 a9 x0 x1 x2 x3 x4]
  simp only [k0_pay203, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

end Cert.Tiles
-- ==== Proof.V.Words3.lean ====
/- The named values of one run of the attention kernel, each shown to be its tile (part 3 of 4). -/
module

public import proofs.«01_k».proof.Proof.V.Words2

@[expose] public section

set_option maxRecDepth 16384

noncomputable section

namespace Cert.Tiles

open Idealize.ShloMosaic Idealize.ShloMosaic.TcCoe Cert.Online
open Cert.KernelIdeal Cert.KernelIdeal.Gen

variable (c : Dev nD) (a2 : Memref sig .tc .vmem S1x128x4096 .bf16) (g2 : a2.IsWhole)
  (a3 : Memref sig .tc .vmem S4096x128 .bf16) (g3 : a3.IsWhole) (a4 : Memref sig .tc .vmem S4096x128 .bf16) (g4 : a4.IsWhole)
  (a5 : Memref sig .tc .vmem S1x128x128 .bf16) (g5 : a5.IsWhole) (a6 : Memref sig .tc .vmem S1x128x4096 .bf16) (g6 : a6.IsWhole)
  (a8 : Memref sig .tc .vmem S2x4096x128 .bf16) (a9 : Memref sig .tc .vmem S2x128x4096 .bf16)
  (x0 : Vec Ideal S1x128x4096 .bf16) (x1 x2 : Vec Ideal S4096x128 .bf16) (x3 : Vec Ideal S1x128x128 .bf16)
  (x4 : Vec Ideal S1x128x4096 .bf16)
include c a2 g2 a3 g3 a4 g4 a5 g5 a6 g6 a8 a9 x0 x1 x2 x3 x4

theorem r_169_eq : kernelRun0_A.sl.r_169 (F := Ideal) c a2 g2 a3 g3 a4 g4 a5 g5 a6 g6 a8 a9 x0 x1 x2 x3 x4 = tA (dat x0 x1 x2 x3 x4) 0 7 4 := by
  simp only [kernelRun0_A.sl.r_169, ones_eq, r_125_eq c a2 g2 a3 g3 a4 g4 a5 g5 a6 g6 a8 a9 x0 x1 x2 x3 x4, r_132_eq c a2 g2 a3 g3 a4 g4 a5 g5 a6 g6 a8 a9 x0 x1 x2 x3 x4, r_154_eq c a2 g2 a3 g3 a4 g4 a5 g5 a6 g6 a8 a9 x0 x1 x2 x3 x4, ↓ldV_0_3 c a2 g2 a3 g3 a4 g4 a5 g5 a6 g6 a8 a9 x0 x1 x2 x3 x4]
  simp only [k0_pay218, k0_pay214]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_165_eq : kernelRun0_A.sl.r_165 (F := Ideal) c a2 g2 a3 g3 a4 g4 a5 g5 a8 a9 x0 x1 x2 x3 = tM (dat x0 x1 x2 x3 x4) 0 7 4 := by
  simp only [kernelRun0_A.sl.r_165, ones_eq, r_125_eq c a2 g2 a3 g3 a4 g4 a5 g5 a6 g6 a8 a9 x0 x1 x2 x3 x4, r_154_eq c a2 g2 a3 g3 a4 g4 a5 g5 a6 g6 a8 a9 x0 x1 x2 x3 x4]
  simp only [k0_pay214]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_226_eq : kernelRun0_A.sl.r_226 (F := Ideal) c a3 g3 a4 g4 a5 g5 a8 x1 x2 x3 = tK' (dat x0 x1 x2 x3 x4) 0 4 := by
  simp only [kernelRun0_A.sl.r_226, ones_eq, v1069_eq c a2 g2 a3 g3 a4 g4 a5 g5 a6 g6 a8 a9 x0 x1 x2 x3 x4]
  simp only [k0_pay278, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_227_eq : kernelRun0_A.sl.r_227 (F := Ideal) c a2 g2 a3 g3 a4 g4 a5 g5 a8 a9 x0 x1 x2 x3 = tS (dat x0 x1 x2 x3 x4) 0 4 7 := by
  simp only [kernelRun0_A.sl.r_227, ones_eq, r_226_eq c a2 g2 a3 g3 a4 g4 a5 g5 a6 g6 a8 a9 x0 x1 x2 x3 x4, v360_eq c a2 g2 a3 g3 a4 g4 a5 g5 a6 g6 a8 a9 x0 x1 x2 x3 x4]
  simp only [k0_pay279, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_240_eq : kernelRun0_A.sl.r_240 (F := Ideal) c a2 g2 a3 g3 a4 g4 a5 g5 a8 a9 x0 x1 x2 x3 = tL (dat x0 x1 x2 x3 x4) 0 7 4 := by
  simp only [kernelRun0_A.sl.r_240, ones_eq, r_165_eq c a2 g2 a3 g3 a4 g4 a5 g5 a6 g6 a8 a9 x0 x1 x2 x3 x4, r_227_eq c a2 g2 a3 g3 a4 g4 a5 g5 a6 g6 a8 a9 x0 x1 x2 x3 x4]
  simp only [k0_pay292, k0_pay291]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_241_eq : kernelRun0_A.sl.r_241 (F := Ideal) c a2 g2 a3 g3 a4 g4 a5 g5 a8 a9 x0 x1 x2 x3 = tP (dat x0 x1 x2 x3 x4) 0 7 4 := by
  simp only [kernelRun0_A.sl.r_241, ones_eq, r_165_eq c a2 g2 a3 g3 a4 g4 a5 g5 a6 g6 a8 a9 x0 x1 x2 x3 x4, r_227_eq c a2 g2 a3 g3 a4 g4 a5 g5 a6 g6 a8 a9 x0 x1 x2 x3 x4]
  simp only [k0_pay293, k0_pay291]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_248_eq : kernelRun0_A.sl.r_248 (F := Ideal) c a2 g2 a3 g3 a4 g4 a5 g5 a6 g6 a8 a9 x0 x1 x2 x3 x4 = tA (dat x0 x1 x2 x3 x4) 0 7 5 := by
  simp only [kernelRun0_A.sl.r_248, ones_eq, r_169_eq c a2 g2 a3 g3 a4 g4 a5 g5 a6 g6 a8 a9 x0 x1 x2 x3 x4, r_240_eq c a2 g2 a3 g3 a4 g4 a5 g5 a6 g6 a8 a9 x0 x1 x2 x3 x4, r_241_eq c a2 g2 a3 g3 a4 g4 a5 g5 a6 g6 a8 a9 x0 x1 x2 x3 x4, ↓ldV_0_4 c a2 g2 a3 g3 a4 g4 a5 g5 a6 g6 a8 a9 x0 x1 x2 x3 x4]
  simp only [k0_pay301, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_239_eq : kernelRun0_A.sl.r_239 (F := Ideal) c a2 g2 a3 g3 a4 g4 a5 g5 a8 a9 x0 x1 x2 x3 = tM (dat x0 x1 x2 x3 x4) 0 7 5 := by
  simp only [kernelRun0_A.sl.r_239, ones_eq, r_165_eq c a2 g2 a3 g3 a4 g4 a5 g5 a6 g6 a8 a9 x0 x1 x2 x3 x4, r_227_eq c a2 g2 a3 g3 a4 g4 a5 g5 a6 g6 a8 a9 x0 x1 x2 x3 x4]
  simp only [k0_pay291]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_288_eq : kernelRun0_A.sl.r_288 (F := Ideal) c a2 g2 a3 g3 a4 g4 a5 g5 a8 a9 x0 x1 x2 x3 = tS (dat x0 x1 x2 x3 x4) 0 5 7 := by
  simp only [kernelRun0_A.sl.r_288, ones_eq, v1478_eq c a2 g2 a3 g3 a4 g4 a5 g5 a6 g6 a8 a9 x0 x1 x2 x3 x4, v360_eq c a2 g2 a3 g3 a4 g4 a5 g5 a6 g6 a8 a9 x0 x1 x2 x3 x4]
  simp only [k0_pay345, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_299_eq : kernelRun0_A.sl.r_299 (F := Ideal) c a2 g2 a3 g3 a4 g4 a5 g5 a8 a9 x0 x1 x2 x3 = tL (dat x0 x1 x2 x3 x4) 0 7 5 := by
  simp only [kernelRun0_A.sl.r_299, ones_eq, r_239_eq c a2 g2 a3 g3 a4 g4 a5 g5 a6 g6 a8 a9 x0 x1 x2 x3 x4, r_288_eq c a2 g2 a3 g3 a4 g4 a5 g5 a6 g6 a8 a9 x0 x1 x2 x3 x4]
  simp only [k0_pay356, k0_pay355]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_300_eq : kernelRun0_A.sl.r_300 (F := Ideal) c a2 g2 a3 g3 a4 g4 a5 g5 a8 a9 x0 x1 x2 x3 = tP (dat x0 x1 x2 x3 x4) 0 7 5 := by
  simp only [kernelRun0_A.sl.r_300, ones_eq, r_239_eq c a2 g2 a3 g3 a4 g4 a5 g5 a6 g6 a8 a9 x0 x1 x2 x3 x4, r_288_eq c a2 g2 a3 g3 a4 g4 a5 g5 a6 g6 a8 a9 x0 x1 x2 x3 x4]
  simp only [k0_pay357, k0_pay355]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_306_eq : kernelRun0_A.sl.r_306 (F := Ideal) c a2 g2 a3 g3 a4 g4 a5 g5 a6 g6 a8 a9 x0 x1 x2 x3 x4 = tA (dat x0 x1 x2 x3 x4) 0 7 6 := by
  simp only [kernelRun0_A.sl.r_306, ones_eq, r_248_eq c a2 g2 a3 g3 a4 g4 a5 g5 a6 g6 a8 a9 x0 x1 x2 x3 x4, r_299_eq c a2 g2 a3 g3 a4 g4 a5 g5 a6 g6 a8 a9 x0 x1 x2 x3 x4, r_300_eq c a2 g2 a3 g3 a4 g4 a5 g5 a6 g6 a8 a9 x0 x1 x2 x3 x4, ↓ldV_0_5 c a2 g2 a3 g3 a4 g4 a5 g5 a6 g6 a8 a9 x0 x1 x2 x3 x4]
  simp only [k0_pay363, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_298_eq : kernelRun0_A.sl.r_298 (F := Ideal) c a2 g2 a3 g3 a4 g4 a5 g5 a8 a9 x0 x1 x2 x3 = tM (dat x0 x1 x2 x3 x4) 0 7 6 := by
  simp only [kernelRun0_A.sl.r_298, ones_eq, r_239_eq c a2 g2 a3 g3 a4 g4 a5 g5 a6 g6 a8 a9 x0 x1 x2 x3 x4, r_288_eq c a2 g2 a3 g3 a4 g4 a5 g5 a6 g6 a8 a9 x0 x1 x2 x3 x4]
  simp only [k0_pay355]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_325_eq : kernelRun0_A.sl.r_325 (F := Ideal) c a3 g3 a4 g4 a5 g5 a8 x1 x2 x3 = tK' (dat x0 x1 x2 x3 x4) 0 6 := by
  simp only [kernelRun0_A.sl.r_325, ones_eq, v1814_eq c a2 g2 a3 g3 a4 g4 a5 g5 a6 g6 a8 a9 x0 x1 x2 x3 x4]
  simp only [k0_pay385, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_326_eq : kernelRun0_A.sl.r_326 (F := Ideal) c a2 g2 a4 g4 a5 g5 a9 x0 x2 x3 = tQ' (dat x0 x1 x2 x3 x4) 0 7 := by
  simp only [kernelRun0_A.sl.r_326, ones_eq, v360_eq c a2 g2 a3 g3 a4 g4 a5 g5 a6 g6 a8 a9 x0 x1 x2 x3 x4]
  simp only [k0_pay386, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_327_eq : kernelRun0_A.sl.r_327 (F := Ideal) c a2 g2 a3 g3 a4 g4 a5 g5 a8 a9 x0 x1 x2 x3 = tS (dat x0 x1 x2 x3 x4) 0 6 7 := by
  simp only [kernelRun0_A.sl.r_327, ones_eq, r_325_eq c a2 g2 a3 g3 a4 g4 a5 g5 a6 g6 a8 a9 x0 x1 x2 x3 x4, r_326_eq c a2 g2 a3 g3 a4 g4 a5 g5 a6 g6 a8 a9 x0 x1 x2 x3 x4]
  simp only [k0_pay387, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_339_eq : kernelRun0_A.sl.r_339 (F := Ideal) c a2 g2 a3 g3 a4 g4 a5 g5 a8 a9 x0 x1 x2 x3 = tL (dat x0 x1 x2 x3 x4) 0 7 6 := by
  simp only [kernelRun0_A.sl.r_339, ones_eq, r_298_eq c a2 g2 a3 g3 a4 g4 a5 g5 a6 g6 a8 a9 x0 x1 x2 x3 x4, r_327_eq c a2 g2 a3 g3 a4 g4 a5 g5 a6 g6 a8 a9 x0 x1 x2 x3 x4]
  simp only [k0_pay400, k0_pay399]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_340_eq : kernelRun0_A.sl.r_340 (F := Ideal) c a2 g2 a3 g3 a4 g4 a5 g5 a8 a9 x0 x1 x2 x3 = tP (dat x0 x1 x2 x3 x4) 0 7 6 := by
  simp only [kernelRun0_A.sl.r_340, ones_eq, r_298_eq c a2 g2 a3 g3 a4 g4 a5 g5 a6 g6 a8 a9 x0 x1 x2 x3 x4, r_327_eq c a2 g2 a3 g3 a4 g4 a5 g5 a6 g6 a8 a9 x0 x1 x2 x3 x4]
  simp only [k0_pay401, k0_pay399]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_347_eq : kernelRun0_A.sl.r_347 (F := Ideal) c a2 g2 a3 g3 a4 g4 a5 g5 a6 g6 a8 a9 x0 x1 x2 x3 x4 = tA (dat x0 x1 x2 x3 x4) 0 7 7 := by
  simp only [kernelRun0_A.sl.r_347, ones_eq, r_306_eq c a2 g2 a3 g3 a4 g4 a5 g5 a6 g6 a8 a9 x0 x1 x2 x3 x4, r_339_eq c a2 g2 a3 g3 a4 g4 a5 g5 a6 g6 a8 a9 x0 x1 x2 x3 x4, r_340_eq c a2 g2 a3 g3 a4 g4 a5 g5 a6 g6 a8 a9 x0 x1 x2 x3 x4, ↓ldV_0_6 c a2 g2 a3 g3 a4 g4 a5 g5 a6 g6 a8 a9 x0 x1 x2 x3 x4]
  simp only [k0_pay410, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_338_eq : kernelRun0_A.sl.r_338 (F := Ideal) c a2 g2 a3 g3 a4 g4 a5 g5 a8 a9 x0 x1 x2 x3 = tM (dat x0 x1 x2 x3 x4) 0 7 7 := by
  simp only [kernelRun0_A.sl.r_338, ones_eq, r_298_eq c a2 g2 a3 g3 a4 g4 a5 g5 a6 g6 a8 a9 x0 x1 x2 x3 x4, r_327_eq c a2 g2 a3 g3 a4 g4 a5 g5 a6 g6 a8 a9 x0 x1 x2 x3 x4]
  simp only [k0_pay399]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem v2050_eq : kernelRun0_A.sl.v2050 (F := Ideal) c a3 g3 a4 g4 a5 g5 a8 x1 x2 x3 = tK (dat x0 x1 x2 x3 x4) 0 7 :=
  load_K c a3 g3 a4 g4 a5 g5 a8 x0 x1 x2 x3 x4 _ _ 0 7 rfl

theorem r_348_eq : kernelRun0_A.sl.r_348 (F := Ideal) c a2 g2 a3 g3 a4 g4 a5 g5 a8 a9 x0 x1 x2 x3 = tS (dat x0 x1 x2 x3 x4) 0 7 7 := by
  simp only [kernelRun0_A.sl.r_348, ones_eq, v2050_eq c a2 g2 a3 g3 a4 g4 a5 g5 a6 g6 a8 a9 x0 x1 x2 x3 x4, v360_eq c a2 g2 a3 g3 a4 g4 a5 g5 a6 g6 a8 a9 x0 x1 x2 x3 x4]
  simp only [k0_pay411, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]
  rw [mask_1536]

theorem r_359_eq : kernelRun0_A.sl.r_359 (F := Ideal) c a2 g2 a3 g3 a4 g4 a5 g5 a8 a9 x0 x1 x2 x3 = tL (dat x0 x1 x2 x3 x4) 0 7 7 := by
  simp only [kernelRun0_A.sl.r_359, ones_eq, r_338_eq c a2 g2 a3 g3 a4 g4 a5 g5 a6 g6 a8 a9 x0 x1 x2 x3 x4, r_348_eq c a2 g2 a3 g3 a4 g4 a5 g5 a6 g6 a8 a9 x0 x1 x2 x3 x4]
  simp only [k0_pay424, k0_pay423]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_360_eq : kernelRun0_A.sl.r_360 (F := Ideal) c a2 g2 a3 g3 a4 g4 a5 g5 a8 a9 x0 x1 x2 x3 = tP (dat x0 x1 x2 x3 x4) 0 7 7 := by
  simp only [kernelRun0_A.sl.r_360, ones_eq, r_338_eq c a2 g2 a3 g3 a4 g4 a5 g5 a6 g6 a8 a9 x0 x1 x2 x3 x4, r_348_eq c a2 g2 a3 g3 a4 g4 a5 g5 a6 g6 a8 a9 x0 x1 x2 x3 x4]
  simp only [k0_pay425, k0_pay423]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_364_eq : kernelRun0_A.sl.r_364 (F := Ideal) c a2 g2 a3 g3 a4 g4 a5 g5 a6 g6 a8 a9 x0 x1 x2 x3 x4 = tA (dat x0 x1 x2 x3 x4) 0 7 8 := by
  simp only [kernelRun0_A.sl.r_364, ones_eq, r_347_eq c a2 g2 a3 g3 a4 g4 a5 g5 a6 g6 a8 a9 x0 x1 x2 x3 x4, r_359_eq c a2 g2 a3 g3 a4 g4 a5 g5 a6 g6 a8 a9 x0 x1 x2 x3 x4, r_360_eq c a2 g2 a3 g3 a4 g4 a5 g5 a6 g6 a8 a9 x0 x1 x2 x3 x4, ↓ldV_0_7 c a2 g2 a3 g3 a4 g4 a5 g5 a6 g6 a8 a9 x0 x1 x2 x3 x4]
  simp only [k0_pay429, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem v385_eq : kernelRun0_A.sl.v385 (F := Ideal) c a2 g2 a4 g4 a5 g5 a9 x0 x2 x3 = tQ (dat x0 x1 x2 x3 x4) 1 7 :=
  load_Q c a2 g2 a4 g4 a5 g5 a9 x0 x1 x2 x3 x4 _ _ 1 7 rfl

theorem r_33_eq : kernelRun0_A.sl.r_33 (F := Ideal) c a2 g2 a3 g3 a4 g4 a5 g5 a8 a9 x0 x1 x2 x3 = tS (dat x0 x1 x2 x3 x4) 1 0 7 := by
  simp only [kernelRun0_A.sl.r_33, ones_eq, v260_eq c a2 g2 a3 g3 a4 g4 a5 g5 a6 g6 a8 a9 x0 x1 x2 x3 x4, v385_eq c a2 g2 a3 g3 a4 g4 a5 g5 a6 g6 a8 a9 x0 x1 x2 x3 x4]
  simp only [k0_pay83, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_45_eq : kernelRun0_A.sl.r_45 (F := Ideal) c a2 g2 a3 g3 a4 g4 a5 g5 a8 a9 x0 x1 x2 x3 = tM (dat x0 x1 x2 x3 x4) 1 7 1 := by
  simp only [kernelRun0_A.sl.r_45, ones_eq, pay55_eq (dat x0 x1 x2 x3 x4), r_33_eq c a2 g2 a3 g3 a4 g4 a5 g5 a6 g6 a8 a9 x0 x1 x2 x3 x4]
  simp only [k0_pay95]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_74_eq : kernelRun0_A.sl.r_74 (F := Ideal) c a2 g2 a3 g3 a4 g4 a5 g5 a8 a9 x0 x1 x2 x3 = tS (dat x0 x1 x2 x3 x4) 1 1 7 := by
  simp only [kernelRun0_A.sl.r_74, ones_eq, v385_eq c a2 g2 a3 g3 a4 g4 a5 g5 a6 g6 a8 a9 x0 x1 x2 x3 x4, v433_eq c a2 g2 a3 g3 a4 g4 a5 g5 a6 g6 a8 a9 x0 x1 x2 x3 x4]
  simp only [k0_pay124, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_87_eq : kernelRun0_A.sl.r_87 (F := Ideal) c a2 g2 a3 g3 a4 g4 a5 g5 a8 a9 x0 x1 x2 x3 = tM (dat x0 x1 x2 x3 x4) 1 7 2 := by
  simp only [kernelRun0_A.sl.r_87, ones_eq, r_45_eq c a2 g2 a3 g3 a4 g4 a5 g5 a6 g6 a8 a9 x0 x1 x2 x3 x4, r_74_eq c a2 g2 a3 g3 a4 g4 a5 g5 a6 g6 a8 a9 x0 x1 x2 x3 x4]
  simp only [k0_pay137]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_118_eq : kernelRun0_A.sl.r_118 (F := Ideal) c a2 g2 a3 g3 a4 g4 a5 g5 a8 a9 x0 x1 x2 x3 = tS (dat x0 x1 x2 x3 x4) 1 2 7 := by
  simp only [kernelRun0_A.sl.r_118, ones_eq, v385_eq c a2 g2 a3 g3 a4 g4 a5 g5 a6 g6 a8 a9 x0 x1 x2 x3 x4, v633_eq c a2 g2 a3 g3 a4 g4 a5 g5 a6 g6 a8 a9 x0 x1 x2 x3 x4]
  simp only [k0_pay168, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_130_eq : kernelRun0_A.sl.r_130 (F := Ideal) c a2 g2 a3 g3 a4 g4 a5 g5 a8 a9 x0 x1 x2 x3 = tRed (dat x0 x1 x2 x3 x4) 1 2 7 := by
  simp only [kernelRun0_A.sl.r_130, ones_eq, r_118_eq c a2 g2 a3 g3 a4 g4 a5 g5 a6 g6 a8 a9 x0 x1 x2 x3 x4]
  simp only [k0_pay179]
  rw [red_S]

theorem r_131_eq : kernelRun0_A.sl.r_131 (F := Ideal) c a2 g2 a3 g3 a4 g4 a5 g5 a8 a9 x0 x1 x2 x3 = tM (dat x0 x1 x2 x3 x4) 1 7 3 := by
  simp only [kernelRun0_A.sl.r_131, ones_eq, r_130_eq c a2 g2 a3 g3 a4 g4 a5 g5 a6 g6 a8 a9 x0 x1 x2 x3 x4, r_87_eq c a2 g2 a3 g3 a4 g4 a5 g5 a6 g6 a8 a9 x0 x1 x2 x3 x4]
  simp only [k0_pay180, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_158_eq : kernelRun0_A.sl.r_158 (F := Ideal) c a2 g2 a3 g3 a4 g4 a5 g5 a8 a9 x0 x1 x2 x3 = tS (dat x0 x1 x2 x3 x4) 1 3 7 := by
  simp only [kernelRun0_A.sl.r_158, ones_eq, v385_eq c a2 g2 a3 g3 a4 g4 a5 g5 a6 g6 a8 a9 x0 x1 x2 x3 x4, v833_eq c a2 g2 a3 g3 a4 g4 a5 g5 a6 g6 a8 a9 x0 x1 x2 x3 x4]
  simp only [k0_pay207, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_167_eq : kernelRun0_A.sl.r_167 (F := Ideal) c a2 g2 a3 g3 a4 g4 a5 g5 a8 a9 x0 x1 x2 x3 = tM (dat x0 x1 x2 x3 x4) 1 7 4 := by
  simp only [kernelRun0_A.sl.r_167, ones_eq, r_131_eq c a2 g2 a3 g3 a4 g4 a5 g5 a6 g6 a8 a9 x0 x1 x2 x3 x4, r_158_eq c a2 g2 a3 g3 a4 g4 a5 g5 a6 g6 a8 a9 x0 x1 x2 x3 x4]
  simp only [k0_pay216]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_238_eq : kernelRun0_A.sl.r_238 (F := Ideal) c a2 g2 a3 g3 a4 g4 a5 g5 a8 a9 x0 x1 x2 x3 = tS (dat x0 x1 x2 x3 x4) 1 4 7 := by
  simp only [kernelRun0_A.sl.r_238, ones_eq, v1110_eq c a2 g2 a3 g3 a4 g4 a5 g5 a6 g6 a8 a9 x0 x1 x2 x3 x4, v385_eq c a2 g2 a3 g3 a4 g4 a5 g5 a6 g6 a8 a9 x0 x1 x2 x3 x4]
  simp only [k0_pay290, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_250_eq : kernelRun0_A.sl.r_250 (F := Ideal) c a2 g2 a3 g3 a4 g4 a5 g5 a8 a9 x0 x1 x2 x3 = tRed (dat x0 x1 x2 x3 x4) 1 4 7 := by
  simp only [kernelRun0_A.sl.r_250, ones_eq, r_238_eq c a2 g2 a3 g3 a4 g4 a5 g5 a6 g6 a8 a9 x0 x1 x2 x3 x4]
  simp only [k0_pay303]
  rw [red_S]

theorem r_251_eq : kernelRun0_A.sl.r_251 (F := Ideal) c a2 g2 a3 g3 a4 g4 a5 g5 a8 a9 x0 x1 x2 x3 = tM (dat x0 x1 x2 x3 x4) 1 7 5 := by
  simp only [kernelRun0_A.sl.r_251, ones_eq, r_167_eq c a2 g2 a3 g3 a4 g4 a5 g5 a6 g6 a8 a9 x0 x1 x2 x3 x4, r_250_eq c a2 g2 a3 g3 a4 g4 a5 g5 a6 g6 a8 a9 x0 x1 x2 x3 x4]
  simp only [k0_pay304, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_297_eq : kernelRun0_A.sl.r_297 (F := Ideal) c a2 g2 a3 g3 a4 g4 a5 g5 a8 a9 x0 x1 x2 x3 = tS (dat x0 x1 x2 x3 x4) 1 5 7 := by
  simp only [kernelRun0_A.sl.r_297, ones_eq, v1546_eq c a2 g2 a3 g3 a4 g4 a5 g5 a6 g6 a8 a9 x0 x1 x2 x3 x4, v385_eq c a2 g2 a3 g3 a4 g4 a5 g5 a6 g6 a8 a9 x0 x1 x2 x3 x4]
  simp only [k0_pay354, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_309_eq : kernelRun0_A.sl.r_309 (F := Ideal) c a2 g2 a3 g3 a4 g4 a5 g5 a8 a9 x0 x1 x2 x3 = tM (dat x0 x1 x2 x3 x4) 1 7 6 := by
  simp only [kernelRun0_A.sl.r_309, ones_eq, r_251_eq c a2 g2 a3 g3 a4 g4 a5 g5 a6 g6 a8 a9 x0 x1 x2 x3 x4, r_297_eq c a2 g2 a3 g3 a4 g4 a5 g5 a6 g6 a8 a9 x0 x1 x2 x3 x4]
  simp only [k0_pay366]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_337_eq : kernelRun0_A.sl.r_337 (F := Ideal) c a2 g2 a3 g3 a4 g4 a5 g5 a8 a9 x0 x1 x2 x3 = tS (dat x0 x1 x2 x3 x4) 1 6 7 := by
  simp only [kernelRun0_A.sl.r_337, ones_eq, v1882_eq c a2 g2 a3 g3 a4 g4 a5 g5 a6 g6 a8 a9 x0 x1 x2 x3 x4, v385_eq c a2 g2 a3 g3 a4 g4 a5 g5 a6 g6 a8 a9 x0 x1 x2 x3 x4]
  simp only [k0_pay398, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_349_eq : kernelRun0_A.sl.r_349 (F := Ideal) c a2 g2 a3 g3 a4 g4 a5 g5 a8 a9 x0 x1 x2 x3 = tM (dat x0 x1 x2 x3 x4) 1 7 7 := by
  simp only [kernelRun0_A.sl.r_349, ones_eq, r_309_eq c a2 g2 a3 g3 a4 g4 a5 g5 a6 g6 a8 a9 x0 x1 x2 x3 x4, r_337_eq c a2 g2 a3 g3 a4 g4 a5 g5 a6 g6 a8 a9 x0 x1 x2 x3 x4]
  simp only [k0_pay412]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_168_eq : kernelRun0_A.sl.r_168 (F := Ideal) c a2 g2 a3 g3 a4 g4 a5 g5 a8 a9 x0 x1 x2 x3 = tP (dat x0 x1 x2 x3 x4) 1 7 3 := by
  simp only [kernelRun0_A.sl.r_168, ones_eq, r_131_eq c a2 g2 a3 g3 a4 g4 a5 g5 a6 g6 a8 a9 x0 x1 x2 x3 x4, r_158_eq c a2 g2 a3 g3 a4 g4 a5 g5 a6 g6 a8 a9 x0 x1 x2 x3 x4]
  simp only [k0_pay217, k0_pay216]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_170_eq : kernelRun0_A.sl.r_170 (F := Ideal) c a6 g6 x4 = tVE (dat x0 x1 x2 x3 x4) 1 3 := by
  simp only [kernelRun0_A.sl.r_170, ones_eq, ↓ldV_1_3 c a2 g2 a3 g3 a4 g4 a5 g5 a6 g6 a8 a9 x0 x1 x2 x3 x4]
  simp only [k0_pay219, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_88_eq : kernelRun0_A.sl.r_88 (F := Ideal) c a2 g2 a3 g3 a4 g4 a5 g5 a8 a9 x0 x1 x2 x3 = tP (dat x0 x1 x2 x3 x4) 1 7 1 := by
  simp only [kernelRun0_A.sl.r_88, ones_eq, r_45_eq c a2 g2 a3 g3 a4 g4 a5 g5 a6 g6 a8 a9 x0 x1 x2 x3 x4, r_74_eq c a2 g2 a3 g3 a4 g4 a5 g5 a6 g6 a8 a9 x0 x1 x2 x3 x4]
  simp only [k0_pay138, k0_pay137]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_94_eq : kernelRun0_A.sl.r_94 (F := Ideal) c a6 g6 x4 = tVE (dat x0 x1 x2 x3 x4) 1 1 := by
  simp only [kernelRun0_A.sl.r_94, ones_eq, ↓ldV_1_1 c a2 g2 a3 g3 a4 g4 a5 g5 a6 g6 a8 a9 x0 x1 x2 x3 x4]
  simp only [k0_pay144, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_46_eq : kernelRun0_A.sl.r_46 (F := Ideal) c a2 g2 a3 g3 a4 g4 a5 g5 a8 a9 x0 x1 x2 x3 = tL (dat x0 x1 x2 x3 x4) 1 7 0 := by
  simp only [kernelRun0_A.sl.r_46, ones_eq, pay55_eq (dat x0 x1 x2 x3 x4), r_33_eq c a2 g2 a3 g3 a4 g4 a5 g5 a6 g6 a8 a9 x0 x1 x2 x3 x4]
  simp only [k0_pay96, k0_pay95]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_47_eq : kernelRun0_A.sl.r_47 (F := Ideal) c a2 g2 a3 g3 a4 g4 a5 g5 a8 a9 x0 x1 x2 x3 = tP (dat x0 x1 x2 x3 x4) 1 7 0 := by
  simp only [kernelRun0_A.sl.r_47, ones_eq, pay55_eq (dat x0 x1 x2 x3 x4), r_33_eq c a2 g2 a3 g3 a4 g4 a5 g5 a6 g6 a8 a9 x0 x1 x2 x3 x4]
  simp only [k0_pay97, k0_pay95]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_53_eq : kernelRun0_A.sl.r_53 (F := Ideal) c a6 g6 x4 = tV' (dat x0 x1 x2 x3 x4) 1 0 := by
  simp only [kernelRun0_A.sl.r_53, ones_eq, ↓ldV_1_0 c a2 g2 a3 g3 a4 g4 a5 g5 a6 g6 a8 a9 x0 x1 x2 x3 x4]
  simp only [k0_pay103, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_54_eq : kernelRun0_A.sl.r_54 (F := Ideal) c a2 g2 a3 g3 a4 g4 a5 g5 a6 g6 a8 a9 x0 x1 x2 x3 x4 = tA (dat x0 x1 x2 x3 x4) 1 7 1 := by
  simp only [kernelRun0_A.sl.r_54, ones_eq, pay56_eq (dat x0 x1 x2 x3 x4), r_46_eq c a2 g2 a3 g3 a4 g4 a5 g5 a6 g6 a8 a9 x0 x1 x2 x3 x4, r_47_eq c a2 g2 a3 g3 a4 g4 a5 g5 a6 g6 a8 a9 x0 x1 x2 x3 x4, r_53_eq c a2 g2 a3 g3 a4 g4 a5 g5 a6 g6 a8 a9 x0 x1 x2 x3 x4]
  simp only [k0_pay104, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_95_eq : kernelRun0_A.sl.r_95 (F := Ideal) c a2 g2 a3 g3 a4 g4 a5 g5 a6 g6 a8 a9 x0 x1 x2 x3 x4 = tB (dat x0 x1 x2 x3 x4) 1 7 1 := by
  simp only [kernelRun0_A.sl.r_95, ones_eq, r_45_eq c a2 g2 a3 g3 a4 g4 a5 g5 a6 g6 a8 a9 x0 x1 x2 x3 x4, r_54_eq c a2 g2 a3 g3 a4 g4 a5 g5 a6 g6 a8 a9 x0 x1 x2 x3 x4, r_74_eq c a2 g2 a3 g3 a4 g4 a5 g5 a6 g6 a8 a9 x0 x1 x2 x3 x4]
  simp only [k0_pay145, k0_pay137]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_96_eq : kernelRun0_A.sl.r_96 (F := Ideal) c a2 g2 a3 g3 a4 g4 a5 g5 a6 g6 a8 a9 x0 x1 x2 x3 x4 = tA (dat x0 x1 x2 x3 x4) 1 7 2 := by
  simp only [kernelRun0_A.sl.r_96, ones_eq, kernelRun0_A.sl.cst_319, r_88_eq c a2 g2 a3 g3 a4 g4 a5 g5 a6 g6 a8 a9 x0 x1 x2 x3 x4, r_94_eq c a2 g2 a3 g3 a4 g4 a5 g5 a6 g6 a8 a9 x0 x1 x2 x3 x4, r_95_eq c a2 g2 a3 g3 a4 g4 a5 g5 a6 g6 a8 a9 x0 x1 x2 x3 x4]
  simp only [k0_pay146, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_137_eq : kernelRun0_A.sl.r_137 (F := Ideal) c a2 g2 a3 g3 a4 g4 a5 g5 a6 g6 a8 a9 x0 x1 x2 x3 x4 = tA (dat x0 x1 x2 x3 x4) 1 7 3 := by
  simp only [kernelRun0_A.sl.r_137, ones_eq, r_118_eq c a2 g2 a3 g3 a4 g4 a5 g5 a6 g6 a8 a9 x0 x1 x2 x3 x4, r_130_eq c a2 g2 a3 g3 a4 g4 a5 g5 a6 g6 a8 a9 x0 x1 x2 x3 x4, r_87_eq c a2 g2 a3 g3 a4 g4 a5 g5 a6 g6 a8 a9 x0 x1 x2 x3 x4, r_96_eq c a2 g2 a3 g3 a4 g4 a5 g5 a6 g6 a8 a9 x0 x1 x2 x3 x4, ↓ldV_1_2 c a2 g2 a3 g3 a4 g4 a5 g5 a6 g6 a8 a9 x0 x1 x2 x3 x4]
  simp only [k0_pay186, k0_pay180, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_171_eq : kernelRun0_A.sl.r_171 (F := Ideal) c a2 g2 a3 g3 a4 g4 a5 g5 a6 g6 a8 a9 x0 x1 x2 x3 x4 = tB (dat x0 x1 x2 x3 x4) 1 7 3 := by
  simp only [kernelRun0_A.sl.r_171, ones_eq, r_131_eq c a2 g2 a3 g3 a4 g4 a5 g5 a6 g6 a8 a9 x0 x1 x2 x3 x4, r_137_eq c a2 g2 a3 g3 a4 g4 a5 g5 a6 g6 a8 a9 x0 x1 x2 x3 x4, r_158_eq c a2 g2 a3 g3 a4 g4 a5 g5 a6 g6 a8 a9 x0 x1 x2 x3 x4]
  simp only [k0_pay220, k0_pay216]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_172_eq : kernelRun0_A.sl.r_172 (F := Ideal) c a2 g2 a3 g3 a4 g4 a5 g5 a6 g6 a8 a9 x0 x1 x2 x3 x4 = tA (dat x0 x1 x2 x3 x4) 1 7 4 := by
  simp only [kernelRun0_A.sl.r_172, ones_eq, kernelRun0_A.sl.cst_319, r_168_eq c a2 g2 a3 g3 a4 g4 a5 g5 a6 g6 a8 a9 x0 x1 x2 x3 x4, r_170_eq c a2 g2 a3 g3 a4 g4 a5 g5 a6 g6 a8 a9 x0 x1 x2 x3 x4, r_171_eq c a2 g2 a3 g3 a4 g4 a5 g5 a6 g6 a8 a9 x0 x1 x2 x3 x4]
  simp only [k0_pay221, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_252_eq : kernelRun0_A.sl.r_252 (F := Ideal) c a2 g2 a3 g3 a4 g4 a5 g5 a8 a9 x0 x1 x2 x3 = tL (dat x0 x1 x2 x3 x4) 1 7 4 := by
  simp only [kernelRun0_A.sl.r_252, ones_eq, r_167_eq c a2 g2 a3 g3 a4 g4 a5 g5 a6 g6 a8 a9 x0 x1 x2 x3 x4, r_250_eq c a2 g2 a3 g3 a4 g4 a5 g5 a6 g6 a8 a9 x0 x1 x2 x3 x4]
  simp only [k0_pay305, k0_pay304, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_253_eq : kernelRun0_A.sl.r_253 (F := Ideal) c a2 g2 a3 g3 a4 g4 a5 g5 a8 a9 x0 x1 x2 x3 = tP (dat x0 x1 x2 x3 x4) 1 7 4 := by
  simp only [kernelRun0_A.sl.r_253, ones_eq, r_167_eq c a2 g2 a3 g3 a4 g4 a5 g5 a6 g6 a8 a9 x0 x1 x2 x3 x4, r_238_eq c a2 g2 a3 g3 a4 g4 a5 g5 a6 g6 a8 a9 x0 x1 x2 x3 x4, r_250_eq c a2 g2 a3 g3 a4 g4 a5 g5 a6 g6 a8 a9 x0 x1 x2 x3 x4]
  simp only [k0_pay306, k0_pay304, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_258_eq : kernelRun0_A.sl.r_258 (F := Ideal) c a2 g2 a3 g3 a4 g4 a5 g5 a6 g6 a8 a9 x0 x1 x2 x3 x4 = tA (dat x0 x1 x2 x3 x4) 1 7 5 := by
  simp only [kernelRun0_A.sl.r_258, ones_eq, r_172_eq c a2 g2 a3 g3 a4 g4 a5 g5 a6 g6 a8 a9 x0 x1 x2 x3 x4, r_252_eq c a2 g2 a3 g3 a4 g4 a5 g5 a6 g6 a8 a9 x0 x1 x2 x3 x4, r_253_eq c a2 g2 a3 g3 a4 g4 a5 g5 a6 g6 a8 a9 x0 x1 x2 x3 x4, ↓ldV_1_4 c a2 g2 a3 g3 a4 g4 a5 g5 a6 g6 a8 a9 x0 x1 x2 x3 x4]
  simp only [k0_pay312, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_310_eq : kernelRun0_A.sl.r_310 (F := Ideal) c a2 g2 a3 g3 a4 g4 a5 g5 a8 a9 x0 x1 x2 x3 = tL (dat x0 x1 x2 x3 x4) 1 7 5 := by
  simp only [kernelRun0_A.sl.r_310, ones_eq, r_251_eq c a2 g2 a3 g3 a4 g4 a5 g5 a6 g6 a8 a9 x0 x1 x2 x3 x4, r_297_eq c a2 g2 a3 g3 a4 g4 a5 g5 a6 g6 a8 a9 x0 x1 x2 x3 x4]
  simp only [k0_pay367, k0_pay366]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_311_eq : kernelRun0_A.sl.r_311 (F := Ideal) c a2 g2 a3 g3 a4 g4 a5 g5 a8 a9 x0 x1 x2 x3 = tP (dat x0 x1 x2 x3 x4) 1 7 5 := by
  simp only [kernelRun0_A.sl.r_311, ones_eq, r_251_eq c a2 g2 a3 g3 a4 g4 a5 g5 a6 g6 a8 a9 x0 x1 x2 x3 x4, r_297_eq c a2 g2 a3 g3 a4 g4 a5 g5 a6 g6 a8 a9 x0 x1 x2 x3 x4]
  simp only [k0_pay368, k0_pay366]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_316_eq : kernelRun0_A.sl.r_316 (F := Ideal) c a2 g2 a3 g3 a4 g4 a5 g5 a6 g6 a8 a9 x0 x1 x2 x3 x4 = tA (dat x0 x1 x2 x3 x4) 1 7 6 := by
  simp only [kernelRun0_A.sl.r_316, ones_eq, r_258_eq c a2 g2 a3 g3 a4 g4 a5 g5 a6 g6 a8 a9 x0 x1 x2 x3 x4, r_310_eq c a2 g2 a3 g3 a4 g4 a5 g5 a6 g6 a8 a9 x0 x1 x2 x3 x4, r_311_eq c a2 g2 a3 g3 a4 g4 a5 g5 a6 g6 a8 a9 x0 x1 x2 x3 x4, ↓ldV_1_5 c a2 g2 a3 g3 a4 g4 a5 g5 a6 g6 a8 a9 x0 x1 x2 x3 x4]
  simp only [k0_pay374, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_350_eq : kernelRun0_A.sl.r_350 (F := Ideal) c a2 g2 a3 g3 a4 g4 a5 g5 a8 a9 x0 x1 x2 x3 = tL (dat x0 x1 x2 x3 x4) 1 7 6 := by
  simp only [kernelRun0_A.sl.r_350, ones_eq, r_309_eq c a2 g2 a3 g3 a4 g4 a5 g5 a6 g6 a8 a9 x0 x1 x2 x3 x4, r_337_eq c a2 g2 a3 g3 a4 g4 a5 g5 a6 g6 a8 a9 x0 x1 x2 x3 x4]
  simp only [k0_pay413, k0_pay412]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_351_eq : kernelRun0_A.sl.r_351 (F := Ideal) c a2 g2 a3 g3 a4 g4 a5 g5 a8 a9 x0 x1 x2 x3 = tP (dat x0 x1 x2 x3 x4) 1 7 6 := by
  simp only [kernelRun0_A.sl.r_351, ones_eq, r_337_eq c a2 g2 a3 g3 a4 g4 a5 g5 a6 g6 a8 a9 x0 x1 x2 x3 x4, r_349_eq c a2 g2 a3 g3 a4 g4 a5 g5 a6 g6 a8 a9 x0 x1 x2 x3 x4]
  simp only [k0_pay414, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_356_eq : kernelRun0_A.sl.r_356 (F := Ideal) c a6 g6 x4 = tV' (dat x0 x1 x2 x3 x4) 1 6 := by
  simp only [kernelRun0_A.sl.r_356, ones_eq, ↓ldV_1_6 c a2 g2 a3 g3 a4 g4 a5 g5 a6 g6 a8 a9 x0 x1 x2 x3 x4]
  simp only [k0_pay420, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_357_eq : kernelRun0_A.sl.r_357 (F := Ideal) c a2 g2 a3 g3 a4 g4 a5 g5 a6 g6 a8 a9 x0 x1 x2 x3 x4 = tA (dat x0 x1 x2 x3 x4) 1 7 7 := by
  simp only [kernelRun0_A.sl.r_357, ones_eq, r_316_eq c a2 g2 a3 g3 a4 g4 a5 g5 a6 g6 a8 a9 x0 x1 x2 x3 x4, r_350_eq c a2 g2 a3 g3 a4 g4 a5 g5 a6 g6 a8 a9 x0 x1 x2 x3 x4, r_351_eq c a2 g2 a3 g3 a4 g4 a5 g5 a6 g6 a8 a9 x0 x1 x2 x3 x4, r_356_eq c a2 g2 a3 g3 a4 g4 a5 g5 a6 g6 a8 a9 x0 x1 x2 x3 x4]
  simp only [k0_pay421, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem v2118_eq : kernelRun0_A.sl.v2118 (F := Ideal) c a3 g3 a4 g4 a5 g5 a8 x1 x2 x3 = tK (dat x0 x1 x2 x3 x4) 1 7 :=
  load_K c a3 g3 a4 g4 a5 g5 a8 x0 x1 x2 x3 x4 _ _ 1 7 rfl

theorem r_358_eq : kernelRun0_A.sl.r_358 (F := Ideal) c a2 g2 a3 g3 a4 g4 a5 g5 a8 a9 x0 x1 x2 x3 = tS (dat x0 x1 x2 x3 x4) 1 7 7 := by
  simp only [kernelRun0_A.sl.r_358, ones_eq, v2118_eq c a2 g2 a3 g3 a4 g4 a5 g5 a6 g6 a8 a9 x0 x1 x2 x3 x4, v385_eq c a2 g2 a3 g3 a4 g4 a5 g5 a6 g6 a8 a9 x0 x1 x2 x3 x4]
  simp only [k0_pay422, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]
  rw [mask_1536]

theorem r_365_eq : kernelRun0_A.sl.r_365 (F := Ideal) c a2 g2 a3 g3 a4 g4 a5 g5 a6 g6 a8 a9 x0 x1 x2 x3 x4 = tA (dat x0 x1 x2 x3 x4) 1 7 8 := by
  simp only [kernelRun0_A.sl.r_365, ones_eq, r_349_eq c a2 g2 a3 g3 a4 g4 a5 g5 a6 g6 a8 a9 x0 x1 x2 x3 x4, r_357_eq c a2 g2 a3 g3 a4 g4 a5 g5 a6 g6 a8 a9 x0 x1 x2 x3 x4, r_358_eq c a2 g2 a3 g3 a4 g4 a5 g5 a6 g6 a8 a9 x0 x1 x2 x3 x4, ↓ldV_1_7 c a2 g2 a3 g3 a4 g4 a5 g5 a6 g6 a8 a9 x0 x1 x2 x3 x4]
  simp only [k0_pay430]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem v1055_eq : kernelRun0_A.sl.v1055 (F := Ideal) c a2 g2 a4 g4 a5 g5 a9 x0 x2 x3 = tQ (dat x0 x1 x2 x3 x4) 0 0 :=
  load_Q c a2 g2 a4 g4 a5 g5 a9 x0 x1 x2 x3 x4 _ _ 0 0 rfl

theorem r_173_eq : kernelRun0_A.sl.r_173 (F := Ideal) c a2 g2 a3 g3 a4 g4 a5 g5 a8 a9 x0 x1 x2 x3 = tS (dat x0 x1 x2 x3 x4) 0 0 0 := by
  simp only [kernelRun0_A.sl.r_173, ones_eq, v1055_eq c a2 g2 a3 g3 a4 g4 a5 g5 a6 g6 a8 a9 x0 x1 x2 x3 x4, v253_eq c a2 g2 a3 g3 a4 g4 a5 g5 a6 g6 a8 a9 x0 x1 x2 x3 x4]
  simp only [k0_pay222, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]
  rw [mask_0]

theorem r_176_eq : kernelRun0_A.sl.r_176 (F := Ideal) c a2 g2 a3 g3 a4 g4 a5 g5 a8 a9 x0 x1 x2 x3 = tL (dat x0 x1 x2 x3 x4) 0 0 0 := by
  simp only [kernelRun0_A.sl.r_176, ones_eq, pay25_eq (dat x0 x1 x2 x3 x4), r_173_eq c a2 g2 a3 g3 a4 g4 a5 g5 a6 g6 a8 a9 x0 x1 x2 x3 x4]
  simp only [k0_pay226, k0_pay225]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_177_eq : kernelRun0_A.sl.r_177 (F := Ideal) c a2 g2 a3 g3 a4 g4 a5 g5 a8 a9 x0 x1 x2 x3 = tP (dat x0 x1 x2 x3 x4) 0 0 0 := by
  simp only [kernelRun0_A.sl.r_177, ones_eq, pay25_eq (dat x0 x1 x2 x3 x4), r_173_eq c a2 g2 a3 g3 a4 g4 a5 g5 a6 g6 a8 a9 x0 x1 x2 x3 x4]
  simp only [k0_pay227, k0_pay225]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_180_eq : kernelRun0_A.sl.r_180 (F := Ideal) c a2 g2 a3 g3 a4 g4 a5 g5 a6 g6 a8 a9 x0 x1 x2 x3 x4 = tA (dat x0 x1 x2 x3 x4) 0 0 1 := by
  simp only [kernelRun0_A.sl.r_180, ones_eq, pay26_eq (dat x0 x1 x2 x3 x4), r_176_eq c a2 g2 a3 g3 a4 g4 a5 g5 a6 g6 a8 a9 x0 x1 x2 x3 x4, r_177_eq c a2 g2 a3 g3 a4 g4 a5 g5 a6 g6 a8 a9 x0 x1 x2 x3 x4, ↓ldV_0_0 c a2 g2 a3 g3 a4 g4 a5 g5 a6 g6 a8 a9 x0 x1 x2 x3 x4]
  simp only [k0_pay230, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem v1146_eq : kernelRun0_A.sl.v1146 (F := Ideal) c a2 g2 a4 g4 a5 g5 a9 x0 x2 x3 = tQ (dat x0 x1 x2 x3 x4) 0 1 :=
  load_Q c a2 g2 a4 g4 a5 g5 a9 x0 x1 x2 x3 x4 _ _ 0 1 rfl

theorem r_181_eq : kernelRun0_A.sl.r_181 (F := Ideal) c a2 g2 a3 g3 a4 g4 a5 g5 a8 a9 x0 x1 x2 x3 = tS (dat x0 x1 x2 x3 x4) 0 0 1 := by
  simp only [kernelRun0_A.sl.r_181, ones_eq, v1146_eq c a2 g2 a3 g3 a4 g4 a5 g5 a6 g6 a8 a9 x0 x1 x2 x3 x4, v253_eq c a2 g2 a3 g3 a4 g4 a5 g5 a6 g6 a8 a9 x0 x1 x2 x3 x4]
  simp only [k0_pay231, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_191_eq : kernelRun0_A.sl.r_191 (F := Ideal) c a2 g2 a3 g3 a4 g4 a5 g5 a8 a9 x0 x1 x2 x3 = tL (dat x0 x1 x2 x3 x4) 0 1 0 := by
  simp only [kernelRun0_A.sl.r_191, ones_eq, pay29_eq (dat x0 x1 x2 x3 x4), r_181_eq c a2 g2 a3 g3 a4 g4 a5 g5 a6 g6 a8 a9 x0 x1 x2 x3 x4]
  simp only [k0_pay243, k0_pay242]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_192_eq : kernelRun0_A.sl.r_192 (F := Ideal) c a2 g2 a3 g3 a4 g4 a5 g5 a8 a9 x0 x1 x2 x3 = tP (dat x0 x1 x2 x3 x4) 0 1 0 := by
  simp only [kernelRun0_A.sl.r_192, ones_eq, pay29_eq (dat x0 x1 x2 x3 x4), r_181_eq c a2 g2 a3 g3 a4 g4 a5 g5 a6 g6 a8 a9 x0 x1 x2 x3 x4]
  simp only [k0_pay244, k0_pay242]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_198_eq : kernelRun0_A.sl.r_198 (F := Ideal) c a2 g2 a3 g3 a4 g4 a5 g5 a6 g6 a8 a9 x0 x1 x2 x3 x4 = tA (dat x0 x1 x2 x3 x4) 0 1 1 := by
  simp only [kernelRun0_A.sl.r_198, ones_eq, pay30_eq (dat x0 x1 x2 x3 x4), r_191_eq c a2 g2 a3 g3 a4 g4 a5 g5 a6 g6 a8 a9 x0 x1 x2 x3 x4, r_192_eq c a2 g2 a3 g3 a4 g4 a5 g5 a6 g6 a8 a9 x0 x1 x2 x3 x4, ↓ldV_0_0 c a2 g2 a3 g3 a4 g4 a5 g5 a6 g6 a8 a9 x0 x1 x2 x3 x4]
  simp only [k0_pay250, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_190_eq : kernelRun0_A.sl.r_190 (F := Ideal) c a2 g2 a3 g3 a4 g4 a5 g5 a8 a9 x0 x1 x2 x3 = tM (dat x0 x1 x2 x3 x4) 0 1 1 := by
  simp only [kernelRun0_A.sl.r_190, ones_eq, pay29_eq (dat x0 x1 x2 x3 x4), r_181_eq c a2 g2 a3 g3 a4 g4 a5 g5 a6 g6 a8 a9 x0 x1 x2 x3 x4]
  simp only [k0_pay242]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_243_eq : kernelRun0_A.sl.r_243 (F := Ideal) c a2 g2 a3 g3 a4 g4 a5 g5 a8 a9 x0 x1 x2 x3 = tRaw (dat x0 x1 x2 x3 x4) 0 1 1 := by
  simp only [kernelRun0_A.sl.r_243, ones_eq, v1146_eq c a2 g2 a3 g3 a4 g4 a5 g5 a6 g6 a8 a9 x0 x1 x2 x3 x4, v408_eq c a2 g2 a3 g3 a4 g4 a5 g5 a6 g6 a8 a9 x0 x1 x2 x3 x4]
  simp only [k0_pay295, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_244_eq : kernelRun0_A.sl.r_244 (F := Ideal) c a2 g2 a3 g3 a4 g4 a5 g5 a8 a9 x0 x1 x2 x3 = tS (dat x0 x1 x2 x3 x4) 0 1 1 := by
  simp only [kernelRun0_A.sl.r_244, ones_eq, r_243_eq c a2 g2 a3 g3 a4 g4 a5 g5 a6 g6 a8 a9 x0 x1 x2 x3 x4, kernelRun0_A.sl.v1449]
  simp only [k0_pay297, k0_pay296, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]
  rw [mask_512]

theorem r_256_eq : kernelRun0_A.sl.r_256 (F := Ideal) c a2 g2 a3 g3 a4 g4 a5 g5 a8 a9 x0 x1 x2 x3 = tL (dat x0 x1 x2 x3 x4) 0 1 1 := by
  simp only [kernelRun0_A.sl.r_256, ones_eq, r_190_eq c a2 g2 a3 g3 a4 g4 a5 g5 a6 g6 a8 a9 x0 x1 x2 x3 x4, r_244_eq c a2 g2 a3 g3 a4 g4 a5 g5 a6 g6 a8 a9 x0 x1 x2 x3 x4]
  simp only [k0_pay310, k0_pay309]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_257_eq : kernelRun0_A.sl.r_257 (F := Ideal) c a2 g2 a3 g3 a4 g4 a5 g5 a8 a9 x0 x1 x2 x3 = tP (dat x0 x1 x2 x3 x4) 0 1 1 := by
  simp only [kernelRun0_A.sl.r_257, ones_eq, r_190_eq c a2 g2 a3 g3 a4 g4 a5 g5 a6 g6 a8 a9 x0 x1 x2 x3 x4, r_244_eq c a2 g2 a3 g3 a4 g4 a5 g5 a6 g6 a8 a9 x0 x1 x2 x3 x4]
  simp only [k0_pay311, k0_pay309]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_262_eq : kernelRun0_A.sl.r_262 (F := Ideal) c a2 g2 a3 g3 a4 g4 a5 g5 a6 g6 a8 a9 x0 x1 x2 x3 x4 = tA (dat x0 x1 x2 x3 x4) 0 1 2 := by
  simp only [kernelRun0_A.sl.r_262, ones_eq, r_198_eq c a2 g2 a3 g3 a4 g4 a5 g5 a6 g6 a8 a9 x0 x1 x2 x3 x4, r_256_eq c a2 g2 a3 g3 a4 g4 a5 g5 a6 g6 a8 a9 x0 x1 x2 x3 x4, r_257_eq c a2 g2 a3 g3 a4 g4 a5 g5 a6 g6 a8 a9 x0 x1 x2 x3 x4, ↓ldV_0_1 c a2 g2 a3 g3 a4 g4 a5 g5 a6 g6 a8 a9 x0 x1 x2 x3 x4]
  simp only [k0_pay317, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_199_eq : kernelRun0_A.sl.r_199 (F := Ideal) c a3 g3 a4 g4 a5 g5 a8 x1 x2 x3 = tK' (dat x0 x1 x2 x3 x4) 0 0 := by
  simp only [kernelRun0_A.sl.r_199, ones_eq, v253_eq c a2 g2 a3 g3 a4 g4 a5 g5 a6 g6 a8 a9 x0 x1 x2 x3 x4]
  simp only [k0_pay251, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem v1246_eq : kernelRun0_A.sl.v1246 (F := Ideal) c a2 g2 a4 g4 a5 g5 a9 x0 x2 x3 = tQ (dat x0 x1 x2 x3 x4) 0 2 :=
  load_Q c a2 g2 a4 g4 a5 g5 a9 x0 x1 x2 x3 x4 _ _ 0 2 rfl

theorem r_200_eq : kernelRun0_A.sl.r_200 (F := Ideal) c a2 g2 a4 g4 a5 g5 a9 x0 x2 x3 = tQ' (dat x0 x1 x2 x3 x4) 0 2 := by
  simp only [kernelRun0_A.sl.r_200, ones_eq, v1246_eq c a2 g2 a3 g3 a4 g4 a5 g5 a6 g6 a8 a9 x0 x1 x2 x3 x4]
  simp only [k0_pay252, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_201_eq : kernelRun0_A.sl.r_201 (F := Ideal) c a2 g2 a3 g3 a4 g4 a5 g5 a8 a9 x0 x1 x2 x3 = tS (dat x0 x1 x2 x3 x4) 0 0 2 := by
  simp only [kernelRun0_A.sl.r_201, ones_eq, kernelRun0_A.sl.cst_150, r_199_eq c a2 g2 a3 g3 a4 g4 a5 g5 a6 g6 a8 a9 x0 x1 x2 x3 x4, r_200_eq c a2 g2 a3 g3 a4 g4 a5 g5 a6 g6 a8 a9 x0 x1 x2 x3 x4]
  simp only [k0_pay253, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_213_eq : kernelRun0_A.sl.r_213 (F := Ideal) c a2 g2 a3 g3 a4 g4 a5 g5 a8 a9 x0 x1 x2 x3 = tL (dat x0 x1 x2 x3 x4) 0 2 0 := by
  simp only [kernelRun0_A.sl.r_213, ones_eq, pay33_eq (dat x0 x1 x2 x3 x4), r_201_eq c a2 g2 a3 g3 a4 g4 a5 g5 a6 g6 a8 a9 x0 x1 x2 x3 x4]
  simp only [k0_pay265, k0_pay264]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_214_eq : kernelRun0_A.sl.r_214 (F := Ideal) c a2 g2 a3 g3 a4 g4 a5 g5 a8 a9 x0 x1 x2 x3 = tP (dat x0 x1 x2 x3 x4) 0 2 0 := by
  simp only [kernelRun0_A.sl.r_214, ones_eq, pay33_eq (dat x0 x1 x2 x3 x4), r_201_eq c a2 g2 a3 g3 a4 g4 a5 g5 a6 g6 a8 a9 x0 x1 x2 x3 x4]
  simp only [k0_pay266, k0_pay264]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_220_eq : kernelRun0_A.sl.r_220 (F := Ideal) c a2 g2 a3 g3 a4 g4 a5 g5 a6 g6 a8 a9 x0 x1 x2 x3 x4 = tA (dat x0 x1 x2 x3 x4) 0 2 1 := by
  simp only [kernelRun0_A.sl.r_220, ones_eq, pay34_eq (dat x0 x1 x2 x3 x4), r_213_eq c a2 g2 a3 g3 a4 g4 a5 g5 a6 g6 a8 a9 x0 x1 x2 x3 x4, r_214_eq c a2 g2 a3 g3 a4 g4 a5 g5 a6 g6 a8 a9 x0 x1 x2 x3 x4, ↓ldV_0_0 c a2 g2 a3 g3 a4 g4 a5 g5 a6 g6 a8 a9 x0 x1 x2 x3 x4]
  simp only [k0_pay272, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_212_eq : kernelRun0_A.sl.r_212 (F := Ideal) c a2 g2 a3 g3 a4 g4 a5 g5 a8 a9 x0 x1 x2 x3 = tM (dat x0 x1 x2 x3 x4) 0 2 1 := by
  simp only [kernelRun0_A.sl.r_212, ones_eq, pay33_eq (dat x0 x1 x2 x3 x4), r_201_eq c a2 g2 a3 g3 a4 g4 a5 g5 a6 g6 a8 a9 x0 x1 x2 x3 x4]
  simp only [k0_pay264]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_263_eq : kernelRun0_A.sl.r_263 (F := Ideal) c a2 g2 a3 g3 a4 g4 a5 g5 a8 a9 x0 x1 x2 x3 = tS (dat x0 x1 x2 x3 x4) 0 1 2 := by
  simp only [kernelRun0_A.sl.r_263, ones_eq, v1246_eq c a2 g2 a3 g3 a4 g4 a5 g5 a6 g6 a8 a9 x0 x1 x2 x3 x4, v408_eq c a2 g2 a3 g3 a4 g4 a5 g5 a6 g6 a8 a9 x0 x1 x2 x3 x4]
  simp only [k0_pay318, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_273_eq : kernelRun0_A.sl.r_273 (F := Ideal) c a2 g2 a3 g3 a4 g4 a5 g5 a8 a9 x0 x1 x2 x3 = tL (dat x0 x1 x2 x3 x4) 0 2 1 := by
  simp only [kernelRun0_A.sl.r_273, ones_eq, r_212_eq c a2 g2 a3 g3 a4 g4 a5 g5 a6 g6 a8 a9 x0 x1 x2 x3 x4, r_263_eq c a2 g2 a3 g3 a4 g4 a5 g5 a6 g6 a8 a9 x0 x1 x2 x3 x4]
  simp only [k0_pay330, k0_pay329]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_274_eq : kernelRun0_A.sl.r_274 (F := Ideal) c a2 g2 a3 g3 a4 g4 a5 g5 a8 a9 x0 x1 x2 x3 = tP (dat x0 x1 x2 x3 x4) 0 2 1 := by
  simp only [kernelRun0_A.sl.r_274, ones_eq, r_212_eq c a2 g2 a3 g3 a4 g4 a5 g5 a6 g6 a8 a9 x0 x1 x2 x3 x4, r_263_eq c a2 g2 a3 g3 a4 g4 a5 g5 a6 g6 a8 a9 x0 x1 x2 x3 x4]
  simp only [k0_pay331, k0_pay329]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_280_eq : kernelRun0_A.sl.r_280 (F := Ideal) c a2 g2 a3 g3 a4 g4 a5 g5 a6 g6 a8 a9 x0 x1 x2 x3 x4 = tA (dat x0 x1 x2 x3 x4) 0 2 2 := by
  simp only [kernelRun0_A.sl.r_280, ones_eq, r_220_eq c a2 g2 a3 g3 a4 g4 a5 g5 a6 g6 a8 a9 x0 x1 x2 x3 x4, r_273_eq c a2 g2 a3 g3 a4 g4 a5 g5 a6 g6 a8 a9 x0 x1 x2 x3 x4, r_274_eq c a2 g2 a3 g3 a4 g4 a5 g5 a6 g6 a8 a9 x0 x1 x2 x3 x4, ↓ldV_0_1 c a2 g2 a3 g3 a4 g4 a5 g5 a6 g6 a8 a9 x0 x1 x2 x3 x4]
  simp only [k0_pay337, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_272_eq : kernelRun0_A.sl.r_272 (F := Ideal) c a2 g2 a3 g3 a4 g4 a5 g5 a8 a9 x0 x1 x2 x3 = tM (dat x0 x1 x2 x3 x4) 0 2 2 := by
  simp only [kernelRun0_A.sl.r_272, ones_eq, r_212_eq c a2 g2 a3 g3 a4 g4 a5 g5 a6 g6 a8 a9 x0 x1 x2 x3 x4, r_263_eq c a2 g2 a3 g3 a4 g4 a5 g5 a6 g6 a8 a9 x0 x1 x2 x3 x4]
  simp only [k0_pay329]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_302_eq : kernelRun0_A.sl.r_302 (F := Ideal) c a2 g2 a3 g3 a4 g4 a5 g5 a8 a9 x0 x1 x2 x3 = tS (dat x0 x1 x2 x3 x4) 0 2 2 := by
  simp only [kernelRun0_A.sl.r_302, ones_eq, v1246_eq c a2 g2 a3 g3 a4 g4 a5 g5 a6 g6 a8 a9 x0 x1 x2 x3 x4, v608_eq c a2 g2 a3 g3 a4 g4 a5 g5 a6 g6 a8 a9 x0 x1 x2 x3 x4]
  simp only [k0_pay359, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]
  rw [mask_1024]

theorem r_314_eq : kernelRun0_A.sl.r_314 (F := Ideal) c a2 g2 a3 g3 a4 g4 a5 g5 a8 a9 x0 x1 x2 x3 = tL (dat x0 x1 x2 x3 x4) 0 2 2 := by
  simp only [kernelRun0_A.sl.r_314, ones_eq, r_272_eq c a2 g2 a3 g3 a4 g4 a5 g5 a6 g6 a8 a9 x0 x1 x2 x3 x4, r_302_eq c a2 g2 a3 g3 a4 g4 a5 g5 a6 g6 a8 a9 x0 x1 x2 x3 x4]
  simp only [k0_pay372, k0_pay371]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_315_eq : kernelRun0_A.sl.r_315 (F := Ideal) c a2 g2 a3 g3 a4 g4 a5 g5 a8 a9 x0 x1 x2 x3 = tP (dat x0 x1 x2 x3 x4) 0 2 2 := by
  simp only [kernelRun0_A.sl.r_315, ones_eq, r_272_eq c a2 g2 a3 g3 a4 g4 a5 g5 a6 g6 a8 a9 x0 x1 x2 x3 x4, r_302_eq c a2 g2 a3 g3 a4 g4 a5 g5 a6 g6 a8 a9 x0 x1 x2 x3 x4]
  simp only [k0_pay373, k0_pay371]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_320_eq : kernelRun0_A.sl.r_320 (F := Ideal) c a2 g2 a3 g3 a4 g4 a5 g5 a6 g6 a8 a9 x0 x1 x2 x3 x4 = tA (dat x0 x1 x2 x3 x4) 0 2 3 := by
  simp only [kernelRun0_A.sl.r_320, ones_eq, r_280_eq c a2 g2 a3 g3 a4 g4 a5 g5 a6 g6 a8 a9 x0 x1 x2 x3 x4, r_314_eq c a2 g2 a3 g3 a4 g4 a5 g5 a6 g6 a8 a9 x0 x1 x2 x3 x4, r_315_eq c a2 g2 a3 g3 a4 g4 a5 g5 a6 g6 a8 a9 x0 x1 x2 x3 x4, ↓ldV_0_2 c a2 g2 a3 g3 a4 g4 a5 g5 a6 g6 a8 a9 x0 x1 x2 x3 x4]
  simp only [k0_pay379, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem v1346_eq : kernelRun0_A.sl.v1346 (F := Ideal) c a2 g2 a4 g4 a5 g5 a9 x0 x2 x3 = tQ (dat x0 x1 x2 x3 x4) 0 3 :=
  load_Q c a2 g2 a4 g4 a5 g5 a9 x0 x1 x2 x3 x4 _ _ 0 3 rfl

theorem r_221_eq : kernelRun0_A.sl.r_221 (F := Ideal) c a2 g2 a3 g3 a4 g4 a5 g5 a8 a9 x0 x1 x2 x3 = tS (dat x0 x1 x2 x3 x4) 0 0 3 := by
  simp only [kernelRun0_A.sl.r_221, ones_eq, v1346_eq c a2 g2 a3 g3 a4 g4 a5 g5 a6 g6 a8 a9 x0 x1 x2 x3 x4, v253_eq c a2 g2 a3 g3 a4 g4 a5 g5 a6 g6 a8 a9 x0 x1 x2 x3 x4]
  simp only [k0_pay273, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_234_eq : kernelRun0_A.sl.r_234 (F := Ideal) c a2 g2 a3 g3 a4 g4 a5 g5 a8 a9 x0 x1 x2 x3 = tL (dat x0 x1 x2 x3 x4) 0 3 0 := by
  simp only [kernelRun0_A.sl.r_234, ones_eq, pay37_eq (dat x0 x1 x2 x3 x4), r_221_eq c a2 g2 a3 g3 a4 g4 a5 g5 a6 g6 a8 a9 x0 x1 x2 x3 x4]
  simp only [k0_pay286, k0_pay285]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_235_eq : kernelRun0_A.sl.r_235 (F := Ideal) c a2 g2 a3 g3 a4 g4 a5 g5 a8 a9 x0 x1 x2 x3 = tP (dat x0 x1 x2 x3 x4) 0 3 0 := by
  simp only [kernelRun0_A.sl.r_235, ones_eq, pay37_eq (dat x0 x1 x2 x3 x4), r_221_eq c a2 g2 a3 g3 a4 g4 a5 g5 a6 g6 a8 a9 x0 x1 x2 x3 x4]
  simp only [k0_pay287, k0_pay285]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_242_eq : kernelRun0_A.sl.r_242 (F := Ideal) c a2 g2 a3 g3 a4 g4 a5 g5 a6 g6 a8 a9 x0 x1 x2 x3 x4 = tA (dat x0 x1 x2 x3 x4) 0 3 1 := by
  simp only [kernelRun0_A.sl.r_242, ones_eq, pay38_eq (dat x0 x1 x2 x3 x4), r_234_eq c a2 g2 a3 g3 a4 g4 a5 g5 a6 g6 a8 a9 x0 x1 x2 x3 x4, r_235_eq c a2 g2 a3 g3 a4 g4 a5 g5 a6 g6 a8 a9 x0 x1 x2 x3 x4, ↓ldV_0_0 c a2 g2 a3 g3 a4 g4 a5 g5 a6 g6 a8 a9 x0 x1 x2 x3 x4]
  simp only [k0_pay294, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_281_eq : kernelRun0_A.sl.r_281 (F := Ideal) c a2 g2 a3 g3 a4 g4 a5 g5 a8 a9 x0 x1 x2 x3 = tS (dat x0 x1 x2 x3 x4) 0 1 3 := by
  simp only [kernelRun0_A.sl.r_281, ones_eq, v1346_eq c a2 g2 a3 g3 a4 g4 a5 g5 a6 g6 a8 a9 x0 x1 x2 x3 x4, v408_eq c a2 g2 a3 g3 a4 g4 a5 g5 a6 g6 a8 a9 x0 x1 x2 x3 x4]
  simp only [k0_pay338, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_233_eq : kernelRun0_A.sl.r_233 (F := Ideal) c a2 g2 a3 g3 a4 g4 a5 g5 a8 a9 x0 x1 x2 x3 = tM (dat x0 x1 x2 x3 x4) 0 3 1 := by
  simp only [kernelRun0_A.sl.r_233, ones_eq, pay37_eq (dat x0 x1 x2 x3 x4), r_221_eq c a2 g2 a3 g3 a4 g4 a5 g5 a6 g6 a8 a9 x0 x1 x2 x3 x4]
  simp only [k0_pay285]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_294_eq : kernelRun0_A.sl.r_294 (F := Ideal) c a2 g2 a3 g3 a4 g4 a5 g5 a8 a9 x0 x1 x2 x3 = tM (dat x0 x1 x2 x3 x4) 0 3 2 := by
  simp only [kernelRun0_A.sl.r_294, ones_eq, r_233_eq c a2 g2 a3 g3 a4 g4 a5 g5 a6 g6 a8 a9 x0 x1 x2 x3 x4, r_281_eq c a2 g2 a3 g3 a4 g4 a5 g5 a6 g6 a8 a9 x0 x1 x2 x3 x4]
  simp only [k0_pay351]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_295_eq : kernelRun0_A.sl.r_295 (F := Ideal) c a2 g2 a3 g3 a4 g4 a5 g5 a8 a9 x0 x1 x2 x3 = tLD (dat x0 x1 x2 x3 x4) 0 3 1 := by
  simp only [kernelRun0_A.sl.r_295, ones_eq, r_233_eq c a2 g2 a3 g3 a4 g4 a5 g5 a6 g6 a8 a9 x0 x1 x2 x3 x4, r_281_eq c a2 g2 a3 g3 a4 g4 a5 g5 a6 g6 a8 a9 x0 x1 x2 x3 x4]
  simp only [k0_pay352, k0_pay351]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_301_eq : kernelRun0_A.sl.r_301 (F := Ideal) c a2 g2 a3 g3 a4 g4 a5 g5 a6 g6 a8 a9 x0 x1 x2 x3 x4 = tA (dat x0 x1 x2 x3 x4) 0 3 2 := by
  simp only [kernelRun0_A.sl.r_301, ones_eq, r_242_eq c a2 g2 a3 g3 a4 g4 a5 g5 a6 g6 a8 a9 x0 x1 x2 x3 x4, r_281_eq c a2 g2 a3 g3 a4 g4 a5 g5 a6 g6 a8 a9 x0 x1 x2 x3 x4, r_294_eq c a2 g2 a3 g3 a4 g4 a5 g5 a6 g6 a8 a9 x0 x1 x2 x3 x4, r_295_eq c a2 g2 a3 g3 a4 g4 a5 g5 a6 g6 a8 a9 x0 x1 x2 x3 x4, ↓ldV_0_1 c a2 g2 a3 g3 a4 g4 a5 g5 a6 g6 a8 a9 x0 x1 x2 x3 x4]
  simp only [k0_pay358, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_321_eq : kernelRun0_A.sl.r_321 (F := Ideal) c a2 g2 a3 g3 a4 g4 a5 g5 a8 a9 x0 x1 x2 x3 = tS (dat x0 x1 x2 x3 x4) 0 2 3 := by
  simp only [kernelRun0_A.sl.r_321, ones_eq, v1346_eq c a2 g2 a3 g3 a4 g4 a5 g5 a6 g6 a8 a9 x0 x1 x2 x3 x4, v608_eq c a2 g2 a3 g3 a4 g4 a5 g5 a6 g6 a8 a9 x0 x1 x2 x3 x4]
  simp only [k0_pay380, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_332_eq : kernelRun0_A.sl.r_332 (F := Ideal) c a2 g2 a3 g3 a4 g4 a5 g5 a8 a9 x0 x1 x2 x3 = tL (dat x0 x1 x2 x3 x4) 0 3 2 := by
  simp only [kernelRun0_A.sl.r_332, ones_eq, r_294_eq c a2 g2 a3 g3 a4 g4 a5 g5 a6 g6 a8 a9 x0 x1 x2 x3 x4, r_321_eq c a2 g2 a3 g3 a4 g4 a5 g5 a6 g6 a8 a9 x0 x1 x2 x3 x4]
  simp only [k0_pay393, k0_pay392]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

end Cert.Tiles
-- ==== Proof.V.Words4.lean ====
/- The named values of one run of the attention kernel, each shown to be its tile (part 4 of 4). -/
module

public import proofs.«01_k».proof.Proof.V.Words3

@[expose] public section

set_option maxRecDepth 16384

noncomputable section

namespace Cert.Tiles

open Idealize.ShloMosaic Idealize.ShloMosaic.TcCoe Cert.Online
open Cert.KernelIdeal Cert.KernelIdeal.Gen

variable (c : Dev nD) (a2 : Memref sig .tc .vmem S1x128x4096 .bf16) (g2 : a2.IsWhole)
  (a3 : Memref sig .tc .vmem S4096x128 .bf16) (g3 : a3.IsWhole) (a4 : Memref sig .tc .vmem S4096x128 .bf16) (g4 : a4.IsWhole)
  (a5 : Memref sig .tc .vmem S1x128x128 .bf16) (g5 : a5.IsWhole) (a6 : Memref sig .tc .vmem S1x128x4096 .bf16) (g6 : a6.IsWhole)
  (a8 : Memref sig .tc .vmem S2x4096x128 .bf16) (a9 : Memref sig .tc .vmem S2x128x4096 .bf16)
  (x0 : Vec Ideal S1x128x4096 .bf16) (x1 x2 : Vec Ideal S4096x128 .bf16) (x3 : Vec Ideal S1x128x128 .bf16)
  (x4 : Vec Ideal S1x128x4096 .bf16)
include c a2 g2 a3 g3 a4 g4 a5 g5 a6 g6 a8 a9 x0 x1 x2 x3 x4

theorem r_333_eq : kernelRun0_A.sl.r_333 (F := Ideal) c a2 g2 a3 g3 a4 g4 a5 g5 a8 a9 x0 x1 x2 x3 = tP (dat x0 x1 x2 x3 x4) 0 3 2 := by
  simp only [kernelRun0_A.sl.r_333, ones_eq, r_294_eq c a2 g2 a3 g3 a4 g4 a5 g5 a6 g6 a8 a9 x0 x1 x2 x3 x4, r_321_eq c a2 g2 a3 g3 a4 g4 a5 g5 a6 g6 a8 a9 x0 x1 x2 x3 x4]
  simp only [k0_pay394, k0_pay392]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_341_eq : kernelRun0_A.sl.r_341 (F := Ideal) c a2 g2 a3 g3 a4 g4 a5 g5 a6 g6 a8 a9 x0 x1 x2 x3 x4 = tA (dat x0 x1 x2 x3 x4) 0 3 3 := by
  simp only [kernelRun0_A.sl.r_341, ones_eq, r_301_eq c a2 g2 a3 g3 a4 g4 a5 g5 a6 g6 a8 a9 x0 x1 x2 x3 x4, r_332_eq c a2 g2 a3 g3 a4 g4 a5 g5 a6 g6 a8 a9 x0 x1 x2 x3 x4, r_333_eq c a2 g2 a3 g3 a4 g4 a5 g5 a6 g6 a8 a9 x0 x1 x2 x3 x4, ↓ldV_0_2 c a2 g2 a3 g3 a4 g4 a5 g5 a6 g6 a8 a9 x0 x1 x2 x3 x4]
  simp only [k0_pay402, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_331_eq : kernelRun0_A.sl.r_331 (F := Ideal) c a2 g2 a3 g3 a4 g4 a5 g5 a8 a9 x0 x1 x2 x3 = tM (dat x0 x1 x2 x3 x4) 0 3 3 := by
  simp only [kernelRun0_A.sl.r_331, ones_eq, r_294_eq c a2 g2 a3 g3 a4 g4 a5 g5 a6 g6 a8 a9 x0 x1 x2 x3 x4, r_321_eq c a2 g2 a3 g3 a4 g4 a5 g5 a6 g6 a8 a9 x0 x1 x2 x3 x4]
  simp only [k0_pay392]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_342_eq : kernelRun0_A.sl.r_342 (F := Ideal) c a2 g2 a3 g3 a4 g4 a5 g5 a8 a9 x0 x1 x2 x3 = tRaw (dat x0 x1 x2 x3 x4) 0 3 3 := by
  simp only [kernelRun0_A.sl.r_342, ones_eq, v1346_eq c a2 g2 a3 g3 a4 g4 a5 g5 a6 g6 a8 a9 x0 x1 x2 x3 x4, v808_eq c a2 g2 a3 g3 a4 g4 a5 g5 a6 g6 a8 a9 x0 x1 x2 x3 x4]
  simp only [k0_pay403, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_343_eq : kernelRun0_A.sl.r_343 (F := Ideal) c a2 g2 a3 g3 a4 g4 a5 g5 a8 a9 x0 x1 x2 x3 = tS (dat x0 x1 x2 x3 x4) 0 3 3 := by
  simp only [kernelRun0_A.sl.r_343, ones_eq, r_342_eq c a2 g2 a3 g3 a4 g4 a5 g5 a6 g6 a8 a9 x0 x1 x2 x3 x4, kernelRun0_A.sl.v2024]
  simp only [k0_pay406, k0_pay404, k0_pay405, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]
  rw [mask_1536]

theorem r_354_eq : kernelRun0_A.sl.r_354 (F := Ideal) c a2 g2 a3 g3 a4 g4 a5 g5 a8 a9 x0 x1 x2 x3 = tL (dat x0 x1 x2 x3 x4) 0 3 3 := by
  simp only [kernelRun0_A.sl.r_354, ones_eq, r_331_eq c a2 g2 a3 g3 a4 g4 a5 g5 a6 g6 a8 a9 x0 x1 x2 x3 x4, r_343_eq c a2 g2 a3 g3 a4 g4 a5 g5 a6 g6 a8 a9 x0 x1 x2 x3 x4]
  simp only [k0_pay418, k0_pay417]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_355_eq : kernelRun0_A.sl.r_355 (F := Ideal) c a2 g2 a3 g3 a4 g4 a5 g5 a8 a9 x0 x1 x2 x3 = tP (dat x0 x1 x2 x3 x4) 0 3 3 := by
  simp only [kernelRun0_A.sl.r_355, ones_eq, r_331_eq c a2 g2 a3 g3 a4 g4 a5 g5 a6 g6 a8 a9 x0 x1 x2 x3 x4, r_343_eq c a2 g2 a3 g3 a4 g4 a5 g5 a6 g6 a8 a9 x0 x1 x2 x3 x4]
  simp only [k0_pay419, k0_pay417]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_361_eq : kernelRun0_A.sl.r_361 (F := Ideal) c a2 g2 a3 g3 a4 g4 a5 g5 a6 g6 a8 a9 x0 x1 x2 x3 x4 = tA (dat x0 x1 x2 x3 x4) 0 3 4 := by
  simp only [kernelRun0_A.sl.r_361, ones_eq, r_341_eq c a2 g2 a3 g3 a4 g4 a5 g5 a6 g6 a8 a9 x0 x1 x2 x3 x4, r_354_eq c a2 g2 a3 g3 a4 g4 a5 g5 a6 g6 a8 a9 x0 x1 x2 x3 x4, r_355_eq c a2 g2 a3 g3 a4 g4 a5 g5 a6 g6 a8 a9 x0 x1 x2 x3 x4, ↓ldV_0_3 c a2 g2 a3 g3 a4 g4 a5 g5 a6 g6 a8 a9 x0 x1 x2 x3 x4]
  simp only [k0_pay426, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem v1087_eq : kernelRun0_A.sl.v1087 (F := Ideal) c a2 g2 a4 g4 a5 g5 a9 x0 x2 x3 = tQ (dat x0 x1 x2 x3 x4) 1 0 :=
  load_Q c a2 g2 a4 g4 a5 g5 a9 x0 x1 x2 x3 x4 _ _ 1 0 rfl

theorem r_175_eq : kernelRun0_A.sl.r_175 (F := Ideal) c a2 g2 a3 g3 a4 g4 a5 g5 a8 a9 x0 x1 x2 x3 = tS (dat x0 x1 x2 x3 x4) 1 0 0 := by
  simp only [kernelRun0_A.sl.r_175, ones_eq, v1087_eq c a2 g2 a3 g3 a4 g4 a5 g5 a6 g6 a8 a9 x0 x1 x2 x3 x4, v260_eq c a2 g2 a3 g3 a4 g4 a5 g5 a6 g6 a8 a9 x0 x1 x2 x3 x4]
  simp only [k0_pay224, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]
  rw [mask_0]

theorem r_182_eq : kernelRun0_A.sl.r_182 (F := Ideal) c a2 g2 a3 g3 a4 g4 a5 g5 a8 a9 x0 x1 x2 x3 = tL (dat x0 x1 x2 x3 x4) 1 0 0 := by
  simp only [kernelRun0_A.sl.r_182, ones_eq, pay27_eq (dat x0 x1 x2 x3 x4), r_175_eq c a2 g2 a3 g3 a4 g4 a5 g5 a6 g6 a8 a9 x0 x1 x2 x3 x4]
  simp only [k0_pay233, k0_pay232]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_183_eq : kernelRun0_A.sl.r_183 (F := Ideal) c a2 g2 a3 g3 a4 g4 a5 g5 a8 a9 x0 x1 x2 x3 = tP (dat x0 x1 x2 x3 x4) 1 0 0 := by
  simp only [kernelRun0_A.sl.r_183, ones_eq, pay27_eq (dat x0 x1 x2 x3 x4), r_175_eq c a2 g2 a3 g3 a4 g4 a5 g5 a6 g6 a8 a9 x0 x1 x2 x3 x4]
  simp only [k0_pay234, k0_pay232]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_188_eq : kernelRun0_A.sl.r_188 (F := Ideal) c a2 g2 a3 g3 a4 g4 a5 g5 a6 g6 a8 a9 x0 x1 x2 x3 x4 = tA (dat x0 x1 x2 x3 x4) 1 0 1 := by
  simp only [kernelRun0_A.sl.r_188, ones_eq, pay28_eq (dat x0 x1 x2 x3 x4), r_182_eq c a2 g2 a3 g3 a4 g4 a5 g5 a6 g6 a8 a9 x0 x1 x2 x3 x4, r_183_eq c a2 g2 a3 g3 a4 g4 a5 g5 a6 g6 a8 a9 x0 x1 x2 x3 x4, ↓ldV_1_0 c a2 g2 a3 g3 a4 g4 a5 g5 a6 g6 a8 a9 x0 x1 x2 x3 x4]
  simp only [k0_pay240, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem v1196_eq : kernelRun0_A.sl.v1196 (F := Ideal) c a2 g2 a4 g4 a5 g5 a9 x0 x2 x3 = tQ (dat x0 x1 x2 x3 x4) 1 1 :=
  load_Q c a2 g2 a4 g4 a5 g5 a9 x0 x1 x2 x3 x4 _ _ 1 1 rfl

theorem r_189_eq : kernelRun0_A.sl.r_189 (F := Ideal) c a2 g2 a3 g3 a4 g4 a5 g5 a8 a9 x0 x1 x2 x3 = tS (dat x0 x1 x2 x3 x4) 1 0 1 := by
  simp only [kernelRun0_A.sl.r_189, ones_eq, v1196_eq c a2 g2 a3 g3 a4 g4 a5 g5 a6 g6 a8 a9 x0 x1 x2 x3 x4, v260_eq c a2 g2 a3 g3 a4 g4 a5 g5 a6 g6 a8 a9 x0 x1 x2 x3 x4]
  simp only [k0_pay241, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_208_eq : kernelRun0_A.sl.r_208 (F := Ideal) c a2 g2 a3 g3 a4 g4 a5 g5 a8 a9 x0 x1 x2 x3 = tB (dat x0 x1 x2 x3 x4) 1 1 0 := by
  simp only [kernelRun0_A.sl.r_208, ones_eq, pay31_eq (dat x0 x1 x2 x3 x4), pay32_eq (dat x0 x1 x2 x3 x4), r_189_eq c a2 g2 a3 g3 a4 g4 a5 g5 a6 g6 a8 a9 x0 x1 x2 x3 x4]
  simp only [k0_pay260, k0_pay254]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_209_eq : kernelRun0_A.sl.r_209 (F := Ideal) c a2 g2 a3 g3 a4 g4 a5 g5 a6 g6 a8 a9 x0 x1 x2 x3 x4 = tC (dat x0 x1 x2 x3 x4) 1 1 0 := by
  simp only [kernelRun0_A.sl.r_209, ones_eq, pay31_eq (dat x0 x1 x2 x3 x4), r_189_eq c a2 g2 a3 g3 a4 g4 a5 g5 a6 g6 a8 a9 x0 x1 x2 x3 x4, ↓ldV_1_0 c a2 g2 a3 g3 a4 g4 a5 g5 a6 g6 a8 a9 x0 x1 x2 x3 x4]
  simp only [k0_pay261, k0_pay254]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_210_eq : kernelRun0_A.sl.r_210 (F := Ideal) c a2 g2 a3 g3 a4 g4 a5 g5 a6 g6 a8 a9 x0 x1 x2 x3 x4 = tA (dat x0 x1 x2 x3 x4) 1 1 1 := by
  simp only [kernelRun0_A.sl.r_210, ones_eq, r_208_eq c a2 g2 a3 g3 a4 g4 a5 g5 a6 g6 a8 a9 x0 x1 x2 x3 x4, r_209_eq c a2 g2 a3 g3 a4 g4 a5 g5 a6 g6 a8 a9 x0 x1 x2 x3 x4]
  simp only [k0_pay262, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_202_eq : kernelRun0_A.sl.r_202 (F := Ideal) c a2 g2 a3 g3 a4 g4 a5 g5 a8 a9 x0 x1 x2 x3 = tM (dat x0 x1 x2 x3 x4) 1 1 1 := by
  simp only [kernelRun0_A.sl.r_202, ones_eq, pay31_eq (dat x0 x1 x2 x3 x4), r_189_eq c a2 g2 a3 g3 a4 g4 a5 g5 a6 g6 a8 a9 x0 x1 x2 x3 x4]
  simp only [k0_pay254]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_255_eq : kernelRun0_A.sl.r_255 (F := Ideal) c a2 g2 a3 g3 a4 g4 a5 g5 a8 a9 x0 x1 x2 x3 = tS (dat x0 x1 x2 x3 x4) 1 1 1 := by
  simp only [kernelRun0_A.sl.r_255, ones_eq, v1196_eq c a2 g2 a3 g3 a4 g4 a5 g5 a6 g6 a8 a9 x0 x1 x2 x3 x4, v433_eq c a2 g2 a3 g3 a4 g4 a5 g5 a6 g6 a8 a9 x0 x1 x2 x3 x4]
  simp only [k0_pay308, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]
  rw [mask_512]

theorem r_264_eq : kernelRun0_A.sl.r_264 (F := Ideal) c a2 g2 a3 g3 a4 g4 a5 g5 a8 a9 x0 x1 x2 x3 = tL (dat x0 x1 x2 x3 x4) 1 1 1 := by
  simp only [kernelRun0_A.sl.r_264, ones_eq, r_202_eq c a2 g2 a3 g3 a4 g4 a5 g5 a6 g6 a8 a9 x0 x1 x2 x3 x4, r_255_eq c a2 g2 a3 g3 a4 g4 a5 g5 a6 g6 a8 a9 x0 x1 x2 x3 x4]
  simp only [k0_pay320, k0_pay319]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_265_eq : kernelRun0_A.sl.r_265 (F := Ideal) c a2 g2 a3 g3 a4 g4 a5 g5 a8 a9 x0 x1 x2 x3 = tP (dat x0 x1 x2 x3 x4) 1 1 1 := by
  simp only [kernelRun0_A.sl.r_265, ones_eq, r_202_eq c a2 g2 a3 g3 a4 g4 a5 g5 a6 g6 a8 a9 x0 x1 x2 x3 x4, r_255_eq c a2 g2 a3 g3 a4 g4 a5 g5 a6 g6 a8 a9 x0 x1 x2 x3 x4]
  simp only [k0_pay321, k0_pay319]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_270_eq : kernelRun0_A.sl.r_270 (F := Ideal) c a2 g2 a3 g3 a4 g4 a5 g5 a6 g6 a8 a9 x0 x1 x2 x3 x4 = tA (dat x0 x1 x2 x3 x4) 1 1 2 := by
  simp only [kernelRun0_A.sl.r_270, ones_eq, r_210_eq c a2 g2 a3 g3 a4 g4 a5 g5 a6 g6 a8 a9 x0 x1 x2 x3 x4, r_264_eq c a2 g2 a3 g3 a4 g4 a5 g5 a6 g6 a8 a9 x0 x1 x2 x3 x4, r_265_eq c a2 g2 a3 g3 a4 g4 a5 g5 a6 g6 a8 a9 x0 x1 x2 x3 x4, ↓ldV_1_1 c a2 g2 a3 g3 a4 g4 a5 g5 a6 g6 a8 a9 x0 x1 x2 x3 x4]
  simp only [k0_pay327, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem v1296_eq : kernelRun0_A.sl.v1296 (F := Ideal) c a2 g2 a4 g4 a5 g5 a9 x0 x2 x3 = tQ (dat x0 x1 x2 x3 x4) 1 2 :=
  load_Q c a2 g2 a4 g4 a5 g5 a9 x0 x1 x2 x3 x4 _ _ 1 2 rfl

theorem r_211_eq : kernelRun0_A.sl.r_211 (F := Ideal) c a2 g2 a3 g3 a4 g4 a5 g5 a8 a9 x0 x1 x2 x3 = tS (dat x0 x1 x2 x3 x4) 1 0 2 := by
  simp only [kernelRun0_A.sl.r_211, ones_eq, v1296_eq c a2 g2 a3 g3 a4 g4 a5 g5 a6 g6 a8 a9 x0 x1 x2 x3 x4, v260_eq c a2 g2 a3 g3 a4 g4 a5 g5 a6 g6 a8 a9 x0 x1 x2 x3 x4]
  simp only [k0_pay263, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_223_eq : kernelRun0_A.sl.r_223 (F := Ideal) c a2 g2 a3 g3 a4 g4 a5 g5 a8 a9 x0 x1 x2 x3 = tL (dat x0 x1 x2 x3 x4) 1 2 0 := by
  simp only [kernelRun0_A.sl.r_223, ones_eq, pay35_eq (dat x0 x1 x2 x3 x4), r_211_eq c a2 g2 a3 g3 a4 g4 a5 g5 a6 g6 a8 a9 x0 x1 x2 x3 x4]
  simp only [k0_pay275, k0_pay274]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_224_eq : kernelRun0_A.sl.r_224 (F := Ideal) c a2 g2 a3 g3 a4 g4 a5 g5 a8 a9 x0 x1 x2 x3 = tP (dat x0 x1 x2 x3 x4) 1 2 0 := by
  simp only [kernelRun0_A.sl.r_224, ones_eq, pay35_eq (dat x0 x1 x2 x3 x4), r_211_eq c a2 g2 a3 g3 a4 g4 a5 g5 a6 g6 a8 a9 x0 x1 x2 x3 x4]
  simp only [k0_pay276, k0_pay274]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_231_eq : kernelRun0_A.sl.r_231 (F := Ideal) c a2 g2 a3 g3 a4 g4 a5 g5 a6 g6 a8 a9 x0 x1 x2 x3 x4 = tA (dat x0 x1 x2 x3 x4) 1 2 1 := by
  simp only [kernelRun0_A.sl.r_231, ones_eq, pay36_eq (dat x0 x1 x2 x3 x4), r_223_eq c a2 g2 a3 g3 a4 g4 a5 g5 a6 g6 a8 a9 x0 x1 x2 x3 x4, r_224_eq c a2 g2 a3 g3 a4 g4 a5 g5 a6 g6 a8 a9 x0 x1 x2 x3 x4, ↓ldV_1_0 c a2 g2 a3 g3 a4 g4 a5 g5 a6 g6 a8 a9 x0 x1 x2 x3 x4]
  simp only [k0_pay283, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_222_eq : kernelRun0_A.sl.r_222 (F := Ideal) c a2 g2 a3 g3 a4 g4 a5 g5 a8 a9 x0 x1 x2 x3 = tM (dat x0 x1 x2 x3 x4) 1 2 1 := by
  simp only [kernelRun0_A.sl.r_222, ones_eq, pay35_eq (dat x0 x1 x2 x3 x4), r_211_eq c a2 g2 a3 g3 a4 g4 a5 g5 a6 g6 a8 a9 x0 x1 x2 x3 x4]
  simp only [k0_pay274]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_271_eq : kernelRun0_A.sl.r_271 (F := Ideal) c a2 g2 a3 g3 a4 g4 a5 g5 a8 a9 x0 x1 x2 x3 = tS (dat x0 x1 x2 x3 x4) 1 1 2 := by
  simp only [kernelRun0_A.sl.r_271, ones_eq, v1296_eq c a2 g2 a3 g3 a4 g4 a5 g5 a6 g6 a8 a9 x0 x1 x2 x3 x4, v433_eq c a2 g2 a3 g3 a4 g4 a5 g5 a6 g6 a8 a9 x0 x1 x2 x3 x4]
  simp only [k0_pay328, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_283_eq : kernelRun0_A.sl.r_283 (F := Ideal) c a2 g2 a3 g3 a4 g4 a5 g5 a8 a9 x0 x1 x2 x3 = tL (dat x0 x1 x2 x3 x4) 1 2 1 := by
  simp only [kernelRun0_A.sl.r_283, ones_eq, r_222_eq c a2 g2 a3 g3 a4 g4 a5 g5 a6 g6 a8 a9 x0 x1 x2 x3 x4, r_271_eq c a2 g2 a3 g3 a4 g4 a5 g5 a6 g6 a8 a9 x0 x1 x2 x3 x4]
  simp only [k0_pay340, k0_pay339]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_284_eq : kernelRun0_A.sl.r_284 (F := Ideal) c a2 g2 a3 g3 a4 g4 a5 g5 a8 a9 x0 x1 x2 x3 = tP (dat x0 x1 x2 x3 x4) 1 2 1 := by
  simp only [kernelRun0_A.sl.r_284, ones_eq, r_222_eq c a2 g2 a3 g3 a4 g4 a5 g5 a6 g6 a8 a9 x0 x1 x2 x3 x4, r_271_eq c a2 g2 a3 g3 a4 g4 a5 g5 a6 g6 a8 a9 x0 x1 x2 x3 x4]
  simp only [k0_pay341, k0_pay339]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_292_eq : kernelRun0_A.sl.r_292 (F := Ideal) c a2 g2 a3 g3 a4 g4 a5 g5 a6 g6 a8 a9 x0 x1 x2 x3 x4 = tA (dat x0 x1 x2 x3 x4) 1 2 2 := by
  simp only [kernelRun0_A.sl.r_292, ones_eq, r_231_eq c a2 g2 a3 g3 a4 g4 a5 g5 a6 g6 a8 a9 x0 x1 x2 x3 x4, r_283_eq c a2 g2 a3 g3 a4 g4 a5 g5 a6 g6 a8 a9 x0 x1 x2 x3 x4, r_284_eq c a2 g2 a3 g3 a4 g4 a5 g5 a6 g6 a8 a9 x0 x1 x2 x3 x4, ↓ldV_1_1 c a2 g2 a3 g3 a4 g4 a5 g5 a6 g6 a8 a9 x0 x1 x2 x3 x4]
  simp only [k0_pay349, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_282_eq : kernelRun0_A.sl.r_282 (F := Ideal) c a2 g2 a3 g3 a4 g4 a5 g5 a8 a9 x0 x1 x2 x3 = tM (dat x0 x1 x2 x3 x4) 1 2 2 := by
  simp only [kernelRun0_A.sl.r_282, ones_eq, r_222_eq c a2 g2 a3 g3 a4 g4 a5 g5 a6 g6 a8 a9 x0 x1 x2 x3 x4, r_271_eq c a2 g2 a3 g3 a4 g4 a5 g5 a6 g6 a8 a9 x0 x1 x2 x3 x4]
  simp only [k0_pay339]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_313_eq : kernelRun0_A.sl.r_313 (F := Ideal) c a2 g2 a3 g3 a4 g4 a5 g5 a8 a9 x0 x1 x2 x3 = tS (dat x0 x1 x2 x3 x4) 1 2 2 := by
  simp only [kernelRun0_A.sl.r_313, ones_eq, v1296_eq c a2 g2 a3 g3 a4 g4 a5 g5 a6 g6 a8 a9 x0 x1 x2 x3 x4, v633_eq c a2 g2 a3 g3 a4 g4 a5 g5 a6 g6 a8 a9 x0 x1 x2 x3 x4]
  simp only [k0_pay370, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]
  rw [mask_1024]

theorem r_322_eq : kernelRun0_A.sl.r_322 (F := Ideal) c a2 g2 a3 g3 a4 g4 a5 g5 a8 a9 x0 x1 x2 x3 = tL (dat x0 x1 x2 x3 x4) 1 2 2 := by
  simp only [kernelRun0_A.sl.r_322, ones_eq, r_282_eq c a2 g2 a3 g3 a4 g4 a5 g5 a6 g6 a8 a9 x0 x1 x2 x3 x4, r_313_eq c a2 g2 a3 g3 a4 g4 a5 g5 a6 g6 a8 a9 x0 x1 x2 x3 x4]
  simp only [k0_pay382, k0_pay381]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_323_eq : kernelRun0_A.sl.r_323 (F := Ideal) c a2 g2 a3 g3 a4 g4 a5 g5 a8 a9 x0 x1 x2 x3 = tP (dat x0 x1 x2 x3 x4) 1 2 2 := by
  simp only [kernelRun0_A.sl.r_323, ones_eq, r_282_eq c a2 g2 a3 g3 a4 g4 a5 g5 a6 g6 a8 a9 x0 x1 x2 x3 x4, r_313_eq c a2 g2 a3 g3 a4 g4 a5 g5 a6 g6 a8 a9 x0 x1 x2 x3 x4]
  simp only [k0_pay383, k0_pay381]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_329_eq : kernelRun0_A.sl.r_329 (F := Ideal) c a2 g2 a3 g3 a4 g4 a5 g5 a6 g6 a8 a9 x0 x1 x2 x3 x4 = tA (dat x0 x1 x2 x3 x4) 1 2 3 := by
  simp only [kernelRun0_A.sl.r_329, ones_eq, r_292_eq c a2 g2 a3 g3 a4 g4 a5 g5 a6 g6 a8 a9 x0 x1 x2 x3 x4, r_322_eq c a2 g2 a3 g3 a4 g4 a5 g5 a6 g6 a8 a9 x0 x1 x2 x3 x4, r_323_eq c a2 g2 a3 g3 a4 g4 a5 g5 a6 g6 a8 a9 x0 x1 x2 x3 x4, ↓ldV_1_2 c a2 g2 a3 g3 a4 g4 a5 g5 a6 g6 a8 a9 x0 x1 x2 x3 x4]
  simp only [k0_pay390, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem v1396_eq : kernelRun0_A.sl.v1396 (F := Ideal) c a2 g2 a4 g4 a5 g5 a9 x0 x2 x3 = tQ (dat x0 x1 x2 x3 x4) 1 3 :=
  load_Q c a2 g2 a4 g4 a5 g5 a9 x0 x1 x2 x3 x4 _ _ 1 3 rfl

theorem r_232_eq : kernelRun0_A.sl.r_232 (F := Ideal) c a2 g2 a3 g3 a4 g4 a5 g5 a8 a9 x0 x1 x2 x3 = tS (dat x0 x1 x2 x3 x4) 1 0 3 := by
  simp only [kernelRun0_A.sl.r_232, ones_eq, v1396_eq c a2 g2 a3 g3 a4 g4 a5 g5 a6 g6 a8 a9 x0 x1 x2 x3 x4, v260_eq c a2 g2 a3 g3 a4 g4 a5 g5 a6 g6 a8 a9 x0 x1 x2 x3 x4]
  simp only [k0_pay284, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_246_eq : kernelRun0_A.sl.r_246 (F := Ideal) c a2 g2 a3 g3 a4 g4 a5 g5 a8 a9 x0 x1 x2 x3 = tL (dat x0 x1 x2 x3 x4) 1 3 0 := by
  simp only [kernelRun0_A.sl.r_246, ones_eq, pay39_eq (dat x0 x1 x2 x3 x4), r_232_eq c a2 g2 a3 g3 a4 g4 a5 g5 a6 g6 a8 a9 x0 x1 x2 x3 x4]
  simp only [k0_pay299, k0_pay298]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_247_eq : kernelRun0_A.sl.r_247 (F := Ideal) c a2 g2 a3 g3 a4 g4 a5 g5 a8 a9 x0 x1 x2 x3 = tP (dat x0 x1 x2 x3 x4) 1 3 0 := by
  simp only [kernelRun0_A.sl.r_247, ones_eq, pay39_eq (dat x0 x1 x2 x3 x4), r_232_eq c a2 g2 a3 g3 a4 g4 a5 g5 a6 g6 a8 a9 x0 x1 x2 x3 x4]
  simp only [k0_pay300, k0_pay298]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_254_eq : kernelRun0_A.sl.r_254 (F := Ideal) c a2 g2 a3 g3 a4 g4 a5 g5 a6 g6 a8 a9 x0 x1 x2 x3 x4 = tA (dat x0 x1 x2 x3 x4) 1 3 1 := by
  simp only [kernelRun0_A.sl.r_254, ones_eq, pay40_eq (dat x0 x1 x2 x3 x4), r_246_eq c a2 g2 a3 g3 a4 g4 a5 g5 a6 g6 a8 a9 x0 x1 x2 x3 x4, r_247_eq c a2 g2 a3 g3 a4 g4 a5 g5 a6 g6 a8 a9 x0 x1 x2 x3 x4, ↓ldV_1_0 c a2 g2 a3 g3 a4 g4 a5 g5 a6 g6 a8 a9 x0 x1 x2 x3 x4]
  simp only [k0_pay307, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_245_eq : kernelRun0_A.sl.r_245 (F := Ideal) c a2 g2 a3 g3 a4 g4 a5 g5 a8 a9 x0 x1 x2 x3 = tM (dat x0 x1 x2 x3 x4) 1 3 1 := by
  simp only [kernelRun0_A.sl.r_245, ones_eq, pay39_eq (dat x0 x1 x2 x3 x4), r_232_eq c a2 g2 a3 g3 a4 g4 a5 g5 a6 g6 a8 a9 x0 x1 x2 x3 x4]
  simp only [k0_pay298]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_293_eq : kernelRun0_A.sl.r_293 (F := Ideal) c a2 g2 a3 g3 a4 g4 a5 g5 a8 a9 x0 x1 x2 x3 = tS (dat x0 x1 x2 x3 x4) 1 1 3 := by
  simp only [kernelRun0_A.sl.r_293, ones_eq, v1396_eq c a2 g2 a3 g3 a4 g4 a5 g5 a6 g6 a8 a9 x0 x1 x2 x3 x4, v433_eq c a2 g2 a3 g3 a4 g4 a5 g5 a6 g6 a8 a9 x0 x1 x2 x3 x4]
  simp only [k0_pay350, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_304_eq : kernelRun0_A.sl.r_304 (F := Ideal) c a2 g2 a3 g3 a4 g4 a5 g5 a8 a9 x0 x1 x2 x3 = tL (dat x0 x1 x2 x3 x4) 1 3 1 := by
  simp only [kernelRun0_A.sl.r_304, ones_eq, r_245_eq c a2 g2 a3 g3 a4 g4 a5 g5 a6 g6 a8 a9 x0 x1 x2 x3 x4, r_293_eq c a2 g2 a3 g3 a4 g4 a5 g5 a6 g6 a8 a9 x0 x1 x2 x3 x4]
  simp only [k0_pay361, k0_pay360]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_305_eq : kernelRun0_A.sl.r_305 (F := Ideal) c a2 g2 a3 g3 a4 g4 a5 g5 a8 a9 x0 x1 x2 x3 = tP (dat x0 x1 x2 x3 x4) 1 3 1 := by
  simp only [kernelRun0_A.sl.r_305, ones_eq, r_245_eq c a2 g2 a3 g3 a4 g4 a5 g5 a6 g6 a8 a9 x0 x1 x2 x3 x4, r_293_eq c a2 g2 a3 g3 a4 g4 a5 g5 a6 g6 a8 a9 x0 x1 x2 x3 x4]
  simp only [k0_pay362, k0_pay360]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_312_eq : kernelRun0_A.sl.r_312 (F := Ideal) c a2 g2 a3 g3 a4 g4 a5 g5 a6 g6 a8 a9 x0 x1 x2 x3 x4 = tA (dat x0 x1 x2 x3 x4) 1 3 2 := by
  simp only [kernelRun0_A.sl.r_312, ones_eq, r_254_eq c a2 g2 a3 g3 a4 g4 a5 g5 a6 g6 a8 a9 x0 x1 x2 x3 x4, r_304_eq c a2 g2 a3 g3 a4 g4 a5 g5 a6 g6 a8 a9 x0 x1 x2 x3 x4, r_305_eq c a2 g2 a3 g3 a4 g4 a5 g5 a6 g6 a8 a9 x0 x1 x2 x3 x4, ↓ldV_1_1 c a2 g2 a3 g3 a4 g4 a5 g5 a6 g6 a8 a9 x0 x1 x2 x3 x4]
  simp only [k0_pay369, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_303_eq : kernelRun0_A.sl.r_303 (F := Ideal) c a2 g2 a3 g3 a4 g4 a5 g5 a8 a9 x0 x1 x2 x3 = tM (dat x0 x1 x2 x3 x4) 1 3 2 := by
  simp only [kernelRun0_A.sl.r_303, ones_eq, r_245_eq c a2 g2 a3 g3 a4 g4 a5 g5 a6 g6 a8 a9 x0 x1 x2 x3 x4, r_293_eq c a2 g2 a3 g3 a4 g4 a5 g5 a6 g6 a8 a9 x0 x1 x2 x3 x4]
  simp only [k0_pay360]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_330_eq : kernelRun0_A.sl.r_330 (F := Ideal) c a2 g2 a3 g3 a4 g4 a5 g5 a8 a9 x0 x1 x2 x3 = tS (dat x0 x1 x2 x3 x4) 1 2 3 := by
  simp only [kernelRun0_A.sl.r_330, ones_eq, v1396_eq c a2 g2 a3 g3 a4 g4 a5 g5 a6 g6 a8 a9 x0 x1 x2 x3 x4, v633_eq c a2 g2 a3 g3 a4 g4 a5 g5 a6 g6 a8 a9 x0 x1 x2 x3 x4]
  simp only [k0_pay391, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_345_eq : kernelRun0_A.sl.r_345 (F := Ideal) c a2 g2 a3 g3 a4 g4 a5 g5 a8 a9 x0 x1 x2 x3 = tL (dat x0 x1 x2 x3 x4) 1 3 2 := by
  simp only [kernelRun0_A.sl.r_345, ones_eq, r_303_eq c a2 g2 a3 g3 a4 g4 a5 g5 a6 g6 a8 a9 x0 x1 x2 x3 x4, r_330_eq c a2 g2 a3 g3 a4 g4 a5 g5 a6 g6 a8 a9 x0 x1 x2 x3 x4]
  simp only [k0_pay408, k0_pay407]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_346_eq : kernelRun0_A.sl.r_346 (F := Ideal) c a2 g2 a3 g3 a4 g4 a5 g5 a8 a9 x0 x1 x2 x3 = tP (dat x0 x1 x2 x3 x4) 1 3 2 := by
  simp only [kernelRun0_A.sl.r_346, ones_eq, r_303_eq c a2 g2 a3 g3 a4 g4 a5 g5 a6 g6 a8 a9 x0 x1 x2 x3 x4, r_330_eq c a2 g2 a3 g3 a4 g4 a5 g5 a6 g6 a8 a9 x0 x1 x2 x3 x4]
  simp only [k0_pay409, k0_pay407]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_352_eq : kernelRun0_A.sl.r_352 (F := Ideal) c a2 g2 a3 g3 a4 g4 a5 g5 a6 g6 a8 a9 x0 x1 x2 x3 x4 = tA (dat x0 x1 x2 x3 x4) 1 3 3 := by
  simp only [kernelRun0_A.sl.r_352, ones_eq, r_312_eq c a2 g2 a3 g3 a4 g4 a5 g5 a6 g6 a8 a9 x0 x1 x2 x3 x4, r_345_eq c a2 g2 a3 g3 a4 g4 a5 g5 a6 g6 a8 a9 x0 x1 x2 x3 x4, r_346_eq c a2 g2 a3 g3 a4 g4 a5 g5 a6 g6 a8 a9 x0 x1 x2 x3 x4, ↓ldV_1_2 c a2 g2 a3 g3 a4 g4 a5 g5 a6 g6 a8 a9 x0 x1 x2 x3 x4]
  simp only [k0_pay415, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_353_eq : kernelRun0_A.sl.r_353 (F := Ideal) c a2 g2 a3 g3 a4 g4 a5 g5 a8 a9 x0 x1 x2 x3 = tS (dat x0 x1 x2 x3 x4) 1 3 3 := by
  simp only [kernelRun0_A.sl.r_353, ones_eq, v1396_eq c a2 g2 a3 g3 a4 g4 a5 g5 a6 g6 a8 a9 x0 x1 x2 x3 x4, v833_eq c a2 g2 a3 g3 a4 g4 a5 g5 a6 g6 a8 a9 x0 x1 x2 x3 x4]
  simp only [k0_pay416, cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]
  rw [mask_1536]

theorem r_344_eq : kernelRun0_A.sl.r_344 (F := Ideal) c a2 g2 a3 g3 a4 g4 a5 g5 a8 a9 x0 x1 x2 x3 = tM (dat x0 x1 x2 x3 x4) 1 3 3 := by
  simp only [kernelRun0_A.sl.r_344, ones_eq, r_303_eq c a2 g2 a3 g3 a4 g4 a5 g5 a6 g6 a8 a9 x0 x1 x2 x3 x4, r_330_eq c a2 g2 a3 g3 a4 g4 a5 g5 a6 g6 a8 a9 x0 x1 x2 x3 x4]
  simp only [k0_pay407]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_362_eq : kernelRun0_A.sl.r_362 (F := Ideal) c a2 g2 a3 g3 a4 g4 a5 g5 a8 a9 x0 x1 x2 x3 = tM (dat x0 x1 x2 x3 x4) 1 3 4 := by
  simp only [kernelRun0_A.sl.r_362, ones_eq, r_344_eq c a2 g2 a3 g3 a4 g4 a5 g5 a6 g6 a8 a9 x0 x1 x2 x3 x4, r_353_eq c a2 g2 a3 g3 a4 g4 a5 g5 a6 g6 a8 a9 x0 x1 x2 x3 x4]
  simp only [k0_pay427]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

theorem r_363_eq : kernelRun0_A.sl.r_363 (F := Ideal) c a2 g2 a3 g3 a4 g4 a5 g5 a8 a9 x0 x1 x2 x3 = tLD (dat x0 x1 x2 x3 x4) 1 3 3 := by
  simp only [kernelRun0_A.sl.r_363, ones_eq, r_344_eq c a2 g2 a3 g3 a4 g4 a5 g5 a6 g6 a8 a9 x0 x1 x2 x3 x4, r_353_eq c a2 g2 a3 g3 a4 g4 a5 g5 a6 g6 a8 a9 x0 x1 x2 x3 x4]
  simp only [k0_pay428, k0_pay427]
  rw [red_S]
  simp only [cast_K, cast_Q, cast_V, cat_V, cat_V_cast, mm_S, raw_S, red_S, cast_R, max_M, sub_M, exp_L, bc_M, sub_S, exp_D, trunc_E, bc_L, mul_A, mm_A, add_A, Nat.reduceAdd, Nat.reduceLT, Nat.reduceLeDiff]

end Cert.Tiles
-- ==== Proof.V.Final.lean ====
/- The two stores of the attention kernel: every strip's running sum over its running normalizer, both heads side by side. -/
module

public import proofs.«01_k».proof.Proof.V.Words4
public import proofs.«01_k».proof.Proof.Gen.KernelIdeal.Frame
public import Idealize.ShloMosaic.Lib.Pipeline.ValueKit

@[expose] public section

set_option maxRecDepth 16384

noncomputable section

namespace Cert.Tiles

open Idealize.ShloMosaic Idealize.ShloMosaic.TcCoe Cert.Online
open Cert.KernelIdeal Cert.KernelIdeal.Gen

/-- The quotient a query's column ends with. -/
def fin (D : Ops) (h d t : ℕ) : EReal :=
  Ideal.div (colA (score D h t) (D.V h d) (t / 512 + 1)) (colA (score D h t) (D.V h 64) (t / 512 + 1))

def tCat (D : Ops) (h qi : ℕ) : FVec Ideal S80x2048 .f32 := fun j =>
  colA (score D h (2048 * qi + (j 1).val)) (D.V h (j 0).val) ((2048 * qi + (j 1).val) / 512 + 1)
def tQuot (D : Ops) (h qi : ℕ) : FVec Ideal S64x2048 .f32 := fun j => fin D h (j 0).val (2048 * qi + (j 1).val)
def tOut (D : Ops) (qi : ℕ) : FVec Ideal S2048x128 .f32 := fun j =>
  fin D ((j 1).val / 64) ((j 1).val % 64) (2048 * qi + (j 0).val)

theorem cat_A (D : Ops) (h qi : ℕ) : concatenate S80x2048 1 [⟨S80x512, tA D h (4 * qi) (4 * qi + 1)⟩, ⟨S80x512, tA D h (4 * qi + 1) (4 * qi + 2)⟩,
    ⟨S80x512, tA D h (4 * qi + 2) (4 * qi + 3)⟩, ⟨S80x512, tA D h (4 * qi + 3) (4 * qi + 4)⟩]
    concatenates_S80x512_S80x512_S80x512_S80x512_S80x2048_d1 = tCat D h qi := by
  have key : ∀ (n t u : ℕ) (d : ℕ), t = u → n = u / 512 + 1 → colA (score D h t) (D.V h d) n = colA (score D h u) (D.V h d) (u / 512 + 1) := by
    intro n t u d h1 h2; subst h1 h2; rfl
  funext j; idx_vars j; pointwise [tA, tCat]
  split_ifs <;> (refine key _ _ _ _ ?_ ?_ <;> (try simp) <;> omega)

theorem quot_A (D : Ops) (h qi : ℕ) : divf (extractStridedSlice S64x2048 ![0, 0] (tCat D h qi) slices_S80x2048_o0_0_S64x2048)
    (broadcastTo S64x2048 (extractStridedSlice S1x2048 ![64, 0] (tCat D h qi) slices_S80x2048_o64_0_S1x2048) broadcasts_S1x2048_S64x2048)
    = tQuot D h qi := by
  funext j; idx_vars j; pointwise [tCat, tQuot, fin]

theorem out_A (D : Ops) (qi : ℕ) : transpose S2048x128 [1, 0] (concatenate S128x2048 0 [⟨S64x2048, tQuot D 0 qi⟩, ⟨S64x2048, tQuot D 1 qi⟩]
    concatenates_S64x2048_S64x2048_S128x2048_d0) transposes_S128x2048_p1_0_S2048x128 = tOut D qi := by
  have key : ∀ (h h' d d' t : ℕ), h = h' → d = d' → fin D h d t = fin D h' d' t := by
    intro h h' d d' t h1 h2; subst h1 h2; rfl
  funext j; idx_vars j; pointwise [tQuot, tOut]
  split_ifs <;> (refine key _ _ _ _ _ ?_ ?_ <;> (try simp) <;> omega)

theorem trunc_O (D : Ops) (qi : ℕ) : (truncf .bf16 (tOut D qi) bitsLt_bf16_f32 : FVec Ideal S2048x128 .bf16)
    = fun j => fin D ((j 1).val / 64) ((j 1).val % 64) (2048 * qi + (j 0).val) := by
  funext j; idx_vars j; pointwise [tOut]

variable (c : Dev nD) (a2 : Memref sig .tc .vmem S1x128x4096 .bf16) (g2 : a2.IsWhole)
  (a3 : Memref sig .tc .vmem S4096x128 .bf16) (g3 : a3.IsWhole) (a4 : Memref sig .tc .vmem S4096x128 .bf16) (g4 : a4.IsWhole)
  (a5 : Memref sig .tc .vmem S1x128x128 .bf16) (g5 : a5.IsWhole) (a6 : Memref sig .tc .vmem S1x128x4096 .bf16) (g6 : a6.IsWhole)
  (a8 : Memref sig .tc .vmem S2x4096x128 .bf16) (a9 : Memref sig .tc .vmem S2x128x4096 .bf16)
  (x0 : Vec Ideal S1x128x4096 .bf16) (x1 x2 : Vec Ideal S4096x128 .bf16) (x3 : Vec Ideal S1x128x128 .bf16)
  (x4 : Vec Ideal S1x128x4096 .bf16)

theorem r_366_eq : kernelRun0_A.sl.r_366 (F := Ideal) c a2 g2 a3 g3 a4 g4 a5 g5 a6 g6 a8 a9 x0 x1 x2 x3 x4
    = tQuot (dat x0 x1 x2 x3 x4) 0 0 := by
  simp only [kernelRun0_A.sl.r_366, r_180_eq c a2 g2 a3 g3 a4 g4 a5 g5 a6 g6 a8 a9 x0 x1 x2 x3 x4,
    r_262_eq c a2 g2 a3 g3 a4 g4 a5 g5 a6 g6 a8 a9 x0 x1 x2 x3 x4, r_320_eq c a2 g2 a3 g3 a4 g4 a5 g5 a6 g6 a8 a9 x0 x1 x2 x3 x4,
    r_361_eq c a2 g2 a3 g3 a4 g4 a5 g5 a6 g6 a8 a9 x0 x1 x2 x3 x4]
  simp only [k0_pay431]
  rw [cat_A (dat x0 x1 x2 x3 x4) 0 0, quot_A]

theorem r_367_eq : kernelRun0_A.sl.r_367 (F := Ideal) c a2 g2 a3 g3 a4 g4 a5 g5 a6 g6 a8 a9 x0 x1 x2 x3 x4
    = tCat (dat x0 x1 x2 x3 x4) 1 0 := by
  simp only [kernelRun0_A.sl.r_367, ones_eq, r_188_eq c a2 g2 a3 g3 a4 g4 a5 g5 a6 g6 a8 a9 x0 x1 x2 x3 x4,
    r_270_eq c a2 g2 a3 g3 a4 g4 a5 g5 a6 g6 a8 a9 x0 x1 x2 x3 x4, r_329_eq c a2 g2 a3 g3 a4 g4 a5 g5 a6 g6 a8 a9 x0 x1 x2 x3 x4,
    r_352_eq c a2 g2 a3 g3 a4 g4 a5 g5 a6 g6 a8 a9 x0 x1 x2 x3 x4, r_353_eq c a2 g2 a3 g3 a4 g4 a5 g5 a6 g6 a8 a9 x0 x1 x2 x3 x4,
    r_362_eq c a2 g2 a3 g3 a4 g4 a5 g5 a6 g6 a8 a9 x0 x1 x2 x3 x4, r_363_eq c a2 g2 a3 g3 a4 g4 a5 g5 a6 g6 a8 a9 x0 x1 x2 x3 x4,
    ↓ldV_1_3 c a2 g2 a3 g3 a4 g4 a5 g5 a6 g6 a8 a9 x0 x1 x2 x3 x4]
  have e : addf (mulf (broadcastTo S80x512 (exp2 (tLD (dat x0 x1 x2 x3 x4) 1 3 3)) broadcasts_S1x512_S80x512) (tA (dat x0 x1 x2 x3 x4) 1 3 3))
      (matmul dot_S80x512_S512x512_S80x512_1_0_0_1_n_n none
        (concatenate S80x512 0 [⟨S64x512, (shapeCast S64x512 (tV (dat x0 x1 x2 x3 x4) 1 3) shapeCasts_S1x64x512_S64x512 : FVec Ideal S64x512 .bf16)⟩,
          ⟨S16x512, tO⟩] concatenates_S64x512_S16x512_S80x512_d0)
        (truncf .bf16 (exp2 (subf (tS (dat x0 x1 x2 x3 x4) 1 3 3) (broadcastTo S512x512 (tM (dat x0 x1 x2 x3 x4) 1 3 4) broadcasts_S1x512_S512x512))) bitsLt_bf16_f32)
        (constant S80x512 .f32 0x00000000#32)) = tA (dat x0 x1 x2 x3 x4) 1 3 4 := by
    simp only [cat_V_cast, exp_L, bc_M, sub_S, exp_D, trunc_E, bc_L, mul_A, mm_A, add_A, Nat.reduceAdd]
  simp only [k0_pay432]
  rw [e, cat_A (dat x0 x1 x2 x3 x4) 1 0]

theorem r_368_eq : kernelRun0_A.sl.r_368 (F := Ideal) c a2 g2 a3 g3 a4 g4 a5 g5 a6 g6 a8 a9 x0 x1 x2 x3 x4
    = tOut (dat x0 x1 x2 x3 x4) 0 := by
  simp only [kernelRun0_A.sl.r_368, r_366_eq c a2 g2 a3 g3 a4 g4 a5 g5 a6 g6 a8 a9 x0 x1 x2 x3 x4, r_367_eq c a2 g2 a3 g3 a4 g4 a5 g5 a6 g6 a8 a9 x0 x1 x2 x3 x4]
  simp only [k0_pay433]
  rw [quot_A, out_A]

theorem pay1_eq (D : Ops) : k0_pay1 (tOut D 0) = fun j => fin D ((j 1).val / 64) ((j 1).val % 64) (2048 * 0 + (j 0).val) := by
  simp only [k0_pay1]
  rw [trunc_O]

theorem pay2_eq (D : Ops) : k0_pay2 (tA D 0 4 5) (tA D 1 4 5) (tA D 0 5 6) (tA D 1 5 6) (tA D 0 6 7) (tA D 1 6 7) (tA D 0 7 8) (tA D 1 7 8)
    = fun j => fin D ((j 1).val / 64) ((j 1).val % 64) (2048 * 1 + (j 0).val) := by
  simp only [k0_pay2]
  rw [cat_A D 0 1, quot_A, cat_A D 1 1, quot_A, out_A, trunc_O]

/-- What a grid point writes back: at query `t` and lane `l`, the quotient of head `l / 64` at row `l % 64`. -/
theorem out_fin (i : grid0.Coords) (a7 : Memref sig .tc .vmem S4096x128 .bf16) (g7 : a7.IsWhole) (g8 : a8.IsWhole) (g9 : a9.IsWhole)
    (y : S4096x128.Idx) :
    out0_A_5 c i a2 g2 a3 g3 a4 g4 a5 g5 a6 g6 a7 g7 a8 g8 a9 g9 x0 x1 x2 x3 x4 y
      = fin (dat x0 x1 x2 x3 x4) ((y 1).val / 64) ((y 1).val % 64) (y 0).val := by
  unfold out0_A_5; unfold kernelRun0_A; dsimp only
  rw [View.read_writes_junk_eq_canon]
  simp only [r_368_eq c a2 g2 a3 g3 a4 g4 a5 g5 a6 g6 a8 a9 x0 x1 x2 x3 x4, pay1_eq,
    r_184_eq c a2 g2 a3 g3 a4 g4 a5 g5 a6 g6 a8 a9 x0 x1 x2 x3 x4, r_193_eq c a2 g2 a3 g3 a4 g4 a5 g5 a6 g6 a8 a9 x0 x1 x2 x3 x4,
    r_266_eq c a2 g2 a3 g3 a4 g4 a5 g5 a6 g6 a8 a9 x0 x1 x2 x3 x4, r_275_eq c a2 g2 a3 g3 a4 g4 a5 g5 a6 g6 a8 a9 x0 x1 x2 x3 x4,
    r_324_eq c a2 g2 a3 g3 a4 g4 a5 g5 a6 g6 a8 a9 x0 x1 x2 x3 x4, r_336_eq c a2 g2 a3 g3 a4 g4 a5 g5 a6 g6 a8 a9 x0 x1 x2 x3 x4,
    r_364_eq c a2 g2 a3 g3 a4 g4 a5 g5 a6 g6 a8 a9 x0 x1 x2 x3 x4, r_365_eq c a2 g2 a3 g3 a4 g4 a5 g5 a6 g6 a8 a9 x0 x1 x2 x3 x4, pay2_eq]
  have key : ∀ (D : Ops) (l l' t t' : ℕ), l = l' → t = t' → fin D (l / 64) (l % 64) t = fin D (l' / 64) (l' % 64) t' := by
    intro D l l' t t' h1 h2; subst h1 h2; rfl
  canon_tiles x h
  · exact key _ _ _ _ _ (by omega) (by omega)
  · exact key _ _ _ _ _ (by omega) (by omega)

end Cert.Tiles
-- ==== Proof.V.Perm.lean ====
/- The placement table the host builds for the attention kernel: for each pair of heads, which of the 128 decay columns
   goes to which lane. -/
module

public import proofs.«01_k».proof.Proof.Gen.KernelIdeal.Value
public import Idealize.ShloMosaic.Lib.Pointwise
public import Idealize.ShloMosaic.Lib.StableHlo.ReadAt
public import Idealize.ShloMosaic.Lib.Tactic.CleanTypes

@[expose] public section

set_option maxRecDepth 16384

noncomputable section

namespace Cert.Perm

open Idealize.ShloMosaic Idealize.ShloMosaic.TcCoe
open Cert.KernelIdeal Cert.KernelIdeal.Gen

/-- The decay column that lane `l` of pair `p` takes. -/
def src (p l : ℕ) : ℕ := 8 * (2 * p + (1 - l / 64)) + l % 64 % 3

theorem lane_test : ∀ l : Fin 128, IntOp.cmpi .slt (IntOp.remsi .host (BitVec.ofNat 32 l.val) 64#32) 6#32
    = BitVec.ofBool (decide (l.val % 64 < 6)) := by decide +kernel

theorem lane_src : ∀ (p : Fin 8) (l : Fin 128), IntOp.addi
    (IntOp.muli (8#32) (IntOp.addi (IntOp.muli (2#32) (BitVec.ofNat 32 p.val)) (IntOp.subi (1#32) (IntOp.divsi .host (BitVec.ofNat 32 l.val) 64#32))))
    (IntOp.remsi .host (IntOp.remsi .host (BitVec.ofNat 32 l.val) 64#32) 3#32) = BitVec.ofNat 32 (src p.val l.val) := by decide +kernel

theorem src_lt (p l : ℕ) (hp : p < 8) : src p l < 128 := by unfold src; omega

theorem perm_at (m : (ℓ : Loc nD τ sig) → Buf (Elt Ideal) ℓ) (c : Dev nD) (p : Fin 8) (r l : Fin 128) :
    V m c main_v22 (ix3 p r l) = (if l.val % 64 < 6 ∧ r.val = src p.val l.val then 1 else 0 : EReal) := by
  unfold V
  after_reads_at
  rw [lane_test, lane_src]
  have e : IntOp.cmpi .eq (BitVec.ofNat 32 r.val) (BitVec.ofNat 32 (src p.val l.val)) = BitVec.ofBool (decide (r.val = src p.val l.val)) := by
    show BitVec.ofBool (BitVec.ofNat 32 r.val == BitVec.ofNat 32 (src p.val l.val)) = _
    have h1 := src_lt p.val l.val p.isLt
    have h2 := r.isLt
    congr 1
    rw [beq_eq_decide, decide_eq_decide, ← BitVec.toNat_inj, BitVec.toNat_ofNat, BitVec.toNat_ofNat, Nat.mod_eq_of_lt (by omega), Nat.mod_eq_of_lt (by omega)]
  rw [e]
  by_cases h1 : l.val % 64 < 6
  · by_cases h2 : r.val = src p.val l.val
    · simp [h1, h2, Scalar.select, IntOp.andi]
    · simp [h1, h2, Scalar.select, IntOp.andi]
  · simp [h1, Scalar.select, IntOp.andi]

end Cert.Perm
-- ==== Proof.V.Score.lean ====
/- What one grid point of the attention ends with, in plain terms: the weights of a query are powers of two of the product
   of query and key plus the difference of the two decay sums. The six extra lanes of the assembled operands carry the
   decay terms. -/
module

public import proofs.«01_k».proof.Proof.V.Final
public import proofs.«01_k».proof.Proof.V.Perm

@[expose] public section

set_option maxRecDepth 16384

noncomputable section

namespace Cert.Score

open Idealize.ShloMosaic Idealize.ShloMosaic.TcCoe Cert.Online Cert.Tiles Cert.Perm
open Cert.KernelIdeal Cert.KernelIdeal.Gen

theorem sum_half (f : ℕ → EReal) (h : ℕ) (hh : h < 2) :
    ∑ l : Fin 128, f l.val = ∑ e : Fin 64, f (64 * h + e.val) + ∑ e : Fin 64, f (64 * (1 - h) + e.val) := by
  have e := Fin.sum_univ_add (a := 64) (b := 64) fun l : Fin (64 + 64) => f l.val
  simp only [Fin.val_castAdd, Fin.val_natAdd] at e
  have e' : ∑ l : Fin 128, f l.val = ∑ x : Fin 64, f x.val + ∑ x : Fin 64, f (64 + x.val) := e
  rw [e']
  obtain rfl | rfl : h = 0 ∨ h = 1 := by omega
  · simp
  · simp [add_comm]

theorem sum_six (g : ℕ → EReal) (hg : ∀ e, 6 ≤ e → e < 64 → g e = 0) :
    ∑ e : Fin 64, g e.val = g 0 + g 1 + g 2 + g 3 + g 4 + g 5 := by
  have e := Fin.sum_univ_add (a := 6) (b := 58) fun l : Fin (6 + 58) => g l.val
  simp only [Fin.val_castAdd, Fin.val_natAdd] at e
  have e' : ∑ l : Fin 64, g l.val = ∑ x : Fin 6, g x.val + ∑ x : Fin 58, g (6 + x.val) := e
  rw [e', Finset.sum_eq_zero (s := (Finset.univ : Finset (Fin 58))) fun x _ => hg (6 + x.val) (by omega) (by omega), add_zero,
    Fin.sum_univ_six]
  rfl

variable (x0 : Vec Ideal S1x128x4096 .bf16) (x1 x2 : Vec Ideal S4096x128 .bf16) (x3 : Vec Ideal S1x128x128 .bf16)
  (x4 : Vec Ideal S1x128x4096 .bf16) (p : Fin 8)

/-- The `j`-th decay term of head `h` of the pair at a token. -/
def term (h : Fin 2) (s : Fin 4096) (j : Fin 3) : EReal := x2 (ix2 s ⟨8 * (2 * p.val + h.val) + j.val, by omega⟩)

/-- The decay sum of a head at a token. -/
def decay (h : Fin 2) (s : Fin 4096) : EReal := -(term x2 p h s 0 + term x2 p h s 1 + term x2 p h s 2)

/-- The score of a query and a key, unmasked. -/
def logit (h : Fin 2) (t s : Fin 4096) : EReal :=
  (∑ e : Fin 64, x0 (ix3 0 ⟨64 * h.val + e.val, by omega⟩ t) * x1 (ix2 s ⟨64 * h.val + e.val, by omega⟩))
    + decay x2 p h t - decay x2 p h s

variable (hx3 : ∀ r l : Fin 128, x3 (ix3 0 r l) = (if l.val % 64 < 6 ∧ r.val = src p.val l.val then 1 else 0 : EReal))
include hx3

theorem bias_at (s : Fin 4096) (l : Fin 128) : bias x2 x3 s l
    = if l.val % 64 < 6 then x2 (ix2 s ⟨src p.val l.val, src_lt _ _ p.isLt⟩) else 0 := by
  unfold bias
  by_cases hl : l.val % 64 < 6
  · rw [if_pos hl, Finset.sum_eq_single (⟨src p.val l.val, src_lt _ _ p.isLt⟩ : Fin 128)]
    · rw [hx3, if_pos ⟨hl, rfl⟩, mul_one]
    · intro r _ hr
      rw [hx3, if_neg (fun h => hr (Fin.ext h.2)), mul_zero]
    · intro h; exact absurd (Finset.mem_univ _) h
  · rw [if_neg hl]
    refine Finset.sum_eq_zero fun r _ => ?_
    rw [hx3, if_neg (fun h => hl h.1), mul_zero]

theorem bias_other (h : Fin 2) (s : Fin 4096) (e : ℕ) (he : e < 6) :
    bias x2 x3 s ⟨64 * (1 - h.val) + e, by omega⟩ = term x2 p h s ⟨e % 3, Nat.mod_lt _ (by decide)⟩ := by
  have hh := h.isLt
  rw [bias_at x2 x3 p hx3, if_pos (by show (64 * (1 - h.val) + e) % 64 < 6; omega)]
  unfold term
  congr 2
  refine Fin.ext ?_
  show src p.val (64 * (1 - h.val) + e) = 8 * (2 * p.val + h.val) + e % 3
  unfold src
  omega

theorem raw_eq (h : Fin 2) (t s : Fin 4096) : raw (dat x0 x1 x2 x3 x4) h.val t.val s.val
    = (∑ e : Fin 64, x1 (ix2 s ⟨64 * h.val + e.val, by omega⟩) * x0 (ix3 0 ⟨64 * h.val + e.val, by omega⟩ t))
      + (term x2 p h s 0 + term x2 p h s 1 + term x2 p h s 2 + (0 - term x2 p h t 0) + (0 - term x2 p h t 1) + (0 - term x2 p h t 2)) := by
  have hh := h.isLt
  have hs : (⟨s.val % 4096, Nat.mod_lt _ (by decide)⟩ : Fin 4096) = s := Fin.ext (Nat.mod_eq_of_lt s.isLt)
  have ht : (⟨t.val % 4096, Nat.mod_lt _ (by decide)⟩ : Fin 4096) = t := Fin.ext (Nat.mod_eq_of_lt t.isLt)
  have hl : ∀ l (hl : l < 128), (⟨l % 128, Nat.mod_lt _ (by decide)⟩ : Fin 128) = ⟨l, hl⟩ := fun l hl => Fin.ext (Nat.mod_eq_of_lt hl)
  have hother : ∀ e (he : e < 64), (dat x0 x1 x2 x3 x4).K h.val s.val (64 * (1 - h.val) + e) * (dat x0 x1 x2 x3 x4).Q h.val (64 * (1 - h.val) + e) t.val
      = (if e < 3 then term x2 p h s ⟨e % 3, Nat.mod_lt _ (by decide)⟩ else if e < 6 then 1 else 0)
        * (if e < 3 then 1 else if e < 6 then 0 - term x2 p h t ⟨e % 3, Nat.mod_lt _ (by decide)⟩ else 0) := by
    intro e he
    show keyAt x1 x2 x3 h.val _ _ * queryAt x0 x2 x3 h.val _ _ = _
    rw [hs, ht, hl _ (by omega)]
    unfold keyAt queryAt
    have n1 : ¬ (64 * (1 - h.val) + e) / 64 = h.val := by omega
    have n2 : (64 * (1 - h.val) + e) % 64 = e := by omega
    simp only [n1, n2, if_false]
    by_cases h3 : e < 3
    · simp only [h3, if_true, bias_other x2 x3 p hx3 h s e (by omega)]
    · by_cases h6 : e < 6
      · simp only [h3, h6, if_true, if_false, bias_other x2 x3 p hx3 h t e h6]
      · simp only [h3, h6, if_false]
  unfold raw
  rw [sum_half (fun l => (dat x0 x1 x2 x3 x4).K h.val s.val l * (dat x0 x1 x2 x3 x4).Q h.val l t.val) h.val hh]
  congr 1
  · refine Finset.sum_congr rfl fun e _ => ?_
    show keyAt x1 x2 x3 h.val _ _ * queryAt x0 x2 x3 h.val _ _ = _
    rw [hs, ht, hl _ (by omega)]
    unfold keyAt queryAt
    rw [if_pos (by show (64 * h.val + e.val) / 64 = h.val; omega), if_pos (by show (64 * h.val + e.val) / 64 = h.val; omega)]
  · rw [sum_six (fun e => (dat x0 x1 x2 x3 x4).K h.val s.val (64 * (1 - h.val) + e) * (dat x0 x1 x2 x3 x4).Q h.val (64 * (1 - h.val) + e) t.val)]
    · rw [hother 0 (by decide), hother 1 (by decide), hother 2 (by decide), hother 3 (by decide), hother 4 (by decide), hother 5 (by decide)]
      simp
    · intro e h6 he
      rw [hother e he, if_neg (by omega), if_neg (by omega), zero_mul]

variable (f0 : S1x128x4096.Idx → ℝ) (f1 f2 : S4096x128.Idx → ℝ)
  (h0 : ∀ i, x0 i = (f0 i : EReal)) (h1 : ∀ i, x1 i = (f1 i : EReal)) (h2 : ∀ i, x2 i = (f2 i : EReal))
include h0 h1 h2

omit hx3 in
theorem logit_real (h : Fin 2) (t s : Fin 4096) : ∃ r : ℝ, logit x0 x1 x2 p h t s = r := by
  unfold logit decay term
  simp only [h0, h1, h2, ← EReal.coe_mul, ← EReal.coe_add, ← EReal.coe_neg, ← EReal.coe_sub, ← coe_sum]
  exact ⟨_, rfl⟩

theorem raw_logit (h : Fin 2) (t s : Fin 4096) : raw (dat x0 x1 x2 x3 x4) h.val t.val s.val = logit x0 x1 x2 p h t s := by
  rw [raw_eq x0 x1 x2 x3 x4 p hx3]
  unfold logit decay term
  simp only [h0, h1, h2, ← EReal.coe_zero, ← EReal.coe_mul, ← EReal.coe_add, ← EReal.coe_neg, ← EReal.coe_sub, ← coe_sum]
  congr 1
  rw [Finset.sum_congr rfl fun e _ => mul_comm _ _]
  ring

/-- A grid point's quotient is the plain weighted mean over the keys up to the query. -/
theorem fin_eq (h : Fin 2) (d : Fin 64) (t : Fin 4096) : fin (dat x0 x1 x2 x3 x4) h.val d.val t.val
    = attend (fun s => if s ≤ t.val then logit x0 x1 x2 p h t ⟨s % 4096, Nat.mod_lt _ (by decide)⟩ else ⊥)
        (fun s => x4 (ix3 0 ⟨64 * h.val + d.val, by omega⟩ ⟨s % 4096, Nat.mod_lt _ (by decide)⟩)) := by
  have hsc : score (dat x0 x1 x2 x3 x4) h.val t.val
      = fun s => if s ≤ t.val then logit x0 x1 x2 p h t ⟨s % 4096, Nat.mod_lt _ (by decide)⟩ else ⊥ := by
    funext s
    unfold score
    by_cases hs : s ≤ t.val
    · rw [if_pos hs, if_pos hs, ← raw_logit x0 x1 x2 x3 x4 p hx3 f0 f1 f2 h0 h1 h2]
      show raw _ _ _ s = raw _ _ _ (s % 4096)
      rw [Nat.mod_eq_of_lt (by omega)]
    · rw [if_neg hs, if_neg hs]
  have hv : (dat x0 x1 x2 x3 x4).V h.val d.val
      = fun s => x4 (ix3 0 ⟨64 * h.val + d.val, by omega⟩ ⟨s % 4096, Nat.mod_lt _ (by decide)⟩) := by
    funext s
    show (if d.val < 64 then _ else _) = _
    rw [if_pos d.isLt]
    congr 2
    exact Fin.ext (Nat.mod_eq_of_lt (by omega))
  unfold fin
  rw [hsc, hv]
  have ho : ∀ s, (dat x0 x1 x2 x3 x4).V h.val 64 s = 1 := fun s => (dat x0 x1 x2 x3 x4).ones _ _ _ le_rfl
  refine col_div _ _ _ ?_ _ (by omega) ?_ ?_ ho
  · intro s
    split
    · obtain ⟨r, hr⟩ := logit_real x0 x1 x2 p f0 f1 f2 h0 h1 h2 h t ⟨s % 4096, Nat.mod_lt _ (by decide)⟩
      rw [hr]; exact EReal.coe_ne_top r
    · exact bot_ne_top
  · intro j hj
    refine ⟨0, ?_⟩
    obtain ⟨r, hr⟩ := logit_real x0 x1 x2 p f0 f1 f2 h0 h1 h2 h t ⟨(512 * j + (0 : Fin 512).val) % 4096, Nat.mod_lt _ (by decide)⟩
    rw [if_pos (by show 512 * j + 0 ≤ t.val; omega), hr]
    exact EReal.coe_ne_bot r
  · intro s hs
    rw [if_neg (by omega)]

end Cert.Score
-- ==== Proof.V.Target.lean ====
/- The attention's result at an index as a formula of the arguments. -/
module

public import proofs.«01_k».proof.Proof.V.Online

@[expose] public section

noncomputable section

namespace Cert.Soft

open Idealize.ShloMosaic Cert.Online

variable (a0 : (⟨3, ![4, 1024, 4096]⟩ : Shape).Idx → EReal) (a1 : (⟨2, ![16384, 1024]⟩ : Shape).Idx → EReal)
  (a2 : (⟨2, ![16384, 128]⟩ : Shape).Idx → EReal) (a3 : (⟨3, ![4, 1024, 4096]⟩ : Shape).Idx → EReal)

/-- The decay sum of a position. -/
def dc (b : Fin 4) (h : Fin 16) (t : Fin 4096) : EReal :=
  -(a2 (ix2 ⟨b.val * 4096 + t.val, by omega⟩ ⟨h.val * 8, by omega⟩) + a2 (ix2 ⟨b.val * 4096 + t.val, by omega⟩ ⟨h.val * 8 + 1, by omega⟩)
      + a2 (ix2 ⟨b.val * 4096 + t.val, by omega⟩ ⟨h.val * 8 + 2, by omega⟩))

/-- The score of key `s` for query `t`. -/
def lg (b : Fin 4) (h : Fin 16) (t s : Fin 4096) : EReal :=
  (∑ e : Fin 64, a0 (ix3 b ⟨h.val * 64 + e.val, by omega⟩ t) * a1 (ix2 ⟨b.val * 4096 + s.val, by omega⟩ ⟨h.val * 64 + e.val, by omega⟩))
    + dc a2 b h t - dc a2 b h s

/-- The attention's result. -/
def spec (b : Fin 4) (h : Fin 16) (t : Fin 4096) (d : Fin 64) : EReal :=
  attend (fun s => if s ≤ t.val then lg a0 a1 a2 b h t ⟨s % 4096, Nat.mod_lt _ (by decide)⟩ else ⊥)
    (fun s => a3 (ix3 b ⟨h.val * 64 + d.val, by omega⟩ ⟨s % 4096, Nat.mod_lt _ (by decide)⟩))

end Cert.Soft
-- ==== Proof.V.Arr.lean ====
/- The attention kernel's result array. -/
module

public import proofs.«01_k».proof.Proof.V.Final
public import proofs.«01_k».proof.Proof.V.Score
public import proofs.«01_k».proof.Proof.V.Perm
public import proofs.«01_k».proof.Proof.V.Target
public import proofs.«01_k».proof.Proof.Gen.KernelIdeal.Value

@[expose] public section

set_option maxRecDepth 16384

noncomputable section

namespace Cert.Arr

open Idealize.ShloMosaic Idealize.ShloMosaic.TcCoe Cert.Online Cert.Tiles
open Cert.KernelIdeal Cert.KernelIdeal.Gen

variable (m : (ℓ : Loc nD τ sig) → Buf (Elt Ideal) ℓ) (c : Dev nD)

theorem idx : ∀ t : Fin grid0.N, win0_0.index t = ![t.val / 8, t.val % 8, 0] ∧ win0_1.index t = ![t.val / 8, t.val % 8]
    ∧ win0_2.index t = ![t.val / 8, 0] ∧ win0_3.index t = ![t.val % 8, 0, 0] ∧ win0_4.index t = ![t.val / 8, t.val % 8, 0]
    ∧ win0_5.index t = ![t.val / 8, t.val % 8] := by
  decide +kernel

theorem tlt (t : Fin grid0.N) : t.val < 32 := t.isLt

theorem blk0 (t : Fin grid0.N) (l : Fin 128) (q : Fin 4096) : iblk m c 0 t (ix3 0 l q)
    = m ((c.tc : Thread nD τ).loc main_arg0) (ix3 ⟨t.val / 8, by have := tlt t; omega⟩ ⟨128 * (t.val % 8) + l.val, by omega⟩ q) := by
  obtain ⟨i0, i1, i2, i3, i4, i5⟩ := idx t
  blk_point [iblk, V, i0]

theorem blk1 (t : Fin grid0.N) (s : Fin 4096) (l : Fin 128) : iblk m c 1 t (ix2 s l)
    = m ((c.tc : Thread nD τ).loc main_arg1) (ix2 ⟨t.val / 8 * 4096 + s.val, by have := tlt t; omega⟩ ⟨128 * (t.val % 8) + l.val, by omega⟩) := by
  obtain ⟨i0, i1, i2, i3, i4, i5⟩ := idx t
  blk_point [iblk, V, i1]

theorem blk2 (t : Fin grid0.N) (s : Fin 4096) (l : Fin 128) : iblk m c 2 t (ix2 s l)
    = m ((c.tc : Thread nD τ).loc main_arg2) (ix2 ⟨t.val / 8 * 4096 + s.val, by have := tlt t; omega⟩ l) := by
  obtain ⟨i0, i1, i2, i3, i4, i5⟩ := idx t
  blk_point [iblk, V, i2]

theorem blk3 (t : Fin grid0.N) (r l : Fin 128) : iblk m c 3 t (ix3 0 r l) = V m c main_v22 (ix3 ⟨t.val % 8, by omega⟩ r l) := by
  obtain ⟨i0, i1, i2, i3, i4, i5⟩ := idx t
  blk_point [iblk, i3]

theorem blk4 (t : Fin grid0.N) (l : Fin 128) (q : Fin 4096) : iblk m c 4 t (ix3 0 l q)
    = m ((c.tc : Thread nD τ).loc main_arg3) (ix3 ⟨t.val / 8, by have := tlt t; omega⟩ ⟨128 * (t.val % 8) + l.val, by omega⟩ q) := by
  obtain ⟨i0, i1, i2, i3, i4, i5⟩ := idx t
  blk_point [iblk, V, i4]

section Logits

variable (t : Fin grid0.N) (h : Fin 2) (d : Fin 64) (q s : Fin 4096)

theorem logit_eq : Score.logit (iblk m c 0 t) (iblk m c 1 t) (iblk m c 2 t) ⟨t.val % 8, by omega⟩ h q s
    = Soft.lg (m ((c.tc : Thread nD τ).loc main_arg0)) (m ((c.tc : Thread nD τ).loc main_arg1)) (m ((c.tc : Thread nD τ).loc main_arg2))
        ⟨t.val / 8, by have := tlt t; omega⟩ ⟨2 * (t.val % 8) + h.val, by omega⟩ q s := by
  unfold Score.logit Soft.lg Score.decay Soft.dc Score.term
  simp only [blk0, blk1, blk2]
  have e0 : ∀ e : Fin 64, 128 * (t.val % 8) + (64 * h.val + e.val) = (2 * (t.val % 8) + h.val) * 64 + e.val := by intro e; omega
  have e1 : ∀ j : ℕ, 8 * (2 * (t.val % 8) + h.val) + j = (2 * (t.val % 8) + h.val) * 8 + j := by intro j; omega
  simp only [e0, e1]
  rfl

variable (f0 : S1x128x4096.Idx → ℝ) (f1 f2 : S4096x128.Idx → ℝ)
  (h0 : ∀ i, iblk m c 0 t i = (f0 i : EReal)) (h1 : ∀ i, iblk m c 1 t i = (f1 i : EReal)) (h2 : ∀ i, iblk m c 2 t i = (f2 i : EReal))

include h0 h1 h2 in
theorem fin_spec : fin (dat (iblk m c 0 t) (iblk m c 1 t) (iblk m c 2 t) (iblk m c 3 t) (iblk m c 4 t)) h.val d.val q.val
    = Soft.spec (m ((c.tc : Thread nD τ).loc main_arg0)) (m ((c.tc : Thread nD τ).loc main_arg1)) (m ((c.tc : Thread nD τ).loc main_arg2))
        (m ((c.tc : Thread nD τ).loc main_arg3))
        ⟨t.val / 8, by have := tlt t; omega⟩ ⟨2 * (t.val % 8) + h.val, by omega⟩ q d := by
  rw [Score.fin_eq (iblk m c 0 t) (iblk m c 1 t) (iblk m c 2 t) (iblk m c 3 t) (iblk m c 4 t) ⟨t.val % 8, by omega⟩
    (fun r l => (blk3 m c t r l).trans (Perm.perm_at m c _ r l)) f0 f1 f2 h0 h1 h2]
  unfold Soft.spec
  simp only [logit_eq, blk4]
  have e0 : 128 * (t.val % 8) + (64 * h.val + d.val) = (2 * (t.val % 8) + h.val) * 64 + d.val := by omega
  simp only [e0]

end Logits

/-- The result at row `i`, column `n`, as a function of the arguments. -/
def G (i : Fin 16384) (n : Fin 1024) : EReal :=
  Soft.spec (m ((c.tc : Thread nD τ).loc main_arg0)) (m ((c.tc : Thread nD τ).loc main_arg1)) (m ((c.tc : Thread nD τ).loc main_arg2))
    (m ((c.tc : Thread nD τ).loc main_arg3)) ⟨i.val / 4096, by omega⟩ ⟨n.val / 64, by omega⟩ ⟨i.val % 4096, by omega⟩ ⟨n.val % 64, by omega⟩

theorem G_at (b : Fin 4) (h : Fin 16) (q : Fin 4096) (d : Fin 64) (i : Fin 16384) (n : Fin 1024) (hi : i.val = b.val * 4096 + q.val)
    (hn : n.val = h.val * 64 + d.val) : G m c i n
      = Soft.spec (m ((c.tc : Thread nD τ).loc main_arg0)) (m ((c.tc : Thread nD τ).loc main_arg1)) (m ((c.tc : Thread nD τ).loc main_arg2))
        (m ((c.tc : Thread nD τ).loc main_arg3)) b h q d := by
  unfold G
  congr 1 <;> (refine Fin.ext ?_; dsimp only; omega)

/-- Every entry of the three score operands is a real number. -/
def Real3 : Prop := (∀ i, ∃ r : ℝ, m ((c.tc : Thread nD τ).loc main_arg0) i = (r : EReal))
  ∧ (∀ i, ∃ r : ℝ, m ((c.tc : Thread nD τ).loc main_arg1) i = (r : EReal)) ∧ (∀ i, ∃ r : ℝ, m ((c.tc : Thread nD τ).loc main_arg2) i = (r : EReal))

theorem real0 (hr : Real3 m c) (t : Fin grid0.N) (i : S1x128x4096.Idx) : ∃ r : ℝ, iblk m c 0 t i = (r : EReal) := by
  obtain ⟨h0, h1, h2⟩ := hr
  idx_vars i
  obtain rfl : i0 = 0 := Subsingleton.elim _ _
  rw [blk0]
  exact h0 _

theorem real1 (hr : Real3 m c) (t : Fin grid0.N) (i : S4096x128.Idx) : ∃ r : ℝ, iblk m c 1 t i = (r : EReal) := by
  obtain ⟨h0, h1, h2⟩ := hr
  idx_vars i
  rw [blk1]
  exact h1 _

theorem real2 (hr : Real3 m c) (t : Fin grid0.N) (i : S4096x128.Idx) : ∃ r : ℝ, iblk m c 2 t i = (r : EReal) := by
  obtain ⟨h0, h1, h2⟩ := hr
  idx_vars i
  rw [blk2]
  exact h2 _

theorem arr (hr : Real3 m c) : (dats m 0 c).arrAt 5 cfg0.N = fun i => G m c (i 0) (i 1) := by
  refine (dats m 0 c).arrAt_eq_of_covers 5 _ (by decide +kernel) fun t hf y => ?_
  obtain ⟨i0, i1, i2, i3, i4, i5⟩ := idx t
  blk_simp
  rw [after0_5]
  unfold outsAt0
  rw [out_fin]
  idx_vars y
  have ht := tlt t
  refine (fin_spec m c t ⟨y1.val / 64, by omega⟩ ⟨y1.val % 64, by omega⟩ y0 (fun i => (real0 m c hr t i).choose)
    (fun i => (real1 m c hr t i).choose) (fun i => (real2 m c hr t i).choose) (fun i => (real0 m c hr t i).choose_spec)
    (fun i => (real1 m c hr t i).choose_spec) (fun i => (real2 m c hr t i).choose_spec)).trans ?_
  have e : ∀ X : S16384x1024.Idx → EReal, X (((View.whole main_v23).slice (win0_5.rect t)).emb (ix2 y0 y1))
      = X (ix2 ⟨t.val / 8 * 4096 + y0.val, by omega⟩ ⟨128 * (t.val % 8) + y1.val, by omega⟩) := by
    intro X
    blk_point [i5]
  refine Eq.trans ?_ (e fun i => G m c (i 0) (i 1)).symm
  refine (G_at m c _ _ _ _ _ _ rfl ?_).symm
  show 128 * (t.val % 8) + y1.val = (2 * (t.val % 8) + y1.val / 64) * 64 + y1.val % 64
  omega

end Cert.Arr
-- ==== Proof.V.RefAttn.lean ====
/- The reference's attention read at an index: the decay sums, the masked scores, their exponentials, the result. -/
module

public import proofs.«01_k».proof.Proof.V.Online
public import proofs.«01_k».proof.Proof.Gen.ReferenceIdeal.Run
public import Idealize.ShloMosaic.Lib.Tactic.CleanTypes
public import Idealize.ShloMosaic.Lib.KernelVsHost
public import Idealize.ShloMosaic.Lib.Tactic.WordOmega

@[expose] public section

set_option maxRecDepth 16384

noncomputable section

namespace Cert.RefAttn

open Idealize.ShloMosaic Idealize.ShloMosaic.TcCoe
open Cert.ReferenceIdeal Cert.ReferenceIdeal.Gen

variable (a0 : FVec Ideal S4x1024x4096 .bf16) (a1 : FVec Ideal S16384x1024 .bf16) (a2 : FVec Ideal S16384x128 .bf16)
  (a3 : FVec Ideal S4x1024x4096 .bf16)

/-- The decay sums by batch, head and token. -/
def cV : FVec Ideal S4x16x4096 .f32 :=
  (Host.negf (transpose S4x16x4096 [0, 2, 1] (addf (addf (shapeCast _ (extractStridedSlice S4x4096x16x1 ![0, 0, 0, 0] (shapeCast _ (extf .f32 a2 bitsLt_bf16_f32) shapeCasts_S16384x128_S4x4096x16x8) slices_S4x4096x16x8_S4x4096x16x1_0_0_0_0) shapeCasts_S4x4096x16x1_S4x4096x16) (shapeCast _ (extractStridedSlice S4x4096x16x1 ![0, 0, 0, 1] (shapeCast _ (extf .f32 a2 bitsLt_bf16_f32) shapeCasts_S16384x128_S4x4096x16x8) slices_S4x4096x16x8_S4x4096x16x1_0_0_0_1) shapeCasts_S4x4096x16x1_S4x4096x16)) (shapeCast _ (extractStridedSlice S4x4096x16x1 ![0, 0, 0, 2] (shapeCast _ (extf .f32 a2 bitsLt_bf16_f32) shapeCasts_S16384x128_S4x4096x16x8) slices_S4x4096x16x8_S4x4096x16x1_0_0_0_2) shapeCasts_S4x4096x16x1_S4x4096x16)) transposes_S4x4096x16_S4x16x4096_0_2_1))

/-- The masked scores, in natural logarithms. -/
def lV : FVec Ideal S4x16x4096x4096 .f32 :=
  (mulf (select (broadcastInDim S4x16x4096x4096 ![2, 3] bcast_S4096x4096_S4x16x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))) (subf (addf (Host.dotGeneral dot_S4x16x64x4096_S4x4096x16x64_S4x16x4096x4096_2_3_3_1_01_02 none (shapeCast _ (extf .f32 a0 bitsLt_bf16_f32) shapeCasts_S4x1024x4096_S4x16x64x4096) (shapeCast _ (extf .f32 a1 bitsLt_bf16_f32) shapeCasts_S16384x1024_S4x4096x16x64)) (broadcastInDim S4x16x4096x4096 ![0, 1, 2, 3] bcast_S4x16x4096x1_S4x16x4096x4096_0_1_2_3 (broadcastInDim S4x16x4096x1 ![0, 1, 2] bcast_S4x16x4096_S4x16x4096x1_0_1_2 (cV a2)))) (broadcastInDim S4x16x4096x4096 ![0, 1, 2, 3] bcast_S4x16x1x4096_S4x16x4096x4096_0_1_2_3 (broadcastInDim S4x16x1x4096 ![0, 1, 3] bcast_S4x16x4096_S4x16x1x4096_0_1_3 (cV a2)))) (broadcastInDim S4x16x4096x4096 ![] bcast_S_S4x16x4096x4096 (id (constant S_ .f32 0xFF800000#32)))) (broadcastInDim S4x16x4096x4096 ![] bcast_S_S4x16x4096x4096 (Host.log (constant S_ .f32 0x40000000#32))))

/-- The exponentials of scores less their row's maximum. -/
def eV (l : FVec Ideal S4x16x4096x4096 .f32) : FVec Ideal S4x16x4096x4096 .f32 :=
  (Host.exp (subf l (broadcastInDim S4x16x4096x4096 ![0, 1, 2, 3] bcast_S4x16x4096x1_S4x16x4096x4096_0_1_2_3 (broadcastInDim S4x16x4096x1 ![0, 1, 2] bcast_S4x16x4096_S4x16x4096x1_0_1_2 (maximumf (broadcastInDim S4x16x4096 ![] bcast_S_S4x16x4096 (constant S_ .f32 0xFF800000#32)) (Host.reduce FloatOps.maximumf l (constant S_ .f32 0xFF800000#32) reducesTo_S4x16x4096x4096_S4x16x4096_d3 h_S_))))))

/-- The result from the exponentials. -/
def oV (p : FVec Ideal S4x16x4096x4096 .f32) : FVec Ideal S16384x1024 .bf16 :=
  truncf .bf16 (shapeCast _ (transpose S4x4096x16x64 [0, 3, 1, 2] (Host.dotGeneral dot_S4x16x64x4096_S4x16x4096x4096_S4x16x64x4096_3_3_2_2_01_01 none (shapeCast _ (extf .f32 a3 bitsLt_bf16_f32) shapeCasts_S4x1024x4096_S4x16x64x4096) (Host.divf p (broadcastInDim S4x16x4096x4096 ![0, 1, 2, 3] bcast_S4x16x4096x1_S4x16x4096x4096_0_1_2_3 (broadcastInDim S4x16x4096x1 ![0, 1, 2] bcast_S4x16x4096_S4x16x4096x1_0_1_2 (Host.reduceAdd p (constant S_ .f32 0x00000000#32) reducesTo_S4x16x4096x4096_S4x16x4096_d3 h_S_))))) transposes_S4x16x64x4096_S4x4096x16x64_0_3_1_2) shapeCasts_S4x4096x16x64_S16384x1024) bitsLt_bf16_f32

theorem res_eq (m : (ℓ : Loc nD τ sig) → Buf (Elt Ideal) ℓ) (c : Dev nD) :
    Value.res_main_v49 m c = oV (m ((c.tc : Thread nD τ).loc main_arg3)) (eV (lV (m ((c.tc : Thread nD τ).loc main_arg0))
      (m ((c.tc : Thread nD τ).loc main_arg1)) (m ((c.tc : Thread nD τ).loc main_arg2)))) := by
  unfold Value.res_main_v49
  rfl

theorem bits_neg_inf : Ideal.ofBits .f32 0xFF800000#32 = ⊥ := by simp [Ideal.ofBits, Ideal.ieee]

theorem bits_two : Ideal.ofBits .f32 0x40000000#32 = 2 := by
  simp [Ideal.ofBits, Ideal.ieee]
  rw [← EReal.coe_mul]
  norm_num
  rfl

theorem cV_at (b : Fin 4) (h : Fin 16) (t : Fin 4096) : cV a2 (ix3 b h t)
    = -(a2 (ix2 ⟨b.val * 4096 + t.val, by omega⟩ ⟨h.val * 8, by omega⟩) + a2 (ix2 ⟨b.val * 4096 + t.val, by omega⟩ ⟨h.val * 8 + 1, by omega⟩)
      + a2 (ix2 ⟨b.val * 4096 + t.val, by omega⟩ ⟨h.val * 8 + 2, by omega⟩)) := by
  unfold cV
  pointwise

theorem lV_at (b : Fin 4) (h : Fin 16) (t s : Fin 4096) : lV a0 a1 a2 (ix4 b h t s)
    = (if s.val ≤ t.val then (∑ e : Fin 64, a0 (ix3 b ⟨h.val * 64 + e.val, by omega⟩ t) * a1 (ix2 ⟨b.val * 4096 + s.val, by omega⟩ ⟨h.val * 64 + e.val, by omega⟩))
      + cV a2 (ix3 b h t) - cV a2 (ix3 b h s) else ⊥) * Ideal.log 2 := by
  unfold lV
  pointwise
  have h0 := s.isLt
  have h1 := t.isLt
  have hle : IntOp.cmpi .sle (BitVec.ofNat 32 s.val) (BitVec.ofNat 32 t.val) = BitVec.ofBool (decide (s.val ≤ t.val)) := by
    show BitVec.ofBool (BitVec.sle (BitVec.ofNat 32 s.val) (BitVec.ofNat 32 t.val)) = _
    rw [BitVec.sle_eq_decide, BitVec.toInt_ofNat', BitVec.toInt_ofNat', Int.bmod_eq_of_le (by omega) (by omega), Int.bmod_eq_of_le (by omega) (by omega)]
    congr 2
    simp
  rw [hle, bits_two, show id (constant (F := Ideal) S_ .f32 0xFF800000#32) ix0 = ⊥ from bits_neg_inf]
  congr 1
  by_cases hj : s.val ≤ t.val
  · simp [hj, Scalar.select]
  · simp [hj, Scalar.select]

theorem lift_eq (hh : S4x16x4096x4096.Reduces [3] S4x16x4096) (b : Fin 4) (h : Fin 16) (t r : Fin 4096) :
    hh.lift (ix3 b h t) r = ix4 b h t r := by
  funext k; apply Fin.ext
  fin_cases k <;> rfl

theorem max_at (l : FVec Ideal S4x16x4096x4096 .f32) (b : Fin 4) (h : Fin 16) (t : Fin 4096) :
    Host.reduce FloatOps.maximumf l (constant S_ .f32 0xFF800000#32) reducesTo_S4x16x4096x4096_S4x16x4096_d3 h_S_ (ix3 b h t)
      = (Finset.univ : Finset (Fin 4096)).fold max ⊥ fun r => l (ix4 b h t r) := by
  have hh : S4x16x4096x4096.Reduces [3] S4x16x4096 := by decide
  rw [Host.reduce_eq_fold_single FloatOps.maximumf l _ reducesTo_S4x16x4096x4096_S4x16x4096_d3 hh h_S_]
  have hf : (l ∘ hh.lift (ix3 b h t)) = fun r : Fin 4096 => l (ix4 b h t r) := funext fun r => congrArg l (lift_eq hh b h t r)
  have hb : constant (F := Ideal) S_ .f32 0xFF800000#32 (Shape.Idx.first h_S_) = ⊥ := bits_neg_inf
  rw [hb]
  exact congrArg (fun f => Finset.fold max (⊥ : EReal) f (Finset.univ : Finset (Fin 4096))) hf

/-- The exponentials, from the row maxima. -/
def eM (l : FVec Ideal S4x16x4096x4096 .f32) (M : FVec Ideal S4x16x4096 .f32) : FVec Ideal S4x16x4096x4096 .f32 :=
  (Host.exp (subf l (broadcastInDim S4x16x4096x4096 ![0, 1, 2, 3] bcast_S4x16x4096x1_S4x16x4096x4096_0_1_2_3 (broadcastInDim S4x16x4096x1 ![0, 1, 2] bcast_S4x16x4096_S4x16x4096x1_0_1_2 (maximumf (broadcastInDim S4x16x4096 ![] bcast_S_S4x16x4096 (constant S_ .f32 0xFF800000#32)) M)))))

theorem eM_at (l : FVec Ideal S4x16x4096x4096 .f32) (M : FVec Ideal S4x16x4096 .f32) (b : Fin 4) (h : Fin 16) (t s : Fin 4096) :
    eM l M (ix4 b h t s) = Ideal.exp (l (ix4 b h t s) - M (ix3 b h t)) := by
  unfold eM
  pointwise [bits_neg_inf]
  rw [max_eq_right bot_le]

theorem eV_at (l : FVec Ideal S4x16x4096x4096 .f32) (b : Fin 4) (h : Fin 16) (t s : Fin 4096) : eV l (ix4 b h t s)
    = Ideal.exp (l (ix4 b h t s) - (Finset.univ : Finset (Fin 4096)).fold max ⊥ fun r => l (ix4 b h t r)) := by
  rw [← max_at]
  exact eM_at l (Host.reduce FloatOps.maximumf l (constant S_ .f32 0xFF800000#32) reducesTo_S4x16x4096x4096_S4x16x4096_d3 h_S_) b h t s

theorem oV_at (p : FVec Ideal S4x16x4096x4096 .f32) (b : Fin 4) (h : Fin 16) (t : Fin 4096) (d : Fin 64) :
    oV a3 p (ix2 ⟨b.val * 4096 + t.val, by omega⟩ ⟨h.val * 64 + d.val, by omega⟩)
    = ∑ s : Fin 4096, a3 (ix3 b ⟨h.val * 64 + d.val, by omega⟩ s) * Ideal.div (p (ix4 b h t s)) (∑ r : Fin 4096, p (ix4 b h t r)) := by
  unfold oV
  pointwise

end Cert.RefAttn
-- ==== Proof.V.Mean.lean ====
/- The reference's softmax: the mean of the values weighted by exponentials of the scores times the logarithm of two, less
   their maximum, is the mean weighted by powers of two. -/
module

public import proofs.«01_k».proof.Proof.V.Online

@[expose] public section

noncomputable section

namespace Cert.Mean

open Idealize.ShloMosaic Cert.Online

theorem log_two : Ideal.log 2 = ((Real.log 2 : ℝ) : EReal) := by
  show Ideal.log ((2 : ℝ) : EReal) = _
  rw [Ideal.log_coe, if_neg (by norm_num)]

theorem log_two_pos : 0 < Real.log 2 := Real.log_pos (by norm_num)

/-- One exponential: the factor `e` to minus the maximum times the power of two. -/
theorem exp_sub (x : EReal) (hx : x ≠ ⊤) (M : ℝ) :
    Ideal.exp (x * Ideal.log 2 - (M : EReal)) = ((Real.exp (-M) : ℝ) : EReal) * Ideal.exp2 x := by
  rw [log_two]
  induction x using EReal.rec with
  | bot => rw [EReal.bot_mul_of_pos (by exact_mod_cast log_two_pos), EReal.bot_sub, Ideal.exp_bot, Ideal.exp2_bot, mul_zero]
  | top => exact absurd rfl hx
  | coe r =>
    rw [← EReal.coe_mul, ← EReal.coe_sub, Ideal.exp2_coe, ← EReal.coe_mul]
    show ((Real.exp (r * Real.log 2 - M) : ℝ) : EReal) = _
    congr 1
    show _ = Real.exp (-M) * (2 : ℝ) ^ r
    rw [Real.rpow_def_of_pos (by norm_num), ← Real.exp_add]
    congr 1; ring

theorem max_real (σ : ℕ → EReal) (ht : ∀ s, σ s ≠ ⊤) (hb : ∃ s : Fin 4096, σ s.val ≠ ⊥) :
    ∃ M : ℝ, ((Finset.univ : Finset (Fin 4096)).fold max ⊥ fun s => σ s.val * Ideal.log 2) = M := by
  have h1 : ((Finset.univ : Finset (Fin 4096)).fold max ⊥ fun s => σ s.val * Ideal.log 2) ≠ ⊤ := by
    rw [← lt_top_iff_ne_top, Finset.fold_max_lt]
    refine ⟨bot_lt_top, fun s _ => ?_⟩
    have := ht s.val
    rw [log_two]
    generalize σ s.val = x at this
    induction x using EReal.rec with
    | bot => rw [EReal.bot_mul_of_pos (by exact_mod_cast log_two_pos)]; exact bot_lt_top
    | top => exact absurd rfl this
    | coe r => rw [← EReal.coe_mul]; exact EReal.coe_lt_top _
  have h2 : ((Finset.univ : Finset (Fin 4096)).fold max ⊥ fun s => σ s.val * Ideal.log 2) ≠ ⊥ := by
    obtain ⟨s, hs⟩ := hb
    rw [← bot_lt_iff_ne_bot, Finset.lt_fold_max]
    refine Or.inr ⟨s, Finset.mem_univ _, ?_⟩
    have := ht s.val
    rw [log_two]
    generalize σ s.val = x at this hs
    induction x using EReal.rec with
    | bot => exact absurd rfl hs
    | top => exact absurd rfl this
    | coe r => rw [← EReal.coe_mul]; exact EReal.bot_lt_coe _
  exact ⟨_, (EReal.coe_toReal h1 h2).symm⟩

theorem mean (σ v : ℕ → EReal) (ht : ∀ s, σ s ≠ ⊤) (hb : ∃ s : Fin 4096, σ s.val ≠ ⊥) :
    ∑ s : Fin 4096, v s.val * Ideal.div
        (Ideal.exp (σ s.val * Ideal.log 2 - (Finset.univ : Finset (Fin 4096)).fold max ⊥ fun s => σ s.val * Ideal.log 2))
        (∑ r : Fin 4096, Ideal.exp (σ r.val * Ideal.log 2 - (Finset.univ : Finset (Fin 4096)).fold max ⊥ fun s => σ s.val * Ideal.log 2))
      = attend σ v := by
  obtain ⟨M, hM⟩ := max_real σ ht hb
  simp only [hM, exp_sub _ (ht _)]
  rw [← mul_sum _ _ (Real.exp_pos _)]
  obtain ⟨s0, hs0⟩ := hb
  obtain ⟨S, hS, hSe⟩ := sum_exp2_real (Finset.univ : Finset (Fin 4096)) (fun s => σ s.val) (fun s => ht s.val) ⟨s0, Finset.mem_univ _, hs0⟩
  rw [hSe, attend, Finset.sum_range, Finset.sum_range, hSe, ← EReal.coe_inv, mul_comm _ ((S⁻¹ : ℝ) : EReal), mul_sum _ _ (inv_pos.2 hS)]
  refine Finset.sum_congr rfl fun s _ => ?_
  have hc := Real.exp_pos (-M)
  generalize Real.exp (-M) = c at hc
  rw [← EReal.coe_mul, Ideal.div, if_neg (by exact_mod_cast (mul_pos hc hS).ne'), ← EReal.coe_inv, mul_left_comm ((S⁻¹ : ℝ) : EReal)]
  refine congrArg (v s.val * ·) ?_
  rw [mul_comm (c : EReal), mul_assoc, mul_comm ((S⁻¹ : ℝ) : EReal), ← EReal.coe_mul]
  refine congrArg (fun r : ℝ => Ideal.exp2 (σ s.val) * (r : EReal)) ?_
  field_simp

end Cert.Mean
-- ==== Proof.V.Soft.lean ====
/- The reference's attention at an index: the mean of the values weighted by powers of two of the scores up to the query. -/
module

public import proofs.«01_k».proof.Proof.V.RefAttn
public import proofs.«01_k».proof.Proof.V.Mean
public import proofs.«01_k».proof.Proof.V.Target

@[expose] public section

noncomputable section

namespace Cert.Soft

open Idealize.ShloMosaic Idealize.ShloMosaic.TcCoe Cert.Online

variable (a0 : (⟨3, ![4, 1024, 4096]⟩ : Shape).Idx → EReal) (a1 : (⟨2, ![16384, 1024]⟩ : Shape).Idx → EReal)
  (a2 : (⟨2, ![16384, 128]⟩ : Shape).Idx → EReal) (a3 : (⟨3, ![4, 1024, 4096]⟩ : Shape).Idx → EReal)

variable (f0 : (⟨3, ![4, 1024, 4096]⟩ : Shape).Idx → ℝ) (f1 : (⟨2, ![16384, 1024]⟩ : Shape).Idx → ℝ)
  (f2 : (⟨2, ![16384, 128]⟩ : Shape).Idx → ℝ)
  (h0 : ∀ i, a0 i = (f0 i : EReal)) (h1 : ∀ i, a1 i = (f1 i : EReal)) (h2 : ∀ i, a2 i = (f2 i : EReal))

include h0 h1 h2 in
theorem lg_real (b : Fin 4) (h : Fin 16) (t s : Fin 4096) : ∃ r : ℝ, lg a0 a1 a2 b h t s = r := by
  unfold lg dc
  simp only [h0, h1, h2, ← EReal.coe_mul, ← EReal.coe_add, ← EReal.coe_neg, ← EReal.coe_sub, ← coe_sum]
  exact ⟨_, rfl⟩

include h0 h1 h2 in
theorem ref_eq (b : Fin 4) (h : Fin 16) (t : Fin 4096) (d : Fin 64) :
    RefAttn.oV a3 (RefAttn.eV (RefAttn.lV a0 a1 a2)) (ix2 ⟨b.val * 4096 + t.val, by omega⟩ ⟨h.val * 64 + d.val, by omega⟩)
      = spec a0 a1 a2 a3 b h t d := by
  have hm : ∀ s : Fin 4096, (⟨s.val % 4096, Nat.mod_lt _ (by decide)⟩ : Fin 4096) = s := fun s => Fin.ext (Nat.mod_eq_of_lt s.isLt)
  have hl : ∀ s : Fin 4096, RefAttn.lV a0 a1 a2 (ix4 b h t s)
      = (fun s : ℕ => if s ≤ t.val then lg a0 a1 a2 b h t ⟨s % 4096, Nat.mod_lt _ (by decide)⟩ else ⊥) s.val * Ideal.log 2 := by
    intro s
    rw [RefAttn.lV_at, RefAttn.cV_at, RefAttn.cV_at]
    dsimp only
    rw [hm]
    rfl
  have ha : ∀ s : Fin 4096, a3 (ix3 b ⟨h.val * 64 + d.val, by omega⟩ s)
      = (fun s : ℕ => a3 (ix3 b ⟨h.val * 64 + d.val, by omega⟩ ⟨s % 4096, Nat.mod_lt _ (by decide)⟩)) s.val := by
    intro s
    dsimp only
    rw [hm]
  rw [RefAttn.oV_at]
  simp only [RefAttn.eV_at, hl]
  refine (Finset.sum_congr rfl fun s _ => by rw [ha s]).trans (Mean.mean _ _ ?_ ?_)
  · intro s
    split_ifs
    · obtain ⟨r, hr⟩ := lg_real a0 a1 a2 f0 f1 f2 h0 h1 h2 b h t ⟨s % 4096, Nat.mod_lt _ (by decide)⟩
      rw [hr]; exact EReal.coe_ne_top _
    · exact bot_ne_top
  · refine ⟨0, ?_⟩
    obtain ⟨r, hr⟩ := lg_real a0 a1 a2 f0 f1 f2 h0 h1 h2 b h t ⟨(0 : Fin 4096).val % 4096, Nat.mod_lt _ (by decide)⟩
    rw [if_pos (show (0 : Fin 4096).val ≤ t.val from Nat.zero_le _), hr]; exact EReal.coe_ne_bot _

end Cert.Soft
-- ==== Proof.V.Finite.lean ====
/- The precondition at an index: every entry of the three score operands is a real number. -/
module

public import proofs.«01_k».proof.Pre_finite_scores
public import Idealize.ShloMosaic.Lib.ReduceAll
public import Idealize.ShloMosaic.Lib.Pointwise

@[expose] public section

noncomputable section

namespace Cert.Finite

open Idealize.ShloMosaic Cert.Pre_finite_scores

instance pre_facts : Cert.Pre_finite_scores.Facts where
  bitsLt_bf16_f32 := by decide
  bcast_S_S4x1024x4096 := by decide
  reducesTo_S4x1024x4096_S_d0_1_2 := by decide
  h_S_ := by decide
  bcast_S_S16384x1024 := by decide
  reducesTo_S16384x1024_S_d0_1 := by decide
  bcast_S_S16384x128 := by decide
  reducesTo_S16384x128_S_d0_1 := by decide

theorem and_one (a b : BitVec 1) (h : IntOp.andi a b = 1#1) : a = 1#1 ∧ b = 1#1 := by
  revert a b; decide

theorem bits_inf : Ideal.ofBits .f32 0x7F800000#32 = ⊤ := by
  simp [Ideal.ofBits, Ideal.ieee]

theorem real_of_abs (x : EReal) (h : BitVec.ofBool (decide (max x (-x) < Ideal.ofBits .f32 0x7F800000#32)) = 1#1) : ∃ r : ℝ, x = r := by
  rw [bits_inf] at h
  have hlt : max x (-x) < ⊤ := by
    by_contra hn
    rw [decide_eq_false hn] at h
    exact absurd h (by decide)
  have h1 := lt_of_le_of_lt (le_max_left _ _) hlt
  have h2 := lt_of_le_of_lt (le_max_right _ _) hlt
  induction x using EReal.rec with
  | bot => simp at h2
  | top => simp at h1
  | coe r => exact ⟨r, rfl⟩

instance : Subsingleton S_.Idx := ⟨fun a b => funext fun i => i.elim0⟩

theorem real_args (a0 : FVec Ideal S4x1024x4096 .bf16) (a1 : FVec Ideal S16384x1024 .bf16) (a2 : FVec Ideal S16384x128 .bf16)
    (a3 : FVec Ideal S4x1024x4096 .bf16) (h : Cert.Pre_finite_scores.fn (F := Ideal) a0 a1 a2 a3 = fun _ => 1#1) :
    (∀ i, ∃ r : ℝ, a0 i = r) ∧ (∀ i, ∃ r : ℝ, a1 i = r) ∧ (∀ i, ∃ r : ℝ, a2 i = r) := by
  have h' := congrFun h ix0
  unfold Cert.Pre_finite_scores.fn at h'
  dsimp only at h'
  obtain ⟨h01, h2⟩ := and_one _ _ h'
  obtain ⟨h0, h1⟩ := and_one _ _ h01
  refine ⟨fun i => ?_, fun i => ?_, fun i => ?_⟩
  · exact real_of_abs _ (Host.reduce_andi_all _ _ _ _ _ h0 i)
  · exact real_of_abs _ (Host.reduce_andi_all _ _ _ _ _ h1 i)
  · exact real_of_abs _ (Host.reduce_andi_all _ _ _ _ _ h2 i)

end Cert.Finite
-- ==== Proof.V.Attn.lean ====
/- The value claim of the attention: the kernel's result array (Arr.lean) and the reference's result (Soft.lean) are the
   same formula of the arguments when every entry of the score operands is a real number (Finite.lean). -/
module

public import proofs.«01_k».proof.Defs
public import proofs.«01_k».proof.Proof.V.Arr
public import proofs.«01_k».proof.Proof.V.Soft
public import proofs.«01_k».proof.Proof.V.Finite

@[expose] public section

noncomputable section

namespace Cert.Attn

open Idealize.ShloMosaic Idealize.ShloMosaic.TcCoe

/-- The two results agree at every index when the arguments do and the score operands are real. -/
theorem agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hr : Cert.Arr.Real3 m c)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Value.res_main_v49 m' c = (Cert.KernelIdeal.Gen.dats m 0 c).arrAt 5 Cert.KernelIdeal.cfg0.N := by
  obtain ⟨h0, h1, h2, h3⟩ := h
  rw [Cert.Arr.arr m c hr, Cert.RefAttn.res_eq, h0, h1, h2, h3]
  obtain ⟨r0, r1, r2⟩ := hr
  funext j
  idx_vars j
  have hi : (⟨j0.val / 4096 * 4096 + j0.val % 4096, by omega⟩ : Fin 16384) = j0 := Fin.ext (Nat.div_add_mod' _ _)
  have hn : (⟨j1.val / 64 * 64 + j1.val % 64, by omega⟩ : Fin 1024) = j1 := Fin.ext (Nat.div_add_mod' _ _)
  have e := Cert.Soft.ref_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (fun i => (r0 i).choose) (fun i => (r1 i).choose) (fun i => (r2 i).choose) (fun i => (r0 i).choose_spec) (fun i => (r1 i).choose_spec)
    (fun i => (r2 i).choose_spec) ⟨j0.val / 4096, by omega⟩ ⟨j1.val / 64, by omega⟩ ⟨j0.val % 4096, by omega⟩ ⟨j1.val % 64, by omega⟩
  dsimp only at e
  rw [hi, hn] at e
  exact e

theorem algebraic : Cert.algebraic_KernelIdeal_ReferenceIdeal_pre_finite_scores := by
  intro m ρ m' ρ' hpre hagree
  refine ⟨fun c => (Cert.KernelIdeal.Gen.dats m 0 c).arrAt 5 Cert.KernelIdeal.cfg0.N, Cert.KernelIdeal.Value.run_blocks m ρ, ?_⟩
  exact (θ_run Cert.ReferenceIdeal.defs _ _).mono
    (fun _ h c => ⟨(h c).1.trans (agree m m' c (Cert.Finite.real_args _ _ _ _ (hpre c)) (hagree c)), (h c).2⟩)
    (Cert.ReferenceIdeal.Value.run (F := Ideal) m' ρ')

end Cert.Attn
-- ==== Proof.V.LogSig.lean ====
/- The logarithm of the logistic function as the two programs compute it. -/
module

public import Idealize.ShloMosaic.Lib.Pointwise
public import Idealize.ShloMosaic.PureOps.Ideal

@[expose] public section

noncomputable section

namespace Cert.LogSig

open Idealize.ShloMosaic

/-- The logarithm of the logistic function, in the form the kernel computes it. -/
def lsg (z : EReal) : EReal := min z 0 - Ideal.log1p (Ideal.exp (0 - max z (-z)))

/-- At a real argument it is a real number. -/
theorem lsg_coe (r : ℝ) : lsg r = ((min r 0 - Real.log (1 + Real.exp (-|r|)) : ℝ) : EReal) := by
  have h : ¬ (1 + Real.exp (-|r|)) ≤ 0 := by have := Real.exp_pos (-|r|); linarith
  have e : (0 : EReal) - max (r : EReal) (-(r : EReal)) = ((-|r| : ℝ) : EReal) := by
    rw [zero_sub, ← EReal.coe_neg, ← EReal.coe_strictMono.monotone.map_max, ← EReal.coe_neg]; rfl
  unfold lsg
  rw [e, Ideal.exp_coe]
  unfold Ideal.log1p
  rw [show (1 : EReal) + ((Real.exp (-|r|) : ℝ) : EReal) = ((1 + Real.exp (-|r|) : ℝ) : EReal) by push_cast; rfl, Ideal.log_coe, if_neg h,
    show min (r : EReal) 0 = ((min r 0 : ℝ) : EReal) from (EReal.coe_strictMono.monotone.map_min).symm, ← EReal.coe_sub]

theorem log_one : Ideal.log 1 = 0 := by
  show Ideal.log ((1 : ℝ) : EReal) = 0
  rw [Ideal.log_coe, if_neg (by norm_num), Real.log_one]
  rfl

/-- The negated softplus of the negated argument, with its test for a number unequal to itself, is the kernel's form. -/
theorem ref_lsg (z : EReal) : -(if -z ≠ -z then -z else max (-z) 0 + Ideal.log1p (Ideal.exp (-(max (-z) (-(-z)))))) = lsg z := by
  rw [if_neg (not_not_intro rfl), neg_neg, max_comm (-z) z]
  induction z using EReal.rec with
  | bot => simp [lsg, Ideal.log1p, log_one]
  | top => simp [lsg, Ideal.log1p, log_one]
  | coe r =>
    have h : ¬ (1 + Real.exp (-|r|)) ≤ 0 := by have := Real.exp_pos (-|r|); linarith
    have e : -(max (r : EReal) (-(r : EReal))) = ((-|r| : ℝ) : EReal) := by
      rw [← EReal.coe_neg, ← EReal.coe_strictMono.monotone.map_max, ← EReal.coe_neg]; rfl
    rw [lsg_coe, e, Ideal.exp_coe]
    unfold Ideal.log1p
    rw [show (1 : EReal) + ((Real.exp (-|r|) : ℝ) : EReal) = ((1 + Real.exp (-|r|) : ℝ) : EReal) by push_cast; rfl, Ideal.log_coe, if_neg h,
      ← EReal.coe_neg, show max ((-r : ℝ) : EReal) 0 = ((max (-r) 0 : ℝ) : EReal) from (EReal.coe_strictMono.monotone.map_max).symm,
      ← EReal.coe_add, ← EReal.coe_neg, neg_add, ← min_neg_neg, neg_neg, neg_zero, sub_eq_add_neg]

theorem bits_two : Ideal.ofBits .f32 0x40000000#32 = ((2 : ℝ) : EReal) := by
  simp [Ideal.ofBits, Ideal.ieee]
  rw [← EReal.coe_mul]
  norm_num

theorem bits_sixteen : Ideal.ofBits .f32 0x41800000#32 = ((16 : ℝ) : EReal) := by
  simp [Ideal.ofBits, Ideal.ieee]
  rw [← EReal.coe_mul]
  norm_num

theorem log_two : Ideal.log (Ideal.ofBits .f32 0x40000000#32) = ((Real.log 2 : ℝ) : EReal) := by
  rw [bits_two, Ideal.log_coe, if_neg (by norm_num)]

/-- A quotient by a real number other than zero is a product with its inverse. -/
theorem div_real (x : EReal) (y : ℝ) (hy : y ≠ 0) : Ideal.div x y = x * ((y⁻¹ : ℝ) : EReal) := by
  unfold Ideal.div
  rw [if_neg (by exact_mod_cast hy), EReal.coe_inv]

theorem log_two_ne : Real.log 2 ≠ 0 := (Real.log_pos (by norm_num)).ne'

theorem div_sixteen (x : EReal) : Ideal.div (Ideal.div x (Ideal.ofBits .f32 0x41800000#32)) (Ideal.log (Ideal.ofBits .f32 0x40000000#32))
    = x * (((16 * Real.log 2)⁻¹ : ℝ) : EReal) := by
  rw [log_two, bits_sixteen, div_real _ _ log_two_ne, div_real _ _ (by norm_num), mul_assoc, ← EReal.coe_mul, mul_inv]

end Cert.LogSig
-- ==== Proof.V.GlaRef.lean ====
/- The gate of the gated projection's reference, at an index. -/
module

public import proofs.«01_k».proof.Proof.V.Row
public import proofs.«01_k».proof.Proof.V.LogSig
public import proofs.«01_k».proof.Proof.Gen.Reference4Ideal.Run
public import Idealize.ShloMosaic.Lib.Pointwise
public import Idealize.ShloMosaic.Lib.Tactic.CleanTypes

@[expose] public section

set_option maxRecDepth 16384

noncomputable section

namespace Cert.GlaRef

open Idealize.ShloMosaic Idealize.ShloMosaic.TcCoe Cert.Row Cert.LogSig
open Cert.Reference4Ideal Cert.Reference4Ideal.Gen

/-- The gate of a row `x`, before the logistic function. -/
def zg (x : Fin 1024 → EReal) (wz : Fin 1024 → Fin 16 → EReal) (wg : Fin 16 → EReal) (b : EReal) : EReal :=
  (∑ j, (∑ k, x k * wz k j) * wg j) + b

theorem gate (m : (ℓ : Loc nD τ sig) → Buf (Elt Ideal) ℓ) (c : Dev nD) (i : Fin 16384) (n : Fin 512) :
    Value.res_main_v31 m c (ix2 i n) = lsg (zg (rms (fun k => m ((c.tc : Thread nD τ).loc main_arg0) (ix2 i k)) (fun k => m ((c.tc : Thread nD τ).loc main_arg1) (ix1 k)))
      (fun k j => m ((c.tc : Thread nD τ).loc main_arg2) (ix2 k ⟨2048 + j.val, by omega⟩)) (fun j => m ((c.tc : Thread nD τ).loc main_arg3) (ix2 j n))
      (m ((c.tc : Thread nD τ).loc main_arg4) (ix1 n))) * (((16 * (Real.log 2))⁻¹ : ℝ) : EReal) := by
  unfold Value.res_main_v31
  clean_types
  pointwise
  refine (div_sixteen _).trans ?_
  refine congrArg (· * _) ?_
  exact ref_lsg _

end Cert.GlaRef
-- ==== Proof.V.GlaOut.lean ====
/- The gated projection: what each block of rows holds after its grid point, and the five result arrays. -/
module

public import proofs.«01_k».proof.Proof.V.Row
public import proofs.«01_k».proof.Proof.V.GlaRef
public import proofs.«01_k».proof.Proof.Gen.Kernel4Ideal.Value
public import Idealize.ShloMosaic.Lib.Pipeline.ValueKit
public import Idealize.ShloMosaic.Lib.StableHlo.ReadAt
public import Idealize.ShloMosaic.Lib.Tactic.CleanTypes

@[expose] public section

set_option maxRecDepth 16384

noncomputable section

namespace Cert.GlaOut

open Idealize.ShloMosaic Idealize.ShloMosaic.TcCoe Cert.Row Cert.LogSig Cert.GlaRef
open Cert.Kernel4Ideal Cert.Kernel4Ideal.Gen

theorem named_eq : Named.named (F := Ideal) Cert.Kernel4Ideal.κ "log2e_16" (φ := .f32) 0x3DB8AA3B#32 = (((16 * (Real.log 2))⁻¹ : ℝ) : EReal) :=
  IdealRules.named_const.ideal_named_scalar _ _ _ _ rfl

variable (x0 : Vec Ideal S1024x1024 .f32) (x1 : Vec Ideal S1x1024 .f32) (x2 : Vec Ideal S1024x512 .bf16) (x3 : Vec Ideal S1024x512 .bf16)
  (x4 : Vec Ideal S1024x1024 .bf16) (x5 : Vec Ideal S1024x1024 .bf16) (x6 : Vec Ideal S16x1024 .bf16) (x7 : Vec Ideal S16x512 .bf16)
  (x8 : Vec Ideal S1x512 .f32)

/-- Row `r` of the block over its root mean square. -/
def N (r k : Fin 1024) : EReal := rms (fun k => x0 (ix2 r k)) (fun k => x1 (ix2 0 k)) k

theorem pay5_eq (r k : Fin 1024) : k0_pay5 x0 x1 (ix2 r k) = N x0 x1 r k := by
  pointwise [k0_pay5, N, rms]

theorem pay7_eq (r k : Fin 1024) : k0_pay7 x0 x1 x2 x3 x4 x5 x6 x7 x8 (ix2 r k) = N x0 x1 r k := by
  unfold k0_pay7
  pointwise [k0_pay5, N, rms]

theorem out9_eq (r : Fin 1024) (n : Fin 512) : out0_9 x0 x1 x2 x3 x4 x5 x6 x7 x8 (ix2 r n)
    = (∑ k, N x0 x1 r k * x2 (ix2 k n)) * Ideal.ofBits .f32 0x3DB504F3#32 := by
  frame_out
  pointwise [k0_pay1]
  simp only [pay7_eq]

theorem out10_eq (r : Fin 1024) (n : Fin 512) : out0_10 x0 x1 x2 x3 x4 x5 x6 x7 x8 (ix2 r n)
    = ∑ k, N x0 x1 r k * x3 (ix2 k n) := by
  frame_out
  pointwise [k0_pay2]
  simp only [pay7_eq]

theorem out11_eq (r n : Fin 1024) : out0_11 x0 x1 x2 x3 x4 x5 x6 x7 x8 (ix2 r n) = ∑ k, N x0 x1 r k * x4 (ix2 k n) := by
  frame_out
  pointwise [k0_pay3]
  simp only [pay7_eq]

theorem out12_eq (r n : Fin 1024) : out0_12 x0 x1 x2 x3 x4 x5 x6 x7 x8 (ix2 r n) = ∑ k, N x0 x1 r k * x5 (ix2 k n) := by
  frame_out
  pointwise [k0_pay4]
  simp only [pay7_eq]

theorem out13_eq (r : Fin 1024) (n : Fin 512) : out0_13 x0 x1 x2 x3 x4 x5 x6 x7 x8 (ix2 r n)
    = lsg (zg (N x0 x1 r) (fun k j => x6 (ix2 j k)) (fun j => x7 (ix2 j n)) (x8 (ix2 0 n))) * (((16 * (Real.log 2))⁻¹ : ℝ) : EReal) := by
  frame_out
  pointwise [k0_pay6, named_eq]
  simp only [pay5_eq, zg, lsg, mul_comm (x6 _)]
  rfl

variable (m : (ℓ : Loc nD τ sig) → Buf (Elt Ideal) ℓ) (c : Dev nD)

theorem v1_at (k : Fin 1024) (n : Fin 512) : V m c main_v1 (ix2 k n) = m ((c.tc : Thread nD τ).loc main_arg2) (ix2 k ⟨n.val, by omega⟩) := by
  unfold V; after_reads_at
theorem v3_at (k : Fin 1024) (n : Fin 512) : V m c main_v3 (ix2 k n) = m ((c.tc : Thread nD τ).loc main_arg2) (ix2 k ⟨512 + n.val, by omega⟩) := by
  unfold V; after_reads_at
theorem v5_at (k n : Fin 1024) : V m c main_v5 (ix2 k n) = m ((c.tc : Thread nD τ).loc main_arg2) (ix2 k ⟨1024 + n.val, by omega⟩) := by
  unfold V; after_reads_at
theorem v8_at (j : Fin 16) (k : Fin 1024) : V m c main_v8 (ix2 j k) = m ((c.tc : Thread nD τ).loc main_arg2) (ix2 k ⟨2048 + j.val, by omega⟩) := by
  unfold V; after_reads_at
theorem v10_at (k n : Fin 1024) : V m c main_v10 (ix2 k n) = m ((c.tc : Thread nD τ).loc main_arg2) (ix2 k ⟨2064 + n.val, by omega⟩) := by
  unfold V; after_reads_at
theorem v11_at (j : Fin 16) (n : Fin 512) : V m c main_v11 (ix2 j n) = m ((c.tc : Thread nD τ).loc main_arg3) (ix2 j n) := by
  unfold V; after_reads_at
theorem v12_at (k : Fin 1024) : V m c main_v12 (ix2 0 k) = m ((c.tc : Thread nD τ).loc main_arg1) (ix1 k) := by
  unfold V; after_reads_at
theorem v13_at (n : Fin 512) : V m c main_v13 (ix2 0 n) = m ((c.tc : Thread nD τ).loc main_arg4) (ix1 n) := by
  unfold V; after_reads_at

theorem idx : ∀ t : Fin grid0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0] := by
  decide +kernel

theorem idxOut : ∀ t : Fin grid0.N, win0_9.index t = ![t.val, 0] ∧ win0_10.index t = ![t.val, 0] ∧ win0_11.index t = ![t.val, 0]
    ∧ win0_12.index t = ![t.val, 0] ∧ win0_13.index t = ![t.val, 0] := by
  decide +kernel

theorem blk0 (t : Fin cfg0.N) (r : Fin 1024) (k : Fin 1024) : iblk m c 0 t (ix2 r k) = m ((c.tc : Thread nD τ).loc main_arg0) (ix2 ⟨1024 * t.val + r.val, by have := t.isLt; have : cfg0.N = 16 := rfl; omega⟩ k) := by
  obtain ⟨i0, i1, i2, i3, i4, i5, i6, i7, i8⟩ := idx t
  blk_point [iblk, V, i0]

theorem blk1 (t : Fin cfg0.N) (r : Fin 1) (k : Fin 1024) : iblk m c 1 t (ix2 r k) = V m c main_v12 (ix2 r k) := by
  obtain ⟨i0, i1, i2, i3, i4, i5, i6, i7, i8⟩ := idx t
  blk_point [iblk, i1]

theorem blk2 (t : Fin cfg0.N) (r : Fin 1024) (k : Fin 512) : iblk m c 2 t (ix2 r k) = V m c main_v1 (ix2 r k) := by
  obtain ⟨i0, i1, i2, i3, i4, i5, i6, i7, i8⟩ := idx t
  blk_point [iblk, i2]

theorem blk3 (t : Fin cfg0.N) (r : Fin 1024) (k : Fin 512) : iblk m c 3 t (ix2 r k) = V m c main_v3 (ix2 r k) := by
  obtain ⟨i0, i1, i2, i3, i4, i5, i6, i7, i8⟩ := idx t
  blk_point [iblk, i3]

theorem blk4 (t : Fin cfg0.N) (r : Fin 1024) (k : Fin 1024) : iblk m c 4 t (ix2 r k) = V m c main_v5 (ix2 r k) := by
  obtain ⟨i0, i1, i2, i3, i4, i5, i6, i7, i8⟩ := idx t
  blk_point [iblk, i4]

theorem blk5 (t : Fin cfg0.N) (r : Fin 1024) (k : Fin 1024) : iblk m c 5 t (ix2 r k) = V m c main_v10 (ix2 r k) := by
  obtain ⟨i0, i1, i2, i3, i4, i5, i6, i7, i8⟩ := idx t
  blk_point [iblk, i5]

theorem blk6 (t : Fin cfg0.N) (r : Fin 16) (k : Fin 1024) : iblk m c 6 t (ix2 r k) = V m c main_v8 (ix2 r k) := by
  obtain ⟨i0, i1, i2, i3, i4, i5, i6, i7, i8⟩ := idx t
  blk_point [iblk, i6]

theorem blk7 (t : Fin cfg0.N) (r : Fin 16) (k : Fin 512) : iblk m c 7 t (ix2 r k) = V m c main_v11 (ix2 r k) := by
  obtain ⟨i0, i1, i2, i3, i4, i5, i6, i7, i8⟩ := idx t
  blk_point [iblk, i7]

theorem blk8 (t : Fin cfg0.N) (r : Fin 1) (k : Fin 512) : iblk m c 8 t (ix2 r k) = V m c main_v13 (ix2 r k) := by
  obtain ⟨i0, i1, i2, i3, i4, i5, i6, i7, i8⟩ := idx t
  blk_point [iblk, i8]

end Cert.GlaOut
-- ==== Proof.V.GlaArr.lean ====
/- The five result arrays of the gated projection, as functions of the arguments. -/
module

public import proofs.«01_k».proof.Proof.V.GlaOut

@[expose] public section

set_option maxRecDepth 16384

noncomputable section

namespace Cert.GlaArr

open Idealize.ShloMosaic Idealize.ShloMosaic.TcCoe Cert.Row Cert.LogSig Cert.GlaRef Cert.GlaOut
open Cert.Kernel4Ideal Cert.Kernel4Ideal.Gen

variable (m : (ℓ : Loc nD τ sig) → Buf (Elt Ideal) ℓ) (c : Dev nD)

/-- Row `i` of the argument over its root mean square. -/
def X (i : Fin 16384) (k : Fin 1024) : EReal := rms (fun k => m ((c.tc : Thread nD τ).loc main_arg0) (ix2 i k)) (fun k => m ((c.tc : Thread nD τ).loc main_arg1) (ix1 k)) k

def Gq (i : Fin 16384) (n : Fin 512) : EReal := (∑ k, X m c i k * m ((c.tc : Thread nD τ).loc main_arg2) (ix2 k ⟨n.val, by omega⟩)) * Ideal.ofBits .f32 0x3DB504F3#32
def Gk (i : Fin 16384) (n : Fin 512) : EReal := ∑ k, X m c i k * m ((c.tc : Thread nD τ).loc main_arg2) (ix2 k ⟨512 + n.val, by omega⟩)
def Gv (i : Fin 16384) (n : Fin 1024) : EReal := ∑ k, X m c i k * m ((c.tc : Thread nD τ).loc main_arg2) (ix2 k ⟨1024 + n.val, by omega⟩)
def Gr (i : Fin 16384) (n : Fin 1024) : EReal := ∑ k, X m c i k * m ((c.tc : Thread nD τ).loc main_arg2) (ix2 k ⟨2064 + n.val, by omega⟩)
def Gg (i : Fin 16384) (n : Fin 512) : EReal :=
  lsg (zg (X m c i) (fun k j => m ((c.tc : Thread nD τ).loc main_arg2) (ix2 k ⟨2048 + j.val, by omega⟩)) (fun j => m ((c.tc : Thread nD τ).loc main_arg3) (ix2 j n)) (m ((c.tc : Thread nD τ).loc main_arg4) (ix1 n))) * (((16 * (Real.log 2))⁻¹ : ℝ) : EReal)

theorem N_eq (t : Fin cfg0.N) (r : Fin 1024) : N (iblk m c 0 t) (iblk m c 1 t) r
    = X m c ⟨1024 * t.val + r.val, by have ht : t.val < 16 := t.isLt; omega⟩ := by
  funext k
  unfold N X
  congr 1
  · funext k; exact blk0 m c t r k
  · funext k; exact (blk1 m c t 0 k).trans (v12_at m c k)

theorem b2 (t : Fin cfg0.N) (r : Fin 1024) (k : Fin 512) : iblk m c 2 t (ix2 r k) = m ((c.tc : Thread nD τ).loc main_arg2) (ix2 r ⟨k.val, by omega⟩) :=
  (blk2 m c t r k).trans (v1_at m c r k)

theorem b3 (t : Fin cfg0.N) (r : Fin 1024) (k : Fin 512) : iblk m c 3 t (ix2 r k) = m ((c.tc : Thread nD τ).loc main_arg2) (ix2 r ⟨512 + k.val, by omega⟩) :=
  (blk3 m c t r k).trans (v3_at m c r k)

theorem b4 (t : Fin cfg0.N) (r : Fin 1024) (k : Fin 1024) : iblk m c 4 t (ix2 r k) = m ((c.tc : Thread nD τ).loc main_arg2) (ix2 r ⟨1024 + k.val, by omega⟩) :=
  (blk4 m c t r k).trans (v5_at m c r k)

theorem b5 (t : Fin cfg0.N) (r : Fin 1024) (k : Fin 1024) : iblk m c 5 t (ix2 r k) = m ((c.tc : Thread nD τ).loc main_arg2) (ix2 r ⟨2064 + k.val, by omega⟩) :=
  (blk5 m c t r k).trans (v10_at m c r k)

theorem b6 (t : Fin cfg0.N) (r : Fin 16) (k : Fin 1024) : iblk m c 6 t (ix2 r k) = m ((c.tc : Thread nD τ).loc main_arg2) (ix2 k ⟨2048 + r.val, by omega⟩) :=
  (blk6 m c t r k).trans (v8_at m c r k)

theorem b7 (t : Fin cfg0.N) (r : Fin 16) (k : Fin 512) : iblk m c 7 t (ix2 r k) = m ((c.tc : Thread nD τ).loc main_arg3) (ix2 r k) :=
  (blk7 m c t r k).trans (v11_at m c r k)

theorem b8 (t : Fin cfg0.N) (k : Fin 512) : iblk m c 8 t (ix2 0 k) = m ((c.tc : Thread nD τ).loc main_arg4) (ix1 k) :=
  (blk8 m c t 0 k).trans (v13_at m c k)

theorem arr9 : (dats m 0 c).arrAt 9 cfg0.N = fun i => Gq m c (i 0) (i 1) := by
  refine (dats m 0 c).arrAt_eq_of_covers 9 _ (by decide +kernel) fun t hf y => ?_
  obtain ⟨i9, i10, i11, i12, i13⟩ := idxOut t
  blk_simp
  rw [after0_9]
  idx_vars y
  rw [out9_eq, N_eq]
  simp only [b2]
  have e : ∀ Y : S16384x512.Idx → EReal, Y (((View.whole main_v14_0).slice (win0_9.rect t)).emb (ix2 y0 y1))
      = Y (ix2 ⟨1024 * t.val + y0.val, by have ht : t.val < 16 := t.isLt; omega⟩ y1) := by
    intro Y; blk_point [i9]
  refine Eq.trans ?_ (e fun i => Gq m c (i 0) (i 1)).symm
  dsimp only [ix2_0, ix2_1]
  unfold Gq
  rfl

theorem arr10 : (dats m 0 c).arrAt 10 cfg0.N = fun i => Gk m c (i 0) (i 1) := by
  refine (dats m 0 c).arrAt_eq_of_covers 10 _ (by decide +kernel) fun t hf y => ?_
  obtain ⟨i9, i10, i11, i12, i13⟩ := idxOut t
  blk_simp
  rw [after0_10]
  idx_vars y
  rw [out10_eq, N_eq]
  simp only [b3]
  have e : ∀ Y : S16384x512.Idx → EReal, Y (((View.whole main_v14_1).slice (win0_10.rect t)).emb (ix2 y0 y1))
      = Y (ix2 ⟨1024 * t.val + y0.val, by have ht : t.val < 16 := t.isLt; omega⟩ y1) := by
    intro Y; blk_point [i10]
  refine Eq.trans ?_ (e fun i => Gk m c (i 0) (i 1)).symm
  dsimp only [ix2_0, ix2_1]
  unfold Gk
  rfl

theorem arr11 : (dats m 0 c).arrAt 11 cfg0.N = fun i => Gv m c (i 0) (i 1) := by
  refine (dats m 0 c).arrAt_eq_of_covers 11 _ (by decide +kernel) fun t hf y => ?_
  obtain ⟨i9, i10, i11, i12, i13⟩ := idxOut t
  blk_simp
  rw [after0_11]
  idx_vars y
  rw [out11_eq, N_eq]
  simp only [b4]
  have e : ∀ Y : S16384x1024.Idx → EReal, Y (((View.whole main_v14_2).slice (win0_11.rect t)).emb (ix2 y0 y1))
      = Y (ix2 ⟨1024 * t.val + y0.val, by have ht : t.val < 16 := t.isLt; omega⟩ y1) := by
    intro Y; blk_point [i11]
  refine Eq.trans ?_ (e fun i => Gv m c (i 0) (i 1)).symm
  dsimp only [ix2_0, ix2_1]
  unfold Gv
  rfl

theorem arr12 : (dats m 0 c).arrAt 12 cfg0.N = fun i => Gr m c (i 0) (i 1) := by
  refine (dats m 0 c).arrAt_eq_of_covers 12 _ (by decide +kernel) fun t hf y => ?_
  obtain ⟨i9, i10, i11, i12, i13⟩ := idxOut t
  blk_simp
  rw [after0_12]
  idx_vars y
  rw [out12_eq, N_eq]
  simp only [b5]
  have e : ∀ Y : S16384x1024.Idx → EReal, Y (((View.whole main_v14_3).slice (win0_12.rect t)).emb (ix2 y0 y1))
      = Y (ix2 ⟨1024 * t.val + y0.val, by have ht : t.val < 16 := t.isLt; omega⟩ y1) := by
    intro Y; blk_point [i12]
  refine Eq.trans ?_ (e fun i => Gr m c (i 0) (i 1)).symm
  dsimp only [ix2_0, ix2_1]
  unfold Gr
  rfl

theorem arr13 : (dats m 0 c).arrAt 13 cfg0.N = fun i => Gg m c (i 0) (i 1) := by
  refine (dats m 0 c).arrAt_eq_of_covers 13 _ (by decide +kernel) fun t hf y => ?_
  obtain ⟨i9, i10, i11, i12, i13⟩ := idxOut t
  blk_simp
  rw [after0_13]
  idx_vars y
  rw [out13_eq, N_eq]
  simp only [b6, b7, b8]
  have e : ∀ Y : S16384x512.Idx → EReal, Y (((View.whole main_v14_4).slice (win0_13.rect t)).emb (ix2 y0 y1))
      = Y (ix2 ⟨1024 * t.val + y0.val, by have ht : t.val < 16 := t.isLt; omega⟩ y1) := by
    intro Y; blk_point [i13]
  refine Eq.trans ?_ (e fun i => Gg m c (i 0) (i 1)).symm
  dsimp only [ix2_0, ix2_1]
  unfold Gg
  rfl

end Cert.GlaArr
-- ==== Proof.V.GlaProj.lean ====
/- The value claim of the gated projection's launch. -/
module

public import proofs.«01_k».proof.Defs
public import proofs.«01_k».proof.Proof.V.GlaArr

@[expose] public section

set_option maxRecDepth 16384

noncomputable section

namespace Cert.GlaProj

open Idealize.ShloMosaic Idealize.ShloMosaic.TcCoe Cert.Row

theorem preserves : Cert.preserves_Kernel4_Kernel4Ideal :=
  IdealRules.named_const.statement Cert.Kernel4Ideal.κ "log2e_16" .f32 0x3DB8AA3B#32 (((16 * (Real.log 2))⁻¹ : ℝ) : EReal) rfl

theorem algebraic : Cert.algebraic_Kernel4Ideal_Reference4Ideal := by
  intro m ρ m' ρ' _ hagree
  refine ⟨fun c => (Cert.Kernel4Ideal.Gen.dats m 0 c).arrAt 9 Cert.Kernel4Ideal.cfg0.N, fun c => (Cert.Kernel4Ideal.Gen.dats m 0 c).arrAt 10 Cert.Kernel4Ideal.cfg0.N,
    fun c => (Cert.Kernel4Ideal.Gen.dats m 0 c).arrAt 11 Cert.Kernel4Ideal.cfg0.N, fun c => (Cert.Kernel4Ideal.Gen.dats m 0 c).arrAt 12 Cert.Kernel4Ideal.cfg0.N,
    fun c => (Cert.Kernel4Ideal.Gen.dats m 0 c).arrAt 13 Cert.Kernel4Ideal.cfg0.N, Cert.Kernel4Ideal.Value.run_blocks m ρ, ?_⟩
  refine (θ_run Cert.Reference4Ideal.defs _ _).mono (fun _ h c => ?_) (Cert.Reference4Ideal.Value.run (F := Ideal) m' ρ')
  obtain ⟨h0, h1, h2, h3, h4, hk⟩ := h c
  obtain ⟨a0, a1, a2, a3, a4⟩ := hagree c
  refine ⟨h0.trans ?_, h1.trans ?_, h2.trans ?_, h3.trans ?_, h4.trans ?_, hk⟩
  · refine Eq.trans ?_ (Cert.GlaArr.arr9 m c).symm
    rw [a0, a1, a2]
    funext j
    idx_vars j
    clean_types
    pointwise [Cert.GlaArr.Gq, Cert.GlaArr.X, rms]
  · refine Eq.trans ?_ (Cert.GlaArr.arr10 m c).symm
    rw [a0, a1, a2]
    funext j
    idx_vars j
    clean_types
    pointwise [Cert.GlaArr.Gk, Cert.GlaArr.X, rms]
  · refine Eq.trans ?_ (Cert.GlaArr.arr11 m c).symm
    rw [a0, a1, a2]
    funext j
    idx_vars j
    clean_types
    pointwise [Cert.GlaArr.Gv, Cert.GlaArr.X, rms]
  · refine Eq.trans ?_ (Cert.GlaArr.arr12 m c).symm
    rw [a0, a1, a2]
    funext j
    idx_vars j
    clean_types
    pointwise [Cert.GlaArr.Gr, Cert.GlaArr.X, rms]
  · refine Eq.trans ?_ (Cert.GlaArr.arr13 m c).symm
    funext j
    idx_vars j
    refine (Cert.GlaRef.gate m' c _ _).trans ?_
    rw [a0, a1, a2, a3, a4]
    rfl

theorem quiet : Cert.quiescent_Reference4Ideal := fun m ρ _ =>
  (θ_run Cert.Reference4Ideal.defs _ _).mono (fun r h => ⟨fun c => (h c).2.2.2.2.2, sem_eq_zero_of_no_sems (by decide) r.2⟩)
    (Cert.Reference4Ideal.Value.run (F := Ideal) m ρ)

end Cert.GlaProj
-- ==== Proof.V.Finite5.lean ====
/- The gates' precondition at an index: every entry of the rows, the gains, the gates' weights and their biases is a real number. -/
module

public import proofs.«01_k».proof.Pre_finite_gates
public import proofs.«01_k».proof.Proof.V.Finite
public import Idealize.ShloMosaic.Lib.ReduceAll
public import Idealize.ShloMosaic.Lib.Pointwise

@[expose] public section

noncomputable section

namespace Cert.Finite5

open Idealize.ShloMosaic Cert.Pre_finite_gates Cert.Finite

instance pre_facts : Cert.Pre_finite_gates.Facts where
  bcast_S_S16384x1024 := by decide
  reducesTo_S16384x1024_S_d0_1 := by decide
  h_S_ := by decide
  bcast_S_S1024 := by decide
  reducesTo_S1024_S_d0 := by decide
  slices_S1024x3088_S1024x16_0_3072 := by decide
  bcast_S_S1024x16 := by decide
  reducesTo_S1024x16_S_d0_1 := by decide
  bcast_S_S16 := by decide
  reducesTo_S16_S_d0 := by decide

instance : Subsingleton S_.Idx := ⟨fun a b => funext fun i => i.elim0⟩

theorem real_args (a0 : FVec Ideal S16384x1024 .f32) (a1 : FVec Ideal S1024 .f32) (a2 : FVec Ideal S1024x3088 .f32)
    (a3 : FVec Ideal S16 .f32) (h : Cert.Pre_finite_gates.fn (F := Ideal) a0 a1 a2 a3 = fun _ => 1#1) :
    (∀ i, ∃ r : ℝ, a0 i = r) ∧ (∀ i, ∃ r : ℝ, a1 i = r) ∧ (∀ (k : Fin 1024) (j : Fin 16), ∃ r : ℝ, a2 (ix2 k ⟨3072 + j.val, by omega⟩) = r)
      ∧ (∀ i, ∃ r : ℝ, a3 i = r) := by
  have h' := congrFun h ix0
  unfold Cert.Pre_finite_gates.fn Cert.Pre_finite_gates.fn_part1 at h'
  dsimp only at h'
  obtain ⟨h012, h3⟩ := and_one _ _ h'
  obtain ⟨h01, h2⟩ := and_one _ _ h012
  obtain ⟨h0, h1⟩ := and_one _ _ h01
  refine ⟨fun i => ?_, fun i => ?_, fun k j => ?_, fun i => ?_⟩
  · exact real_of_abs _ (Host.reduce_andi_all _ _ _ _ _ h0 i)
  · exact real_of_abs _ (Host.reduce_andi_all _ _ _ _ _ h1 i)
  · obtain ⟨r, hr⟩ := real_of_abs _ (Host.reduce_andi_all _ _ _ _ _ h2 (ix2 k j))
    refine ⟨r, Eq.trans ?_ hr⟩
    pointwise
  · exact real_of_abs _ (Host.reduce_andi_all _ _ _ _ _ h3 i)

end Cert.Finite5
-- ==== Proof.V.FoxSum.lean ====
/- The running sums of the forget gates inside one block of 1024 rows, four chunks of 256 rows, and the three lanes a sum is spread over. -/
module

public import proofs.«01_k».proof.Proof.V.LogSig
public import proofs.«01_k».proof.Proof.Gen.Kernel5Ideal.Value
public import Idealize.ShloMosaic.Lib.Pipeline.ValueKit
public import Idealize.ShloMosaic.Lib.Pipeline.ReadBack
public import Idealize.ShloMosaic.Lib.Tactic.CleanTypes

@[expose] public section

set_option maxRecDepth 16384

noncomputable section

namespace Cert.FoxSum

open Idealize.ShloMosaic Idealize.ShloMosaic.TcCoe Cert.LogSig
open Cert.Kernel5Ideal Cert.Kernel5Ideal.Gen

theorem named_eq : Named.named (F := Ideal) Cert.Kernel5Ideal.κ "log2e" (φ := .f32) 0x3FB8AA3B#32 = (((Real.log 2)⁻¹ : ℝ) : EReal) :=
  IdealRules.named_const.ideal_named_scalar _ _ _ _ rfl

theorem lane_eq : ∀ l : Fin 128, k0_pay11 (ix2 (0 : Fin 1) l) = BitVec.ofNat 32 (l.val % 8) := by
  decide +kernel

theorem word_int (n : ℕ) (h : n < 256) : (BitVec.ofNat 32 n).toInt = n := by
  rw [BitVec.toInt_ofNat', Int.bmod_eq_of_le] <;> omega

/-- The triangle of ones: column `k` of row `r` is one when `k ≤ r`. -/
theorem tri_eq (r k : Fin 256) : (k0_pay10 (F := Ideal)) (ix2 r k) = if k.val ≤ r.val then 1 else 0 := by
  have hk := word_int k.val k.isLt
  have hr := word_int r.val r.isLt
  pointwise [k0_pay10]
  show (((BitVec.setWidth 32 (BitVec.ofBool ((BitVec.ofNat 32 k.val).sle (BitVec.ofNat 32 r.val)))).toInt : ℝ) : EReal) = _
  unfold BitVec.sle
  rw [hk, hr]
  by_cases h : k.val ≤ r.val
  · rw [if_pos h, decide_eq_true (by exact_mod_cast h)]
    simp
  · rw [if_neg h, decide_eq_false (by exact_mod_cast h)]
    simp

theorem sub_self_real (a : ℝ) : (a : EReal) - (a : EReal) = 0 := by
  rw [← EReal.coe_sub, sub_self, EReal.coe_zero]

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A row of the triangle times a column of real numbers is the sum of the column down to that row. -/
theorem tri_sum (f : ℕ → ℝ) (r : Fin 256) : ∑ k : Fin 256, (k0_pay10 (F := Ideal)) (ix2 r k) * (f k.val : EReal) = ((∑ i ∈ Finset.range (r.val + 1), f i : ℝ) : EReal) := by
  have e : ∀ k : Fin 256, (k0_pay10 (F := Ideal)) (ix2 r k) * (f k.val : EReal) = (((if k.val ≤ r.val then f k.val else 0 : ℝ)) : EReal) := fun k => by
    rw [tri_eq]; split <;> simp
  have hr := r.isLt
  rw [Finset.sum_congr rfl fun k _ => e k, ← coe_sum, Fin.sum_univ_eq_sum_range (fun n : ℕ => if n ≤ r.val then f n else 0) 256, ← Finset.sum_filter]
  congr 1
  refine Finset.sum_congr (Finset.ext fun n => ?_) fun _ _ => rfl
  rw [Finset.mem_filter, Finset.mem_range, Finset.mem_range]
  omega

/-- The three products of a chunk, of which the second and third are zero. -/
theorem three (f : ℕ → ℝ) (A : Fin 256 → EReal) (h : ∀ k, A k = f k.val) (r : Fin 256) :
    ∑ x, (k0_pay10 (F := Ideal)) (ix2 r x) * A x + ∑ x, (k0_pay10 (F := Ideal)) (ix2 r x) * (A x - A x)
      + ∑ x, (k0_pay10 (F := Ideal)) (ix2 r x) * (A x - A x - (A x - A x)) = ((∑ i ∈ Finset.range (r.val + 1), f i : ℝ) : EReal) := by
  simp only [h, sub_self_real, sub_zero, mul_zero, Finset.sum_const_zero, add_zero]
  exact tri_sum f r

variable (L : FVec Ideal S1024x128 .f32) (P : FVec Ideal S1x128 .f32) (B : FVec Ideal S256x128 .f32)
  (f : ℕ → Fin 128 → ℝ) (p : Fin 128 → ℝ)

/-- The sum down to row `n`, after what was carried in. -/
def run (n : ℕ) (l : Fin 128) : ℝ := p l + ∑ i ∈ Finset.range n, f i l

theorem run_add (n k : ℕ) (l : Fin 128) : run f p n l + ∑ i ∈ Finset.range k, f (n + i) l = run f p (n + k) l := by
  unfold run
  rw [Finset.sum_range_add, add_assoc]

theorem c0 (A : FVec Ideal S256x128 .f32) (hP : ∀ l, P (ix2 0 l) = p l) (hA : ∀ (k : Fin 256) l, A (ix2 k l) = f k.val l) (r : Fin 256) (l : Fin 128) :
    k0_pay15 (F := Ideal) k0_pay10 P A A A (ix2 r l) = run f p (r.val + 1) l := by
  pointwise [k0_pay15]
  rw [three (fun i => f i l) (fun x => A (ix2 x l)) (fun k => hA k l) r, hP, ← EReal.coe_add]
  rfl

theorem c1 (hL : ∀ (k : Fin 1024) l, L (ix2 k l) = f k.val l) (hB : ∀ l, B (ix2 255 l) = run f p 256 l) (r : Fin 256) (l : Fin 128) :
    k0_pay17 (F := Ideal) L k0_pay10 B (ix2 r l) = run f p (256 + (r.val + 1)) l := by
  pointwise [k0_pay17]
  rw [three (fun i => f (256 + i) l) (fun x => L (ix2 ⟨256 + x.val, _⟩ l)) (fun k => hL _ l) r, hB, ← EReal.coe_add, run_add]

theorem c2 (hL : ∀ (k : Fin 1024) l, L (ix2 k l) = f k.val l) (hB : ∀ l, B (ix2 255 l) = run f p 512 l) (r : Fin 256) (l : Fin 128) :
    k0_pay24 (F := Ideal) L k0_pay10 B (ix2 r l) = run f p (512 + (r.val + 1)) l := by
  pointwise [k0_pay24]
  rw [three (fun i => f (512 + i) l) (fun x => L (ix2 ⟨512 + x.val, _⟩ l)) (fun k => hL _ l) r, hB, ← EReal.coe_add, run_add]

theorem c3 (hL : ∀ (k : Fin 1024) l, L (ix2 k l) = f k.val l) (hB : ∀ l, B (ix2 255 l) = run f p 768 l) (r : Fin 256) (l : Fin 128) :
    k0_pay36 (F := Ideal) L k0_pay10 B (ix2 r l) = run f p (768 + (r.val + 1)) l := by
  pointwise [k0_pay36]
  rw [three (fun i => f (768 + i) l) (fun x => L (ix2 ⟨768 + x.val, _⟩ l)) (fun k => hL _ l) r, hB, ← EReal.coe_add, run_add]

/-- What a sum `a` becomes in lane `l`: lane 0 of each eight holds it negated, in the base of the kernel's exponential; the others hold zero. -/
def lane (a : ℝ) (l : Fin 128) : EReal := if l.val % 8 = 0 then ((-(a * (Real.log 2)⁻¹) : ℝ) : EReal) else 0

theorem pick (a : ℝ) (l : Fin 128) (C w : EReal) (hC : C = a) (hw : w = (((Real.log 2)⁻¹ : ℝ) : EReal)) :
    Scalar.select (IntOp.cmpi CmpIPredicate.eq (k0_pay11 (ix2 0 l)) 0#32) (0 - C * w)
      (Scalar.select (IntOp.cmpi CmpIPredicate.eq (k0_pay11 (ix2 0 l)) 1#32) (0 - (C * w - C * w))
        (Scalar.select (IntOp.cmpi CmpIPredicate.eq (k0_pay11 (ix2 0 l)) 2#32) (0 - (C * w - C * w - (C * w - C * w))) 0)) = lane a l := by
  rw [hC, hw, ← EReal.coe_mul, sub_self_real, sub_zero, sub_zero, zero_sub, ← EReal.coe_neg, lane_eq]
  have h8 : l.val % 8 < 8 := Nat.mod_lt _ (by decide)
  unfold lane
  generalize l.val % 8 = n at h8
  interval_cases n <;> simp [Scalar.select, IntOp.cmpi]

theorem k0 (C : FVec Ideal S256x128 .f32) (A : FVec Ideal S256x128 .f32) (a : ℝ) (r : Fin 256) (l : Fin 128) (h : k0_pay15 (F := Ideal) k0_pay10 P A A A (ix2 r l) = a) :
    k0_pay16 (F := Ideal) k0_pay10 k0_pay11 P A A A (ix2 r l) = lane a l := by
  unfold k0_pay16
  generalize k0_pay15 k0_pay10 P A A A = C at h ⊢
  pointwise
  exact pick a l _ _ h named_eq

theorem k1 (a : ℝ) (r : Fin 256) (l : Fin 128) (h : k0_pay17 (F := Ideal) L k0_pay10 B (ix2 r l) = a) :
    k0_pay23 (F := Ideal) (k0_pay20 k0_pay11) (k0_pay21 L k0_pay10 B) (k0_pay22 L k0_pay10 k0_pay11 B) (ix2 r l) = lane a l := by
  unfold k0_pay21 k0_pay22 k0_pay19 k0_pay18
  generalize k0_pay17 L k0_pay10 B = C at h ⊢
  pointwise [k0_pay23, k0_pay20]
  exact pick a l _ _ h named_eq

theorem k2 (a : ℝ) (r : Fin 256) (l : Fin 128) (h : k0_pay24 (F := Ideal) L k0_pay10 B (ix2 r l) = a) :
    k0_pay35 (F := Ideal) (k0_pay29 k0_pay11) (k0_pay30 L k0_pay10 B) (k0_pay31 k0_pay11) (k0_pay32 L k0_pay10 B) (k0_pay33 L k0_pay10 B)
      (FloatOps.ofBits FTy.f32 0#32) (k0_pay34 k0_pay11) (ix2 r l) = lane a l := by
  unfold k0_pay30 k0_pay32 k0_pay33 k0_pay28 k0_pay27 k0_pay26 k0_pay25
  generalize k0_pay24 L k0_pay10 B = C at h ⊢
  pointwise [k0_pay35, k0_pay29, k0_pay31, k0_pay34]
  exact pick a l _ _ h named_eq

theorem k3 (a : ℝ) (r : Fin 256) (l : Fin 128) (h : k0_pay36 (F := Ideal) L k0_pay10 B (ix2 r l) = a) :
    k0_pay1 (F := Ideal) k0_pay11 (k0_pay41 L k0_pay10 B) (k0_pay42 k0_pay11) (k0_pay43 L k0_pay10 B) (k0_pay44 k0_pay11) (k0_pay45 L k0_pay10 B)
      k0_pay46 (ix2 r l) = lane a l := by
  unfold k0_pay41 k0_pay43 k0_pay45 k0_pay40 k0_pay39 k0_pay38 k0_pay37
  generalize k0_pay36 L k0_pay10 B = C at h ⊢
  pointwise [k0_pay1, k0_pay42, k0_pay44, k0_pay46]
  exact pick a l _ _ h named_eq

end Cert.FoxSum
-- ==== Proof.V.FoxOut.lean ====
/- The forget-gate projection: what each block of rows holds after its grid point. -/
module

public import proofs.«01_k».proof.Proof.V.Row
public import proofs.«01_k».proof.Proof.V.FoxSum
public import Idealize.ShloMosaic.Lib.StableHlo.ReadAt

@[expose] public section

set_option maxRecDepth 16384

noncomputable section

namespace Cert.FoxOut

open Idealize.ShloMosaic Idealize.ShloMosaic.TcCoe Cert.Row Cert.LogSig Cert.FoxSum
open Cert.Kernel5Ideal Cert.Kernel5Ideal.Gen

theorem named8 : Named.named (F := Ideal) Cert.Kernel5Ideal.κ "log2e_8" (φ := .f32) 0x3E38AA3B#32 = (((8 * (Real.log 2))⁻¹ : ℝ) : EReal) :=
  IdealRules.named_const.ideal_named_scalar _ _ _ _ rfl

variable (x0 : Vec Ideal S1024x1024 .f32) (x1 : Vec Ideal S1x1024 .f32)

/-- Row `r` of the block over its root mean square. -/
def N (r k : Fin 1024) : EReal := rms (fun k => x0 (ix2 r k)) (fun k => x1 (ix2 0 k)) k

theorem pay6_eq (r k : Fin 1024) : k0_pay6 x0 x1 (ix2 r k) = N x0 x1 r k := by
  pointwise [k0_pay6, N, rms]

theorem pay9_eq (x5 : Vec Ideal S1024x128 .bf16) (x6 : Vec Ideal S1x128 .f32) (r : Fin 1024) (l : Fin 128) :
    k0_pay9 (k0_pay6 x0 x1) x5 x6 (ix2 r l) = lsg (∑ k, N x0 x1 r k * x5 (ix2 k l) + x6 (ix2 0 l)) := by
  pointwise [k0_pay9]
  simp only [pay6_eq, lsg]
  rfl

variable (m : (ℓ : Loc nD τ sig) → Buf (Elt Ideal) ℓ) (c : Dev nD) (t : Fin cfg0.N)

theorem out7_eq (n r : Fin 1024) : (outsAt0 m c t.val t.isLt).1 (ix3 (0 : Fin 1) n r)
    = (∑ k, N (iblk m c 0 t) (iblk m c 1 t) r k * iblk m c 2 t (ix2 n k)) * (((8 * (Real.log 2))⁻¹ : ℝ) : EReal) := by
  have e : (outsAt0 m c t.val t.isLt).1 = k0_pay8 (k0_pay7 (iblk m c 0 t) (iblk m c 1 t) (iblk m c 2 t)) := by
    by_cases h : t.val % 4 = 0
    · rw [outsAt0_A m c t h]; frame_out
    · rw [outsAt0_B m c t h]; frame_out
  rw [e]
  pointwise [k0_pay8, k0_pay7, named8]
  simp only [pay6_eq]
  exact congrArg (· * _) (Finset.sum_congr rfl fun k _ => mul_comm _ _)

theorem out8_eq (r n : Fin 1024) : (outsAt0 m c t.val t.isLt).2.1 (ix2 r n)
    = ∑ k, N (iblk m c 0 t) (iblk m c 1 t) r k * iblk m c 3 t (ix2 k n) := by
  have e : (outsAt0 m c t.val t.isLt).2.1 = k0_pay3 (k0_pay6 (iblk m c 0 t) (iblk m c 1 t)) (iblk m c 3 t) := by
    by_cases h : t.val % 4 = 0
    · rw [outsAt0_A m c t h]; frame_out
    · rw [outsAt0_B m c t h]; frame_out
  rw [e]
  pointwise [k0_pay3]
  simp only [pay6_eq]

theorem out9_eq (n r : Fin 1024) : (outsAt0 m c t.val t.isLt).2.2.1 (ix3 (0 : Fin 1) n r)
    = ∑ k, N (iblk m c 0 t) (iblk m c 1 t) r k * iblk m c 4 t (ix2 n k) := by
  have e : (outsAt0 m c t.val t.isLt).2.2.1 = k0_pay4 (k0_pay6 (iblk m c 0 t) (iblk m c 1 t)) (iblk m c 4 t) := by
    by_cases h : t.val % 4 = 0
    · rw [outsAt0_A m c t h]; frame_out
    · rw [outsAt0_B m c t h]; frame_out
  rw [e]
  pointwise [k0_pay4]
  simp only [pay6_eq]
  exact Finset.sum_congr rfl fun k _ => mul_comm _ _

/-- The block's log gates. -/
abbrev Lg : FVec Ideal S1024x128 .f32 := k0_pay9 (k0_pay6 (iblk m c 0 t) (iblk m c 1 t)) (iblk m c 5 t) (iblk m c 6 t)

/-- What the point starts its sums from: zero at a batch's first block, else what the point before left. -/
def start : FVec Ideal S1x128 .f32 :=
  if t.val % 4 = 0 then k0_pay5 else (outsAt0 m c (t.val - 1) (Nat.lt_of_le_of_lt (Nat.sub_le _ _) t.isLt)).2.2.2.2

section
variable (f : ℕ → Fin 128 → ℝ) (p : Fin 128 → ℝ) (P : FVec Ideal S1x128 .f32)
  (hL : ∀ (k : Fin 1024) l, Lg m c t (ix2 k l) = f k.val l) (hP : ∀ l, P (ix2 0 l) = p l)

/-- The four chunks' sums. -/
abbrev B0 : FVec Ideal S256x128 .f32 := k0_pay15 k0_pay10 P (k0_pay12 (k0_pay6 (iblk m c 0 t) (iblk m c 1 t)) (iblk m c 5 t) (iblk m c 6 t))
  (k0_pay13 (k0_pay6 (iblk m c 0 t) (iblk m c 1 t)) (iblk m c 5 t) (iblk m c 6 t)) (k0_pay14 (k0_pay6 (iblk m c 0 t) (iblk m c 1 t)) (iblk m c 5 t) (iblk m c 6 t))
abbrev B1 : FVec Ideal S256x128 .f32 := k0_pay17 (Lg m c t) k0_pay10 (B0 m c t P)
abbrev B2 : FVec Ideal S256x128 .f32 := k0_pay24 (Lg m c t) k0_pay10 (B1 m c t P)
abbrev B3 : FVec Ideal S256x128 .f32 := k0_pay36 (Lg m c t) k0_pay10 (B2 m c t P)

include hL hP in
theorem b0 (r : Fin 256) (l : Fin 128) : B0 m c t P (ix2 r l) = run f p (r.val + 1) l := by
  refine c0 P f p (k0_pay12 (k0_pay6 (iblk m c 0 t) (iblk m c 1 t)) (iblk m c 5 t) (iblk m c 6 t)) hP (fun k l => ?_) r l
  refine Eq.trans ?_ (hL ⟨k.val, by omega⟩ l)
  pointwise [k0_pay12]

include hL hP in
theorem b1 (r : Fin 256) (l : Fin 128) : B1 m c t P (ix2 r l) = run f p (256 + (r.val + 1)) l :=
  c1 _ _ f p hL (fun l => b0 m c t f p P hL hP 255 l) r l

include hL hP in
theorem b2 (r : Fin 256) (l : Fin 128) : B2 m c t P (ix2 r l) = run f p (512 + (r.val + 1)) l :=
  c2 _ _ f p hL (fun l => b1 m c t f p P hL hP 255 l) r l

include hL hP in
theorem b3 (r : Fin 256) (l : Fin 128) : B3 m c t P (ix2 r l) = run f p (768 + (r.val + 1)) l :=
  c3 _ _ f p hL (fun l => b2 m c t f p P hL hP 255 l) r l

end

theorem carry (f : ℕ → Fin 128 → ℝ) (p : Fin 128 → ℝ) (hL : ∀ (k : Fin 1024) l, Lg m c t (ix2 k l) = f k.val l) (hP : ∀ l, start m c t (ix2 0 l) = p l)
    (l : Fin 128) : (outsAt0 m c t.val t.isLt).2.2.2.2 (ix2 0 l) = run f p 1024 l := by
  have e : (outsAt0 m c t.val t.isLt).2.2.2.2 = k0_pay2 (B3 m c t (start m c t)) := by
    unfold start
    by_cases h : t.val % 4 = 0
    · rw [if_pos h, outsAt0_A m c t h]; frame_out
    · rw [if_neg h, outsAt0_B m c t h]; frame_out; rw [read_unread_whole]
  rw [e]
  refine Eq.trans ?_ (b3 m c t f p _ hL hP 255 l)
  pointwise [k0_pay2]

section
variable (f : ℕ → Fin 128 → ℝ) (p : Fin 128 → ℝ) (P : FVec Ideal S1x128 .f32)
  (hL : ∀ (k : Fin 1024) l, Lg m c t (ix2 k l) = f k.val l) (hP : ∀ l, P (ix2 0 l) = p l) (r : Fin 1024) (l : Fin 128)

include hL hP in
/-- The four stores, one per chunk, put together. -/
theorem stores : View.canon (Val := Elt Ideal) (s := S1024x128) (e := .bf16)
    [⟨Rect.unit ![768, 0] ![256, 128] inb_S1024x128_S256x128_768_0,
        k0_pay1 k0_pay11 (k0_pay41 (Lg m c t) k0_pay10 (B2 m c t P)) (k0_pay42 k0_pay11) (k0_pay43 (Lg m c t) k0_pay10 (B2 m c t P)) (k0_pay44 k0_pay11)
          (k0_pay45 (Lg m c t) k0_pay10 (B2 m c t P)) k0_pay46⟩,
      ⟨Rect.unit ![512, 0] ![256, 128] inb_S1024x128_S256x128_512_0,
        k0_pay35 (k0_pay29 k0_pay11) (k0_pay30 (Lg m c t) k0_pay10 (B1 m c t P)) (k0_pay31 k0_pay11) (k0_pay32 (Lg m c t) k0_pay10 (B1 m c t P))
          (k0_pay33 (Lg m c t) k0_pay10 (B1 m c t P)) (FloatOps.ofBits FTy.f32 0#32) (k0_pay34 k0_pay11)⟩,
      ⟨Rect.unit ![256, 0] ![256, 128] inb_S1024x128_S256x128_256_0,
        k0_pay23 (k0_pay20 k0_pay11) (k0_pay21 (Lg m c t) k0_pay10 (B0 m c t P)) (k0_pay22 (Lg m c t) k0_pay10 k0_pay11 (B0 m c t P))⟩,
      ⟨Rect.unit ![0, 0] ![256, 128] inb_S1024x128_S256x128_0_0,
        k0_pay16 k0_pay10 k0_pay11 P (k0_pay12 (k0_pay6 (iblk m c 0 t) (iblk m c 1 t)) (iblk m c 5 t) (iblk m c 6 t))
          (k0_pay13 (k0_pay6 (iblk m c 0 t) (iblk m c 1 t)) (iblk m c 5 t) (iblk m c 6 t))
          (k0_pay14 (k0_pay6 (iblk m c 0 t) (iblk m c 1 t)) (iblk m c 5 t) (iblk m c 6 t))⟩] (ix2 r l) = lane (run f p (r.val + 1) l) l := by
  canon_tiles z hz
  · idx_vars z
    obtain rfl : l = z1 := Fin.ext hz1
    refine (k3 _ _ _ z0 l (b3 m c t f p P hL hP z0 l)).trans ?_
    rw [show r.val + 1 = 768 + (z0.val + 1) from by have h : r.val = 768 + z0.val := hz0; omega]
  · idx_vars z
    obtain rfl : l = z1 := Fin.ext hz1
    refine (k2 _ _ _ z0 l (b2 m c t f p P hL hP z0 l)).trans ?_
    rw [show r.val + 1 = 512 + (z0.val + 1) from by have h : r.val = 512 + z0.val := hz0; omega]
  · idx_vars z
    obtain rfl : l = z1 := Fin.ext hz1
    refine (k1 _ _ _ z0 l (b1 m c t f p P hL hP z0 l)).trans ?_
    rw [show r.val + 1 = 256 + (z0.val + 1) from by have h : r.val = 256 + z0.val := hz0; omega]
  · idx_vars z
    obtain rfl : l = z1 := Fin.ext hz1
    refine (k0 P 0 (k0_pay12 (k0_pay6 (iblk m c 0 t) (iblk m c 1 t)) (iblk m c 5 t) (iblk m c 6 t)) _ z0 l (b0 m c t f p P hL hP z0 l)).trans ?_
    rw [show r.val + 1 = z0.val + 1 from by have h : r.val = z0.val := hz0; omega]

end

theorem out10_eq (f : ℕ → Fin 128 → ℝ) (p : Fin 128 → ℝ) (hL : ∀ (k : Fin 1024) l, Lg m c t (ix2 k l) = f k.val l) (hP : ∀ l, start m c t (ix2 0 l) = p l)
    (r : Fin 1024) (l : Fin 128) : (outsAt0 m c t.val t.isLt).2.2.2.1 (ix2 r l) = lane (run f p (r.val + 1) l) l := by
  unfold start at hP
  by_cases h : t.val % 4 = 0
  · simp only [if_pos h] at hP
    rw [outsAt0_A m c t h]
    frame_out
    exact stores m c t f p _ hL hP r l
  · simp only [if_neg h] at hP
    rw [outsAt0_B m c t h]
    frame_out
    simp only [read_unread_whole]
    exact stores m c t f p _ hL hP r l

theorem v2_at (n k : Fin 1024) : V m c main_v2 (ix2 n k) = m ((c.tc : Thread nD τ).loc main_arg2) (ix2 k ⟨n.val, by omega⟩) := by
  unfold V; after_reads_at
theorem v4_at (k n : Fin 1024) : V m c main_v4 (ix2 k n) = m ((c.tc : Thread nD τ).loc main_arg2) (ix2 k ⟨1024 + n.val, by omega⟩) := by
  unfold V; after_reads_at
theorem v7_at (n k : Fin 1024) : V m c main_v7 (ix2 n k) = m ((c.tc : Thread nD τ).loc main_arg2) (ix2 k ⟨2048 + n.val, by omega⟩) := by
  unfold V; after_reads_at
theorem v11_at (k : Fin 1024) (l : Fin 128) : V m c main_v11 (ix2 k l) = m ((c.tc : Thread nD τ).loc main_arg2) (ix2 k ⟨3072 + l.val / 8, by omega⟩) := by
  unfold V; after_reads_at
theorem v14_at (l : Fin 128) : V m c main_v14 (ix2 0 l) = m ((c.tc : Thread nD τ).loc main_arg3) (ix1 ⟨l.val / 8, by omega⟩) := by
  unfold V; after_reads_at
theorem v15_at (k : Fin 1024) : V m c main_v15 (ix2 0 k) = m ((c.tc : Thread nD τ).loc main_arg1) (ix1 k) := by
  unfold V; after_reads_at

theorem idx : ∀ t : Fin grid0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] := by
  decide +kernel

theorem idxOut : ∀ t : Fin grid0.N, win0_7.index t = ![t.val / 4, 0, t.val % 4] ∧ win0_8.index t = ![t.val, 0] ∧ win0_9.index t = ![t.val / 4, 0, t.val % 4]
    ∧ win0_10.index t = ![t.val, 0] := by
  decide +kernel

theorem blk0 (r k : Fin 1024) : iblk m c 0 t (ix2 r k) = m ((c.tc : Thread nD τ).loc main_arg0) (ix2 ⟨1024 * t.val + r.val, by have ht : t.val < 16 := t.isLt; omega⟩ k) := by
  obtain ⟨i0, i1, i2, i3, i4, i5, i6⟩ := idx t
  blk_point [iblk, V, i0]

theorem blk1 (k : Fin 1024) : iblk m c 1 t (ix2 0 k) = V m c main_v15 (ix2 0 k) := by
  obtain ⟨i0, i1, i2, i3, i4, i5, i6⟩ := idx t
  blk_point [iblk, i1]

theorem blk2 (r k : Fin 1024) : iblk m c 2 t (ix2 r k) = V m c main_v2 (ix2 r k) := by
  obtain ⟨i0, i1, i2, i3, i4, i5, i6⟩ := idx t
  blk_point [iblk, i2]

theorem blk3 (r k : Fin 1024) : iblk m c 3 t (ix2 r k) = V m c main_v4 (ix2 r k) := by
  obtain ⟨i0, i1, i2, i3, i4, i5, i6⟩ := idx t
  blk_point [iblk, i3]

theorem blk4 (r k : Fin 1024) : iblk m c 4 t (ix2 r k) = V m c main_v7 (ix2 r k) := by
  obtain ⟨i0, i1, i2, i3, i4, i5, i6⟩ := idx t
  blk_point [iblk, i4]

theorem blk5 (k : Fin 1024) (l : Fin 128) : iblk m c 5 t (ix2 k l) = V m c main_v11 (ix2 k l) := by
  obtain ⟨i0, i1, i2, i3, i4, i5, i6⟩ := idx t
  blk_point [iblk, i5]

theorem blk6 (l : Fin 128) : iblk m c 6 t (ix2 0 l) = V m c main_v14 (ix2 0 l) := by
  obtain ⟨i0, i1, i2, i3, i4, i5, i6⟩ := idx t
  blk_point [iblk, i6]

end Cert.FoxOut
-- ==== Proof.V.FoxArr.lean ====
/- The four result arrays of the forget-gate projection, as functions of the arguments. -/
module

public import proofs.«01_k».proof.Proof.V.FoxOut

@[expose] public section

set_option maxRecDepth 16384

noncomputable section

namespace Cert.FoxArr

open Idealize.ShloMosaic Idealize.ShloMosaic.TcCoe Cert.Row Cert.LogSig Cert.FoxSum Cert.FoxOut
open Cert.Kernel5Ideal Cert.Kernel5Ideal.Gen

variable (m : (ℓ : Loc nD τ sig) → Buf (Elt Ideal) ℓ) (c : Dev nD)

/-- Row `i` of the argument over its root mean square. -/
def X (i : Fin 16384) (k : Fin 1024) : EReal := rms (fun k => m ((c.tc : Thread nD τ).loc main_arg0) (ix2 i k)) (fun k => m ((c.tc : Thread nD τ).loc main_arg1) (ix1 k)) k

def Gq (b : Fin 4) (n : Fin 1024) (j : Fin 4096) : EReal :=
  (∑ k, X m c ⟨b.val * 4096 + j.val, by omega⟩ k * m ((c.tc : Thread nD τ).loc main_arg2) (ix2 k ⟨n.val, by omega⟩)) * (((8 * (Real.log 2))⁻¹ : ℝ) : EReal)
def Gk (i : Fin 16384) (n : Fin 1024) : EReal := ∑ k, X m c i k * m ((c.tc : Thread nD τ).loc main_arg2) (ix2 k ⟨1024 + n.val, by omega⟩)
def Gv (b : Fin 4) (n : Fin 1024) (j : Fin 4096) : EReal :=
  ∑ k, X m c ⟨b.val * 4096 + j.val, by omega⟩ k * m ((c.tc : Thread nD τ).loc main_arg2) (ix2 k ⟨2048 + n.val, by omega⟩)
/-- The log gate of row `i` and head `n`. -/
def gate (i : Fin 16384) (n : Fin 16) : EReal :=
  lsg (∑ k, X m c i k * m ((c.tc : Thread nD τ).loc main_arg2) (ix2 k ⟨3072 + n.val, by omega⟩) + m ((c.tc : Thread nD τ).loc main_arg3) (ix1 n))

theorem N_eq (t : Fin cfg0.N) (r : Fin 1024) : N (iblk m c 0 t) (iblk m c 1 t) r
    = X m c ⟨1024 * t.val + r.val, by have ht : t.val < 16 := t.isLt; omega⟩ := by
  funext k
  unfold N X
  congr 1
  · funext k; exact blk0 m c t r k
  · funext k; exact (blk1 m c t k).trans (v15_at m c k)

theorem b2 (t : Fin cfg0.N) (n k : Fin 1024) : iblk m c 2 t (ix2 n k) = m ((c.tc : Thread nD τ).loc main_arg2) (ix2 k ⟨n.val, by omega⟩) :=
  (blk2 m c t n k).trans (v2_at m c n k)

theorem b3 (t : Fin cfg0.N) (k n : Fin 1024) : iblk m c 3 t (ix2 k n) = m ((c.tc : Thread nD τ).loc main_arg2) (ix2 k ⟨1024 + n.val, by omega⟩) :=
  (blk3 m c t k n).trans (v4_at m c k n)

theorem b4 (t : Fin cfg0.N) (n k : Fin 1024) : iblk m c 4 t (ix2 n k) = m ((c.tc : Thread nD τ).loc main_arg2) (ix2 k ⟨2048 + n.val, by omega⟩) :=
  (blk4 m c t n k).trans (v7_at m c n k)

theorem b5 (t : Fin cfg0.N) (k : Fin 1024) (l : Fin 128) : iblk m c 5 t (ix2 k l) = m ((c.tc : Thread nD τ).loc main_arg2) (ix2 k ⟨3072 + l.val / 8, by omega⟩) :=
  (blk5 m c t k l).trans (v11_at m c k l)

theorem b6 (t : Fin cfg0.N) (l : Fin 128) : iblk m c 6 t (ix2 0 l) = m ((c.tc : Thread nD τ).loc main_arg3) (ix1 ⟨l.val / 8, by omega⟩) :=
  (blk6 m c t l).trans (v14_at m c l)

theorem gates (t : Fin cfg0.N) (r : Fin 1024) (l : Fin 128) : Lg m c t (ix2 r l)
    = gate m c ⟨1024 * t.val + r.val, by have ht : t.val < 16 := t.isLt; omega⟩ ⟨l.val / 8, by omega⟩ := by
  refine (pay9_eq _ _ _ _ r l).trans ?_
  rw [N_eq]
  simp only [b5, b6]
  rfl

theorem arr7 : (dats m 0 c).arrAt 7 cfg0.N = fun i => Gq m c (i 0) (i 1) (i 2) := by
  refine (dats m 0 c).arrAt_eq_of_covers 7 _ (by decide +kernel) fun t hf y => ?_
  obtain ⟨i7, i8, i9, i10⟩ := idxOut t
  blk_simp
  rw [after0_7]
  idx_vars y
  obtain rfl : y0 = 0 := Subsingleton.elim _ _
  rw [out7_eq, N_eq]
  simp only [b2]
  have e : ∀ Y : S4x1024x4096.Idx → EReal, Y (((View.whole main_v16_0).slice (win0_7.rect t)).emb (ix3 0 y1 y2))
      = Y (ix3 ⟨t.val / 4, by have ht : t.val < 16 := t.isLt; omega⟩ y1 ⟨1024 * (t.val % 4) + y2.val, by omega⟩) := by
    intro Y; blk_point [i7]
  refine Eq.trans ?_ (e fun i => Gq m c (i 0) (i 1) (i 2)).symm
  dsimp only [ix3_0, ix3_1, ix3_2]
  unfold Gq
  have h : (⟨1024 * t.val + y2.val, by have ht : t.val < 16 := t.isLt; omega⟩ : Fin 16384)
      = ⟨t.val / 4 * 4096 + (1024 * (t.val % 4) + y2.val), by have ht : t.val < 16 := t.isLt; omega⟩ := Fin.ext (by dsimp only; omega)
  rw [h]

theorem arr8 : (dats m 0 c).arrAt 8 cfg0.N = fun i => Gk m c (i 0) (i 1) := by
  refine (dats m 0 c).arrAt_eq_of_covers 8 _ (by decide +kernel) fun t hf y => ?_
  obtain ⟨i7, i8, i9, i10⟩ := idxOut t
  blk_simp
  rw [after0_8]
  idx_vars y
  rw [out8_eq, N_eq]
  simp only [b3]
  have e : ∀ Y : S16384x1024.Idx → EReal, Y (((View.whole main_v16_1).slice (win0_8.rect t)).emb (ix2 y0 y1))
      = Y (ix2 ⟨1024 * t.val + y0.val, by have ht : t.val < 16 := t.isLt; omega⟩ y1) := by
    intro Y; blk_point [i8]
  refine Eq.trans ?_ (e fun i => Gk m c (i 0) (i 1)).symm
  dsimp only [ix2_0, ix2_1]
  unfold Gk
  rfl

theorem arr9 : (dats m 0 c).arrAt 9 cfg0.N = fun i => Gv m c (i 0) (i 1) (i 2) := by
  refine (dats m 0 c).arrAt_eq_of_covers 9 _ (by decide +kernel) fun t hf y => ?_
  obtain ⟨i7, i8, i9, i10⟩ := idxOut t
  blk_simp
  rw [after0_9]
  idx_vars y
  obtain rfl : y0 = 0 := Subsingleton.elim _ _
  rw [out9_eq, N_eq]
  simp only [b4]
  have e : ∀ Y : S4x1024x4096.Idx → EReal, Y (((View.whole main_v16_2).slice (win0_9.rect t)).emb (ix3 0 y1 y2))
      = Y (ix3 ⟨t.val / 4, by have ht : t.val < 16 := t.isLt; omega⟩ y1 ⟨1024 * (t.val % 4) + y2.val, by omega⟩) := by
    intro Y; blk_point [i9]
  refine Eq.trans ?_ (e fun i => Gv m c (i 0) (i 1) (i 2)).symm
  dsimp only [ix3_0, ix3_1, ix3_2]
  unfold Gv
  have h : (⟨1024 * t.val + y2.val, by have ht : t.val < 16 := t.isLt; omega⟩ : Fin 16384)
      = ⟨t.val / 4 * 4096 + (1024 * (t.val % 4) + y2.val), by have ht : t.val < 16 := t.isLt; omega⟩ := Fin.ext (by dsimp only; omega)
  rw [h]

section
variable (f : ℕ → Fin 16 → ℝ) (hf : ∀ (i : Fin 16384) n, gate m c i n = f i.val n)

/-- The gates of the rows from the `o`-th on, head by lane. -/
def fr (o : ℕ) (i : ℕ) (l : Fin 128) : ℝ := f (o + i) ⟨l.val / 8, by omega⟩

/-- The sum of batch `b`'s gates over its first `n` rows, in lane `l`. -/
def tot (b n : ℕ) (l : Fin 128) : ℝ := ∑ i ∈ Finset.range n, f (4096 * b + i) ⟨l.val / 8, by omega⟩

theorem tot_run (b o n : ℕ) (l : Fin 128) : run (fr f (4096 * b + o)) (tot f b o) n l = tot f b (o + n) l := by
  unfold run tot fr
  rw [Finset.sum_range_add]
  simp only [add_assoc]

include hf in
theorem gates_real (t : Fin cfg0.N) (r : Fin 1024) (l : Fin 128) : Lg m c t (ix2 r l) = fr f (4096 * (t.val / 4) + 1024 * (t.val % 4)) r.val l := by
  rw [gates, hf]
  unfold fr
  dsimp only
  rw [show 1024 * t.val + r.val = 4096 * (t.val / 4) + 1024 * (t.val % 4) + r.val by omega]

include hf in
/-- What each point starts from and what it leaves: the sums of the batch's rows so far. -/
theorem carried (n : ℕ) (hn : n < cfg0.N) : (∀ l, start m c ⟨n, hn⟩ (ix2 0 l) = tot f (n / 4) (1024 * (n % 4)) l)
    ∧ ∀ l, (outsAt0 m c n hn).2.2.2.2 (ix2 0 l) = tot f (n / 4) (1024 * (n % 4) + 1024) l := by
  induction n with
  | zero =>
    have h : ∀ l, start m c ⟨0, hn⟩ (ix2 0 l) = tot f (0 / 4) (1024 * (0 % 4)) l := fun l => by
      unfold start tot
      rw [if_pos (show 0 % 4 = 0 from rfl)]
      pointwise [k0_pay5]
      simp
    exact ⟨h, fun l => (carry m c ⟨0, hn⟩ _ _ (gates_real m c f hf ⟨0, hn⟩) h l).trans (congrArg _ (tot_run f _ _ _ l))⟩
  | succ n ih =>
    obtain ⟨_, ih⟩ := ih (Nat.lt_of_succ_lt hn)
    have h : ∀ l, start m c ⟨n + 1, hn⟩ (ix2 0 l) = tot f ((n + 1) / 4) (1024 * ((n + 1) % 4)) l := fun l => by
      unfold start
      by_cases h4 : (n + 1) % 4 = 0
      · rw [if_pos h4, h4]
        unfold tot
        pointwise [k0_pay5]
        simp
      · rw [if_neg h4]
        refine (ih l).trans ?_
        rw [show n / 4 = (n + 1) / 4 by omega, show 1024 * (n % 4) + 1024 = 1024 * ((n + 1) % 4) by omega]
    exact ⟨h, fun l => (carry m c ⟨n + 1, hn⟩ _ _ (gates_real m c f hf ⟨n + 1, hn⟩) h l).trans (congrArg _ (tot_run f _ _ _ l))⟩

/-- The sums' array. -/
def Gc (i : Fin 16384) (l : Fin 128) : EReal := lane (tot f (i.val / 4096) (i.val % 4096 + 1) l) l

include hf in
theorem arr10 : (dats m 0 c).arrAt 10 cfg0.N = fun i => Gc f (i 0) (i 1) := by
  refine (dats m 0 c).arrAt_eq_of_covers 10 _ (by decide +kernel) fun t hft y => ?_
  obtain ⟨i7, i8, i9, i10⟩ := idxOut t
  blk_simp
  rw [after0_10]
  idx_vars y
  rw [out10_eq m c t _ _ (gates_real m c f hf t) (carried m c f hf t.val t.isLt).1, tot_run]
  have e : ∀ Y : S16384x128.Idx → EReal, Y (((View.whole main_v16_3).slice (win0_10.rect t)).emb (ix2 y0 y1))
      = Y (ix2 ⟨1024 * t.val + y0.val, by have ht : t.val < 16 := t.isLt; omega⟩ y1) := by
    intro Y; blk_point [i10]
  refine Eq.trans ?_ (e fun i => Gc f (i 0) (i 1)).symm
  dsimp only [ix2_0, ix2_1]
  unfold Gc
  dsimp only
  rw [show (1024 * t.val + y0.val) / 4096 = t.val / 4 by omega, show (1024 * t.val + y0.val) % 4096 + 1 = 1024 * (t.val % 4) + (y0.val + 1) by omega]

end

end Cert.FoxArr
-- ==== Proof.V.FoxRef.lean ====
/- The forget-gate projection's reference: the running sum over a batch's rows, at an index. -/
module

public import proofs.«01_k».proof.Proof.V.Row
public import proofs.«01_k».proof.Proof.V.LogSig
public import proofs.«01_k».proof.Proof.Gen.Reference5Ideal.Run
public import Idealize.ShloMosaic.Lib.Pointwise
public import Idealize.ShloMosaic.Lib.Tactic.CleanTypes

@[expose] public section

set_option maxRecDepth 16384

noncomputable section

namespace Cert.FoxRef

open Idealize.ShloMosaic Idealize.ShloMosaic.TcCoe Cert.Row Cert.LogSig
open Cert.Reference5Ideal Cert.Reference5Ideal.Gen

theorem foldl_sum {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- A window of 4096 rows that ends at row `j`, with zeros before the first row, sums the rows up to `j`. -/
theorem window (F : ℕ → EReal) (j : ℕ) (hj : j < 4096) : ∑ n : Fin 4096, (if 4095 ≤ j + n.val then F (j + n.val - 4095) else 0) = ∑ i ∈ Finset.range (j + 1), F i := by
  rw [Fin.sum_univ_eq_sum_range (fun n : ℕ => if 4095 ≤ j + n then F (j + n - 4095) else 0) 4096,
    show 4096 = (4095 - j) + (j + 1) by omega, Finset.sum_range_add, Finset.sum_eq_zero fun n hn => ?_, zero_add]
  · refine Finset.sum_congr rfl fun i hi => ?_
    rw [if_pos (by omega), show j + (4095 - j + i) - 4095 = i by omega]
  · rw [Finset.mem_range] at hn
    rw [if_neg (by omega)]

theorem coords (w : (⟨3, ![1, 4096, 1]⟩ : Shape).Idx) : (w 0).val = 0 ∧ (w 1).val < 4096 ∧ (w 2).val = 0 :=
  ⟨by have h : (w 0).val < 1 := (w 0).isLt; omega, (w 1).isLt, by have h : (w 2).val < 1 := (w 2).isLt; omega⟩

/-- The running sum as the reference's window sum computes it. -/
theorem cumsum (x : FVec Ideal S4x4096x16 .f32) (h : S4x4096x16.ReduceWindows ![1, 4096, 1] ![1, 1, 1] ![0, 4095, 0] ![0, 0, 0] S4x4096x16) (init : FVec Ideal S_ .f32)
    (hu : 0 < S_.numel) (hi : init (Shape.Idx.first hu) = 0) (b : Fin 4) (j : Fin 4096) (n : Fin 16) (F : ℕ → EReal) (hF : ∀ i : Fin 4096, x (ix3 b i n) = F i.val) :
    Host.reduceWindowAdd ![1, 4096, 1] ![1, 1, 1] ![0, 4095, 0] ![0, 0, 0] x init h hu (ix3 b j n) = ∑ i ∈ Finset.range (j.val + 1), F i := by
  show Ideal.hostReduceWindowAdd ![1, 4096, 1] ![1, 1, 1] ![0, 4095, 0] ![0, 0, 0] h x (init (Shape.Idx.first hu)) (ix3 b j n) = _
  rw [hi]
  unfold Ideal.hostReduceWindowAdd Host.reduceWindow
  dsimp only
  refine (foldl_sum _ _ _).trans ?_
  rw [zero_add, ← Fin.sum_univ_def]
  refine (Fintype.sum_equiv (Shape.rowMajor (⟨3, ![1, 4096, 1]⟩ : Shape)).symm _
    (fun w : (⟨3, ![1, 4096, 1]⟩ : Shape).Idx => if 4095 ≤ j.val + (w 1).val then F (j.val + (w 1).val - 4095) else 0) fun q => ?_).trans ?_
  · obtain ⟨w0, w1, w2⟩ := coords ((Shape.rowMajor (⟨3, ![1, 4096, 1]⟩ : Shape)).symm q)
    have hb := b.isLt
    have hn := n.isLt
    split
    · next hin =>
      have h1 : 4095 ≤ j.val * 1 + ((Shape.rowMajor (⟨3, ![1, 4096, 1]⟩ : Shape)).symm q 1).val ∧ j.val * 1 + ((Shape.rowMajor (⟨3, ![1, 4096, 1]⟩ : Shape)).symm q 1).val - 4095 < 4096 := hin 1
      rw [if_pos (by omega)]
      refine Eq.trans (congrArg x (funext fun a => Fin.ext ?_)) (hF ⟨j.val + ((Shape.rowMajor (⟨3, ![1, 4096, 1]⟩ : Shape)).symm q 1).val - 4095, by omega⟩)
      match a with
      | ⟨0, _⟩ => show b.val * 1 + ((Shape.rowMajor (⟨3, ![1, 4096, 1]⟩ : Shape)).symm q 0).val - 0 = b.val; omega
      | ⟨1, _⟩ => show j.val * 1 + ((Shape.rowMajor (⟨3, ![1, 4096, 1]⟩ : Shape)).symm q 1).val - 4095 = j.val + ((Shape.rowMajor (⟨3, ![1, 4096, 1]⟩ : Shape)).symm q 1).val - 4095; omega
      | ⟨2, _⟩ => show n.val * 1 + ((Shape.rowMajor (⟨3, ![1, 4096, 1]⟩ : Shape)).symm q 2).val - 0 = n.val; omega
    · next hin =>
      rw [if_neg fun hle => hin fun a => by
        match a with
        | ⟨0, _⟩ => show 0 ≤ b.val * 1 + ((Shape.rowMajor (⟨3, ![1, 4096, 1]⟩ : Shape)).symm q 0).val ∧ b.val * 1 + ((Shape.rowMajor (⟨3, ![1, 4096, 1]⟩ : Shape)).symm q 0).val - 0 < 4; omega
        | ⟨1, _⟩ => show 4095 ≤ j.val * 1 + ((Shape.rowMajor (⟨3, ![1, 4096, 1]⟩ : Shape)).symm q 1).val ∧ j.val * 1 + ((Shape.rowMajor (⟨3, ![1, 4096, 1]⟩ : Shape)).symm q 1).val - 4095 < 4096; omega
        | ⟨2, _⟩ => show 0 ≤ n.val * 1 + ((Shape.rowMajor (⟨3, ![1, 4096, 1]⟩ : Shape)).symm q 2).val ∧ n.val * 1 + ((Shape.rowMajor (⟨3, ![1, 4096, 1]⟩ : Shape)).symm q 2).val - 0 < 16; omega]
  · rw [sum_idx3]
    simp only [Finset.univ_unique, Finset.sum_singleton]
    exact window F j.val j.isLt

variable (m : (ℓ : Loc nD τ sig) → Buf (Elt Ideal) ℓ) (c : Dev nD)

/-- The log gate of row `i` and head `n`. -/
def gate (i : Fin 16384) (n : Fin 16) : EReal :=
  lsg (∑ k, rms (fun k => m ((c.tc : Thread nD τ).loc main_arg0) (ix2 i k)) (fun k => m ((c.tc : Thread nD τ).loc main_arg1) (ix1 k)) k
    * m ((c.tc : Thread nD τ).loc main_arg2) (ix2 k ⟨3072 + n.val, by omega⟩) + m ((c.tc : Thread nD τ).loc main_arg3) (ix1 n))

theorem sums (i : Fin 16384) (l : Fin 128) (F : ℕ → EReal)
    (hF : ∀ j : Fin 4096, gate m c ⟨i.val / 4096 * 4096 + j.val, by omega⟩ ⟨l.val / 8, by omega⟩ = F j.val) :
    Value.res_main_v42 m c (ix2 i l) = if l.val % 8 = 0 then (-(∑ j ∈ Finset.range (i.val % 4096 + 1), F j)) * (((Real.log 2)⁻¹ : ℝ) : EReal) else (0 : EReal) := by
  unfold Value.res_main_v42
  clean_types
  pointwise
  by_cases h8 : l.val % 8 = 0
  · refine (dif_pos (by omega)).trans (Eq.trans ?_ (if_pos h8).symm)
    refine (congrArg₂ Ideal.div (congrArg (fun z : EReal => -z) (cumsum _ _ _ _ ?_ ⟨i.val / 4096, by omega⟩ ⟨i.val % 4096, by omega⟩ ⟨l.val / 8, by omega⟩ F fun j => ?_)) log_two).trans (div_real _ _ log_two_ne)
    · pointwise
    · refine Eq.trans ?_ (hF j)
      pointwise
      exact ref_lsg _
  · refine (dif_neg (by omega)).trans (Eq.trans ?_ (if_neg h8).symm)
    show ((((0#32 : BitVec 32).toInt : ℝ)) : EReal) = 0
    simp

end Cert.FoxRef
-- ==== Proof.V.FoxProj.lean ====
/- The value claim of the forget-gate projection's launch. -/
module

public import proofs.«01_k».proof.Defs
public import proofs.«01_k».proof.Proof.V.Finite5
public import proofs.«01_k».proof.Proof.V.FoxArr
public import proofs.«01_k».proof.Proof.V.FoxRef

@[expose] public section

set_option maxRecDepth 16384

noncomputable section

namespace Cert.FoxProj

open Idealize.ShloMosaic Idealize.ShloMosaic.TcCoe Cert.Row Cert.LogSig Cert.FoxSum

theorem preserves : Cert.preserves_Kernel5_Kernel5Ideal :=
  ⟨IdealRules.named_const.statement Cert.Kernel5Ideal.κ "log2e_8" .f32 0x3E38AA3B#32 (((8 * (Real.log 2))⁻¹ : ℝ) : EReal) rfl,
    IdealRules.named_const.statement Cert.Kernel5Ideal.κ "log2e" .f32 0x3FB8AA3B#32 (((Real.log 2)⁻¹ : ℝ) : EReal) rfl⟩

/-- The queries' two scales, an eighth and then the inverse of the logarithm of two, as one. -/
theorem scale (x : EReal) : Ideal.div (x * Ideal.ofBits .f32 0x3E000000#32) (Ideal.log (Ideal.ofBits .f32 0x40000000#32))
    = x * (((8 * Real.log 2)⁻¹ : ℝ) : EReal) := by
  have h : Ideal.ofBits .f32 0x3E000000#32 = ((8⁻¹ : ℝ) : EReal) := by
    simp [Ideal.ofBits, Ideal.ieee]
    rw [← EReal.coe_mul]
    norm_num
  rw [log_two, h, div_real _ _ log_two_ne, mul_assoc, ← EReal.coe_mul, mul_inv]

/-- A row of real numbers, over its root mean square and times real gains, is real. -/
theorem rms_real (x g : Fin 1024 → EReal) (hx : ∀ k, ∃ r : ℝ, x k = r) (hg : ∀ k, ∃ r : ℝ, g k = r) (k : Fin 1024) : ∃ r : ℝ, rms x g k = r := by
  choose x' hx using hx
  choose g' hg using hg
  have hn : Ideal.ofBits .f32 0x44800000#32 = ((1024 : ℝ) : EReal) := by
    simp [Ideal.ofBits, Ideal.ieee]
    rw [← EReal.coe_mul]
    norm_num
  have he : Ideal.ofBits .f32 0x358637BD#32 = ((8796093 * (2 ^ 43)⁻¹ : ℝ) : EReal) := by
    simp [Ideal.ofBits, Ideal.ieee]
  have hs : ∑ k, x k * x k = ((∑ k, x' k * x' k : ℝ) : EReal) := by
    rw [coe_sum]
    exact Finset.sum_congr rfl fun k _ => by rw [hx, EReal.coe_mul]
  have h0 : (0 : ℝ) ≤ ∑ k, x' k * x' k := Finset.sum_nonneg fun k _ => mul_self_nonneg _
  have hp : (0 : ℝ) < (∑ k, x' k * x' k) * 1024⁻¹ + 8796093 * (2 ^ 43)⁻¹ := by positivity
  unfold rms
  rw [hs, hn, he, div_real _ _ (by norm_num), ← EReal.coe_mul, ← EReal.coe_add, Ideal.rsqrt_coe, if_neg hp.not_gt, if_neg hp.ne', hx, hg,
    ← EReal.coe_mul, ← EReal.coe_mul]
  exact ⟨_, rfl⟩

section
open Cert.Kernel5Ideal Cert.FoxArr
variable (m : (ℓ : Loc nD τ sig) → Buf (Elt Ideal) ℓ) (c : Dev nD)

/-- Under the precondition every log gate is a real number. -/
theorem gates_real (h : Pre_Kernel5Ideal_finite_gates m) : ∃ f : ℕ → Fin 16 → ℝ, ∀ (i : Fin 16384) n, gate m c i n = f i.val n := by
  obtain ⟨h0, h1, h2, h3⟩ := Cert.Finite5.real_args _ _ _ _ (h c)
  have hg : ∀ (i : Fin 16384) n, ∃ r : ℝ, gate m c i n = r := fun i n => by
    choose X' hX using fun k => rms_real _ _ (fun k => h0 (ix2 i k)) (fun k => h1 (ix1 k)) k
    choose w hw using fun k => h2 k n
    obtain ⟨b, hb⟩ := h3 (ix1 n)
    refine ⟨_, Eq.trans ?_ (lsg_coe ((∑ k, X' k * w k) + b))⟩
    unfold gate
    congr 1
    rw [EReal.coe_add, coe_sum, hb]
    congr 1
    refine Finset.sum_congr rfl fun k _ => ?_
    rw [EReal.coe_mul, ← hw k, ← hX k]
    rfl
  choose f hf using hg
  exact ⟨fun i n => if h : i < 16384 then f ⟨i, h⟩ n else 0, fun i n => by
    dsimp only
    rw [dif_pos i.isLt]
    exact hf i n⟩

end

theorem algebraic : Cert.algebraic_Kernel5Ideal_Reference5Ideal_pre_finite_gates := by
  intro m ρ m' ρ' hpre hagree
  refine ⟨fun c => (Cert.Kernel5Ideal.Gen.dats m 0 c).arrAt 7 Cert.Kernel5Ideal.cfg0.N, fun c => (Cert.Kernel5Ideal.Gen.dats m 0 c).arrAt 8 Cert.Kernel5Ideal.cfg0.N,
    fun c => (Cert.Kernel5Ideal.Gen.dats m 0 c).arrAt 9 Cert.Kernel5Ideal.cfg0.N, fun c => (Cert.Kernel5Ideal.Gen.dats m 0 c).arrAt 10 Cert.Kernel5Ideal.cfg0.N,
    Cert.Kernel5Ideal.Value.run_blocks m ρ, ?_⟩
  refine (θ_run Cert.Reference5Ideal.defs _ _).mono (fun _ h c => ?_) (Cert.Reference5Ideal.Value.run (F := Ideal) m' ρ')
  obtain ⟨h0, h1, h2, h3, hk⟩ := h c
  obtain ⟨a0, a1, a2, a3⟩ := hagree c
  refine ⟨h0.trans ?_, h1.trans ?_, h2.trans ?_, h3.trans ?_, hk⟩
  · refine Eq.trans ?_ (Cert.FoxArr.arr7 m c).symm
    rw [a0, a1, a2]
    funext j
    idx_vars j
    clean_types
    pointwise [Cert.FoxArr.Gq, Cert.FoxArr.X, rms]
    exact scale _
  · refine Eq.trans ?_ (Cert.FoxArr.arr8 m c).symm
    rw [a0, a1, a2]
    funext j
    idx_vars j
    clean_types
    pointwise [Cert.FoxArr.Gk, Cert.FoxArr.X, rms]
  · refine Eq.trans ?_ (Cert.FoxArr.arr9 m c).symm
    rw [a0, a1, a2]
    funext j
    idx_vars j
    clean_types
    pointwise [Cert.FoxArr.Gv, Cert.FoxArr.X, rms]
  · obtain ⟨f, hf⟩ := gates_real m c hpre
    refine Eq.trans ?_ (Cert.FoxArr.arr10 m c f hf).symm
    funext j
    idx_vars j
    refine (Cert.FoxRef.sums m' c j0 j1 (fun i => ((f (4096 * (j0.val / 4096) + i) ⟨j1.val / 8, by omega⟩ : ℝ) : EReal)) fun i => ?_).trans ?_
    · refine Eq.trans ?_ (hf ⟨4096 * (j0.val / 4096) + i.val, by omega⟩ ⟨j1.val / 8, by omega⟩)
      rw [show (⟨j0.val / 4096 * 4096 + i.val, by omega⟩ : Fin 16384) = ⟨4096 * (j0.val / 4096) + i.val, by omega⟩ from Fin.ext (by dsimp only; omega)]
      unfold Cert.FoxRef.gate
      rw [a0, a1, a2, a3]
      rfl
    · rw [← coe_sum, ← EReal.coe_neg, ← EReal.coe_mul, neg_mul]
      rfl

theorem quiet : Cert.quiescent_Reference5Ideal := fun m ρ _ =>
  (θ_run Cert.Reference5Ideal.defs _ _).mono (fun r h => ⟨fun c => (h c).2.2.2.2, sem_eq_zero_of_no_sems (by decide) r.2⟩)
    (Cert.Reference5Ideal.Value.run (F := Ideal) m ρ)

end Cert.FoxProj
-- ==== Proof.V.Layer6.lean ====
/- The value claim of the layer-end launch of layer 1. What a block of rows holds is what it holds at layer 0
   (Mlp2.lean); the launch reads other blocks of the weights. -/
module

public import proofs.«01_k».proof.Defs
public import proofs.«01_k».proof.Proof.V.Mlp2
public import proofs.«01_k».proof.Proof.Gen.Kernel6Ideal.Value
public import proofs.«01_k».proof.Proof.Gen.Reference6Ideal.Run
public import Idealize.ShloMosaic.Lib.Pointwise
public import Idealize.ShloMosaic.Lib.Tactic.CleanTypes

@[expose] public section

set_option maxRecDepth 16384

noncomputable section

namespace Cert.Layer6

open Idealize.ShloMosaic Idealize.ShloMosaic.TcCoe Cert.Row

section
open Cert.Kernel6Ideal Cert.Kernel6Ideal.Gen

variable (m : (ℓ : Loc nD τ sig) → Buf (Elt Ideal) ℓ) (c : Dev nD)

/-- The result at row `i`, column `n`, as a function of the arguments. -/
def G (i : Fin 16384) (n : Fin 1024) : EReal :=
  row (hid (fun n => m ((c.tc : Thread nD τ).loc main_arg2) (ix2 i n)) (fun k => m ((c.tc : Thread nD τ).loc main_arg0) (ix2 i k))
      (fun k n => m ((c.tc : Thread nD τ).loc main_arg1) (ix3 0 k n)))
    (fun n => m ((c.tc : Thread nD τ).loc main_arg3) (ix2 0 n)) (fun k f => m ((c.tc : Thread nD τ).loc main_arg4) (ix3 1 k f))
    (fun f n => m ((c.tc : Thread nD τ).loc main_arg5) (ix3 1 f n)) n

theorem idx : ∀ t : Fin grid0.N, win0_0.index t = ![t.val, 0] ∧ win0_1.index t = ![0, 0, 0] ∧ win0_2.index t = ![t.val, 0]
    ∧ win0_3.index t = ![0, 0] ∧ win0_4.index t = ![1, 0, 0] ∧ win0_5.index t = ![1, 0, 0] ∧ win0_7.index t = ![t.val, 0] := by
  decide +kernel

/-- One block's formula, the same as at layer 0. -/
theorem out_same : @out0_7 Ideal _ = @Cert.Kernel2Ideal.Gen.out0_7 Ideal _ := rfl

theorem arr : (dats m 0 c).arrAt 7 cfg0.N = fun i => G m c (i 0) (i 1) := by
  refine (dats m 0 c).arrAt_eq_of_covers 7 _ (by decide +kernel) fun t hf y => ?_
  obtain ⟨i0, i1, i2, i3, i4, i5, i7⟩ := idx t
  blk_simp
  rw [after0_7]
  idx_vars y
  rw [out_same]
  refine (Cert.Mlp2.out_eq _ _ _ _ _ _ _ _ _).trans ?_
  unfold G Cert.Mlp2.H
  blk_point [iblk, V, i0, i1, i2, i3, i4, i5, i7]

end

section
open Cert.Reference6Ideal Cert.Reference6Ideal.Gen

theorem ref_eq (m : (ℓ : Loc nD τ sig) → Buf (Elt Ideal) ℓ) (c : Dev nD) (i : Fin 16384) (n : Fin 1024) :
    Value.res_main_v26 m c (ix2 i n)
      = row (hid (fun n => m ((c.tc : Thread nD τ).loc main_arg2) (ix2 i n)) (fun k => m ((c.tc : Thread nD τ).loc main_arg0) (ix2 i k))
      (fun k n => m ((c.tc : Thread nD τ).loc main_arg1) (ix3 0 k n)))
    (fun n => m ((c.tc : Thread nD τ).loc main_arg3) (ix2 0 n)) (fun k f => m ((c.tc : Thread nD τ).loc main_arg4) (ix3 1 k f))
    (fun f n => m ((c.tc : Thread nD τ).loc main_arg5) (ix3 1 f n)) n := by
  unfold Value.res_main_v26
  clean_types
  pointwise [row, act, rms, hid]

end

theorem algebraic : Cert.algebraic_Kernel6Ideal_Reference6Ideal := by
  intro m ρ m' ρ' _ hagree
  refine ⟨fun c => (Cert.Kernel6Ideal.Gen.dats m 0 c).arrAt 7 Cert.Kernel6Ideal.cfg0.N, Cert.Kernel6Ideal.Value.run_blocks m ρ, ?_⟩
  refine (θ_run Cert.Reference6Ideal.defs _ _).mono (fun _ h c => ⟨(h c).1.trans ?_, (h c).2⟩) (Cert.Reference6Ideal.Value.run (F := Ideal) m' ρ')
  obtain ⟨h0, h1, h2, h3, h4, h5, h6⟩ := hagree c
  refine Eq.trans ?_ (arr m c).symm
  funext j
  idx_vars j
  refine (ref_eq m' c _ _).trans ?_
  rw [h0, h1, h2, h3, h4, h5]
  rfl

theorem quiet : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

end Cert.Layer6
-- ==== Proof.V.Layer7.lean ====
/- The value claim of the layer-end launch of layer 2. What a block of rows holds is what it holds at layer 0
   (Mlp2.lean); the launch reads other blocks of the weights. -/
module

public import proofs.«01_k».proof.Defs
public import proofs.«01_k».proof.Proof.V.Mlp2
public import proofs.«01_k».proof.Proof.Gen.Kernel7Ideal.Value
public import proofs.«01_k».proof.Proof.Gen.Reference7Ideal.Run
public import Idealize.ShloMosaic.Lib.Pointwise
public import Idealize.ShloMosaic.Lib.Tactic.CleanTypes

@[expose] public section

set_option maxRecDepth 16384

noncomputable section

namespace Cert.Layer7

open Idealize.ShloMosaic Idealize.ShloMosaic.TcCoe Cert.Row

section
open Cert.Kernel7Ideal Cert.Kernel7Ideal.Gen

variable (m : (ℓ : Loc nD τ sig) → Buf (Elt Ideal) ℓ) (c : Dev nD)

/-- The result at row `i`, column `n`, as a function of the arguments. -/
def G (i : Fin 16384) (n : Fin 1024) : EReal :=
  row (hid (fun n => m ((c.tc : Thread nD τ).loc main_arg2) (ix2 i n)) (fun k => m ((c.tc : Thread nD τ).loc main_arg0) (ix2 i k))
      (fun k n => m ((c.tc : Thread nD τ).loc main_arg1) (ix3 1 k n)))
    (fun n => m ((c.tc : Thread nD τ).loc main_arg3) (ix2 0 n)) (fun k f => m ((c.tc : Thread nD τ).loc main_arg4) (ix3 2 k f))
    (fun f n => m ((c.tc : Thread nD τ).loc main_arg5) (ix3 2 f n)) n

theorem idx : ∀ t : Fin grid0.N, win0_0.index t = ![t.val, 0] ∧ win0_1.index t = ![1, 0, 0] ∧ win0_2.index t = ![t.val, 0]
    ∧ win0_3.index t = ![0, 0] ∧ win0_4.index t = ![2, 0, 0] ∧ win0_5.index t = ![2, 0, 0] ∧ win0_7.index t = ![t.val, 0] := by
  decide +kernel

/-- One block's formula, the same as at layer 0. -/
theorem out_same : @out0_7 Ideal _ = @Cert.Kernel2Ideal.Gen.out0_7 Ideal _ := rfl

theorem arr : (dats m 0 c).arrAt 7 cfg0.N = fun i => G m c (i 0) (i 1) := by
  refine (dats m 0 c).arrAt_eq_of_covers 7 _ (by decide +kernel) fun t hf y => ?_
  obtain ⟨i0, i1, i2, i3, i4, i5, i7⟩ := idx t
  blk_simp
  rw [after0_7]
  idx_vars y
  rw [out_same]
  refine (Cert.Mlp2.out_eq _ _ _ _ _ _ _ _ _).trans ?_
  unfold G Cert.Mlp2.H
  blk_point [iblk, V, i0, i1, i2, i3, i4, i5, i7]

end

section
open Cert.Reference7Ideal Cert.Reference7Ideal.Gen

theorem ref_eq (m : (ℓ : Loc nD τ sig) → Buf (Elt Ideal) ℓ) (c : Dev nD) (i : Fin 16384) (n : Fin 1024) :
    Value.res_main_v26 m c (ix2 i n)
      = row (hid (fun n => m ((c.tc : Thread nD τ).loc main_arg2) (ix2 i n)) (fun k => m ((c.tc : Thread nD τ).loc main_arg0) (ix2 i k))
      (fun k n => m ((c.tc : Thread nD τ).loc main_arg1) (ix3 1 k n)))
    (fun n => m ((c.tc : Thread nD τ).loc main_arg3) (ix2 0 n)) (fun k f => m ((c.tc : Thread nD τ).loc main_arg4) (ix3 2 k f))
    (fun f n => m ((c.tc : Thread nD τ).loc main_arg5) (ix3 2 f n)) n := by
  unfold Value.res_main_v26
  clean_types
  pointwise [row, act, rms, hid]

end

theorem algebraic : Cert.algebraic_Kernel7Ideal_Reference7Ideal := by
  intro m ρ m' ρ' _ hagree
  refine ⟨fun c => (Cert.Kernel7Ideal.Gen.dats m 0 c).arrAt 7 Cert.Kernel7Ideal.cfg0.N, Cert.Kernel7Ideal.Value.run_blocks m ρ, ?_⟩
  refine (θ_run Cert.Reference7Ideal.defs _ _).mono (fun _ h c => ⟨(h c).1.trans ?_, (h c).2⟩) (Cert.Reference7Ideal.Value.run (F := Ideal) m' ρ')
  obtain ⟨h0, h1, h2, h3, h4, h5, h6⟩ := hagree c
  refine Eq.trans ?_ (arr m c).symm
  funext j
  idx_vars j
  refine (ref_eq m' c _ _).trans ?_
  rw [h0, h1, h2, h3, h4, h5]
  rfl

theorem quiet : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

end Cert.Layer7
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.V.Layer2
public import proofs.«01_k».proof.Proof.V.Layer3
public import proofs.«01_k».proof.Proof.V.Attn
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.V.GlaProj
public import proofs.«01_k».proof.Proof.V.FoxProj
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.V.Layer6
public import proofs.«01_k».proof.Proof.V.Layer7
public import Idealize.ShloMosaic.Adequacy
public import Idealize.ShloMosaic.Init

@[expose] public section

noncomputable section

namespace Cert.Proof

open Idealize.ShloMosaic Idealize.SL.Sem

theorem quiet_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts,
    Cert.Finite.pre_facts, Cert.Finite5.pre_facts,
    fun m ρ _ => Cert.Kernel.Gen.frame m ρ, fun m ρ _ => Cert.KernelIdeal.Gen.frame m ρ, fun m ρ _ => Cert.KernelIdeal.Gen.frame m ρ,
    quiet_ref, fun m ρ _ => quiet_ref m ρ trivial,
    fun m ρ _ => Cert.Kernel2.Gen.frame m ρ, fun m ρ _ => Cert.Kernel2Ideal.Gen.frame m ρ, Cert.Layer2.quiet,
    fun m ρ _ => Cert.Kernel3.Gen.frame m ρ, fun m ρ _ => Cert.Kernel3Ideal.Gen.frame m ρ, Cert.Layer3.quiet,
    fun m ρ _ => Cert.Kernel4.Gen.frame m ρ, fun m ρ _ => Cert.Kernel4Ideal.Gen.frame m ρ, Cert.GlaProj.quiet,
    fun m ρ _ => Cert.Kernel5.Gen.frame m ρ, fun m ρ _ => Cert.Kernel5Ideal.Gen.frame m ρ, fun m ρ _ => Cert.Kernel5Ideal.Gen.frame m ρ, Cert.FoxProj.quiet, fun m ρ _ => Cert.FoxProj.quiet m ρ trivial,
    fun m ρ _ => Cert.Kernel6.Gen.frame m ρ, fun m ρ _ => Cert.Kernel6Ideal.Gen.frame m ρ, Cert.Layer6.quiet,
    fun m ρ _ => Cert.Kernel7.Gen.frame m ρ, fun m ρ _ => Cert.Kernel7Ideal.Gen.frame m ρ, Cert.Layer7.quiet,
    fun m ρ _ => Cert.Kernel8.Gen.frame m ρ, fun m ρ _ => Cert.Kernel8Ideal.Gen.frame m ρ,
    trivial, Cert.Attn.algebraic, trivial, Cert.Layer2.algebraic, trivial, Cert.Layer3.algebraic, Cert.GlaProj.preserves, Cert.GlaProj.algebraic, Cert.FoxProj.preserves, Cert.FoxProj.algebraic,
    trivial, Cert.Layer6.algebraic, trivial, Cert.Layer7.algebraic, trivial⟩

end Cert.Proof

end
